-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)) (v2 : (c : Dev Cert.KernelIdeal.nD) → Buf (Elt Ideal) ((c.tc : Thread Cert.KernelIdeal.nD Cert.KernelIdeal.τ).loc Cert.KernelIdeal.main_v23_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_v23_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v34)) (v1 : (c : Dev Cert.Kernel2Ideal.nD) → Buf (Elt Ideal) ((c.tc : Thread Cert.Kernel2Ideal.nD Cert.Kernel2Ideal.τ).loc Cert.Kernel2Ideal.main_v37)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v34) = v0 c
          ∧ r.2.mem ((c.tc : Thread Cert.Kernel2Ideal.nD Cert.Kernel2Ideal.τ).loc Cert.Kernel2Ideal.main_v37) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v128) = v0 c
          ∧ r.2.mem ((c.tc : Thread Cert.Reference2Ideal.nD Cert.Reference2Ideal.τ).loc Cert.Reference2Ideal.main_v131) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3)) (v1 : (c : Dev Cert.Kernel3Ideal.nD) → Buf (Elt Ideal) ((c.tc : Thread Cert.Kernel3Ideal.nD Cert.Kernel3Ideal.τ).loc Cert.Kernel3Ideal.main_v7)) (v2 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_v7) = v1 c
          ∧ r.2.mem ((c.tc : Thread Cert.Kernel3Ideal.nD Cert.Kernel3Ideal.τ).loc Cert.Kernel3Ideal.main_v6) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_v7) = v1 c
          ∧ r.2.mem ((c.tc : Thread Cert.Reference3Ideal.nD Cert.Reference3Ideal.τ).loc Cert.Reference3Ideal.main_v6) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v7)) (v1 : (c : Dev Cert.Kernel4Ideal.nD) → Buf (Elt Ideal) ((c.tc : Thread Cert.Kernel4Ideal.nD Cert.Kernel4Ideal.τ).loc Cert.Kernel4Ideal.main_v8)) (v2 : (c : Dev Cert.Kernel4Ideal.nD) → Buf (Elt Ideal) ((c.tc : Thread Cert.Kernel4Ideal.nD Cert.Kernel4Ideal.τ).loc Cert.Kernel4Ideal.main_v16)) (v3 : (c : Dev Cert.Kernel4Ideal.nD) → Buf (Elt Ideal) ((c.tc : Thread Cert.Kernel4Ideal.nD Cert.Kernel4Ideal.τ).loc Cert.Kernel4Ideal.main_v10)) (v4 : (c : Dev Cert.Kernel4Ideal.nD) → Buf (Elt Ideal) ((c.tc : Thread Cert.Kernel4Ideal.nD Cert.Kernel4Ideal.τ).loc Cert.Kernel4Ideal.main_v17)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_v8) = v1 c
          ∧ r.2.mem ((c.tc : Thread Cert.Kernel4Ideal.nD Cert.Kernel4Ideal.τ).loc Cert.Kernel4Ideal.main_v16) = v2 c
          ∧ r.2.mem ((c.tc : Thread Cert.Kernel4Ideal.nD Cert.Kernel4Ideal.τ).loc Cert.Kernel4Ideal.main_v10) = v3 c
          ∧ r.2.mem ((c.tc : Thread Cert.Kernel4Ideal.nD Cert.Kernel4Ideal.τ).loc Cert.Kernel4Ideal.main_v17) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_v16) = v1 c
          ∧ r.2.mem ((c.tc : Thread Cert.Reference4Ideal.nD Cert.Reference4Ideal.τ).loc Cert.Reference4Ideal.main_v17) = v2 c
          ∧ r.2.mem ((c.tc : Thread Cert.Reference4Ideal.nD Cert.Reference4Ideal.τ).loc Cert.Reference4Ideal.main_v18) = v3 c
          ∧ r.2.mem ((c.tc : Thread Cert.Reference4Ideal.nD Cert.Reference4Ideal.τ).loc Cert.Reference4Ideal.main_v25) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_v10) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v34) = v0 c
          ∧ r.2.mem ((c.tc : Thread Cert.Reference16Ideal.nD Cert.Reference16Ideal.τ).loc Cert.Reference16Ideal.main_v17) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v34) = v0 c
          ∧ r.2.mem ((c.tc : Thread Cert.Reference17Ideal.nD Cert.Reference17Ideal.τ).loc Cert.Reference17Ideal.main_v17) = v1 c
          ∧ r.2.mem ((c.tc : Thread Cert.Reference17Ideal.nD Cert.Reference17Ideal.τ).loc Cert.Reference17Ideal.main_v35) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v3) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v14) = v0 c
          ∧ r.2.mem ((c.tc : Thread Cert.Reference18Ideal.nD Cert.Reference18Ideal.τ).loc Cert.Reference18Ideal.main_v15) = v1 c
          ∧ r.2.mem ((c.tc : Thread Cert.Reference18Ideal.nD Cert.Reference18Ideal.τ).loc Cert.Reference18Ideal.main_v8) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
-- ==== Pre_finite.lean ====
abbrev S4096x2048 : Shape := ⟨2, ![4096, 2048]⟩
abbrev S4096x4096 : Shape := ⟨2, ![4096, 4096]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_v16 : IVec S_ 1) (main_v17 : FVec F S4096x4096 .f32) : IVec S_ 1 :=
  let main_cst_4 : FVec F S_ .f32 := constant S_ .f32 0x7F800000#32
  let main_v18 : FVec F S4096x4096 .f32 := broadcastInDim S4096x4096 ![] bcast_S_S4096x4096 main_cst_4
  let main_v19 : IVec S4096x4096 1 := cmpf .olt main_v17 main_v18
  let main_c_5 : IVec S_ 1 := constantI S_ 1 1#1
  let main_v20 : IVec S_ 1 := (fun x v => Host.reduce IntOp.andi x v reducesTo_S4096x4096_S_d0_1 h_S_) main_v19 main_c_5
  let main_v21 : IVec S_ 1 := andi main_v16 main_v20
  main_v21

def fn {F : FTy → Type} [FloatOps F] (main_arg0 : FVec F S4096x2048 .bf16) (main_arg1 : FVec F S4096x2048 .bf16) (main_arg2 : FVec F S4096x2048 .bf16) (main_arg3 : FVec F S4096x4096 .f32) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S4096x2048 .f32 := (extf .f32 · bitsLt_bf16_f32) main_arg1
  let main_v6 : FVec F S4096x2048 .f32 := Host.absf main_v5
  let main_cst_0 : FVec F S_ .f32 := constant S_ .f32 0x7F800000#32
  let main_v7 : FVec F S4096x2048 .f32 := broadcastInDim S4096x2048 ![] bcast_S_S4096x2048 main_cst_0
  let main_v8 : IVec S4096x2048 1 := cmpf .olt main_v6 main_v7
  let main_c_1 : IVec S_ 1 := constantI S_ 1 1#1
  let main_v9 : IVec S_ 1 := (fun x v => Host.reduce IntOp.andi x v reducesTo_S4096x2048_S_d0_1 h_S_) main_v8 main_c_1
  let main_v10 : IVec S_ 1 := andi main_v4 main_v9
  let main_v11 : FVec F S4096x2048 .f32 := (extf .f32 · bitsLt_bf16_f32) main_arg2
  let main_v12 : FVec F S4096x2048 .f32 := Host.absf main_v11
  let main_cst_2 : FVec F S_ .f32 := constant S_ .f32 0x7F800000#32
  let main_v13 : FVec F S4096x2048 .f32 := broadcastInDim S4096x2048 ![] bcast_S_S4096x2048 main_cst_2
  let main_v14 : IVec S4096x2048 1 := cmpf .olt main_v12 main_v13
  let main_c_3 : IVec S_ 1 := constantI S_ 1 1#1
  let main_v15 : IVec S_ 1 := (fun x v => Host.reduce IntOp.andi x v reducesTo_S4096x2048_S_d0_1 h_S_) main_v14 main_c_3
  let main_v16 : IVec S_ 1 := andi main_v10 main_v15
  let main_v17 : FVec F S4096x4096 .f32 := Host.absf main_arg3
  fn_part1 (F := F) main_v16 main_v17
-- ==== Kernel.lean ====
abbrev S4096x2048 : Shape := ⟨2, ![4096, 2048]⟩
abbrev S4096x4096 : Shape := ⟨2, ![4096, 4096]⟩
abbrev S4096x16x128 : Shape := ⟨3, ![4096, 16, 128]⟩
abbrev S16x4096x128 : Shape := ⟨3, ![16, 4096, 128]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S16x4096 : Shape := ⟨2, ![16, 4096]⟩
abbrev S4096x16 : Shape := ⟨2, ![4096, 16]⟩
abbrev S4096x128 : Shape := ⟨2, ![4096, 128]⟩
abbrev S256x256 : Shape := ⟨2, ![256, 256]⟩
abbrev S256x128 : Shape := ⟨2, ![256, 128]⟩
abbrev S4096x256 : Shape := ⟨2, ![4096, 256]⟩
abbrev S4096x512 : Shape := ⟨2, ![4096, 512]⟩
abbrev S512x256 : Shape := ⟨2, ![512, 256]⟩
abbrev S3840x128 : Shape := ⟨2, ![3840, 128]⟩
abbrev S3840x256 : Shape := ⟨2, ![3840, 256]⟩
abbrev S3840x512 : Shape := ⟨2, ![3840, 512]⟩
abbrev S3840x1 : Shape := ⟨2, ![3840, 1]⟩
abbrev S256x1 : Shape := ⟨2, ![256, 1]⟩
abbrev S3584x128 : Shape := ⟨2, ![3584, 128]⟩
abbrev S3584x256 : Shape := ⟨2, ![3584, 256]⟩
abbrev S3584x512 : Shape := ⟨2, ![3584, 512]⟩
abbrev S3584x1 : Shape := ⟨2, ![3584, 1]⟩
abbrev S512x128 : Shape := ⟨2, ![512, 128]⟩
abbrev S512x1 : Shape := ⟨2, ![512, 1]⟩
abbrev S3328x128 : Shape := ⟨2, ![3328, 128]⟩
abbrev S3328x256 : Shape := ⟨2, ![3328, 256]⟩
abbrev S3328x512 : Shape := ⟨2, ![3328, 512]⟩
abbrev S3328x1 : Shape := ⟨2, ![3328, 1]⟩
abbrev S768x128 : Shape := ⟨2, ![768, 128]⟩
abbrev S768x1 : Shape := ⟨2, ![768, 1]⟩
abbrev S3072x128 : Shape := ⟨2, ![3072, 128]⟩
abbrev S3072x256 : Shape := ⟨2, ![3072, 256]⟩
abbrev S3072x512 : Shape := ⟨2, ![3072, 512]⟩
abbrev S3072x1 : Shape := ⟨2, ![3072, 1]⟩
abbrev S1024x128 : Shape := ⟨2, ![1024, 128]⟩
abbrev S1024x1 : Shape := ⟨2, ![1024, 1]⟩
abbrev S2816x128 : Shape := ⟨2, ![2816, 128]⟩
abbrev S2816x256 : Shape := ⟨2, ![2816, 256]⟩
abbrev S2816x512 : Shape := ⟨2, ![2816, 512]⟩
abbrev S2816x1 : Shape := ⟨2, ![2816, 1]⟩
abbrev S1280x128 : Shape := ⟨2, ![1280, 128]⟩
abbrev S1280x1 : Shape := ⟨2, ![1280, 1]⟩
abbrev S2560x128 : Shape := ⟨2, ![2560, 128]⟩
abbrev S2560x256 : Shape := ⟨2, ![2560, 256]⟩
abbrev S2560x512 : Shape := ⟨2, ![2560, 512]⟩
abbrev S2560x1 : Shape := ⟨2, ![2560, 1]⟩
abbrev S1536x128 : Shape := ⟨2, ![1536, 128]⟩
abbrev S1536x1 : Shape := ⟨2, ![1536, 1]⟩
abbrev S2304x128 : Shape := ⟨2, ![2304, 128]⟩
abbrev S2304x256 : Shape := ⟨2, ![2304, 256]⟩
abbrev S2304x512 : Shape := ⟨2, ![2304, 512]⟩
abbrev S2304x1 : Shape := ⟨2, ![2304, 1]⟩
abbrev S1792x128 : Shape := ⟨2, ![1792, 128]⟩
abbrev S1792x1 : Shape := ⟨2, ![1792, 1]⟩
abbrev S2048x128 : Shape := ⟨2, ![2048, 128]⟩
abbrev S2048x256 : Shape := ⟨2, ![2048, 256]⟩
abbrev S2048x512 : Shape := ⟨2, ![2048, 512]⟩
abbrev S2048x1 : Shape := ⟨2, ![2048, 1]⟩
abbrev S1792x256 : Shape := ⟨2, ![1792, 256]⟩
abbrev S1792x512 : Shape := ⟨2, ![1792, 512]⟩
abbrev S1536x256 : Shape := ⟨2, ![1536, 256]⟩
abbrev S1536x512 : Shape := ⟨2, ![1536, 512]⟩
abbrev S1280x256 : Shape := ⟨2, ![1280, 256]⟩
abbrev S1280x512 : Shape := ⟨2, ![1280, 512]⟩
abbrev S1024x256 : Shape := ⟨2, ![1024, 256]⟩
abbrev S1024x512 : Shape := ⟨2, ![1024, 512]⟩
abbrev S768x256 : Shape := ⟨2, ![768, 256]⟩
abbrev S768x512 : Shape := ⟨2, ![768, 512]⟩
abbrev S512x512 : Shape := ⟨2, ![512, 512]⟩
abbrev S256x512 : Shape := ⟨2, ![256, 512]⟩

abbrev nBuf : Space → Nat
  | .hbm => 51
  | .vmem => 16
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | .hbm, ⟨3, _⟩ => ⟨S4096x4096, .f32⟩
  | .hbm, ⟨4, _⟩ => ⟨S4096x2048, .f32⟩
  | .hbm, ⟨5, _⟩ => ⟨S4096x16x128, .f32⟩
  | .hbm, ⟨6, _⟩ => ⟨S16x4096x128, .f32⟩
  | .hbm, ⟨7, _⟩ => ⟨S4096x2048, .f32⟩
  | .hbm, ⟨8, _⟩ => ⟨S4096x16x128, .f32⟩
  | .hbm, ⟨9, _⟩ => ⟨S16x4096x128, .f32⟩
  | .hbm, ⟨10, _⟩ => ⟨S16x4096x4096, .f32⟩
  | .hbm, ⟨11, _⟩ => ⟨S_, .f32⟩
  | .hbm, ⟨12, _⟩ => ⟨S16x4096x4096, .f32⟩
  | .hbm, ⟨13, _⟩ => ⟨S16x4096x4096, .f32⟩
  | .hbm, ⟨14, _⟩ => ⟨S4096, .i32⟩
  | .hbm, ⟨15, _⟩ => ⟨S1x4096, .i32⟩
  | .hbm, ⟨16, _⟩ => ⟨S4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S16x4096x4096, .f32⟩
  | .hbm, ⟨22, _⟩ => ⟨S16x4096x4096, .f32⟩
  | .hbm, ⟨23, _⟩ => ⟨S_, .f32⟩
  | .hbm, ⟨24, _⟩ => ⟨S16x4096x4096, .f32⟩
  | .hbm, ⟨25, _⟩ => ⟨S16x4096x4096, .f32⟩
  | .hbm, ⟨26, _⟩ => ⟨S16x4096x4096, .f32⟩
  | .hbm, ⟨27, _⟩ => ⟨S16x4096x4096, .f32⟩
  | .hbm, ⟨28, _⟩ => ⟨S16x4096x4096, .i1⟩
  | .hbm, ⟨29, _⟩ => ⟨S16x4096x4096, .f32⟩
  | .hbm, ⟨30, _⟩ => ⟨S16x4096x4096, .f32⟩
  | .hbm, ⟨31, _⟩ => ⟨S16x4096x4096, .f32⟩
  | .hbm, ⟨32, _⟩ => ⟨S16x4096x4096, .f32⟩
  | .hbm, ⟨33, _⟩ => ⟨S16x4096x4096, .f32⟩
  | .hbm, ⟨34, _⟩ => ⟨S16x4096x4096, .f32⟩
  | .hbm, ⟨35, _⟩ => ⟨S16x4096x4096, .f32⟩
  | .hbm, ⟨36, _⟩ => ⟨S16x4096x4096, .f32⟩
  | .hbm, ⟨37, _⟩ => ⟨S16x4096x4096, .f32⟩
  | .hbm, ⟨38, _⟩ => ⟨S_, .f32⟩
  | .hbm, ⟨39, _⟩ => ⟨S_, .f32⟩
  | .hbm, ⟨40, _⟩ => ⟨S16x4096x4096, .i1⟩
  | .hbm, ⟨41, _⟩ => ⟨S16x4096x4096, .f32⟩
  | .hbm, ⟨42, _⟩ => ⟨S16x4096x4096, .f32⟩
  | .hbm, ⟨43, _⟩ => ⟨S_, .f32⟩
  | .hbm, ⟨44, _⟩ => ⟨S16x4096, .f32⟩
  | .hbm, ⟨45, _⟩ => ⟨S4096x16, .f32⟩
  | .hbm, ⟨46, _⟩ => ⟨S4096x16x128, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v17 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v18 : Ref sig .tc := ⟨.hbm, 42, rfl⟩
abbrev main_cst_1 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23_0 : Ref sig .tc := ⟨.hbm, 48, rfl⟩
abbrev main_v23_1 : Ref sig .tc := ⟨.hbm, 49, rfl⟩
abbrev main_v23_2 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 1], ![false, false]⟩

@[reducible] def k0_t1_loop (i : grid0.Coords) : Scf.Loop 32 :=
  let c0_i32_8 : BitVec 32 := 0#32
  let arg1 : BitVec 32 := BitVec.ofNat 32 (i 1).val
  let c16_i32 : BitVec 32 := 16#32
  let v21 : BitVec 32 := Scalar.muli arg1 c16_i32
  let v22 : BitVec 32 := Scalar.subi v21 c0_i32_8
  let c1_i32 : BitVec 32 := 1#32
  let v24 : BitVec 32 := Scalar.divsi v22 c1_i32
  let v25 : BitVec 32 := Scalar.muli v24 c1_i32
  let v26 : BitVec 32 := Scalar.addi c0_i32_8 v25
  let c1_i32_9 : BitVec 32 := 1#32
  ⟨c0_i32_8, v26, c1_i32_9⟩
def k0_mult1 (i : grid0.Coords) (k0_t1 : Fin (k0_t1_loop i).trips) : BitVec 32 :=
  let c0_i32_8 : BitVec 32 := 0#32
  let c1_i32_9 : BitVec 32 := 1#32
  let arg10 : BitVec 32 := Scf.iv c0_i32_8 c1_i32_9 k0_t1
  let c256_i32_398 : BitVec 32 := 256#32
  let v1524 : BitVec 32 := Scalar.muli arg10 c256_i32_398
  v1524
def k0_off1 (i : grid0.Coords) (k0_t1 : Fin (k0_t1_loop i).trips) : Fin 2 → Nat :=
  let c0_i32_8 : BitVec 32 := 0#32
  let c1_i32_9 : BitVec 32 := 1#32
  let arg10 : BitVec 32 := Scf.iv c0_i32_8 c1_i32_9 k0_t1
  let c256_i32_398 : BitVec 32 := 256#32
  let v1524 : BitVec 32 := Scalar.muli arg10 c256_i32_398
  let v1525 : BitVec 32 := v1524
  let v1526 : Index := Scalar.indexCast v1525
  let c0_399 : Index := 0#32
  ![v1526.toNat, 0]
@[reducible] def k0_t2_loop (i : grid0.Coords) : Scf.Loop 32 :=
  let c0_i32_8 : BitVec 32 := 0#32
  let arg1 : BitVec 32 := BitVec.ofNat 32 (i 1).val
  let c16_i32 : BitVec 32 := 16#32
  let v21 : BitVec 32 := Scalar.muli arg1 c16_i32
  let v22 : BitVec 32 := Scalar.subi v21 c0_i32_8
  let c1_i32 : BitVec 32 := 1#32
  let v24 : BitVec 32 := Scalar.divsi v22 c1_i32
  let v25 : BitVec 32 := Scalar.muli v24 c1_i32
  let v26 : BitVec 32 := Scalar.addi c0_i32_8 v25
  let v23 : BitVec 32 := Scalar.addi c0_i32_8 v22
  let c1_i32_10 : BitVec 32 := 1#32
  ⟨v26, v23, c1_i32_10⟩
def k0_mult2 (i : grid0.Coords) (k0_t2 : Fin (k0_t2_loop i).trips) : BitVec 32 :=
  let c0_i32_8 : BitVec 32 := 0#32
  let arg1 : BitVec 32 := BitVec.ofNat 32 (i 1).val
  let c16_i32 : BitVec 32 := 16#32
  let v21 : BitVec 32 := Scalar.muli arg1 c16_i32
  let v22 : BitVec 32 := Scalar.subi v21 c0_i32_8
  let c1_i32 : BitVec 32 := 1#32
  let v24 : BitVec 32 := Scalar.divsi v22 c1_i32
  let v25 : BitVec 32 := Scalar.muli v24 c1_i32
  let v26 : BitVec 32 := Scalar.addi c0_i32_8 v25
  let c1_i32_10 : BitVec 32 := 1#32
  let arg10 : BitVec 32 := Scf.iv v26 c1_i32_10 k0_t2
  let c256_i32_398 : BitVec 32 := 256#32
  let v1524 : BitVec 32 := Scalar.muli arg10 c256_i32_398
  v1524
def k0_off2 (i : grid0.Coords) (k0_t2 : Fin (k0_t2_loop i).trips) : Fin 2 → Nat :=
  let c0_i32_8 : BitVec 32 := 0#32
  let arg1 : BitVec 32 := BitVec.ofNat 32 (i 1).val
  let c16_i32 : BitVec 32 := 16#32
  let v21 : BitVec 32 := Scalar.muli arg1 c16_i32
  let v22 : BitVec 32 := Scalar.subi v21 c0_i32_8
  let c1_i32 : BitVec 32 := 1#32
  let v24 : BitVec 32 := Scalar.divsi v22 c1_i32
  let v25 : BitVec 32 := Scalar.muli v24 c1_i32
  let v26 : BitVec 32 := Scalar.addi c0_i32_8 v25
  let c1_i32_10 : BitVec 32 := 1#32
  let arg10 : BitVec 32 := Scf.iv v26 c1_i32_10 k0_t2
  let c256_i32_398 : BitVec 32 := 256#32
  let v1524 : BitVec 32 := Scalar.muli arg10 c256_i32_398
  let v1525 : BitVec 32 := v1524
  let v1526 : Index := Scalar.indexCast v1525
  let c0_399 : Index := 0#32
  ![v1526.toNat, 0]
def k0_mult3 (i : grid0.Coords) : BitVec 32 :=
  let arg1 : BitVec 32 := BitVec.ofNat 32 (i 1).val
  let c16_i32_11 : BitVec 32 := 16#32
  let v29 : BitVec 32 := Scalar.muli arg1 c16_i32_11
  let c0_i32_12 : BitVec 32 := 0#32
  let v30 : BitVec 32 := Scalar.addi v29 c0_i32_12
  let c256_i32 : BitVec 32 := 256#32
  let v31 : BitVec 32 := Scalar.muli v30 c256_i32
  v31
def k0_off3 (i : grid0.Coords) (c0_i32_12 : BitVec 32) : Fin 2 → Nat :=
  let arg1 : BitVec 32 := BitVec.ofNat 32 (i 1).val
  let c16_i32_11 : BitVec 32 := 16#32
  let v29 : BitVec 32 := Scalar.muli arg1 c16_i32_11
  let v30 : BitVec 32 := Scalar.addi v29 c0_i32_12
  let c256_i32 : BitVec 32 := 256#32
  let v31 : BitVec 32 := Scalar.muli v30 c256_i32
  let v32 : BitVec 32 := v31
  let v33 : Index := Scalar.indexCast v32
  let c0_13 : Index := 0#32
  ![v33.toNat, 0]
def k0_mult4 (i : grid0.Coords) : BitVec 32 :=
  let arg1 : BitVec 32 := BitVec.ofNat 32 (i 1).val
  let c16_i32_35 : BitVec 32 := 16#32
  let v110 : BitVec 32 := Scalar.muli arg1 c16_i32_35
  let c1_i32_36 : BitVec 32 := 1#32
  let v111 : BitVec 32 := Scalar.addi v110 c1_i32_36
  let c256_i32_37 : BitVec 32 := 256#32
  let v112 : BitVec 32 := Scalar.muli v111 c256_i32_37
  v112
def k0_mult5 (i : grid0.Coords) : BitVec 32 :=
  let arg1 : BitVec 32 := BitVec.ofNat 32 (i 1).val
  let c16_i32_60 : BitVec 32 := 16#32
  let v205 : BitVec 32 := Scalar.muli arg1 c16_i32_60
  let c2_i32 : BitVec 32 := 2#32
  let v206 : BitVec 32 := Scalar.addi v205 c2_i32
  let c256_i32_61 : BitVec 32 := 256#32
  let v207 : BitVec 32 := Scalar.muli v206 c256_i32_61
  v207
def k0_mult6 (i : grid0.Coords) : BitVec 32 :=
  let arg1 : BitVec 32 := BitVec.ofNat 32 (i 1).val
  let c16_i32_84 : BitVec 32 := 16#32
  let v300 : BitVec 32 := Scalar.muli arg1 c16_i32_84
  let c3_i32 : BitVec 32 := 3#32
  let v301 : BitVec 32 := Scalar.addi v300 c3_i32
  let c256_i32_85 : BitVec 32 := 256#32
  let v302 : BitVec 32 := Scalar.muli v301 c256_i32_85
  v302
def k0_mult7 (i : grid0.Coords) : BitVec 32 :=
  let arg1 : BitVec 32 := BitVec.ofNat 32 (i 1).val
  let c16_i32_108 : BitVec 32 := 16#32
  let v395 : BitVec 32 := Scalar.muli arg1 c16_i32_108
  let c4_i32 : BitVec 32 := 4#32
  let v396 : BitVec 32 := Scalar.addi v395 c4_i32
  let c256_i32_109 : BitVec 32 := 256#32
  let v397 : BitVec 32 := Scalar.muli v396 c256_i32_109
  v397
def k0_mult8 (i : grid0.Coords) : BitVec 32 :=
  let arg1 : BitVec 32 := BitVec.ofNat 32 (i 1).val
  let c16_i32_132 : BitVec 32 := 16#32
  let v490 : BitVec 32 := Scalar.muli arg1 c16_i32_132
  let c5_i32 : BitVec 32 := 5#32
  let v491 : BitVec 32 := Scalar.addi v490 c5_i32
  let c256_i32_133 : BitVec 32 := 256#32
  let v492 : BitVec 32 := Scalar.muli v491 c256_i32_133
  v492
def k0_mult9 (i : grid0.Coords) : BitVec 32 :=
  let arg1 : BitVec 32 := BitVec.ofNat 32 (i 1).val
  let c16_i32_156 : BitVec 32 := 16#32
  let v585 : BitVec 32 := Scalar.muli arg1 c16_i32_156
  let c6_i32 : BitVec 32 := 6#32
  let v586 : BitVec 32 := Scalar.addi v585 c6_i32
  let c256_i32_157 : BitVec 32 := 256#32
  let v587 : BitVec 32 := Scalar.muli v586 c256_i32_157
  v587
def k0_mult10 (i : grid0.Coords) : BitVec 32 :=
  let arg1 : BitVec 32 := BitVec.ofNat 32 (i 1).val
  let c16_i32_180 : BitVec 32 := 16#32
  let v680 : BitVec 32 := Scalar.muli arg1 c16_i32_180
  let c7_i32 : BitVec 32 := 7#32
  let v681 : BitVec 32 := Scalar.addi v680 c7_i32
  let c256_i32_181 : BitVec 32 := 256#32
  let v682 : BitVec 32 := Scalar.muli v681 c256_i32_181
  v682
def k0_mult11 (i : grid0.Coords) : BitVec 32 :=
  let arg1 : BitVec 32 := BitVec.ofNat 32 (i 1).val
  let c16_i32_204 : BitVec 32 := 16#32
  let v775 : BitVec 32 := Scalar.muli arg1 c16_i32_204
  let c8_i32 : BitVec 32 := 8#32
  let v776 : BitVec 32 := Scalar.addi v775 c8_i32
  let c256_i32_205 : BitVec 32 := 256#32
  let v777 : BitVec 32 := Scalar.muli v776 c256_i32_205
  v777
def k0_mult12 (i : grid0.Coords) : BitVec 32 :=
  let arg1 : BitVec 32 := BitVec.ofNat 32 (i 1).val
  let c16_i32_228 : BitVec 32 := 16#32
  let v870 : BitVec 32 := Scalar.muli arg1 c16_i32_228
  let c9_i32 : BitVec 32 := 9#32
  let v871 : BitVec 32 := Scalar.addi v870 c9_i32
  let c256_i32_229 : BitVec 32 := 256#32
  let v872 : BitVec 32 := Scalar.muli v871 c256_i32_229
  v872
def k0_mult13 (i : grid0.Coords) : BitVec 32 :=
  let arg1 : BitVec 32 := BitVec.ofNat 32 (i 1).val
  let c16_i32_252 : BitVec 32 := 16#32
  let v965 : BitVec 32 := Scalar.muli arg1 c16_i32_252
  let c10_i32 : BitVec 32 := 10#32
  let v966 : BitVec 32 := Scalar.addi v965 c10_i32
  let c256_i32_253 : BitVec 32 := 256#32
  let v967 : BitVec 32 := Scalar.muli v966 c256_i32_253
  v967
def k0_mult14 (i : grid0.Coords) : BitVec 32 :=
  let arg1 : BitVec 32 := BitVec.ofNat 32 (i 1).val
  let c16_i32_276 : BitVec 32 := 16#32
  let v1060 : BitVec 32 := Scalar.muli arg1 c16_i32_276
  let c11_i32 : BitVec 32 := 11#32
  let v1061 : BitVec 32 := Scalar.addi v1060 c11_i32
  let c256_i32_277 : BitVec 32 := 256#32
  let v1062 : BitVec 32 := Scalar.muli v1061 c256_i32_277
  v1062
def k0_mult15 (i : grid0.Coords) : BitVec 32 :=
  let arg1 : BitVec 32 := BitVec.ofNat 32 (i 1).val
  let c16_i32_300 : BitVec 32 := 16#32
  let v1155 : BitVec 32 := Scalar.muli arg1 c16_i32_300
  let c12_i32 : BitVec 32 := 12#32
  let v1156 : BitVec 32 := Scalar.addi v1155 c12_i32
  let c256_i32_301 : BitVec 32 := 256#32
  let v1157 : BitVec 32 := Scalar.muli v1156 c256_i32_301
  v1157
def k0_mult16 (i : grid0.Coords) : BitVec 32 :=
  let arg1 : BitVec 32 := BitVec.ofNat 32 (i 1).val
  let c16_i32_324 : BitVec 32 := 16#32
  let v1250 : BitVec 32 := Scalar.muli arg1 c16_i32_324
  let c13_i32 : BitVec 32 := 13#32
  let v1251 : BitVec 32 := Scalar.addi v1250 c13_i32
  let c256_i32_325 : BitVec 32 := 256#32
  let v1252 : BitVec 32 := Scalar.muli v1251 c256_i32_325
  v1252
def k0_mult17 (i : grid0.Coords) : BitVec 32 :=
  let arg1 : BitVec 32 := BitVec.ofNat 32 (i 1).val
  let c16_i32_348 : BitVec 32 := 16#32
  let v1345 : BitVec 32 := Scalar.muli arg1 c16_i32_348
  let c14_i32 : BitVec 32 := 14#32
  let v1346 : BitVec 32 := Scalar.addi v1345 c14_i32
  let c256_i32_349 : BitVec 32 := 256#32
  let v1347 : BitVec 32 := Scalar.muli v1346 c256_i32_349
  v1347
def k0_mult18 (i : grid0.Coords) : BitVec 32 :=
  let arg1 : BitVec 32 := BitVec.ofNat 32 (i 1).val
  let c16_i32_372 : BitVec 32 := 16#32
  let v1440 : BitVec 32 := Scalar.muli arg1 c16_i32_372
  let c15_i32 : BitVec 32 := 15#32
  let v1441 : BitVec 32 := Scalar.addi v1440 c15_i32
  let c256_i32_373 : BitVec 32 := 256#32
  let v1442 : BitVec 32 := Scalar.muli v1441 c256_i32_373
  v1442
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg0 c16_i32
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S4096x2048 : Shape := ⟨2, ![4096, 2048]⟩
abbrev S4096x4096 : Shape := ⟨2, ![4096, 4096]⟩
abbrev S4096x16x128 : Shape := ⟨3, ![4096, 16, 128]⟩
abbrev S16x4096x128 : Shape := ⟨3, ![16, 4096, 128]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S16x128x4096 : Shape := ⟨3, ![16, 128, 4096]⟩

abbrev nBuf : Space → Nat
  | .hbm => 181
  | .vmem => 0
  | .smem => 0
  | _ => 0

abbrev hbmTy0_0 (i : Nat) : BufTy := match i % 128 with
  | 0 => ⟨S4096x2048, .bf16⟩
  | 1 => ⟨S4096x2048, .bf16⟩
  | 2 => ⟨S4096x2048, .bf16⟩
  | 3 => ⟨S4096x4096, .f32⟩
  | 4 => ⟨S4096x2048, .f32⟩
  | 5 => ⟨S4096x2048, .f32⟩
  | 6 => ⟨S4096x2048, .f32⟩
  | 7 => ⟨S4096x16x128, .f32⟩
  | 8 => ⟨S16x4096x128, .f32⟩
  | 9 => ⟨S4096x16x128, .f32⟩
  | 10 => ⟨S16x4096x128, .f32⟩
  | 11 => ⟨S4096x16x128, .f32⟩
  | 12 => ⟨S16x4096x128, .f32⟩
  | 13 => ⟨S16x4096x4096, .f32⟩
  | 14 => ⟨S_, .f32⟩
  | 15 => ⟨S16x4096x4096, .f32⟩
  | 16 => ⟨S16x4096x4096, .f32⟩
  | 17 => ⟨S4096, .i32⟩
  | 18 => ⟨S1x4096, .i32⟩
  | 19 => ⟨S4096, .i32⟩
  | 20 => ⟨S4096x1, .i32⟩
  | 21 => ⟨S4096x4096, .i32⟩
  | 22 => ⟨S4096x4096, .i32⟩
  | 23 => ⟨S4096x4096, .i1⟩
  | 24 => ⟨S16x4096x4096, .f32⟩
  | 25 => ⟨S_, .f32⟩
  | 26 => ⟨S16x4096x4096, .f32⟩
  | 27 => ⟨S16x4096x4096, .f32⟩
  | 28 => ⟨S16x4096x4096, .f32⟩
  | 29 => ⟨S16x4096x4096, .f32⟩
  | 30 => ⟨S16x4096x4096, .i1⟩
  | 31 => ⟨S16x4096x4096, .f32⟩
  | 32 => ⟨S16x4096x4096, .f32⟩
  | 33 => ⟨S16x4096x4096, .f32⟩
  | 34 => ⟨S16x4096x4096, .f32⟩
  | 35 => ⟨S16x4096x4096, .f32⟩
  | 36 => ⟨S16x4096x4096, .f32⟩
  | 37 => ⟨S16x4096x4096, .f32⟩
  | 38 => ⟨S16x4096x4096, .f32⟩
  | 39 => ⟨S_, .f32⟩
  | 40 => ⟨S16x4096x4096, .f32⟩
  | 41 => ⟨S16x4096x4096, .i1⟩
  | 42 => ⟨S_, .f32⟩
  | 43 => ⟨S16x4096x4096, .f32⟩
  | 44 => ⟨S16x4096x4096, .f32⟩
  | 45 => ⟨S_, .f32⟩
  | 46 => ⟨S16x4096x4096, .f32⟩
  | 47 => ⟨S16x4096x4096, .i1⟩
  | 48 => ⟨S_, .f32⟩
  | 49 => ⟨S16x4096x4096, .f32⟩
  | 50 => ⟨S16x4096x4096, .f32⟩
  | 51 => ⟨S16x4096x4096, .f32⟩
  | 52 => ⟨S16x4096x4096, .f32⟩
  | 53 => ⟨S_, .f32⟩
  | 54 => ⟨S_, .f32⟩
  | 55 => ⟨S_, .i1⟩
  | 56 => ⟨S_, .f32⟩
  | 57 => ⟨S_, .f32⟩
  | 58 => ⟨S_, .f32⟩
  | 59 => ⟨S_, .f32⟩
  | 60 => ⟨S16x4096x4096, .f32⟩
  | 61 => ⟨S16x4096x4096, .i1⟩
  | 62 => ⟨S_, .f32⟩
  | 63 => ⟨S16x4096x4096, .f32⟩
  | 64 => ⟨S16x4096x4096, .f32⟩
  | 65 => ⟨S16x4096x4096, .f32⟩
  | 66 => ⟨S16x4096x4096, .f32⟩
  | 67 => ⟨S16x4096x4096, .f32⟩
  | 68 => ⟨S_, .f32⟩
  | 69 => ⟨S16x4096x4096, .f32⟩
  | 70 => ⟨S16x4096x4096, .f32⟩
  | 71 => ⟨S16x4096x4096, .f32⟩
  | 72 => ⟨S16x4096x4096, .f32⟩
  | 73 => ⟨S16x4096x4096, .f32⟩
  | 74 => ⟨S_, .f32⟩
  | 75 => ⟨S16x4096x4096, .f32⟩
  | 76 => ⟨S16x4096x4096, .f32⟩
  | 77 => ⟨S16x4096x4096, .f32⟩
  | 78 => ⟨S16x4096x4096, .f32⟩
  | 79 => ⟨S16x4096x4096, .i1⟩
  | 80 => ⟨S16x4096x4096, .f32⟩
  | 81 => ⟨S16x4096x4096, .f32⟩
  | 82 => ⟨S16x4096x4096, .f32⟩
  | 83 => ⟨S16x4096x4096, .f32⟩
  | 84 => ⟨S16x4096x4096, .f32⟩
  | 85 => ⟨S16x4096x4096, .f32⟩
  | 86 => ⟨S16x4096x4096, .f32⟩
  | 87 => ⟨S16x4096x4096, .f32⟩
  | 88 => ⟨S_, .f32⟩
  | 89 => ⟨S16x4096x4096, .f32⟩
  | 90 => ⟨S16x4096x4096, .i1⟩
  | 91 => ⟨S_, .f32⟩
  | 92 => ⟨S16x4096x4096, .f32⟩
  | 93 => ⟨S16x4096x4096, .f32⟩
  | 94 => ⟨S_, .f32⟩
  | 95 => ⟨S16x4096x4096, .f32⟩
  | 96 => ⟨S16x4096x4096, .i1⟩
  | 97 => ⟨S_, .f32⟩
  | 98 => ⟨S16x4096x4096, .f32⟩
  | 99 => ⟨S16x4096x4096, .f32⟩
  | 100 => ⟨S16x4096x4096, .f32⟩
  | 101 => ⟨S16x4096x4096, .f32⟩
  | 102 => ⟨S_, .f32⟩
  | 103 => ⟨S_, .f32⟩
  | 104 => ⟨S_, .i1⟩
  | 105 => ⟨S_, .f32⟩
  | 106 => ⟨S_, .f32⟩
  | 107 => ⟨S_, .f32⟩
  | 108 => ⟨S_, .f32⟩
  | 109 => ⟨S16x4096x4096, .f32⟩
  | 110 => ⟨S16x4096x4096, .i1⟩
  | 111 => ⟨S_, .f32⟩
  | 112 => ⟨S16x4096x4096, .f32⟩
  | 113 => ⟨S16x4096x4096, .f32⟩
  | 114 => ⟨S16x4096x4096, .f32⟩
  | 115 => ⟨S16x4096x4096, .f32⟩
  | 116 => ⟨S16x4096x4096, .f32⟩
  | 117 => ⟨S_, .f32⟩
  | 118 => ⟨S16x4096x4096, .f32⟩
  | 119 => ⟨S16x4096x4096, .f32⟩
  | 120 => ⟨S16x4096x4096, .f32⟩
  | 121 => ⟨S_, .f32⟩
  | 122 => ⟨S_, .f32⟩
  | 123 => ⟨S16x4096x4096, .i1⟩
  | 124 => ⟨S16x4096x4096, .f32⟩
  | 125 => ⟨S16x4096x4096, .f32⟩
  | 126 => ⟨S_, .f32⟩
  | 127 => ⟨S16x4096x4096, .f32⟩
  | _ => ⟨S4096x2048, .bf16⟩

abbrev hbmTy0_1 (i : Nat) : BufTy := match i % 128 with
  | 0 => ⟨S_, .f32⟩
  | 1 => ⟨S_, .f32⟩
  | 2 => ⟨S16x4096x4096, .f32⟩
  | 3 => ⟨S16x4096x4096, .f32⟩
  | 4 => ⟨S16x4096x4096, .f32⟩
  | 5 => ⟨S16x4096x4096, .f32⟩
  | 6 => ⟨S_, .f32⟩
  | 7 => ⟨S_, .f32⟩
  | 8 => ⟨S16x4096x4096, .i1⟩
  | 9 => ⟨S16x4096x4096, .f32⟩
  | 10 => ⟨S16x4096x4096, .f32⟩
  | 11 => ⟨S_, .f32⟩
  | 12 => ⟨S16x4096x4096, .f32⟩
  | 13 => ⟨S16x4096x128, .f32⟩
  | 14 => ⟨S4096x16x128, .f32⟩
  | 15 => ⟨S4096x2048, .f32⟩
  | 16 => ⟨S4096x2048, .f32⟩
  | 17 => ⟨S4096x16x128, .f32⟩
  | 18 => ⟨S16x4096x128, .f32⟩
  | 19 => ⟨S16x128x4096, .f32⟩
  | 20 => ⟨S16x4096x128, .f32⟩
  | 21 => ⟨S16x4096x4096, .f32⟩
  | 22 => ⟨S_, .f32⟩
  | 23 => ⟨S16x4096x4096, .f32⟩
  | 24 => ⟨S16x4096x4096, .f32⟩
  | 25 => ⟨S16x4096x4096, .f32⟩
  | 26 => ⟨S16x4096x4096, .f32⟩
  | 27 => ⟨S_, .f32⟩
  | 28 => ⟨S_, .f32⟩
  | 29 => ⟨S16x4096x4096, .f32⟩
  | 30 => ⟨S16x4096x4096, .f32⟩
  | 31 => ⟨S_, .f32⟩
  | 32 => ⟨S16x4096x4096, .f32⟩
  | 33 => ⟨S16x4096x4096, .f32⟩
  | 34 => ⟨S16x4096x4096, .f32⟩
  | 35 => ⟨S16x4096x4096, .f32⟩
  | 36 => ⟨S16x4096x4096, .f32⟩
  | 37 => ⟨S16x4096x4096, .f32⟩
  | 38 => ⟨S16x4096x4096, .f32⟩
  | 39 => ⟨S16x4096x4096, .f32⟩
  | 40 => ⟨S16x4096x4096, .f32⟩
  | 41 => ⟨S16x4096x4096, .f32⟩
  | 42 => ⟨S_, .f32⟩
  | 43 => ⟨S16x4096x4096, .f32⟩
  | 44 => ⟨S16x4096x4096, .f32⟩
  | 45 => ⟨S16x4096x128, .f32⟩
  | 46 => ⟨S16x4096x128, .f32⟩
  | 47 => ⟨S4096x16x128, .f32⟩
  | 48 => ⟨S4096x2048, .f32⟩
  | 49 => ⟨S4096x16x128, .f32⟩
  | 50 => ⟨S4096x2048, .f32⟩
  | 51 => ⟨S4096x16x128, .f32⟩
  | 52 => ⟨S4096x2048, .f32⟩
  | _ => ⟨S4096x2048, .bf16⟩

abbrev hbmTy (i : Nat) : BufTy := match i / 128 with
  | 0 => hbmTy0_0 i
  | 1 => hbmTy0_1 i
  | _ => ⟨S4096x2048, .bf16⟩

abbrev bufTy : (tb : Table) → Fin (tcTables nBuf tb) → BufTy
  | .hbm, ⟨i, _⟩ => hbmTy i
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1_0 : Ref sig .tc := ⟨.hbm, 38, rfl⟩
abbrev main_call0_call0_cst_0 : Ref sig .tc := ⟨.hbm, 39, rfl⟩
abbrev main_call0_call0_v13 : Ref sig .tc := ⟨.hbm, 40, rfl⟩
abbrev main_call0_call0_v14 : Ref sig .tc := ⟨.hbm, 41, rfl⟩
abbrev main_call0_call0_cst_1 : Ref sig .tc := ⟨.hbm, 42, rfl⟩
abbrev main_call0_call0_v15 : Ref sig .tc := ⟨.hbm, 43, rfl⟩
abbrev main_call0_call0_v16 : Ref sig .tc := ⟨.hbm, 44, rfl⟩
abbrev main_call0_call0_cst_2 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_cst_3 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_v21 : Ref sig .tc := ⟨.hbm, 51, rfl⟩
abbrev main_v19_1 : Ref sig .tc := ⟨.hbm, 52, rfl⟩
abbrev main_call0_call0_cst_4 : Ref sig .tc := ⟨.hbm, 53, rfl⟩
abbrev main_call0_call0_cst_5 : Ref sig .tc := ⟨.hbm, 54, rfl⟩
abbrev main_call0_call0_v23 : Ref sig .tc := ⟨.hbm, 55, rfl⟩
abbrev main_call0_call0_cst_6 : Ref sig .tc := ⟨.hbm, 56, rfl⟩
abbrev main_call0_call0_cst_7 : Ref sig .tc := ⟨.hbm, 57, rfl⟩
abbrev main_call0_call0_v24 : Ref sig .tc := ⟨.hbm, 58, rfl⟩
abbrev main_call0_call0_cst_8 : Ref sig .tc := ⟨.hbm, 59, rfl⟩
abbrev main_call0_call0_v25 : Ref sig .tc := ⟨.hbm, 60, rfl⟩
abbrev main_call0_call0_v26 : Ref sig .tc := ⟨.hbm, 61, rfl⟩
abbrev main_call0_call0_cst_9 : Ref sig .tc := ⟨.hbm, 62, rfl⟩
abbrev main_call0_call0_v27 : Ref sig .tc := ⟨.hbm, 63, rfl⟩
abbrev main_call0_call0_v28 : Ref sig .tc := ⟨.hbm, 64, rfl⟩
abbrev main_call0_call0_v29 : Ref sig .tc := ⟨.hbm, 65, rfl⟩
abbrev main_call0_call0_v30 : Ref sig .tc := ⟨.hbm, 66, rfl⟩
abbrev main_call0_call0_v31 : Ref sig .tc := ⟨.hbm, 67, rfl⟩
abbrev main_call0_call0_cst_10 : Ref sig .tc := ⟨.hbm, 68, rfl⟩
abbrev main_call0_call0_v32 : Ref sig .tc := ⟨.hbm, 69, rfl⟩
abbrev main_v19_2 : Ref sig .tc := ⟨.hbm, 70, rfl⟩
abbrev main_v19_0 : Ref sig .tc := ⟨.hbm, 71, rfl⟩
abbrev main_v20 : Ref sig .tc := ⟨.hbm, 72, rfl⟩
abbrev main_call1_v0 : Ref sig .tc := ⟨.hbm, 73, rfl⟩
abbrev main_call1_call0_cst : Ref sig .tc := ⟨.hbm, 74, rfl⟩
abbrev main_call1_call0_v0 : Ref sig .tc := ⟨.hbm, 75, rfl⟩
abbrev main_call1_call0_v1 : Ref sig .tc := ⟨.hbm, 76, rfl⟩
abbrev main_call1_call0_v2 : Ref sig .tc := ⟨.hbm, 77, rfl⟩
abbrev main_call1_call0_v3 : Ref sig .tc := ⟨.hbm, 78, rfl⟩
abbrev main_call1_call0_v4 : Ref sig .tc := ⟨.hbm, 79, rfl⟩
abbrev main_call1_call0_v5 : Ref sig .tc := ⟨.hbm, 80, rfl⟩
abbrev main_call1_call0_v6 : Ref sig .tc := ⟨.hbm, 81, rfl⟩
abbrev main_call1_call0_v7 : Ref sig .tc := ⟨.hbm, 82, rfl⟩
abbrev main_call1_call0_v8 : Ref sig .tc := ⟨.hbm, 83, rfl⟩
abbrev main_call1_call0_v9 : Ref sig .tc := ⟨.hbm, 84, rfl⟩
abbrev main_call1_call0_v10 : Ref sig .tc := ⟨.hbm, 85, rfl⟩
abbrev main_call1_call0_v11 : Ref sig .tc := ⟨.hbm, 86, rfl⟩
abbrev main_call1_v1_0 : Ref sig .tc := ⟨.hbm, 87, rfl⟩
abbrev main_call1_call0_cst_0 : Ref sig .tc := ⟨.hbm, 88, rfl⟩
abbrev main_call1_call0_v13 : Ref sig .tc := ⟨.hbm, 89, rfl⟩
abbrev main_call1_call0_v14 : Ref sig .tc := ⟨.hbm, 90, rfl⟩
abbrev main_call1_call0_cst_1 : Ref sig .tc := ⟨.hbm, 91, rfl⟩
abbrev main_call1_call0_v15 : Ref sig .tc := ⟨.hbm, 92, rfl⟩
abbrev main_call1_call0_v16 : Ref sig .tc := ⟨.hbm, 93, rfl⟩
abbrev main_call1_call0_cst_2 : Ref sig .tc := ⟨.hbm, 94, rfl⟩
abbrev main_call1_call0_v17 : Ref sig .tc := ⟨.hbm, 95, rfl⟩
abbrev main_call1_call0_v18 : Ref sig .tc := ⟨.hbm, 96, rfl⟩
abbrev main_call1_call0_cst_3 : Ref sig .tc := ⟨.hbm, 97, rfl⟩
abbrev main_call1_call0_v19 : Ref sig .tc := ⟨.hbm, 98, rfl⟩
abbrev main_call1_call0_v20 : Ref sig .tc := ⟨.hbm, 99, rfl⟩
abbrev main_call1_call0_v21 : Ref sig .tc := ⟨.hbm, 100, rfl⟩
abbrev main_v21_1 : Ref sig .tc := ⟨.hbm, 101, rfl⟩
abbrev main_call1_call0_cst_4 : Ref sig .tc := ⟨.hbm, 102, rfl⟩
abbrev main_call1_call0_cst_5 : Ref sig .tc := ⟨.hbm, 103, rfl⟩
abbrev main_call1_call0_v23 : Ref sig .tc := ⟨.hbm, 104, rfl⟩
abbrev main_call1_call0_cst_6 : Ref sig .tc := ⟨.hbm, 105, rfl⟩
abbrev main_call1_call0_cst_7 : Ref sig .tc := ⟨.hbm, 106, rfl⟩
abbrev main_call1_call0_v24 : Ref sig .tc := ⟨.hbm, 107, rfl⟩
abbrev main_call1_call0_cst_8 : Ref sig .tc := ⟨.hbm, 108, rfl⟩
abbrev main_call1_call0_v25 : Ref sig .tc := ⟨.hbm, 109, rfl⟩
abbrev main_call1_call0_v26 : Ref sig .tc := ⟨.hbm, 110, rfl⟩
abbrev main_call1_call0_cst_9 : Ref sig .tc := ⟨.hbm, 111, rfl⟩
abbrev main_call1_call0_v27 : Ref sig .tc := ⟨.hbm, 112, rfl⟩
abbrev main_call1_call0_v28 : Ref sig .tc := ⟨.hbm, 113, rfl⟩
abbrev main_call1_call0_v29 : Ref sig .tc := ⟨.hbm, 114, rfl⟩
abbrev main_call1_call0_v30 : Ref sig .tc := ⟨.hbm, 115, rfl⟩
abbrev main_call1_call0_v31 : Ref sig .tc := ⟨.hbm, 116, rfl⟩
abbrev main_call1_call0_cst_10 : Ref sig .tc := ⟨.hbm, 117, rfl⟩
abbrev main_call1_call0_v32 : Ref sig .tc := ⟨.hbm, 118, rfl⟩
abbrev main_v21_2 : Ref sig .tc := ⟨.hbm, 119, rfl⟩
abbrev main_v21_0 : Ref sig .tc := ⟨.hbm, 120, rfl⟩
abbrev main_cst_0 : Ref sig .tc := ⟨.hbm, 121, rfl⟩
abbrev main_call2_v0 : Ref sig .tc := ⟨.hbm, 122, rfl⟩
abbrev main_v22_1 : Ref sig .tc := ⟨.hbm, 123, rfl⟩
abbrev main_call2_v2 : Ref sig .tc := ⟨.hbm, 124, rfl⟩
abbrev main_v22_0 : Ref sig .tc := ⟨.hbm, 125, rfl⟩
abbrev main_call2_cst : Ref sig .tc := ⟨.hbm, 126, rfl⟩
abbrev main_v22_2 : Ref sig .tc := ⟨.hbm, 127, rfl⟩
abbrev main_call3_cst : Ref sig .tc := ⟨.hbm, 128, rfl⟩
abbrev main_call3_v0 : Ref sig .tc := ⟨.hbm, 129, rfl⟩
abbrev main_v23 : Ref sig .tc := ⟨.hbm, 130, rfl⟩
abbrev main_v24 : Ref sig .tc := ⟨.hbm, 131, rfl⟩
abbrev main_v25 : Ref sig .tc := ⟨.hbm, 132, rfl⟩
abbrev main_v26 : Ref sig .tc := ⟨.hbm, 133, rfl⟩
abbrev main_cst_1 : Ref sig .tc := ⟨.hbm, 134, rfl⟩
abbrev main_call4_v0 : Ref sig .tc := ⟨.hbm, 135, rfl⟩
abbrev main_v27_1 : Ref sig .tc := ⟨.hbm, 136, rfl⟩
abbrev main_call4_v2 : Ref sig .tc := ⟨.hbm, 137, rfl⟩
abbrev main_v27_0 : Ref sig .tc := ⟨.hbm, 138, rfl⟩
abbrev main_call4_cst : Ref sig .tc := ⟨.hbm, 139, rfl⟩
abbrev main_v27_2 : Ref sig .tc := ⟨.hbm, 140, rfl⟩
abbrev main_v28 : Ref sig .tc := ⟨.hbm, 141, rfl⟩
abbrev main_v29 : Ref sig .tc := ⟨.hbm, 142, rfl⟩
abbrev main_v30 : Ref sig .tc := ⟨.hbm, 143, rfl⟩
abbrev main_v31 : Ref sig .tc := ⟨.hbm, 144, rfl⟩
abbrev main_v32 : Ref sig .tc := ⟨.hbm, 145, rfl⟩
abbrev main_v33 : Ref sig .tc := ⟨.hbm, 146, rfl⟩
abbrev main_v34 : Ref sig .tc := ⟨.hbm, 147, rfl⟩
abbrev main_v35 : Ref sig .tc := ⟨.hbm, 148, rfl⟩
abbrev main_v36 : Ref sig .tc := ⟨.hbm, 149, rfl⟩
abbrev main_call5_cst : Ref sig .tc := ⟨.hbm, 150, rfl⟩
abbrev main_call5_v0 : Ref sig .tc := ⟨.hbm, 151, rfl⟩
abbrev main_v37 : Ref sig .tc := ⟨.hbm, 152, rfl⟩
abbrev main_v38 : Ref sig .tc := ⟨.hbm, 153, rfl⟩
abbrev main_v39 : Ref sig .tc := ⟨.hbm, 154, rfl⟩
abbrev main_call6_cst : Ref sig .tc := ⟨.hbm, 155, rfl⟩
abbrev main_call6_v0 : Ref sig .tc := ⟨.hbm, 156, rfl⟩
abbrev main_v40 : Ref sig .tc := ⟨.hbm, 157, rfl⟩
abbrev main_v41 : Ref sig .tc := ⟨.hbm, 158, rfl⟩
abbrev main_call7_cst : Ref sig .tc := ⟨.hbm, 159, rfl⟩
abbrev main_call7_v0 : Ref sig .tc := ⟨.hbm, 160, rfl⟩
abbrev main_v42 : Ref sig .tc := ⟨.hbm, 161, rfl⟩
abbrev main_call8_v0 : Ref sig .tc := ⟨.hbm, 162, rfl⟩
abbrev main_call8_v1 : Ref sig .tc := ⟨.hbm, 163, rfl⟩
abbrev main_v43 : Ref sig .tc := ⟨.hbm, 164, rfl⟩
abbrev main_v44 : Ref sig .tc := ⟨.hbm, 165, rfl⟩
abbrev main_call9_v0 : Ref sig .tc := ⟨.hbm, 166, rfl⟩
abbrev main_call9_v1 : Ref sig .tc := ⟨.hbm, 167, rfl⟩
abbrev main_v45 : Ref sig .tc := ⟨.hbm, 168, rfl⟩
abbrev main_v46 : Ref sig .tc := ⟨.hbm, 169, rfl⟩
abbrev main_cst_2 : Ref sig .tc := ⟨.hbm, 170, rfl⟩
abbrev main_v47 : Ref sig .tc := ⟨.hbm, 171, rfl⟩
abbrev main_v48 : Ref sig .tc := ⟨.hbm, 172, rfl⟩
abbrev main_v49 : Ref sig .tc := ⟨.hbm, 173, rfl⟩
abbrev main_v50 : Ref sig .tc := ⟨.hbm, 174, rfl⟩
abbrev main_v51 : Ref sig .tc := ⟨.hbm, 175, rfl⟩
abbrev main_v52 : Ref sig .tc := ⟨.hbm, 176, rfl⟩
abbrev main_v53 : Ref sig .tc := ⟨.hbm, 177, rfl⟩
abbrev main_v54 : Ref sig .tc := ⟨.hbm, 178, rfl⟩
abbrev main_v55 : Ref sig .tc := ⟨.hbm, 179, rfl⟩
abbrev main_v56 : Ref sig .tc := ⟨.hbm, 180, rfl⟩

abbrev nD : Nat := 1
abbrev τ : Topo := Topo.v7x

variable {F : FTy → Type} [FloatOps F]
-- ==== Kernel2.lean ====
abbrev S4096x2048 : Shape := ⟨2, ![4096, 2048]⟩
abbrev S2x2048 : Shape := ⟨2, ![2, 2048]⟩
abbrev S2x2048x8192 : Shape := ⟨3, ![2, 2048, 8192]⟩
abbrev S2x8192x2048 : Shape := ⟨3, ![2, 8192, 2048]⟩
abbrev S1x2048 : Shape := ⟨2, ![1, 2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩
abbrev S2048x4x2048 : Shape := ⟨3, ![2048, 4, 2048]⟩
abbrev S4x2048x2048 : Shape := ⟨3, ![4, 2048, 2048]⟩
abbrev S256x2048 : Shape := ⟨2, ![256, 2048]⟩
abbrev S256 : Shape := ⟨1, ![256]⟩
abbrev S256x1 : Shape := ⟨2, ![256, 1]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩
abbrev S1x1024x2048 : Shape := ⟨3, ![1, 1024, 2048]⟩
abbrev S4x4096x2048 : Shape := ⟨3, ![4, 4096, 2048]⟩
abbrev S4096x1024 : Shape := ⟨2, ![4096, 1024]⟩
abbrev S1x1024x1024 : Shape := ⟨3, ![1, 1024, 1024]⟩
abbrev S4x2x2048x2048 : Shape := ⟨4, ![4, 2, 2048, 2048]⟩
abbrev S2x2048x4x2048 : Shape := ⟨4, ![2, 2048, 4, 2048]⟩
abbrev S2x4x2048x2048 : Shape := ⟨4, ![2, 4, 2048, 2048]⟩

abbrev nBuf : Space → Nat
  | .hbm => 47
  | .vmem => 66
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2x2048, .f32⟩
  | .hbm, ⟨3, _⟩ => ⟨S2x2048x8192, .f32⟩
  | .hbm, ⟨4, _⟩ => ⟨S2x8192x2048, .f32⟩
  | .hbm, ⟨5, _⟩ => ⟨S4096x2048, .f32⟩
  | .hbm, ⟨6, _⟩ => ⟨S4096x2048, .f32⟩
  | .hbm, ⟨7, _⟩ => ⟨S1x2048, .f32⟩
  | .hbm, ⟨8, _⟩ => ⟨S1x2048x8192, .f32⟩
  | .hbm, ⟨9, _⟩ => ⟨S2048x8192, .f32⟩
  | .hbm, ⟨10, _⟩ => ⟨S1x8192x2048, .f32⟩
  | .hbm, ⟨11, _⟩ => ⟨S8192x2048, .f32⟩
  | .hbm, ⟨12, _⟩ => ⟨S4096x2048, .bf16⟩
  | .hbm, ⟨13, _⟩ => ⟨S2048x8192, .bf16⟩
  | .hbm, ⟨14, _⟩ => ⟨S2048x4x2048, .bf16⟩
  | .hbm, ⟨15, _⟩ => ⟨S4x2048x2048, .bf16⟩
  | .hbm, ⟨16, _⟩ => ⟨S8192x2048, .bf16⟩
  | .hbm, ⟨17, _⟩ => ⟨S4x2048x2048, .bf16⟩
  | .hbm, ⟨18, _⟩ => ⟨S4096x2048, .bf16⟩
  | .hbm, ⟨19, _⟩ => ⟨S4096x8192, .bf16⟩
  | .hbm, ⟨20, _⟩ => ⟨S4096x8192, .bf16⟩
  | .hbm, ⟨21, _⟩ => ⟨S4096x8192, .bf16⟩
  | .hbm, ⟨22, _⟩ => ⟨S4x4096x2048, .f32⟩
  | .hbm, ⟨23, _⟩ => ⟨S4x4096x2048, .f32⟩
  | .hbm, ⟨24, _⟩ => ⟨S1x2048, .f32⟩
  | .hbm, ⟨25, _⟩ => ⟨S1x2048x8192, .f32⟩
  | .hbm, ⟨26, _⟩ => ⟨S2048x8192, .f32⟩
  | .hbm, ⟨27, _⟩ => ⟨S1x8192x2048, .f32⟩
  | .hbm, ⟨28, _⟩ => ⟨S8192x2048, .f32⟩
  | .hbm, ⟨29, _⟩ => ⟨S4096x2048, .bf16⟩
  | .hbm, ⟨30, _⟩ => ⟨S2048x8192, .bf16⟩
  | .hbm, ⟨31, _⟩ => ⟨S2048x4x2048, .bf16⟩
  | .hbm, ⟨32, _⟩ => ⟨S4x2048x2048, .bf16⟩
  | .hbm, ⟨33, _⟩ => ⟨S8192x2048, .bf16⟩
  | .hbm, ⟨34, _⟩ => ⟨S4x2048x2048, .bf16⟩
  | .hbm, ⟨35, _⟩ => ⟨S4096x2048, .bf16⟩
  | .hbm, ⟨36, _⟩ => ⟨S4096x8192, .bf16⟩
  | .hbm, ⟨37, _⟩ => ⟨S4096x8192, .bf16⟩
  | .hbm, ⟨38, _⟩ => ⟨S4096x8192, .bf16⟩
  | .hbm, ⟨39, _⟩ => ⟨S4x4096x2048, .f32⟩
  | .hbm, ⟨40, _⟩ => ⟨S4x4096x2048, .f32⟩
  | .hbm, ⟨41, _⟩ => ⟨S4x2x2048x2048, .f32⟩
  | .hbm, ⟨42, _⟩ => ⟨S2x2048x4x2048, .f32⟩
  | .hbm, ⟨43, _⟩ => ⟨S2x2048x8192, .f32⟩
  | .hbm, ⟨44, _⟩ => ⟨S4x2x2048x2048, .f32⟩
  | .hbm, ⟨45, _⟩ => ⟨S2x4x2048x2048, .f32⟩
  | .hbm, ⟨46, _⟩ => ⟨S2x8192x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1x2048x1024, .bf16⟩
  | .local _ .vmem, ⟨8, _⟩ => ⟨S1x2048x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x2048, .bf16⟩
  | .local _ .vmem, ⟨14, _⟩ => ⟨S1024x2048, .bf16⟩
  | .local _ .vmem, ⟨15, _⟩ => ⟨S1x1024x2048, .bf16⟩
  | .local _ .vmem, ⟨16, _⟩ => ⟨S1x1024x2048, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S4096x1024, .bf16⟩
  | .local _ .vmem, ⟨22, _⟩ => ⟨S4096x1024, .bf16⟩
  | .local _ .vmem, ⟨23, _⟩ => ⟨S4096x1024, .bf16⟩
  | .local _ .vmem, ⟨24, _⟩ => ⟨S4096x1024, .bf16⟩
  | .local _ .vmem, ⟨25, _⟩ => ⟨S1x1024x1024, .f32⟩
  | .local _ .vmem, ⟨26, _⟩ => ⟨S1x1024x1024, .f32⟩
  | .local _ .vmem, ⟨27, _⟩ => ⟨S4096x1024, .bf16⟩
  | .local _ .vmem, ⟨28, _⟩ => ⟨S4096x1024, .bf16⟩
  | .local _ .vmem, ⟨29, _⟩ => ⟨S4096x1024, .bf16⟩
  | .local _ .vmem, ⟨30, _⟩ => ⟨S4096x1024, .bf16⟩
  | .local _ .vmem, ⟨31, _⟩ => ⟨S1x1024x1024, .f32⟩
  | .local _ .vmem, ⟨32, _⟩ => ⟨S1x1024x1024, .f32⟩
  | .local _ .vmem, ⟨33, _⟩ => ⟨S256x2048, .f32⟩
  | .local _ .vmem, ⟨34, _⟩ => ⟨S256x2048, .f32⟩
  | .local _ .vmem, ⟨35, _⟩ => ⟨S1x2048, .f32⟩
  | .local _ .vmem, ⟨36, _⟩ => ⟨S256x2048, .bf16⟩
  | .local _ .vmem, ⟨37, _⟩ => ⟨S256x2048, .bf16⟩
  | .local _ .vmem, ⟨38, _⟩ => ⟨S1024x2048, .bf16⟩
  | .local _ .vmem, ⟨39, _⟩ => ⟨S1024x2048, .bf16⟩
  | .local _ .vmem, ⟨40, _⟩ => ⟨S1x2048x1024, .bf16⟩
  | .local _ .vmem, ⟨41, _⟩ => ⟨S1x2048x1024, .bf16⟩
  | .local _ .vmem, ⟨42, _⟩ => ⟨S1024x1024, .bf16⟩
  | .local _ .vmem, ⟨43, _⟩ => ⟨S1024x1024, .bf16⟩
  | .local _ .vmem, ⟨44, _⟩ => ⟨S1024x1024, .bf16⟩
  | .local _ .vmem, ⟨45, _⟩ => ⟨S1024x1024, .bf16⟩
  | .local _ .vmem, ⟨46, _⟩ => ⟨S1024x2048, .bf16⟩
  | .local _ .vmem, ⟨47, _⟩ => ⟨S1024x2048, .bf16⟩
  | .local _ .vmem, ⟨48, _⟩ => ⟨S1x1024x2048, .bf16⟩
  | .local _ .vmem, ⟨49, _⟩ => ⟨S1x1024x2048, .bf16⟩
  | .local _ .vmem, ⟨50, _⟩ => ⟨S1024x1024, .bf16⟩
  | .local _ .vmem, ⟨51, _⟩ => ⟨S1024x1024, .bf16⟩
  | .local _ .vmem, ⟨52, _⟩ => ⟨S1024x1024, .bf16⟩
  | .local _ .vmem, ⟨53, _⟩ => ⟨S1024x1024, .bf16⟩
  | .local _ .vmem, ⟨54, _⟩ => ⟨S4096x1024, .bf16⟩
  | .local _ .vmem, ⟨55, _⟩ => ⟨S4096x1024, .bf16⟩
  | .local _ .vmem, ⟨56, _⟩ => ⟨S4096x1024, .bf16⟩
  | .local _ .vmem, ⟨57, _⟩ => ⟨S4096x1024, .bf16⟩
  | .local _ .vmem, ⟨58, _⟩ => ⟨S1x1024x1024, .f32⟩
  | .local _ .vmem, ⟨59, _⟩ => ⟨S1x1024x1024, .f32⟩
  | .local _ .vmem, ⟨60, _⟩ => ⟨S4096x1024, .bf16⟩
  | .local _ .vmem, ⟨61, _⟩ => ⟨S4096x1024, .bf16⟩
  | .local _ .vmem, ⟨62, _⟩ => ⟨S4096x1024, .bf16⟩
  | .local _ .vmem, ⟨63, _⟩ => ⟨S4096x1024, .bf16⟩
  | .local _ .vmem, ⟨64, _⟩ => ⟨S1x1024x1024, .f32⟩
  | .local _ .vmem, ⟨65, _⟩ => ⟨S1x1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28_0 : Ref sig .tc := ⟨.hbm, 36, rfl⟩
abbrev main_v28_1 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg2_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg1_1 : Ref sig .tc := ⟨.vmem, 41, rfl⟩
abbrev cc6_stg2_0 : Ref sig .tc := ⟨.vmem, 42, rfl⟩
abbrev cc6_stg2_1 : Ref sig .tc := ⟨.vmem, 43, rfl⟩
abbrev cc6_stg3_0 : Ref sig .tc := ⟨.vmem, 44, rfl⟩
abbrev cc6_stg3_1 : Ref sig .tc := ⟨.vmem, 45, rfl⟩
abbrev cc7_stg0_0 : Ref sig .tc := ⟨.vmem, 46, rfl⟩
abbrev cc7_stg0_1 : Ref sig .tc := ⟨.vmem, 47, rfl⟩
abbrev cc7_stg1_0 : Ref sig .tc := ⟨.vmem, 48, rfl⟩
abbrev cc7_stg1_1 : Ref sig .tc := ⟨.vmem, 49, rfl⟩
abbrev cc7_stg2_0 : Ref sig .tc := ⟨.vmem, 50, rfl⟩
abbrev cc7_stg2_1 : Ref sig .tc := ⟨.vmem, 51, rfl⟩
abbrev cc7_stg3_0 : Ref sig .tc := ⟨.vmem, 52, rfl⟩
abbrev cc7_stg3_1 : Ref sig .tc := ⟨.vmem, 53, rfl⟩
abbrev cc8_stg0_0 : Ref sig .tc := ⟨.vmem, 54, rfl⟩
abbrev cc8_stg0_1 : Ref sig .tc := ⟨.vmem, 55, rfl⟩
abbrev cc8_stg1_0 : Ref sig .tc := ⟨.vmem, 56, rfl⟩
abbrev cc8_stg1_1 : Ref sig .tc := ⟨.vmem, 57, rfl⟩
abbrev cc8_stg2_0 : Ref sig .tc := ⟨.vmem, 58, rfl⟩
abbrev cc8_stg2_1 : Ref sig .tc := ⟨.vmem, 59, rfl⟩
abbrev cc9_stg0_0 : Ref sig .tc := ⟨.vmem, 60, rfl⟩
abbrev cc9_stg0_1 : Ref sig .tc := ⟨.vmem, 61, rfl⟩
abbrev cc9_stg1_0 : Ref sig .tc := ⟨.vmem, 62, rfl⟩
abbrev cc9_stg1_1 : Ref sig .tc := ⟨.vmem, 63, rfl⟩
abbrev cc9_stg2_0 : Ref sig .tc := ⟨.vmem, 64, rfl⟩
abbrev cc9_stg2_1 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem2_1 : DmaSem sig := 37
abbrev cc6_sem0_0 : DmaSem sig := 38
abbrev cc6_sem0_1 : DmaSem sig := 39
abbrev cc6_sem1_0 : DmaSem sig := 40
abbrev cc6_sem1_1 : DmaSem sig := 41
abbrev cc6_sem2_0 : DmaSem sig := 42
abbrev cc6_sem2_1 : DmaSem sig := 43
abbrev cc6_sem3_0 : DmaSem sig := 44
abbrev cc6_sem3_1 : DmaSem sig := 45
abbrev cc7_sem0_0 : DmaSem sig := 46
abbrev cc7_sem0_1 : DmaSem sig := 47
abbrev cc7_sem1_0 : DmaSem sig := 48
abbrev cc7_sem1_1 : DmaSem sig := 49
abbrev cc7_sem2_0 : DmaSem sig := 50
abbrev cc7_sem2_1 : DmaSem sig := 51
abbrev cc7_sem3_0 : DmaSem sig := 52
abbrev cc7_sem3_1 : DmaSem sig := 53
abbrev cc8_sem0_0 : DmaSem sig := 54
abbrev cc8_sem0_1 : DmaSem sig := 55
abbrev cc8_sem1_0 : DmaSem sig := 56
abbrev cc8_sem1_1 : DmaSem sig := 57
abbrev cc8_sem2_0 : DmaSem sig := 58
abbrev cc8_sem2_1 : DmaSem sig := 59
abbrev cc9_sem0_0 : DmaSem sig := 60
abbrev cc9_sem0_1 : DmaSem sig := 61
abbrev cc9_sem1_0 : DmaSem sig := 62
abbrev cc9_sem1_1 : DmaSem sig := 63
abbrev cc9_sem2_0 : DmaSem sig := 64
abbrev cc9_sem2_1 : DmaSem sig := 65

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 arg2
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v16.toNat, v17.toNat, v27.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![4, 8, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 32 := Scalar.addi c0_i32_10 v26
  let c0_i32_11 : BitVec 32 := 0#32
  ![v16.toNat, v27.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1x1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![8, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.addi c2_i32_10 v26
  let c0_i32_11 : BitVec 32 := 0#32
  ![v16.toNat, v27.toNat, arg1.toNat]

abbrev stage3_0 : Fin 2 → Memref sig .tc .vmem S4096x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1x1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 8, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.addi c2_i32_4 arg0
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v16.toNat, v17.toNat, v27.toNat]

abbrev stage4_0 : Fin 2 → Memref sig .tc .vmem S4096x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S4096x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1x1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨1, ![16], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x2048 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x2048 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S256x2048 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨3, ![4, 8, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc6_transform_1 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 arg2
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v16.toNat, v17.toNat, v27.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc6_transform_3 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S1024x2048 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S1x2048x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1024x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev stage6_3 : Fin 2 → Memref sig .tc .vmem S1024x1024 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true, false]

abbrev grid7 : Pipeline.Grid := ⟨3, ![4, 8, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc7_transform_1 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 32 := Scalar.addi c0_i32_10 v26
  let c0_i32_11 : BitVec 32 := 0#32
  ![v16.toNat, v27.toNat, arg2.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc7_transform_3 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S1024x2048 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S1x1024x2048 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1024x1024 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev stage7_3 : Fin 2 → Memref sig .tc .vmem S1024x1024 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true, false]

abbrev grid8 : Pipeline.Grid := ⟨3, ![8, 2, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc8_transform_3 (i : grid8.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 32 := Scalar.addi c0_i32_10 v26
  let c0_i32_11 : BitVec 32 := 0#32
  ![v16.toNat, v27.toNat, arg1.toNat]

abbrev stage8_0 : Fin 2 → Memref sig .tc .vmem S4096x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 2 → Memref sig .tc .vmem S4096x1024 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S1x1024x1024 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨3, ![2, 8, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc9_transform_3 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 arg0
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v16.toNat, v17.toNat, v27.toNat]

abbrev stage9_0 : Fin 2 → Memref sig .tc .vmem S4096x1024 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false, true]

abbrev stage9_1 : Fin 2 → Memref sig .tc .vmem S4096x1024 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true, true]

abbrev stage9_2 : Fin 2 → Memref sig .tc .vmem S1x1024x1024 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]
-- ==== Reference2Ideal.lean ====
abbrev S4096x2048 : Shape := ⟨2, ![4096, 2048]⟩
abbrev S2x2048 : Shape := ⟨2, ![2, 2048]⟩
abbrev S2x2048x8192 : Shape := ⟨3, ![2, 2048, 8192]⟩
abbrev S2x8192x2048 : Shape := ⟨3, ![2, 8192, 2048]⟩
abbrev S1x2048 : Shape := ⟨2, ![1, 2048]⟩
abbrev S2048 : Shape := ⟨1, ![2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩
abbrev S_ : Shape := ⟨0, ![]⟩
abbrev S4096 : Shape := ⟨1, ![4096]⟩
abbrev S4096x1 : Shape := ⟨2, ![4096, 1]⟩
abbrev S4096x8192 : Shape := ⟨2, ![4096, 8192]⟩

abbrev nBuf : Space → Nat
  | .hbm => 167
  | .vmem => 0
  | .smem => 0
  | _ => 0

abbrev hbmTy0_0 (i : Nat) : BufTy := match i % 128 with
  | 0 => ⟨S4096x2048, .f32⟩
  | 1 => ⟨S4096x2048, .f32⟩
  | 2 => ⟨S2x2048, .f32⟩
  | 3 => ⟨S2x2048x8192, .f32⟩
  | 4 => ⟨S2x8192x2048, .f32⟩
  | 5 => ⟨S4096x2048, .f32⟩
  | 6 => ⟨S4096x2048, .f32⟩
  | 7 => ⟨S1x2048, .f32⟩
  | 8 => ⟨S2048, .f32⟩
  | 9 => ⟨S1x2048x8192, .f32⟩
  | 10 => ⟨S2048x8192, .f32⟩
  | 11 => ⟨S1x8192x2048, .f32⟩
  | 12 => ⟨S8192x2048, .f32⟩
  | 13 => ⟨S4096x2048, .f32⟩
  | 14 => ⟨S_, .f32⟩
  | 15 => ⟨S4096, .f32⟩
  | 16 => ⟨S4096x1, .f32⟩
  | 17 => ⟨S_, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1, .f32⟩
  | 24 => ⟨S4096x1, .f32⟩
  | 25 => ⟨S_, .f32⟩
  | 26 => ⟨S4096x1, .f32⟩
  | 27 => ⟨S4096x1, .f32⟩
  | 28 => ⟨S4096x2048, .f32⟩
  | 29 => ⟨S4096x2048, .f32⟩
  | 30 => ⟨S1x2048, .f32⟩
  | 31 => ⟨S4096x2048, .f32⟩
  | 32 => ⟨S4096x2048, .f32⟩
  | 33 => ⟨S4096x8192, .f32⟩
  | 34 => ⟨S_, .f32⟩
  | 35 => ⟨S4096x8192, .f32⟩
  | 36 => ⟨S4096x8192, .f32⟩
  | 37 => ⟨S_, .f32⟩
  | 38 => ⟨S4096x8192, .f32⟩
  | 39 => ⟨S4096x8192, .i1⟩
  | 40 => ⟨S_, .f32⟩
  | 41 => ⟨S4096x8192, .f32⟩
  | 42 => ⟨S4096x8192, .f32⟩
  | 43 => ⟨S4096x2048, .f32⟩
  | 44 => ⟨S4096x2048, .f32⟩
  | 45 => ⟨S4096x2048, .f32⟩
  | 46 => ⟨S2048x8192, .f32⟩
  | 47 => ⟨S8192x2048, .f32⟩
  | 48 => ⟨S4096x8192, .f32⟩
  | 49 => ⟨S4096x8192, .f32⟩
  | 50 => ⟨S4096x8192, .f32⟩
  | 51 => ⟨S4096x8192, .f32⟩
  | 52 => ⟨S_, .f32⟩
  | 53 => ⟨S4096x8192, .f32⟩
  | 54 => ⟨S4096x8192, .f32⟩
  | 55 => ⟨S8192x2048, .f32⟩
  | 56 => ⟨S2048x8192, .f32⟩
  | 57 => ⟨S4096x2048, .f32⟩
  | 58 => ⟨S4096x2048, .f32⟩
  | 59 => ⟨S_, .f32⟩
  | 60 => ⟨S2048, .f32⟩
  | 61 => ⟨S1x2048, .f32⟩
  | 62 => ⟨S4096x2048, .f32⟩
  | 63 => ⟨S4096x2048, .f32⟩
  | 64 => ⟨S_, .f32⟩
  | 65 => ⟨S2048, .f32⟩
  | 66 => ⟨S4096x2048, .f32⟩
  | 67 => ⟨S_, .f32⟩
  | 68 => ⟨S4096, .f32⟩
  | 69 => ⟨S4096x1, .f32⟩
  | 70 => ⟨S4096x2048, .f32⟩
  | 71 => ⟨S4096x2048, .f32⟩
  | 72 => ⟨S4096x2048, .f32⟩
  | 73 => ⟨S4096x1, .f32⟩
  | 74 => ⟨S_, .f32⟩
  | 75 => ⟨S4096x1, .f32⟩
  | 76 => ⟨S4096x1, .f32⟩
  | 77 => ⟨S_, .f32⟩
  | 78 => ⟨S4096, .f32⟩
  | 79 => ⟨S4096x2048, .f32⟩
  | 80 => ⟨S4096x2048, .f32⟩
  | 81 => ⟨S4096x2048, .f32⟩
  | 82 => ⟨S4096x2048, .f32⟩
  | 83 => ⟨S4096x2048, .f32⟩
  | 84 => ⟨S1x2048, .f32⟩
  | 85 => ⟨S2048, .f32⟩
  | 86 => ⟨S1x2048x8192, .f32⟩
  | 87 => ⟨S2048x8192, .f32⟩
  | 88 => ⟨S1x8192x2048, .f32⟩
  | 89 => ⟨S8192x2048, .f32⟩
  | 90 => ⟨S4096x2048, .f32⟩
  | 91 => ⟨S_, .f32⟩
  | 92 => ⟨S4096, .f32⟩
  | 93 => ⟨S4096x1, .f32⟩
  | 94 => ⟨S_, .f32⟩
  | 95 => ⟨S4096x1, .f32⟩
  | 96 => ⟨S4096x1, .f32⟩
  | 97 => ⟨S_, .f32⟩
  | 98 => ⟨S4096x1, .f32⟩
  | 99 => ⟨S4096x1, .f32⟩
  | 100 => ⟨S4096x1, .f32⟩
  | 101 => ⟨S4096x1, .f32⟩
  | 102 => ⟨S_, .f32⟩
  | 103 => ⟨S4096x1, .f32⟩
  | 104 => ⟨S4096x1, .f32⟩
  | 105 => ⟨S4096x2048, .f32⟩
  | 106 => ⟨S4096x2048, .f32⟩
  | 107 => ⟨S1x2048, .f32⟩
  | 108 => ⟨S4096x2048, .f32⟩
  | 109 => ⟨S4096x2048, .f32⟩
  | 110 => ⟨S4096x8192, .f32⟩
  | 111 => ⟨S_, .f32⟩
  | 112 => ⟨S4096x8192, .f32⟩
  | 113 => ⟨S4096x8192, .f32⟩
  | 114 => ⟨S_, .f32⟩
  | 115 => ⟨S4096x8192, .f32⟩
  | 116 => ⟨S4096x8192, .i1⟩
  | 117 => ⟨S_, .f32⟩
  | 118 => ⟨S4096x8192, .f32⟩
  | 119 => ⟨S4096x8192, .f32⟩
  | 120 => ⟨S4096x2048, .f32⟩
  | 121 => ⟨S4096x2048, .f32⟩
  | 122 => ⟨S4096x2048, .f32⟩
  | 123 => ⟨S2048x8192, .f32⟩
  | 124 => ⟨S8192x2048, .f32⟩
  | 125 => ⟨S4096x8192, .f32⟩
  | 126 => ⟨S4096x8192, .f32⟩
  | 127 => ⟨S4096x8192, .f32⟩
  | _ => ⟨S4096x2048, .f32⟩

abbrev hbmTy0_1 (i : Nat) : BufTy := match i % 128 with
  | 0 => ⟨S4096x8192, .f32⟩
  | 1 => ⟨S_, .f32⟩
  | 2 => ⟨S4096x8192, .f32⟩
  | 3 => ⟨S4096x8192, .f32⟩
  | 4 => ⟨S8192x2048, .f32⟩
  | 5 => ⟨S2048x8192, .f32⟩
  | 6 => ⟨S4096x2048, .f32⟩
  | 7 => ⟨S4096x2048, .f32⟩
  | 8 => ⟨S_, .f32⟩
  | 9 => ⟨S2048, .f32⟩
  | 10 => ⟨S1x2048, .f32⟩
  | 11 => ⟨S4096x2048, .f32⟩
  | 12 => ⟨S4096x2048, .f32⟩
  | 13 => ⟨S_, .f32⟩
  | 14 => ⟨S2048, .f32⟩
  | 15 => ⟨S4096x2048, .f32⟩
  | 16 => ⟨S_, .f32⟩
  | 17 => ⟨S4096, .f32⟩
  | 18 => ⟨S4096x1, .f32⟩
  | 19 => ⟨S4096x2048, .f32⟩
  | 20 => ⟨S4096x2048, .f32⟩
  | 21 => ⟨S4096x2048, .f32⟩
  | 22 => ⟨S4096x1, .f32⟩
  | 23 => ⟨S_, .f32⟩
  | 24 => ⟨S4096x1, .f32⟩
  | 25 => ⟨S4096x1, .f32⟩
  | 26 => ⟨S_, .f32⟩
  | 27 => ⟨S4096, .f32⟩
  | 28 => ⟨S4096x2048, .f32⟩
  | 29 => ⟨S4096x2048, .f32⟩
  | 30 => ⟨S4096x2048, .f32⟩
  | 31 => ⟨S4096x2048, .f32⟩
  | 32 => ⟨S4096x2048, .f32⟩
  | 33 => ⟨S1x2048x8192, .f32⟩
  | 34 => ⟨S1x2048x8192, .f32⟩
  | 35 => ⟨S2x2048x8192, .f32⟩
  | 36 => ⟨S1x8192x2048, .f32⟩
  | 37 => ⟨S1x8192x2048, .f32⟩
  | 38 => ⟨S2x8192x2048, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_v56 : Ref sig .tc := ⟨.hbm, 76, rfl⟩
abbrev main_cst_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_11 : Ref sig .tc := ⟨.hbm, 91, rfl⟩
abbrev main_v70 : Ref sig .tc := ⟨.hbm, 92, rfl⟩
abbrev main_v71 : Ref sig .tc := ⟨.hbm, 93, rfl⟩
abbrev main_cst_12 : Ref sig .tc := ⟨.hbm, 94, rfl⟩
abbrev main_v72 : Ref sig .tc := ⟨.hbm, 95, rfl⟩
abbrev main_v73 : Ref sig .tc := ⟨.hbm, 96, rfl⟩
abbrev main_cst_13 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_14 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_call1_cst : Ref sig .tc := ⟨.hbm, 111, rfl⟩
abbrev main_call1_v0 : Ref sig .tc := ⟨.hbm, 112, rfl⟩
abbrev main_v86 : Ref sig .tc := ⟨.hbm, 113, rfl⟩
abbrev main_cst_15 : Ref sig .tc := ⟨.hbm, 114, rfl⟩
abbrev main_v87 : Ref sig .tc := ⟨.hbm, 115, rfl⟩
abbrev main_v88 : Ref sig .tc := ⟨.hbm, 116, rfl⟩
abbrev main_cst_16 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_17 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_cst_18 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_cst_19 : Ref sig .tc := ⟨.hbm, 141, rfl⟩
abbrev main_v110 : Ref sig .tc := ⟨.hbm, 142, rfl⟩
abbrev main_v111 : Ref sig .tc := ⟨.hbm, 143, rfl⟩
abbrev main_cst_20 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_cst_21 : Ref sig .tc := ⟨.hbm, 151, rfl⟩
abbrev main_v118 : Ref sig .tc := ⟨.hbm, 152, rfl⟩
abbrev main_v119 : Ref sig .tc := ⟨.hbm, 153, rfl⟩
abbrev main_cst_22 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩

abbrev nD : Nat := 1
abbrev τ : Topo := Topo.v7x

variable {F : FTy → Type} [FloatOps F]
-- ==== Kernel3.lean ====
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩
abbrev S2048x2048 : Shape := ⟨2, ![2048, 2048]⟩
abbrev S4096x1024 : Shape := ⟨2, ![4096, 1024]⟩
abbrev S4096x4096 : Shape := ⟨2, ![4096, 4096]⟩

abbrev nBuf : Space → Nat
  | .hbm => 13
  | .vmem => 34
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S4096x2048, .bf16⟩
  | .hbm, ⟨7, _⟩ => ⟨S4096x2048, .f32⟩
  | .hbm, ⟨8, _⟩ => ⟨S4096x2048, .f32⟩
  | .hbm, ⟨9, _⟩ => ⟨S2048x2048, .f32⟩
  | .hbm, ⟨10, _⟩ => ⟨S2048x2048, .f32⟩
  | .hbm, ⟨11, _⟩ => ⟨S4096x2048, .f32⟩
  | .hbm, ⟨12, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x2048, .bf16⟩
  | .local _ .vmem, ⟨9, _⟩ => ⟨S1024x2048, .bf16⟩
  | .local _ .vmem, ⟨10, _⟩ => ⟨S2048x1024, .bf16⟩
  | .local _ .vmem, ⟨11, _⟩ => ⟨S2048x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S4096x1024, .bf16⟩
  | .local _ .vmem, ⟨17, _⟩ => ⟨S4096x1024, .bf16⟩
  | .local _ .vmem, ⟨18, _⟩ => ⟨S4096x1024, .bf16⟩
  | .local _ .vmem, ⟨19, _⟩ => ⟨S4096x1024, .bf16⟩
  | .local _ .vmem, ⟨20, _⟩ => ⟨S1024x1024, .f32⟩
  | .local _ .vmem, ⟨21, _⟩ => ⟨S1024x1024, .f32⟩
  | .local _ .vmem, ⟨22, _⟩ => ⟨S4096x1024, .bf16⟩
  | .local _ .vmem, ⟨23, _⟩ => ⟨S4096x1024, .bf16⟩
  | .local _ .vmem, ⟨24, _⟩ => ⟨S4096x1024, .bf16⟩
  | .local _ .vmem, ⟨25, _⟩ => ⟨S4096x1024, .bf16⟩
  | .local _ .vmem, ⟨26, _⟩ => ⟨S1024x1024, .f32⟩
  | .local _ .vmem, ⟨27, _⟩ => ⟨S1024x1024, .f32⟩
  | .local _ .vmem, ⟨28, _⟩ => ⟨S1024x2048, .bf16⟩
  | .local _ .vmem, ⟨29, _⟩ => ⟨S1024x2048, .bf16⟩
  | .local _ .vmem, ⟨30, _⟩ => ⟨S1024x2048, .bf16⟩
  | .local _ .vmem, ⟨31, _⟩ => ⟨S1024x2048, .bf16⟩
  | .local _ .vmem, ⟨32, _⟩ => ⟨S1024x1024, .f32⟩
  | .local _ .vmem, ⟨33, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  let v1 : BitVec 32 := Scalar.addi arg1 c0_i32
  let c0_i32_0 : BitVec 32 := 0#32
  ![v0.toNat, v1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![2, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S4096x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S4096x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![4, 4, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1024x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]
-- ==== Reference3Ideal.lean ====
abbrev S4096x2048 : Shape := ⟨2, ![4096, 2048]⟩
abbrev S4096x4096 : Shape := ⟨2, ![4096, 4096]⟩
abbrev S2048x4096 : Shape := ⟨2, ![2048, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x4096, .f32⟩
  | .hbm, ⟨8, _⟩ => ⟨S4096x2048, .f32⟩
  | .hbm, ⟨9, _⟩ => ⟨S4096x2048, .f32⟩
  | .hbm, ⟨10, _⟩ => ⟨S2048x4096, .f32⟩
  | .hbm, ⟨11, _⟩ => ⟨S4096x2048, .f32⟩
  | .hbm, ⟨12, _⟩ => ⟨S4096x4096, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel4.lean ====
abbrev S4096x2048 : Shape := ⟨2, ![4096, 2048]⟩
abbrev S1x2048 : Shape := ⟨2, ![1, 2048]⟩
abbrev S2048x11296 : Shape := ⟨2, ![2048, 11296]⟩
abbrev S4096x3072 : Shape := ⟨2, ![4096, 3072]⟩
abbrev S4096x128 : Shape := ⟨2, ![4096, 128]⟩
abbrev S4096x6144 : Shape := ⟨2, ![4096, 6144]⟩
abbrev S2048x2048 : Shape := ⟨2, ![2048, 2048]⟩
abbrev S2048x3072 : Shape := ⟨2, ![2048, 3072]⟩
abbrev S2048x32 : Shape := ⟨2, ![2048, 32]⟩
abbrev S_ : Shape := ⟨0, ![]⟩
abbrev S2048x128 : Shape := ⟨2, ![2048, 128]⟩
abbrev S2048x6144 : Shape := ⟨2, ![2048, 6144]⟩
abbrev S256x2048 : Shape := ⟨2, ![256, 2048]⟩
abbrev S256 : Shape := ⟨1, ![256]⟩
abbrev S256x1 : Shape := ⟨2, ![256, 1]⟩
abbrev S1024x2048 : Shape := ⟨2, ![1024, 2048]⟩
abbrev S2048x1024 : Shape := ⟨2, ![2048, 1024]⟩
abbrev S1024x1024 : Shape := ⟨2, ![1024, 1024]⟩
abbrev S1024x128 : Shape := ⟨2, ![1024, 128]⟩
abbrev S4096x1024 : Shape := ⟨2, ![4096, 1024]⟩
abbrev S4096x32 : Shape := ⟨2, ![4096, 32]⟩

abbrev nBuf : Space → Nat
  | .hbm => 27
  | .vmem => 51
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x11296, .f32⟩
  | .hbm, ⟨3, _⟩ => ⟨S4096x2048, .bf16⟩
  | .hbm, ⟨4, _⟩ => ⟨S4096x3072, .bf16⟩
  | .hbm, ⟨5, _⟩ => ⟨S4096x128, .f32⟩
  | .hbm, ⟨6, _⟩ => ⟨S4096x6144, .bf16⟩
  | .hbm, ⟨7, _⟩ => ⟨S2048x11296, .bf16⟩
  | .hbm, ⟨8, _⟩ => ⟨S2048x2048, .bf16⟩
  | .hbm, ⟨9, _⟩ => ⟨S2048x3072, .bf16⟩
  | .hbm, ⟨10, _⟩ => ⟨S2048x32, .bf16⟩
  | .hbm, ⟨11, _⟩ => ⟨S_, .i32⟩
  | .hbm, ⟨12, _⟩ => ⟨S_, .bf16⟩
  | .hbm, ⟨13, _⟩ => ⟨S2048x128, .bf16⟩
  | .hbm, ⟨14, _⟩ => ⟨S2048x6144, .bf16⟩
  | .hbm, ⟨15, _⟩ => ⟨S4096x2048, .bf16⟩
  | .hbm, ⟨16, _⟩ => ⟨S4096x2048, .f32⟩
  | .hbm, ⟨17, _⟩ => ⟨S4096x3072, .f32⟩
  | .hbm, ⟨18, _⟩ => ⟨S4096x128, .f32⟩
  | .hbm, ⟨19, _⟩ => ⟨S4096x6144, .f32⟩
  | .hbm, ⟨20, _⟩ => ⟨S2048x2048, .f32⟩
  | .hbm, ⟨21, _⟩ => ⟨S2048x3072, .f32⟩
  | .hbm, ⟨22, _⟩ => ⟨S2048x128, .f32⟩
  | .hbm, ⟨23, _⟩ => ⟨S2048x32, .f32⟩
  | .hbm, ⟨24, _⟩ => ⟨S2048x6144, .f32⟩
  | .hbm, ⟨25, _⟩ => ⟨S4096x32, .f32⟩
  | .hbm, ⟨26, _⟩ => ⟨S2048x11296, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S1024x2048, .bf16⟩
  | .local _ .vmem, ⟨6, _⟩ => ⟨S1024x2048, .bf16⟩
  | .local _ .vmem, ⟨7, _⟩ => ⟨S2048x1024, .bf16⟩
  | .local _ .vmem, ⟨8, _⟩ => ⟨S2048x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x2048, .bf16⟩
  | .local _ .vmem, ⟨12, _⟩ => ⟨S1024x2048, .bf16⟩
  | .local _ .vmem, ⟨13, _⟩ => ⟨S2048x1024, .bf16⟩
  | .local _ .vmem, ⟨14, _⟩ => ⟨S2048x1024, .bf16⟩
  | .local _ .vmem, ⟨15, _⟩ => ⟨S1024x1024, .f32⟩
  | .local _ .vmem, ⟨16, _⟩ => ⟨S1024x1024, .f32⟩
  | .local _ .vmem, ⟨17, _⟩ => ⟨S1024x2048, .bf16⟩
  | .local _ .vmem, ⟨18, _⟩ => ⟨S1024x2048, .bf16⟩
  | .local _ .vmem, ⟨19, _⟩ => ⟨S2048x128, .bf16⟩
  | .local _ .vmem, ⟨20, _⟩ => ⟨S1024x128, .f32⟩
  | .local _ .vmem, ⟨21, _⟩ => ⟨S1024x128, .f32⟩
  | .local _ .vmem, ⟨22, _⟩ => ⟨S1024x2048, .bf16⟩
  | .local _ .vmem, ⟨23, _⟩ => ⟨S1024x2048, .bf16⟩
  | .local _ .vmem, ⟨24, _⟩ => ⟨S2048x1024, .bf16⟩
  | .local _ .vmem, ⟨25, _⟩ => ⟨S2048x1024, .bf16⟩
  | .local _ .vmem, ⟨26, _⟩ => ⟨S1024x1024, .f32⟩
  | .local _ .vmem, ⟨27, _⟩ => ⟨S1024x1024, .f32⟩
  | .local _ .vmem, ⟨28, _⟩ => ⟨S4096x1024, .bf16⟩
  | .local _ .vmem, ⟨29, _⟩ => ⟨S4096x1024, .bf16⟩
  | .local _ .vmem, ⟨30, _⟩ => ⟨S4096x1024, .bf16⟩
  | .local _ .vmem, ⟨31, _⟩ => ⟨S4096x1024, .bf16⟩
  | .local _ .vmem, ⟨32, _⟩ => ⟨S1024x1024, .f32⟩
  | .local _ .vmem, ⟨33, _⟩ => ⟨S1024x1024, .f32⟩
  | .local _ .vmem, ⟨34, _⟩ => ⟨S4096x1024, .bf16⟩
  | .local _ .vmem, ⟨35, _⟩ => ⟨S4096x1024, .bf16⟩
  | .local _ .vmem, ⟨36, _⟩ => ⟨S4096x1024, .bf16⟩
  | .local _ .vmem, ⟨37, _⟩ => ⟨S4096x1024, .bf16⟩
  | .local _ .vmem, ⟨38, _⟩ => ⟨S1024x1024, .f32⟩
  | .local _ .vmem, ⟨39, _⟩ => ⟨S1024x1024, .f32⟩
  | .local _ .vmem, ⟨40, _⟩ => ⟨S4096x1024, .bf16⟩
  | .local _ .vmem, ⟨41, _⟩ => ⟨S4096x1024, .bf16⟩
  | .local _ .vmem, ⟨42, _⟩ => ⟨S4096x128, .f32⟩
  | .local _ .vmem, ⟨43, _⟩ => ⟨S1024x128, .f32⟩
  | .local _ .vmem, ⟨44, _⟩ => ⟨S1024x128, .f32⟩
  | .local _ .vmem, ⟨45, _⟩ => ⟨S4096x1024, .bf16⟩
  | .local _ .vmem, ⟨46, _⟩ => ⟨S4096x1024, .bf16⟩
  | .local _ .vmem, ⟨47, _⟩ => ⟨S4096x1024, .bf16⟩
  | .local _ .vmem, ⟨48, _⟩ => ⟨S4096x1024, .bf16⟩
  | .local _ .vmem, ⟨49, _⟩ => ⟨S1024x1024, .f32⟩
  | .local _ .vmem, ⟨50, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg1_1 : Ref sig .tc := ⟨.vmem, 31, rfl⟩
abbrev cc5_stg2_0 : Ref sig .tc := ⟨.vmem, 32, rfl⟩
abbrev cc5_stg2_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg1_1 : Ref sig .tc := ⟨.vmem, 37, rfl⟩
abbrev cc6_stg2_0 : Ref sig .tc := ⟨.vmem, 38, rfl⟩
abbrev cc6_stg2_1 : Ref sig .tc := ⟨.vmem, 39, rfl⟩
abbrev cc7_stg0_0 : Ref sig .tc := ⟨.vmem, 40, rfl⟩
abbrev cc7_stg0_1 : Ref sig .tc := ⟨.vmem, 41, rfl⟩
abbrev cc7_stg1_0 : Ref sig .tc := ⟨.vmem, 42, rfl⟩
abbrev cc7_stg2_0 : Ref sig .tc := ⟨.vmem, 43, rfl⟩
abbrev cc7_stg2_1 : Ref sig .tc := ⟨.vmem, 44, rfl⟩
abbrev cc8_stg0_0 : Ref sig .tc := ⟨.vmem, 45, rfl⟩
abbrev cc8_stg0_1 : Ref sig .tc := ⟨.vmem, 46, rfl⟩
abbrev cc8_stg1_0 : Ref sig .tc := ⟨.vmem, 47, rfl⟩
abbrev cc8_stg1_1 : Ref sig .tc := ⟨.vmem, 48, rfl⟩
abbrev cc8_stg2_0 : Ref sig .tc := ⟨.vmem, 49, rfl⟩
abbrev cc8_stg2_1 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem1_1 : DmaSem sig := 31
abbrev cc5_sem2_0 : DmaSem sig := 32
abbrev cc5_sem2_1 : DmaSem sig := 33
abbrev cc6_sem0_0 : DmaSem sig := 34
abbrev cc6_sem0_1 : DmaSem sig := 35
abbrev cc6_sem1_0 : DmaSem sig := 36
abbrev cc6_sem1_1 : DmaSem sig := 37
abbrev cc6_sem2_0 : DmaSem sig := 38
abbrev cc6_sem2_1 : DmaSem sig := 39
abbrev cc7_sem0_0 : DmaSem sig := 40
abbrev cc7_sem0_1 : DmaSem sig := 41
abbrev cc7_sem1_0 : DmaSem sig := 42
abbrev cc7_sem2_0 : DmaSem sig := 43
abbrev cc7_sem2_1 : DmaSem sig := 44
abbrev cc8_sem0_0 : DmaSem sig := 45
abbrev cc8_sem0_1 : DmaSem sig := 46
abbrev cc8_sem1_0 : DmaSem sig := 47
abbrev cc8_sem1_1 : DmaSem sig := 48
abbrev cc8_sem2_0 : DmaSem sig := 49
abbrev cc8_sem2_1 : DmaSem sig := 50

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 3, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S2048x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![4, 6, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S2048x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 2, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S4096x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S4096x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![2, 3, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S4096x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S4096x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1024x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![2, 1, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S4096x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 1 → Memref sig .tc .vmem S4096x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true, true]

abbrev stage7_2 : Fin 2 → Memref sig .tc .vmem S1024x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![2, 6, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S4096x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 2 → Memref sig .tc .vmem S4096x1024 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S1024x1024 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]
-- ==== Reference4Ideal.lean ====
abbrev S4096x2048 : Shape := ⟨2, ![4096, 2048]⟩
abbrev S1x2048 : Shape := ⟨2, ![1, 2048]⟩
abbrev S2048x11296 : Shape := ⟨2, ![2048, 11296]⟩
abbrev S4096x3072 : Shape := ⟨2, ![4096, 3072]⟩
abbrev S4096x128 : Shape := ⟨2, ![4096, 128]⟩
abbrev S4096x6144 : Shape := ⟨2, ![4096, 6144]⟩
abbrev S2048 : Shape := ⟨1, ![2048]⟩
abbrev S_ : Shape := ⟨0, ![]⟩
abbrev S4096 : Shape := ⟨1, ![4096]⟩
abbrev S4096x1 : Shape := ⟨2, ![4096, 1]⟩
abbrev S4096x11296 : Shape := ⟨2, ![4096, 11296]⟩
abbrev S4096x32 : Shape := ⟨2, ![4096, 32]⟩
abbrev S11296x2048 : Shape := ⟨2, ![11296, 2048]⟩

abbrev nBuf : Space → Nat
  | .hbm => 36
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x11296, .f32⟩
  | .hbm, ⟨3, _⟩ => ⟨S4096x2048, .bf16⟩
  | .hbm, ⟨4, _⟩ => ⟨S4096x3072, .bf16⟩
  | .hbm, ⟨5, _⟩ => ⟨S4096x128, .f32⟩
  | .hbm, ⟨6, _⟩ => ⟨S4096x6144, .bf16⟩
  | .hbm, ⟨7, _⟩ => ⟨S2048, .f32⟩
  | .hbm, ⟨8, _⟩ => ⟨S4096x2048, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x11296, .f32⟩
  | .hbm, ⟨25, _⟩ => ⟨S4096x2048, .f32⟩
  | .hbm, ⟨26, _⟩ => ⟨S4096x3072, .f32⟩
  | .hbm, ⟨27, _⟩ => ⟨S4096x32, .f32⟩
  | .hbm, ⟨28, _⟩ => ⟨S4096x6144, .f32⟩
  | .hbm, ⟨29, _⟩ => ⟨S4096x2048, .f32⟩
  | .hbm, ⟨30, _⟩ => ⟨S4096x3072, .f32⟩
  | .hbm, ⟨31, _⟩ => ⟨S4096x32, .f32⟩
  | .hbm, ⟨32, _⟩ => ⟨S4096x6144, .f32⟩
  | .hbm, ⟨33, _⟩ => ⟨S4096x11296, .f32⟩
  | .hbm, ⟨34, _⟩ => ⟨S11296x2048, .f32⟩
  | .hbm, ⟨35, _⟩ => ⟨S2048x11296, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel5.lean ====
abbrev S4096x2048 : Shape := ⟨2, ![4096, 2048]⟩
abbrev S4096x8192 : Shape := ⟨2, ![4096, 8192]⟩
abbrev S8192x2048 : Shape := ⟨2, ![8192, 2048]⟩
abbrev S4x2048x2048 : Shape := ⟨3, ![4, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x8192, .bf16⟩
  | .hbm, ⟨2, _⟩ => ⟨S8192x2048, .f32⟩
  | .hbm, ⟨3, _⟩ => ⟨S8192x2048, .bf16⟩
  | .hbm, ⟨4, _⟩ => ⟨S4x2048x2048, .bf16⟩
  | .hbm, ⟨5, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  ![v16.toNat, v27.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S4096x2048 : Shape := ⟨2, ![4096, 2048]⟩
abbrev S4096x8192 : Shape := ⟨2, ![4096, 8192]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x8192, .bf16⟩
  | .hbm, ⟨2, _⟩ => ⟨S8192x2048, .f32⟩
  | .hbm, ⟨3, _⟩ => ⟨S4096x8192, .f32⟩
  | .hbm, ⟨4, _⟩ => ⟨S4096x2048, .f32⟩
  | .hbm, ⟨5, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S4096x8192 : Shape := ⟨2, ![4096, 8192]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S4096x2048 : Shape := ⟨2, ![4096, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .f32⟩
  | .hbm, ⟨2, _⟩ => ⟨S2048x8192, .bf16⟩
  | .hbm, ⟨3, _⟩ => ⟨S2048x4x2048, .bf16⟩
  | .hbm, ⟨4, _⟩ => ⟨S4x2048x2048, .bf16⟩
  | .hbm, ⟨5, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 arg1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg2 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v16.toNat, v17.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x8192 : Shape := ⟨2, ![4096, 8192]⟩
abbrev S2048x8192 : Shape := ⟨2, ![2048, 8192]⟩
abbrev S_ : Shape := ⟨0, ![]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .f32⟩
  | .hbm, ⟨2, _⟩ => ⟨S_, .f32⟩
  | .hbm, ⟨3, _⟩ => ⟨S4096x2048, .f32⟩
  | .hbm, ⟨4, _⟩ => ⟨S4096x8192, .f32⟩
  | .hbm, ⟨5, _⟩ => ⟨S4096x8192, .f32⟩
  | .hbm, ⟨6, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S4096x6144 : Shape := ⟨2, ![4096, 6144]⟩
abbrev S4096x2048 : Shape := ⟨2, ![4096, 2048]⟩
abbrev S2048x11296 : Shape := ⟨2, ![2048, 11296]⟩
abbrev S2048x6144 : Shape := ⟨2, ![2048, 6144]⟩
abbrev S1024x2048 : Shape := ⟨2, ![1024, 2048]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x6144, .bf16⟩
  | .hbm, ⟨1, _⟩ => ⟨S4096x2048, .f32⟩
  | .hbm, ⟨2, _⟩ => ⟨S2048x11296, .f32⟩
  | .hbm, ⟨3, _⟩ => ⟨S2048x11296, .bf16⟩
  | .hbm, ⟨4, _⟩ => ⟨S2048x6144, .bf16⟩
  | .hbm, ⟨5, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4096x6144 : Shape := ⟨2, ![4096, 6144]⟩
abbrev S4096x2048 : Shape := ⟨2, ![4096, 2048]⟩
abbrev S2048x11296 : Shape := ⟨2, ![2048, 11296]⟩
abbrev S2048x6144 : Shape := ⟨2, ![2048, 6144]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S4096x2048, .f32⟩
  | .hbm, ⟨2, _⟩ => ⟨S2048x11296, .f32⟩
  | .hbm, ⟨3, _⟩ => ⟨S4096x6144, .f32⟩
  | .hbm, ⟨4, _⟩ => ⟨S2048x6144, .f32⟩
  | .hbm, ⟨5, _⟩ => ⟨S_, .f32⟩
  | .hbm, ⟨6, _⟩ => ⟨S4096x2048, .f32⟩
  | .hbm, ⟨7, _⟩ => ⟨S4096x6144, .f32⟩
  | .hbm, ⟨8, _⟩ => ⟨S4096x2048, .f32⟩
  | .hbm, ⟨9, _⟩ => ⟨S4096x2048, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel8.lean ====
abbrev S4096x3072 : Shape := ⟨2, ![4096, 3072]⟩
abbrev S4096x2048 : Shape := ⟨2, ![4096, 2048]⟩
abbrev S2048x11296 : Shape := ⟨2, ![2048, 11296]⟩
abbrev S2048x3072 : Shape := ⟨2, ![2048, 3072]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x3072, .bf16⟩
  | .hbm, ⟨1, _⟩ => ⟨S4096x2048, .f32⟩
  | .hbm, ⟨2, _⟩ => ⟨S2048x11296, .f32⟩
  | .hbm, ⟨3, _⟩ => ⟨S2048x11296, .bf16⟩
  | .hbm, ⟨4, _⟩ => ⟨S2048x3072, .bf16⟩
  | .hbm, ⟨5, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S4096x3072 : Shape := ⟨2, ![4096, 3072]⟩
abbrev S4096x2048 : Shape := ⟨2, ![4096, 2048]⟩
abbrev S2048x11296 : Shape := ⟨2, ![2048, 11296]⟩
abbrev S2048x3072 : Shape := ⟨2, ![2048, 3072]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x2048, .f32⟩
  | .hbm, ⟨2, _⟩ => ⟨S2048x11296, .f32⟩
  | .hbm, ⟨3, _⟩ => ⟨S4096x3072, .f32⟩
  | .hbm, ⟨4, _⟩ => ⟨S2048x3072, .f32⟩
  | .hbm, ⟨5, _⟩ => ⟨S_, .f32⟩
  | .hbm, ⟨6, _⟩ => ⟨S4096x2048, .f32⟩
  | .hbm, ⟨7, _⟩ => ⟨S4096x3072, .f32⟩
  | .hbm, ⟨8, _⟩ => ⟨S4096x2048, .f32⟩
  | .hbm, ⟨9, _⟩ => ⟨S4096x2048, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel9.lean ====
abbrev S4096x2048 : Shape := ⟨2, ![4096, 2048]⟩
abbrev S2048x11296 : Shape := ⟨2, ![2048, 11296]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x11296, .f32⟩
  | .hbm, ⟨2, _⟩ => ⟨S2048x11296, .bf16⟩
  | .hbm, ⟨3, _⟩ => ⟨S2048x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2048 : Shape := ⟨2, ![4096, 2048]⟩
abbrev S2048x11296 : Shape := ⟨2, ![2048, 11296]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x11296, .f32⟩
  | .hbm, ⟨2, _⟩ => ⟨S4096x2048, .f32⟩
  | .hbm, ⟨3, _⟩ => ⟨S2048x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S4096x128 : Shape := ⟨2, ![4096, 128]⟩
abbrev S4096x2048 : Shape := ⟨2, ![4096, 2048]⟩
abbrev S2048x11296 : Shape := ⟨2, ![2048, 11296]⟩
abbrev S2048x32 : Shape := ⟨2, ![2048, 32]⟩
abbrev S_ : Shape := ⟨0, ![]⟩
abbrev S2048x128 : Shape := ⟨2, ![2048, 128]⟩
abbrev S1024x128 : Shape := ⟨2, ![1024, 128]⟩
abbrev S1024x1024 : Shape := ⟨2, ![1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S4096x128, .f32⟩
  | .hbm, ⟨1, _⟩ => ⟨S4096x2048, .f32⟩
  | .hbm, ⟨2, _⟩ => ⟨S2048x11296, .f32⟩
  | .hbm, ⟨3, _⟩ => ⟨S2048x11296, .bf16⟩
  | .hbm, ⟨4, _⟩ => ⟨S2048x32, .bf16⟩
  | .hbm, ⟨5, _⟩ => ⟨S_, .i32⟩
  | .hbm, ⟨6, _⟩ => ⟨S_, .bf16⟩
  | .hbm, ⟨7, _⟩ => ⟨S2048x128, .bf16⟩
  | .hbm, ⟨8, _⟩ => ⟨S4096x2048, .f32⟩
  | .local _ .vmem, ⟨0, _⟩ => ⟨S1024x128, .f32⟩
  | .local _ .vmem, ⟨1, _⟩ => ⟨S1024x128, .f32⟩
  | .local _ .vmem, ⟨2, _⟩ => ⟨S1024x128, .bf16⟩
  | .local _ .vmem, ⟨3, _⟩ => ⟨S1024x128, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S4096x128 : Shape := ⟨2, ![4096, 128]⟩
abbrev S4096x2048 : Shape := ⟨2, ![4096, 2048]⟩
abbrev S2048x11296 : Shape := ⟨2, ![2048, 11296]⟩
abbrev S4096x32 : Shape := ⟨2, ![4096, 32]⟩
abbrev S2048x32 : Shape := ⟨2, ![2048, 32]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x2048, .f32⟩
  | .hbm, ⟨2, _⟩ => ⟨S2048x11296, .f32⟩
  | .hbm, ⟨3, _⟩ => ⟨S4096x32, .f32⟩
  | .hbm, ⟨4, _⟩ => ⟨S2048x32, .f32⟩
  | .hbm, ⟨5, _⟩ => ⟨S_, .f32⟩
  | .hbm, ⟨6, _⟩ => ⟨S4096x2048, .f32⟩
  | .hbm, ⟨7, _⟩ => ⟨S4096x32, .f32⟩
  | .hbm, ⟨8, _⟩ => ⟨S4096x2048, .f32⟩
  | .hbm, ⟨9, _⟩ => ⟨S4096x2048, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel11.lean ====
abbrev S4096x2048 : Shape := ⟨2, ![4096, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S4096x2048 : Shape := ⟨2, ![4096, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096x2048, .f32⟩
  | .hbm, ⟨36, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel12.lean ====
abbrev S1024x2048 : Shape := ⟨2, ![1024, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S1024x2048 : Shape := ⟨2, ![1024, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S_, .f32⟩
  | .hbm, ⟨5, _⟩ => ⟨S1024x2048, .f32⟩
  | .hbm, ⟨6, _⟩ => ⟨S1024x2048, .f32⟩
  | .hbm, ⟨7, _⟩ => ⟨S_, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S_, .f32⟩
  | .hbm, ⟨12, _⟩ => ⟨S1024x2048, .f32⟩
  | .hbm, ⟨13, _⟩ => ⟨S1024x2048, .f32⟩
  | .hbm, ⟨14, _⟩ => ⟨S1024x2048, .f32⟩
  | .hbm, ⟨15, _⟩ => ⟨S_, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S_, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S1024x2048, .f32⟩
  | .hbm, ⟨26, _⟩ => ⟨S_, .f32⟩
  | .hbm, ⟨27, _⟩ => ⟨S1024x2048, .f32⟩
  | .hbm, ⟨28, _⟩ => ⟨S1024x2048, .f32⟩
  | .hbm, ⟨29, _⟩ => ⟨S1024x2048, .f32⟩
  | .hbm, ⟨30, _⟩ => ⟨S_, .f32⟩
  | .hbm, ⟨31, _⟩ => ⟨S1024x2048, .f32⟩
  | .hbm, ⟨32, _⟩ => ⟨S1024x2048, .f32⟩
  | .hbm, ⟨33, _⟩ => ⟨S1024x2048, .f32⟩
  | .hbm, ⟨34, _⟩ => ⟨S_, .f32⟩
  | .hbm, ⟨35, _⟩ => ⟨S1024x2048, .f32⟩
  | .hbm, ⟨36, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S512x512 : Shape := ⟨2, ![512, 512]⟩
abbrev S256x512 : Shape := ⟨2, ![256, 512]⟩

abbrev nBuf : Space → Nat
  | .hbm => 8
  | .vmem => 16
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S512x512 : Shape := ⟨2, ![512, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S_, .f32⟩
  | .hbm, ⟨5, _⟩ => ⟨S512x512, .f32⟩
  | .hbm, ⟨6, _⟩ => ⟨S512x512, .f32⟩
  | .hbm, ⟨7, _⟩ => ⟨S_, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S_, .f32⟩
  | .hbm, ⟨12, _⟩ => ⟨S512x512, .f32⟩
  | .hbm, ⟨13, _⟩ => ⟨S512x512, .f32⟩
  | .hbm, ⟨14, _⟩ => ⟨S512x512, .f32⟩
  | .hbm, ⟨15, _⟩ => ⟨S_, .f32⟩
  | .hbm, ⟨16, _⟩ => ⟨S512x512, .f32⟩
  | .hbm, ⟨17, _⟩ => ⟨S512x512, .f32⟩
  | .hbm, ⟨18, _⟩ => ⟨S512x512, .f32⟩
  | .hbm, ⟨19, _⟩ => ⟨S_, .f32⟩
  | .hbm, ⟨20, _⟩ => ⟨S512x512, .f32⟩
  | .hbm, ⟨21, _⟩ => ⟨S512x512, .f32⟩
  | .hbm, ⟨22, _⟩ => ⟨S_, .f32⟩
  | .hbm, ⟨23, _⟩ => ⟨S512x512, .f32⟩
  | .hbm, ⟨24, _⟩ => ⟨S512x512, .f32⟩
  | .hbm, ⟨25, _⟩ => ⟨S512x512, .f32⟩
  | .hbm, ⟨26, _⟩ => ⟨S_, .f32⟩
  | .hbm, ⟨27, _⟩ => ⟨S512x512, .f32⟩
  | .hbm, ⟨28, _⟩ => ⟨S512x512, .f32⟩
  | .hbm, ⟨29, _⟩ => ⟨S512x512, .f32⟩
  | .hbm, ⟨30, _⟩ => ⟨S_, .f32⟩
  | .hbm, ⟨31, _⟩ => ⟨S512x512, .f32⟩
  | .hbm, ⟨32, _⟩ => ⟨S512x512, .f32⟩
  | .hbm, ⟨33, _⟩ => ⟨S512x512, .f32⟩
  | .hbm, ⟨34, _⟩ => ⟨S_, .f32⟩
  | .hbm, ⟨35, _⟩ => ⟨S512x512, .f32⟩
  | .hbm, ⟨36, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S2048x2824 : Shape := ⟨2, ![2048, 2824]⟩
abbrev S128x2824 : Shape := ⟨2, ![128, 2824]⟩

abbrev nBuf : Space → Nat
  | .hbm => 8
  | .vmem => 16
  | .smem => 0
  | _ => 0

abbrev bufTy : (tb : Table) → Fin (tcTables nBuf tb) → BufTy
  | .hbm, ⟨0, _⟩ => ⟨S2048x2824, .f32⟩
  | .hbm, ⟨1, _⟩ => ⟨S2048x2824, .f32⟩
  | .hbm, ⟨2, _⟩ => ⟨S2048x2824, .f32⟩
  | .hbm, ⟨3, _⟩ => ⟨S2048x2824, .f32⟩
  | .hbm, ⟨4, _⟩ => ⟨S2048x2824, .f32⟩
  | .hbm, ⟨5, _⟩ => ⟨S2048x2824, .f32⟩
  | .hbm, ⟨6, _⟩ => ⟨S2048x2824, .f32⟩
  | .hbm, ⟨7, _⟩ => ⟨S2048x2824, .f32⟩
  | .local _ .vmem, ⟨0, _⟩ => ⟨S128x2824, .f32⟩
  | .local _ .vmem, ⟨1, _⟩ => ⟨S128x2824, .f32⟩
  | .local _ .vmem, ⟨2, _⟩ => ⟨S128x2824, .f32⟩
  | .local _ .vmem, ⟨3, _⟩ => ⟨S128x2824, .f32⟩
  | .local _ .vmem, ⟨4, _⟩ => ⟨S128x2824, .f32⟩
  | .local _ .vmem, ⟨5, _⟩ => ⟨S128x2824, .f32⟩
  | .local _ .vmem, ⟨6, _⟩ => ⟨S128x2824, .f32⟩
  | .local _ .vmem, ⟨7, _⟩ => ⟨S128x2824, .f32⟩
  | .local _ .vmem, ⟨8, _⟩ => ⟨S128x2824, .f32⟩
  | .local _ .vmem, ⟨9, _⟩ => ⟨S128x2824, .f32⟩
  | .local _ .vmem, ⟨10, _⟩ => ⟨S128x2824, .f32⟩
  | .local _ .vmem, ⟨11, _⟩ => ⟨S128x2824, .f32⟩
  | .local _ .vmem, ⟨12, _⟩ => ⟨S128x2824, .f32⟩
  | .local _ .vmem, ⟨13, _⟩ => ⟨S128x2824, .f32⟩
  | .local _ .vmem, ⟨14, _⟩ => ⟨S128x2824, .f32⟩
  | .local _ .vmem, ⟨15, _⟩ => ⟨S128x2824, .f32⟩
  | _, _ => ⟨S2048x2824, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2824 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2824 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2824 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2824 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2824 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2824 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2824 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2824 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S2048x2824 : Shape := ⟨2, ![2048, 2824]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2824, .f32⟩
  | .hbm, ⟨1, _⟩ => ⟨S2048x2824, .f32⟩
  | .hbm, ⟨2, _⟩ => ⟨S2048x2824, .f32⟩
  | .hbm, ⟨3, _⟩ => ⟨S2048x2824, .f32⟩
  | .hbm, ⟨4, _⟩ => ⟨S_, .f32⟩
  | .hbm, ⟨5, _⟩ => ⟨S2048x2824, .f32⟩
  | .hbm, ⟨6, _⟩ => ⟨S2048x2824, .f32⟩
  | .hbm, ⟨7, _⟩ => ⟨S_, .f32⟩
  | .hbm, ⟨8, _⟩ => ⟨S2048x2824, .f32⟩
  | .hbm, ⟨9, _⟩ => ⟨S2048x2824, .f32⟩
  | .hbm, ⟨10, _⟩ => ⟨S2048x2824, .f32⟩
  | .hbm, ⟨11, _⟩ => ⟨S_, .f32⟩
  | .hbm, ⟨12, _⟩ => ⟨S2048x2824, .f32⟩
  | .hbm, ⟨13, _⟩ => ⟨S2048x2824, .f32⟩
  | .hbm, ⟨14, _⟩ => ⟨S2048x2824, .f32⟩
  | .hbm, ⟨15, _⟩ => ⟨S_, .f32⟩
  | .hbm, ⟨16, _⟩ => ⟨S2048x2824, .f32⟩
  | .hbm, ⟨17, _⟩ => ⟨S2048x2824, .f32⟩
  | .hbm, ⟨18, _⟩ => ⟨S2048x2824, .f32⟩
  | .hbm, ⟨19, _⟩ => ⟨S_, .f32⟩
  | .hbm, ⟨20, _⟩ => ⟨S2048x2824, .f32⟩
  | .hbm, ⟨21, _⟩ => ⟨S2048x2824, .f32⟩
  | .hbm, ⟨22, _⟩ => ⟨S_, .f32⟩
  | .hbm, ⟨23, _⟩ => ⟨S2048x2824, .f32⟩
  | .hbm, ⟨24, _⟩ => ⟨S2048x2824, .f32⟩
  | .hbm, ⟨25, _⟩ => ⟨S2048x2824, .f32⟩
  | .hbm, ⟨26, _⟩ => ⟨S_, .f32⟩
  | .hbm, ⟨27, _⟩ => ⟨S2048x2824, .f32⟩
  | .hbm, ⟨28, _⟩ => ⟨S2048x2824, .f32⟩
  | .hbm, ⟨29, _⟩ => ⟨S2048x2824, .f32⟩
  | .hbm, ⟨30, _⟩ => ⟨S_, .f32⟩
  | .hbm, ⟨31, _⟩ => ⟨S2048x2824, .f32⟩
  | .hbm, ⟨32, _⟩ => ⟨S2048x2824, .f32⟩
  | .hbm, ⟨33, _⟩ => ⟨S2048x2824, .f32⟩
  | .hbm, ⟨34, _⟩ => ⟨S_, .f32⟩
  | .hbm, ⟨35, _⟩ => ⟨S2048x2824, .f32⟩
  | .hbm, ⟨36, _⟩ => ⟨S2048x2824, .f32⟩
  | _, _ => ⟨S2048x2824, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S8x2048 : Shape := ⟨2, ![8, 2048]⟩

abbrev nBuf : Space → Nat
  | .hbm => 8
  | .vmem => 8
  | .smem => 0
  | _ => 0

abbrev bufTy : (tb : Table) → Fin (tcTables nBuf tb) → BufTy
  | .hbm, ⟨0, _⟩ => ⟨S8x2048, .f32⟩
  | .hbm, ⟨1, _⟩ => ⟨S8x2048, .f32⟩
  | .hbm, ⟨2, _⟩ => ⟨S8x2048, .f32⟩
  | .hbm, ⟨3, _⟩ => ⟨S8x2048, .f32⟩
  | .hbm, ⟨4, _⟩ => ⟨S8x2048, .f32⟩
  | .hbm, ⟨5, _⟩ => ⟨S8x2048, .f32⟩
  | .hbm, ⟨6, _⟩ => ⟨S8x2048, .f32⟩
  | .hbm, ⟨7, _⟩ => ⟨S8x2048, .f32⟩
  | .local _ .vmem, ⟨0, _⟩ => ⟨S8x2048, .f32⟩
  | .local _ .vmem, ⟨1, _⟩ => ⟨S8x2048, .f32⟩
  | .local _ .vmem, ⟨2, _⟩ => ⟨S8x2048, .f32⟩
  | .local _ .vmem, ⟨3, _⟩ => ⟨S8x2048, .f32⟩
  | .local _ .vmem, ⟨4, _⟩ => ⟨S8x2048, .f32⟩
  | .local _ .vmem, ⟨5, _⟩ => ⟨S8x2048, .f32⟩
  | .local _ .vmem, ⟨6, _⟩ => ⟨S8x2048, .f32⟩
  | .local _ .vmem, ⟨7, _⟩ => ⟨S8x2048, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference15Ideal.lean ====
abbrev S8x2048 : Shape := ⟨2, ![8, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x2048, .f32⟩
  | .hbm, ⟨2, _⟩ => ⟨S8x2048, .f32⟩
  | .hbm, ⟨3, _⟩ => ⟨S8x2048, .f32⟩
  | .hbm, ⟨4, _⟩ => ⟨S_, .f32⟩
  | .hbm, ⟨5, _⟩ => ⟨S8x2048, .f32⟩
  | .hbm, ⟨6, _⟩ => ⟨S8x2048, .f32⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S8x2048, .f32⟩
  | .hbm, ⟨11, _⟩ => ⟨S_, .f32⟩
  | .hbm, ⟨12, _⟩ => ⟨S8x2048, .f32⟩
  | .hbm, ⟨13, _⟩ => ⟨S8x2048, .f32⟩
  | .hbm, ⟨14, _⟩ => ⟨S8x2048, .f32⟩
  | .hbm, ⟨15, _⟩ => ⟨S_, .f32⟩
  | .hbm, ⟨16, _⟩ => ⟨S8x2048, .f32⟩
  | .hbm, ⟨17, _⟩ => ⟨S8x2048, .f32⟩
  | .hbm, ⟨18, _⟩ => ⟨S8x2048, .f32⟩
  | .hbm, ⟨19, _⟩ => ⟨S_, .f32⟩
  | .hbm, ⟨20, _⟩ => ⟨S8x2048, .f32⟩
  | .hbm, ⟨21, _⟩ => ⟨S8x2048, .f32⟩
  | .hbm, ⟨22, _⟩ => ⟨S_, .f32⟩
  | .hbm, ⟨23, _⟩ => ⟨S8x2048, .f32⟩
  | .hbm, ⟨24, _⟩ => ⟨S8x2048, .f32⟩
  | .hbm, ⟨25, _⟩ => ⟨S8x2048, .f32⟩
  | .hbm, ⟨26, _⟩ => ⟨S_, .f32⟩
  | .hbm, ⟨27, _⟩ => ⟨S8x2048, .f32⟩
  | .hbm, ⟨28, _⟩ => ⟨S8x2048, .f32⟩
  | .hbm, ⟨29, _⟩ => ⟨S8x2048, .f32⟩
  | .hbm, ⟨30, _⟩ => ⟨S_, .f32⟩
  | .hbm, ⟨31, _⟩ => ⟨S8x2048, .f32⟩
  | .hbm, ⟨32, _⟩ => ⟨S8x2048, .f32⟩
  | .hbm, ⟨33, _⟩ => ⟨S8x2048, .f32⟩
  | .hbm, ⟨34, _⟩ => ⟨S_, .f32⟩
  | .hbm, ⟨35, _⟩ => ⟨S8x2048, .f32⟩
  | .hbm, ⟨36, _⟩ => ⟨S8x2048, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference16Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel17.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S1x2048, .f32⟩
  | .hbm, ⟨6, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S256x2048, .bf16⟩
  | .local _ .vmem, ⟨11, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel18.lean ====
abbrev S4096x2048 : Shape := ⟨2, ![4096, 2048]⟩
abbrev S8x128 : Shape := ⟨2, ![8, 128]⟩
abbrev S256x2048 : Shape := ⟨2, ![256, 2048]⟩
abbrev S1x256x2048 : Shape := ⟨3, ![1, 256, 2048]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 9
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .bf16⟩
  | .hbm, ⟨4, _⟩ => ⟨S8x128, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference18Ideal.lean ====
abbrev S4096x2048 : Shape := ⟨2, ![4096, 2048]⟩
abbrev S_ : Shape := ⟨0, ![]⟩
abbrev S4096 : Shape := ⟨1, ![4096]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x2048, .f32⟩
  | .hbm, ⟨24, _⟩ => ⟨S4096x2048, .f32⟩
  | .hbm, ⟨25, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Proof.Mat.lean ====
/-
  Vectors of the extended reals whose entries are real numbers, and the operations of the two programs on them.
  `mat n c f` is the [n, c] vector with entry (i, j) the real number `f i j`; `ten a b c f` the same at rank three. The
  functions are of natural numbers, so that a slice, a concatenation or a product of any extents is again a `mat`.
-/
module

public import Idealize.ShloMosaic.Lib.ValueIdx
public import Idealize.ShloMosaic.Lib.MatmulPlain
public import Idealize.ShloMosaic.Lib.Pointwise

@[expose] public section

noncomputable section

namespace Cert.Proof

open Idealize.ShloMosaic Idealize.ShloMosaic.ValueIdx
open scoped BigOperators

/-- The shape [n, c]. -/
abbrev sh2 (n c : ℕ) : Shape := ⟨2, ![n, c]⟩
/-- The shape [a, b, c]. -/
abbrev sh3 (a b c : ℕ) : Shape := ⟨3, ![a, b, c]⟩

/-- The [n, c] vector of the real numbers `f i j`. -/
def mat (n c : ℕ) (f : ℕ → ℕ → ℝ) : (sh2 n c).Idx → EReal := fun i => ((f (i 0).val (i 1).val : ℝ) : EReal)

/-- The [n, c] vector of the bits `p i j`. -/
def bits (n c : ℕ) (p : ℕ → ℕ → Bool) : IVec (sh2 n c) 1 := fun i => BitVec.ofBool (p (i 0).val (i 1).val)

variable {n c : ℕ} {f g : ℕ → ℕ → ℝ}

theorem mat_congr (h : ∀ i j, i < n → j < c → f i j = g i j) : mat n c f = mat n c g :=
  funext fun i => congrArg _ (h _ _ (i 0).isLt (i 1).isLt)

theorem mat_ix2 (i : Fin n) (j : Fin c) : mat n c f (ValueIdx.ix2 i j) = ((f i.val j.val : ℝ) : EReal) := rfl

/-- A vector all of whose entries are numbers is a `mat`. -/
theorem eq_mat (x : (sh2 n c).Idx → EReal) (h : ∀ i, x i ≠ ⊤ ∧ x i ≠ ⊥) :
    x = mat n c (fun i j => if hi : i < n ∧ j < c then (x (ValueIdx.ix2 ⟨i, hi.1⟩ ⟨j, hi.2⟩)).toReal else 0) := by
  funext i
  have e : (i 0).val < n ∧ (i 1).val < c := ⟨(i 0).isLt, (i 1).isLt⟩
  simp only [mat, dif_pos e]
  rw [EReal.coe_toReal]
  · exact congrArg x (ValueIdx.eq_ix2 i)
  · exact (h _).1
  · exact (h _).2

/-! ## Entry by entry -/

theorem addf_mat (φ : FTy) : addf (F := Ideal) (φ := φ) (mat n c f) (mat n c g) = mat n c fun i j => f i j + g i j :=
  funext fun _ => (EReal.coe_add _ _).symm
theorem subf_mat (φ : FTy) : subf (F := Ideal) (φ := φ) (mat n c f) (mat n c g) = mat n c fun i j => f i j - g i j :=
  funext fun _ => (EReal.coe_sub _ _).symm
theorem mulf_mat (φ : FTy) : mulf (F := Ideal) (φ := φ) (mat n c f) (mat n c g) = mat n c fun i j => f i j * g i j :=
  funext fun _ => (EReal.coe_mul _ _).symm
theorem coe_min (x y : ℝ) : ((min x y : ℝ) : EReal) = min (x : EReal) y := EReal.coe_strictMono.monotone.map_min
theorem coe_max (x y : ℝ) : ((max x y : ℝ) : EReal) = max (x : EReal) y := EReal.coe_strictMono.monotone.map_max
theorem coe_abs (x : ℝ) : ((|x| : ℝ) : EReal) = max (x : EReal) (-x) := by rw [abs_eq_max_neg, coe_max, EReal.coe_neg]
theorem minimumf_mat (φ : FTy) : minimumf (F := Ideal) (φ := φ) (mat n c f) (mat n c g) = mat n c fun i j => min (f i j) (g i j) :=
  funext fun _ => (coe_min _ _).symm
theorem absf_mat (φ : FTy) : absf (F := Ideal) (φ := φ) (mat n c f) = mat n c fun i j => |f i j| :=
  funext fun _ => (coe_abs _).symm
theorem exp_mat (φ : FTy) : exp (F := Ideal) (φ := φ) (mat n c f) = mat n c fun i j => Real.exp (f i j) := rfl
theorem log_mat (φ : FTy) (h : ∀ i j, 0 < f i j) : log (F := Ideal) (φ := φ) (mat n c f) = mat n c fun i j => Real.log (f i j) := by
  funext i
  show Ideal.log ((f (i 0).val (i 1).val : ℝ) : EReal) = _
  rw [Ideal.log_coe, if_neg (not_le.2 (h _ _))]; rfl
theorem truncf_mat (φ ψ : FTy) (h : ψ.bits < φ.bits) : truncf (F := Ideal) (φ := φ) ψ (mat n c f) h = mat n c f := rfl
theorem extf_mat (φ ψ : FTy) (h : φ.bits < ψ.bits) : extf (F := Ideal) (φ := φ) ψ (mat n c f) h = mat n c f := rfl
theorem broadcast_mat (x : ℝ) : broadcast (sh2 n c) (x : EReal) = mat n c fun _ _ => x := rfl
theorem select_mat (p : ℕ → ℕ → Bool) : select (bits n c p) (mat n c f) (mat n c g) = mat n c fun i j => if p i j then f i j else g i j := by
  funext i
  show Scalar.select (BitVec.ofBool (p (i 0).val (i 1).val)) _ _ = _
  unfold mat
  dsimp only
  cases p (i 0).val (i 1).val <;> rfl
theorem shapeCast_self (x : (sh2 n c).Idx → EReal) (h : (sh2 n c).ShapeCasts (sh2 n c)) : shapeCast (sh2 n c) x h = x := by
  funext j
  simp [shapeCast, Shape.reshapeEquiv]

/-! ## Rows and columns -/

theorem slice_mat {n' c' r o : ℕ} (h : (sh2 n c).Slices (![r, o] : Fin 2 → ℕ) (sh2 n' c')) :
    extractStridedSlice (sh2 n' c') (![r, o] : Fin 2 → ℕ) (mat n c f) h = mat n' c' fun i j => f (r + i) (o + j) := rfl

theorem broadcastTo_mat {c' : ℕ} (h : (sh2 n 1).Broadcasts (sh2 n c')) (hn : n ≠ 1) :
    broadcastTo (sh2 n c') (mat n 1 f) h = mat n c' fun i _ => f i 0 := by
  funext i
  show ((f _ _ : ℝ) : EReal) = ((f _ _ : ℝ) : EReal)
  congr 2
  simp [hn]

theorem concat_rows_mat {r n' : ℕ} (h : Shape.Concatenates [sh2 r c, sh2 n' c] (sh2 n c) 0) :
    concatenate (sh2 n c) 0 [⟨sh2 r c, mat r c f⟩, ⟨sh2 n' c, mat n' c g⟩] h
      = mat n c fun i j => if i < r then f i j else g (i - r) j := by
  funext j
  rw [concatenate_pair_apply]
  by_cases hlt : (j 0).val < r
  · refine (dif_pos hlt).trans ?_
    show ((f (j 0).val (j 1).val : ℝ) : EReal) = ((if (j 0).val < r then _ else _ : ℝ) : EReal)
    rw [if_pos hlt]
  · refine (dif_neg hlt).trans ?_
    show ((g ((j 0).val - r) (j 1).val : ℝ) : EReal) = ((if (j 0).val < r then _ else _ : ℝ) : EReal)
    rw [if_neg hlt]

theorem concat_cols_mat {r c' : ℕ} (h : Shape.Concatenates [sh2 n r, sh2 n c'] (sh2 n c) 1) :
    concatenate (sh2 n c) 1 [⟨sh2 n r, mat n r f⟩, ⟨sh2 n c', mat n c' g⟩] h
      = mat n c fun i j => if j < r then f i j else g i (j - r) := by
  funext j
  rw [concatenate_pair_apply]
  by_cases hlt : (j 1).val < r
  · refine (dif_pos hlt).trans ?_
    show ((f (j 0).val (j 1).val : ℝ) : EReal) = ((if (j 1).val < r then _ else _ : ℝ) : EReal)
    rw [if_pos hlt]
  · refine (dif_neg hlt).trans ?_
    show ((g (j 0).val ((j 1).val - r) : ℝ) : EReal) = ((if (j 1).val < r then _ else _ : ℝ) : EReal)
    rw [if_neg hlt]

/-- Comparing the row numbers with the column numbers of a vector of fewer than 2³¹ rows and columns. -/
theorem iota_row (n c : ℕ) (h : (sh2 n c).Iotas .tc 32 [0]) (i : (sh2 n c).Idx) : iota .tc (sh2 n c) 32 [0] h i = BitVec.ofNat 32 (i 0).val := by
  simp [iota]
theorem iota_col (n c : ℕ) (h : (sh2 n c).Iotas .tc 32 [1]) (i : (sh2 n c).Idx) : iota .tc (sh2 n c) 32 [1] h i = BitVec.ofNat 32 (i 1).val := by
  simp [iota]
theorem slt_ofNat (x y : ℕ) (hx : x < 2 ^ 31) (hy : y < 2 ^ 31) : (BitVec.ofNat 32 x).slt (BitVec.ofNat 32 y) = decide (x < y) := by
  have ex : (BitVec.ofNat 32 x).toInt = x := by
    rw [BitVec.toInt_ofNat']; norm_num; rw [Int.bmod_eq_of_le] <;> omega
  have ey : (BitVec.ofNat 32 y).toInt = y := by
    rw [BitVec.toInt_ofNat']; norm_num; rw [Int.bmod_eq_of_le] <;> omega
  rw [BitVec.slt_eq_decide, ex, ey]
  simp
theorem sle_ofNat (x y : ℕ) (hx : x < 2 ^ 31) (hy : y < 2 ^ 31) : (BitVec.ofNat 32 x).sle (BitVec.ofNat 32 y) = decide (x ≤ y) := by
  have ex : (BitVec.ofNat 32 x).toInt = x := by
    rw [BitVec.toInt_ofNat']; norm_num; rw [Int.bmod_eq_of_le] <;> omega
  have ey : (BitVec.ofNat 32 y).toInt = y := by
    rw [BitVec.toInt_ofNat']; norm_num; rw [Int.bmod_eq_of_le] <;> omega
  rw [BitVec.sle_eq_decide, ex, ey]
  simp

/-! ## Products -/

theorem coe_sum {ι : Type*} (s : Finset ι) (u : ι → ℝ) : ∑ k ∈ s, ((u k : ℝ) : EReal) = ((∑ k ∈ s, u k : ℝ) : EReal) := by
  classical
  induction s using Finset.induction_on with
  | empty => simp
  | insert a s ha ih => rw [Finset.sum_insert ha, Finset.sum_insert ha, ih, EReal.coe_add]

/-- [M, K] × [K, N], from nothing. -/
theorem matmul_nn {M K N : ℕ} (φ₁ φ₂ : FTy) (prec : Option ContractPrecision) :
    matmul (F := Ideal) (φ₁ := φ₁) (φ₂ := φ₂) (DotDims.plain M K N) prec (mat M K f) (mat K N g) (mat M N fun _ _ => 0)
      = mat M N fun i j => ∑ k ∈ Finset.range K, f i k * g k j := by
  funext j
  rw [ValueIdx.eq_ix2 j]
  refine (Ideal.matmul_plain_apply prec _ _ _ _ _).trans ?_
  show ((0 : ℝ) : EReal) + ∑ k : Fin K, ((f (j 0).val k.val : ℝ) : EReal) * ((g k.val (j 1).val : ℝ) : EReal) = ((∑ k ∈ Finset.range K, f (j 0).val k * g k (j 1).val : ℝ) : EReal)
  simp only [← EReal.coe_mul, coe_sum, ← EReal.coe_add, zero_add]
  rw [Finset.sum_range]

/-- [M, K] × [N, K] transposed, from nothing. -/
theorem matmul_nt {M K N : ℕ} (φ₁ φ₂ : FTy) (prec : Option ContractPrecision) :
    matmul (F := Ideal) (φ₁ := φ₁) (φ₂ := φ₂) (DotDims.transposedRhs M K N) prec (mat M K f) (mat N K g) (mat M N fun _ _ => 0)
      = mat M N fun i j => ∑ k ∈ Finset.range K, f i k * g j k := by
  funext j
  rw [ValueIdx.eq_ix2 j]
  refine (Ideal.matmul_transposedRhs_apply prec _ _ _ _ _).trans ?_
  show ((0 : ℝ) : EReal) + ∑ k : Fin K, ((f (j 0).val k.val : ℝ) : EReal) * ((g (j 1).val k.val : ℝ) : EReal) = ((∑ k ∈ Finset.range K, f (j 0).val k * g (j 1).val k : ℝ) : EReal)
  simp only [← EReal.coe_mul, coe_sum, ← EReal.coe_add, zero_add]
  rw [Finset.sum_range]

/-- `[K, M]` transposed by `[K, N]`. -/
def dotTN (K M N : ℕ) (wf : DotDims.WF (sh2 K M) (sh2 K N) (sh2 M N) [0] [0] [1] [1] [] []) : DotDims (sh2 K M) (sh2 K N) (sh2 M N) where
  lhsContracting := [0]
  rhsContracting := [0]
  lhsNonContracting := [1]
  rhsNonContracting := [1]
  lhsBatch := []
  rhsBatch := []
  wf := wf

/-- [K, M] transposed × [K, N], from nothing. -/
theorem matmul_tn {M K N : ℕ} (φ₁ φ₂ : FTy) (prec : Option ContractPrecision) (wf : DotDims.WF (sh2 K M) (sh2 K N) (sh2 M N) [0] [0] [1] [1] [] []) :
    matmul (F := Ideal) (φ₁ := φ₁) (φ₂ := φ₂) (dotTN K M N wf) prec (mat K M f) (mat K N g) (mat M N fun _ _ => 0)
      = mat M N fun i j => ∑ k ∈ Finset.range K, f k i * g k j := by
  funext j
  refine (Ideal.matmul_apply₁_of (dotTN K M N wf) (a := 0) rfl (K := K) rfl _ _ _ j (fun k => ValueIdx.ix2 k (j 0)) (fun k => ValueIdx.ix2 k (j 1)) ?_ ?_).trans ?_
  · intro k
    funext a
    match a with
    | ⟨0, _⟩ => rfl
    | ⟨1, _⟩ => rfl
  · intro k
    funext a
    match a with
    | ⟨0, _⟩ => rfl
    | ⟨1, _⟩ => rfl
  · show ((0 : ℝ) : EReal) + ∑ k : Fin K, ((f k.val (j 0).val : ℝ) : EReal) * ((g k.val (j 1).val : ℝ) : EReal) = ((∑ k ∈ Finset.range K, f k (j 0).val * g k (j 1).val : ℝ) : EReal)
    simp only [← EReal.coe_mul, coe_sum, ← EReal.coe_add, zero_add]
    rw [Finset.sum_range]

end Cert.Proof

end
-- ==== Proof.Step.lean ====
/- One step of the attention gradient's loop over blocks of 256 keys, at any number of query rows `n`: the operations
   the kernel applies, named. The kernel runs sixteen of them; step `d` has the 4096 - 256 d query rows that see the
   block. -/
module

public import proofs.«01_k».proof.Proof.Mat

@[expose] public section

noncomputable section

namespace Cert.Proof

open Idealize.ShloMosaic

/-- What the shapes of a step on `n` rows must satisfy. -/
structure Side (n : ℕ) : Prop where
  i0 : (sh2 n 256).Iotas .tc 32 [0]
  i1 : (sh2 n 256).Iotas .tc 32 [1]
  bc : (sh2 n 1).Broadcasts (sh2 n 256)
  cc : Shape.Concatenates [sh2 n 256, sh2 n 256] (sh2 n 512) 1
  cr : Shape.Concatenates [sh2 256 256, sh2 256 256] (sh2 512 256) 0
  last : (sh2 n 256).Slices (![0, 255] : Fin 2 → ℕ) (sh2 n 1)
  wf : DotDims.WF (sh2 n 256) (sh2 n 128) (sh2 256 128) [0] [0] [1] [1] [] []
  sc : (sh2 256 128).ShapeCasts (sh2 256 128)
  lt : FTy.bits .bf16 < FTy.bits .f32

/-- What the shapes of rows `[r, r + n)` of the 4096 must satisfy. -/
structure Cut (r n : ℕ) : Prop where
  s128 : (sh2 4096 128).Slices (![r, 0] : Fin 2 → ℕ) (sh2 n 128)
  s1 : (sh2 4096 1).Slices (![r, 0] : Fin 2 → ℕ) (sh2 n 1)
  t128 : (sh2 4096 128).Slices (![0, 0] : Fin 2 → ℕ) (sh2 r 128)
  t1 : (sh2 4096 1).Slices (![0, 0] : Fin 2 → ℕ) (sh2 r 1)
  c128 : Shape.Concatenates [sh2 r 128, sh2 n 128] (sh2 4096 128) 0
  c1 : Shape.Concatenates [sh2 r 1, sh2 n 1] (sh2 4096 1) 0

variable {F : FTy → Type} [FloatOps F] {n : ℕ} (h : Side n)

/-- The constant `w` everywhere. -/
abbrev cst (n c : ℕ) (w : BitVec 32) : FVec F (sh2 n c) .f32 := broadcast (sh2 n c) (Scalar.ofBits (F := F) .f32 w)
abbrev zer (n c : ℕ) : FVec F (sh2 n c) .f32 := constant (sh2 n c) .f32 0x00000000#32

def sZ (q : FVec F (sh2 n 128) .bf16) (k : FVec F (sh2 256 128) .bf16) : FVec F (sh2 n 256) .f32 :=
  mulf (matmul (DotDims.transposedRhs n 128 256) none q k (zer n 256)) (cst n 256 0x3DB504F3#32)
def sLb (z : FVec F (sh2 n 256) .f32) : FVec F (sh2 n 256) .f32 :=
  subf (minimumf z (cst n 256 0x00000000#32))
    (log (addf (cst n 256 0x3F800000#32) (exp (subf (cst n 256 0x00000000#32) (absf z)))))
include h in
def sMask : IVec (sh2 n 256) 1 := cmpi .slt (iota .tc (sh2 n 256) 32 [1] h.i1) (iota .tc (sh2 n 256) 32 [0] h.i0)
def sLk (z : FVec F (sh2 n 256) .f32) : FVec F (sh2 n 256) .f32 := select (sMask h) (subf (sLb z) z) (cst n 256 0x00000000#32)
def sHi (z : FVec F (sh2 n 256) .f32) : FVec F (sh2 n 256) .bf16 := truncf .bf16 (sLk h z) h.lt
def sLo (z : FVec F (sh2 n 256) .f32) : FVec F (sh2 n 256) .bf16 :=
  truncf .bf16 (subf (sLk h z) (extf .f32 (sHi h z) h.lt)) h.lt
/-- The running sums along the block, the summand in two parts. -/
def sPin (up : FVec F (sh2 256 256) .bf16) (z : FVec F (sh2 n 256) .f32) : FVec F (sh2 n 256) .f32 :=
  matmul (DotDims.plain n 512 256) none
    (concatenate (sh2 n 512) 1 [⟨sh2 n 256, sHi h z⟩, ⟨sh2 n 256, sLo h z⟩] h.cc)
    (concatenate (sh2 512 256) 0 [⟨sh2 256 256, up⟩, ⟨sh2 256 256, up⟩] h.cr) (zer n 256)
/-- The attention weights of the block. -/
def sW (up : FVec F (sh2 256 256) .bf16) (tot pre : FVec F (sh2 n 1) .f32) (z : FVec F (sh2 n 256) .f32) : FVec F (sh2 n 256) .f32 :=
  select (sMask h) (exp (addf (sLb z) (subf (broadcastTo (sh2 n 256) (subf tot pre) h.bc) (sPin h up z)))) (cst n 256 0x00000000#32)
def sGg (up : FVec F (sh2 256 256) .bf16) (tot pre : FVec F (sh2 n 1) .f32) (z : FVec F (sh2 n 256) .f32)
    (o : FVec F (sh2 n 128) .bf16) (v : FVec F (sh2 256 128) .bf16) : FVec F (sh2 n 256) .f32 :=
  mulf (matmul (DotDims.transposedRhs n 128 256) none o v (zer n 256)) (sW h up tot pre z)
def sGex (bf : FVec F (sh2 256 256) .bf16) (gg : FVec F (sh2 n 256) .f32) : FVec F (sh2 n 256) .f32 :=
  matmul (DotDims.plain n 256 256) none (truncf .bf16 gg h.lt) bf (zer n 256)
/-- The gradient of the scores. -/
def sDz (bf : FVec F (sh2 256 256) .bf16) (gpre : FVec F (sh2 n 1) .f32) (z gg : FVec F (sh2 n 256) .f32) : FVec F (sh2 n 256) .bf16 :=
  truncf .bf16 (select (sMask h)
    (mulf (subf (mulf gg (subf (cst n 256 0x3F800000#32) (exp (sLb z))))
      (mulf (addf (broadcastTo (sh2 n 256) gpre h.bc) (sGex h bf gg)) (exp (sLb z)))) (cst n 256 0x3DB504F3#32))
    (cst n 256 0x00000000#32)) h.lt
/-- Adds `aᵀ b` to a block of 256 rows. -/
def sAcc (old : FVec F (sh2 256 128) .f32) (a : FVec F (sh2 n 256) .bf16) (b : FVec F (sh2 n 128) .bf16) : FVec F (sh2 256 128) .f32 :=
  addf (shapeCast (sh2 256 128) old h.sc) (matmul (dotTN n 256 128 h.wf) none a b (zer 256 128))
def sDq (dq : FVec F (sh2 n 128) .f32) (dz : FVec F (sh2 n 256) .bf16) (k : FVec F (sh2 256 128) .bf16) : FVec F (sh2 n 128) .f32 :=
  addf dq (matmul (DotDims.plain n 256 128) none dz k (zer n 128))
def sPre (pre : FVec F (sh2 n 1) .f32) (pin : FVec F (sh2 n 256) .f32) : FVec F (sh2 n 1) .f32 :=
  addf pre (extractStridedSlice (sh2 n 1) ![0, 255] pin h.last)
def sGpre (gpre : FVec F (sh2 n 1) .f32) (gex gg : FVec F (sh2 n 256) .f32) : FVec F (sh2 n 1) .f32 :=
  addf (addf gpre (extractStridedSlice (sh2 n 1) ![0, 255] gex h.last)) (extractStridedSlice (sh2 n 1) ![0, 255] gg h.last)

variable {r : ℕ} (k : Cut r n)

include k in
/-- Rows `[r, r + n)`. -/
def cut128 {φ : FTy} (x : FVec F (sh2 4096 128) φ) : FVec F (sh2 n 128) φ := extractStridedSlice (sh2 n 128) ![r, 0] x k.s128
include k in
def cut1 (x : FVec F (sh2 4096 1) .f32) : FVec F (sh2 n 1) .f32 := extractStridedSlice (sh2 n 1) ![r, 0] x k.s1
include k in
/-- `x` with its rows `[r, r + n)` replaced by `y`. -/
def put128 (x : FVec F (sh2 4096 128) .f32) (y : FVec F (sh2 n 128) .f32) : FVec F (sh2 4096 128) .f32 :=
  concatenate (sh2 4096 128) 0 [⟨sh2 r 128, extractStridedSlice (sh2 r 128) ![0, 0] x k.t128⟩, ⟨sh2 n 128, y⟩] k.c128
include k in
def put1 (x : FVec F (sh2 4096 1) .f32) (y : FVec F (sh2 n 1) .f32) : FVec F (sh2 4096 1) .f32 :=
  concatenate (sh2 4096 1) 0 [⟨sh2 r 1, extractStridedSlice (sh2 r 1) ![0, 0] x k.t1⟩, ⟨sh2 n 1, y⟩] k.c1

variable (up bf : FVec F (sh2 256 256) .bf16) (q o : FVec F (sh2 n 128) .bf16) (tot : FVec F (sh2 n 1) .f32)
  (K V : FVec F (sh2 256 128) .bf16) (dq : FVec F (sh2 n 128) .f32) (pre gpre : FVec F (sh2 n 1) .f32)

/-- What a step adds to each quantity, from the rows it works on. -/
def cDz : FVec F (sh2 n 256) .bf16 := sDz h bf gpre (sZ q K) (sGg h up tot pre (sZ q K) o V)
def cDq : FVec F (sh2 n 128) .f32 := sDq dq (cDz h up bf q o tot K V pre gpre) K
def cPre : FVec F (sh2 n 1) .f32 := sPre h pre (sPin h up (sZ q K))
def cGpre : FVec F (sh2 n 1) .f32 :=
  sGpre h gpre (sGex h bf (sGg h up tot pre (sZ q K) o V)) (sGg h up tot pre (sZ q K) o V)
def cDk (old : FVec F (sh2 256 128) .f32) : FVec F (sh2 256 128) .f32 := sAcc h old (cDz h up bf q o tot K V pre gpre) q
def cDv (old : FVec F (sh2 256 128) .f32) : FVec F (sh2 256 128) .f32 :=
  sAcc h old (truncf .bf16 (sW h up tot pre (sZ q K)) h.lt) o

end Cert.Proof

end
-- ==== Proof.Core.lean ====
/- The value of a step on real numbers. Query rows are counted from the first of the 4096, and the step works on rows
   `r + i` and keys `r + j`; `pre` and `gpre` hold the sums over the keys before `r`. -/
module

public import proofs.«01_k».proof.Proof.Step

@[expose] public section

noncomputable section

namespace Cert.Proof

open Idealize.ShloMosaic
open scoped BigOperators

/-- The scores' factor, the `f32` nearest to 1/√128. -/
def scale : ℝ := (Ideal.ofBits .f32 0x3DB504F3#32).toReal
theorem scale_eq : Ideal.ofBits .f32 0x3DB504F3#32 = (scale : EReal) := by
  refine (EReal.coe_toReal ?_ ?_).symm <;> simp [Ideal.ofBits, Ideal.ieee] <;> norm_cast

/-- log σ(x). -/
def lb (x : ℝ) : ℝ := min x 0 - Real.log (1 + Real.exp (0 - |x|))

section
variable (Q O K V : ℕ → ℕ → ℝ) (T : ℕ → ℝ)
/-- The scores. -/
def rZ (t s : ℕ) : ℝ := (∑ c ∈ Finset.range 128, Q t c * K s c) * scale
/-- log σ(-z) where the key is before the query. -/
def rLk (t s : ℕ) : ℝ := if s < t then lb (rZ Q K t s) - rZ Q K t s else 0
/-- The weights. -/
def rW (t s : ℕ) : ℝ := if s < t then Real.exp (lb (rZ Q K t s) + (T t - ∑ u ∈ Finset.range (s + 1), rLk Q K t u)) else 0
def rGg (t s : ℕ) : ℝ := (∑ c ∈ Finset.range 128, O t c * V s c) * rW Q K T t s
/-- The gradient of the scores. -/
def rDz (t s : ℕ) : ℝ :=
  if s < t then (rGg Q O K V T t s * (1 - Real.exp (lb (rZ Q K t s)))
    - (∑ u ∈ Finset.range s, rGg Q O K V T t u) * Real.exp (lb (rZ Q K t s))) * scale else 0

theorem rLk_zero {t s : ℕ} (h : t ≤ s) : rLk Q K t s = 0 := if_neg (not_lt.2 h)
theorem rW_zero {t s : ℕ} (h : t ≤ s) : rW Q K T t s = 0 := if_neg (not_lt.2 h)
theorem rGg_zero {t s : ℕ} (h : t ≤ s) : rGg Q O K V T t s = 0 := by rw [rGg, rW_zero _ _ _ h, mul_zero]
theorem rDz_zero {t s : ℕ} (h : t ≤ s) : rDz Q O K V T t s = 0 := if_neg (not_lt.2 h)
end

/-! ## Constants -/

theorem cst_zero (n c : ℕ) : cst (F := Ideal) n c 0x00000000#32 = mat n c fun _ _ => 0 := by
  show broadcast (sh2 n c) (Ideal.ofBits .f32 0x00000000#32) = _
  rw [Ideal.ofBits_zero_f32]; exact broadcast_mat 0
theorem cst_one (n c : ℕ) : cst (F := Ideal) n c 0x3F800000#32 = mat n c fun _ _ => 1 := by
  show broadcast (sh2 n c) (Ideal.ofBits .f32 0x3F800000#32) = _
  rw [Ideal.ofBits_one_f32]; exact broadcast_mat 1
theorem cst_scale (n c : ℕ) : cst (F := Ideal) n c 0x3DB504F3#32 = mat n c fun _ _ => scale := by
  show broadcast (sh2 n c) (Ideal.ofBits .f32 0x3DB504F3#32) = _
  rw [scale_eq]; rfl
theorem zer_eq (n c : ℕ) : zer (F := Ideal) n c = mat n c fun _ _ => 0 := by
  funext i
  show Ideal.ofBits .f32 0x00000000#32 = _
  rw [Ideal.ofBits_zero_f32]; rfl

theorem sum_cut (f : ℕ → ℝ) (a b : ℕ) :
    ∑ x ∈ Finset.range (a + b), f x = ∑ x ∈ Finset.range a, f x + ∑ x ∈ Finset.range b, f (a + x) :=
  Finset.sum_range_add f a b

/-- The sum of the summands up to place `j`. -/
theorem sum_upto (f : ℕ → ℝ) {j m : ℕ} (h : j < m) :
    ∑ k ∈ Finset.range m, f k * (if k ≤ j then 1 else 0) = ∑ k ∈ Finset.range (j + 1), f k := by
  obtain ⟨d, rfl⟩ := Nat.exists_eq_add_of_le (Nat.succ_le_of_lt h)
  rw [Nat.succ_eq_add_one, sum_cut]
  rw [Finset.sum_congr rfl (g := f) fun k hk => by rw [if_pos (by have := Finset.mem_range.1 hk; omega), mul_one],
    Finset.sum_congr rfl (g := fun _ => (0 : ℝ)) (s₁ := Finset.range d) fun k hk => by rw [if_neg (by omega), mul_zero]]
  simp
theorem sum_before (f : ℕ → ℝ) {j m : ℕ} (h : j ≤ m) :
    ∑ k ∈ Finset.range m, f k * (if k < j then 1 else 0) = ∑ k ∈ Finset.range j, f k := by
  obtain ⟨d, rfl⟩ := Nat.exists_eq_add_of_le h
  rw [sum_cut]
  rw [Finset.sum_congr rfl (g := f) fun k hk => by rw [if_pos (by have := Finset.mem_range.1 hk; omega), mul_one],
    Finset.sum_congr rfl (g := fun _ => (0 : ℝ)) (s₁ := Finset.range d) fun k hk => by rw [if_neg (by omega), mul_zero]]
  simp

/-! ## The operations -/

section
variable {n r : ℕ} (h : Side n) (hn : n ≤ 2 ^ 20) (h1 : n ≠ 1)
  (Q O K V : ℕ → ℕ → ℝ) (T : ℕ → ℝ)

theorem lb_mat {z : ℕ → ℕ → ℝ} : sLb (F := Ideal) (mat n 256 z) = mat n 256 fun i j => lb (z i j) := by
  unfold sLb
  rw [cst_zero, cst_one, minimumf_mat, absf_mat, subf_mat, exp_mat, addf_mat, log_mat, subf_mat]
  · rfl
  · intro i j; positivity

include hn in
theorem mask_bits : sMask h = bits n 256 fun i j => decide (j < i) := by
  funext i
  show BitVec.ofBool ((iota .tc (sh2 n 256) 32 [1] h.i1 i).slt (iota .tc (sh2 n 256) 32 [0] h.i0 i)) = _
  rw [iota_row, iota_col, slt_ofNat]
  · rfl
  · exact lt_trans (i 1).isLt (by norm_num)
  · exact lt_of_lt_of_le (i 0).isLt (hn.trans (by norm_num))

theorem z_mat : sZ (F := Ideal) (mat n 128 fun i j => Q (r + i) j) (mat 256 128 fun s j => K (r + s) j)
    = mat n 256 fun i j => rZ Q K (r + i) (r + j) := by
  unfold sZ
  rw [zer_eq, matmul_nt, cst_scale, mulf_mat]; rfl

include hn in
theorem lk_mat : sLk (F := Ideal) h (mat n 256 fun i j => rZ Q K (r + i) (r + j)) = mat n 256 fun i j => rLk Q K (r + i) (r + j) := by
  unfold sLk
  rw [mask_bits h hn, lb_mat, subf_mat, cst_zero, select_mat]
  refine mat_congr fun i j _ _ => ?_
  simp [rLk]

/-- The two triangles of ones. -/
def upM : FVec Ideal (sh2 256 256) .bf16 := mat 256 256 fun i j => if i ≤ j then 1 else 0
def bfM : FVec Ideal (sh2 256 256) .bf16 := mat 256 256 fun i j => if i < j then 1 else 0

include hn in
theorem pin_mat : sPin (F := Ideal) h upM (mat n 256 fun i j => rZ Q K (r + i) (r + j))
    = mat n 256 fun i j => ∑ k ∈ Finset.range (j + 1), rLk Q K (r + i) (r + k) := by
  unfold sPin sLo sHi
  rw [lk_mat h hn, truncf_mat, extf_mat, subf_mat, truncf_mat, zer_eq, upM, concat_rows_mat, concat_cols_mat, matmul_nn]
  refine mat_congr fun i j _ hj => ?_
  rw [show (512 : ℕ) = 256 + 256 from rfl, sum_cut, ← sum_upto _ hj]
  refine (congrArg₂ (· + ·) (Finset.sum_congr rfl fun k hk => ?_) (Finset.sum_eq_zero fun k hk => ?_)).trans (add_zero _)
  · rw [if_pos (Finset.mem_range.1 hk), if_pos (Finset.mem_range.1 hk)]
  · rw [if_neg (by omega), sub_self, zero_mul]

/-- The sums of the summands before the block, as the kernel carries them. -/
abbrev preM (n r : ℕ) : (sh2 n 1).Idx → EReal := mat n 1 fun i _ => ∑ s ∈ Finset.range r, rLk Q K (r + i) s
abbrev gpreM (n r : ℕ) : (sh2 n 1).Idx → EReal := mat n 1 fun i _ => ∑ s ∈ Finset.range r, rGg Q O K V T (r + i) s

include hn h1 in
theorem w_mat : sW (F := Ideal) h upM (mat n 1 fun i _ => T (r + i)) (preM Q K n r) (mat n 256 fun i j => rZ Q K (r + i) (r + j))
    = mat n 256 fun i j => rW Q K T (r + i) (r + j) := by
  unfold sW
  rw [mask_bits h hn, lb_mat, pin_mat h hn, subf_mat, broadcastTo_mat _ h1, subf_mat, addf_mat, exp_mat, cst_zero, select_mat]
  refine mat_congr fun i j _ _ => ?_
  simp only [rW, add_lt_add_iff_left, decide_eq_true_eq]
  rw [add_assoc, sum_cut _ r (j + 1), sub_sub]

include hn h1 in
theorem gg_mat : sGg (F := Ideal) h upM (mat n 1 fun i _ => T (r + i)) (preM Q K n r) (mat n 256 fun i j => rZ Q K (r + i) (r + j))
      (mat n 128 fun i j => O (r + i) j) (mat 256 128 fun s j => V (r + s) j)
    = mat n 256 fun i j => rGg Q O K V T (r + i) (r + j) := by
  unfold sGg
  rw [w_mat h hn h1, zer_eq, matmul_nt, mulf_mat]; rfl

theorem gex_mat (g : ℕ → ℕ → ℝ) : sGex (F := Ideal) h bfM (mat n 256 g) = mat n 256 fun i j => ∑ k ∈ Finset.range j, g i k := by
  unfold sGex bfM
  rw [truncf_mat, zer_eq, matmul_nn]
  exact mat_congr fun i j _ hj => sum_before _ hj.le

include hn h1 in
theorem dz_mat : sDz (F := Ideal) h bfM (gpreM Q O K V T n r) (mat n 256 fun i j => rZ Q K (r + i) (r + j))
      (mat n 256 fun i j => rGg Q O K V T (r + i) (r + j))
    = mat n 256 fun i j => rDz Q O K V T (r + i) (r + j) := by
  unfold sDz
  rw [mask_bits h hn, lb_mat, gex_mat, cst_zero, cst_one, cst_scale, exp_mat, subf_mat, mulf_mat, broadcastTo_mat _ h1, addf_mat, mulf_mat,
    subf_mat, mulf_mat, select_mat, truncf_mat]
  refine mat_congr fun i j _ _ => ?_
  simp only [rDz, add_lt_add_iff_left, decide_eq_true_eq]
  rw [sum_cut]

/-! ## The step -/

variable (q : FVec Ideal (sh2 n 128) .bf16) (o : FVec Ideal (sh2 n 128) .bf16) (tot : FVec Ideal (sh2 n 1) .f32)
  (k v : FVec Ideal (sh2 256 128) .bf16) (pre gpre : FVec Ideal (sh2 n 1) .f32)
  (hq : q = mat n 128 fun i j => Q (r + i) j) (ho : o = mat n 128 fun i j => O (r + i) j) (ht : tot = mat n 1 fun i _ => T (r + i))
  (hk : k = mat 256 128 fun s j => K (r + s) j) (hv : v = mat 256 128 fun s j => V (r + s) j)
  (hp : pre = preM Q K n r) (hg : gpre = gpreM Q O K V T n r)

include hn h1 hq ho ht hk hv hp hg in
theorem cDz_mat : cDz (F := Ideal) h upM bfM q o tot k v pre gpre = mat n 256 fun i j => rDz Q O K V T (r + i) (r + j) := by
  subst hq ho ht hk hv hp hg
  unfold cDz
  rw [z_mat, gg_mat h hn h1, dz_mat h hn h1]

include hn h1 hq ho ht hk hv hp hg in
theorem cDq_mat (dq : FVec Ideal (sh2 n 128) .f32) (hd : dq = mat n 128 fun i c => ∑ s ∈ Finset.range r, rDz Q O K V T (r + i) s * K s c) :
    cDq (F := Ideal) h upM bfM q o tot k v dq pre gpre
      = mat n 128 fun i c => ∑ s ∈ Finset.range (r + 256), rDz Q O K V T (r + i) s * K s c := by
  unfold cDq sDq
  rw [cDz_mat h hn h1 Q O K V T q o tot k v pre gpre hq ho ht hk hv hp hg, hk, hd, zer_eq, matmul_nn, addf_mat]
  exact mat_congr fun i c _ _ => (sum_cut _ _ _).symm

include hn hq hk hp in
theorem cPre_mat : cPre (F := Ideal) h upM q k pre = mat n 1 fun i _ => ∑ s ∈ Finset.range (r + 256), rLk Q K (r + i) s := by
  subst hq hk hp
  unfold cPre sPre
  rw [z_mat, pin_mat h hn, slice_mat, addf_mat]
  refine mat_congr fun i c _ hc => ?_
  have : c = 0 := by omega
  subst this
  rw [sum_cut _ r 256]; simp

include hn h1 hq ho ht hk hv hp hg in
theorem cGpre_mat : cGpre (F := Ideal) h upM bfM q o tot k v pre gpre = mat n 1 fun i _ => ∑ s ∈ Finset.range (r + 256), rGg Q O K V T (r + i) s := by
  subst hq ho ht hk hv hp hg
  unfold cGpre sGpre
  rw [z_mat, gg_mat h hn h1, gex_mat, slice_mat, slice_mat, addf_mat, addf_mat]
  refine mat_congr fun i c _ hc => ?_
  have : c = 0 := by omega
  subst this
  rw [sum_cut _ r 256, show (256 : ℕ) = 255 + 1 from rfl, Finset.sum_range_succ _ 255]
  simp [add_assoc]

theorem sum_tail (f : ℕ → ℝ) (n r : ℕ) (h0 : ∀ t, t < r → f t = 0) : ∑ i ∈ Finset.range n, f (r + i) = ∑ t ∈ Finset.range (r + n), f t := by
  rw [sum_cut, Finset.sum_eq_zero (s := Finset.range r) fun t ht => h0 t (Finset.mem_range.1 ht), zero_add]

include hn h1 hq ho ht hk hv hp hg in
theorem cDk_mat (old : FVec Ideal (sh2 256 128) .f32) (hd : old = mat 256 128 fun _ _ => 0) :
    cDk (F := Ideal) h upM bfM q o tot k v pre gpre old
      = mat 256 128 fun j c => ∑ t ∈ Finset.range (r + n), rDz Q O K V T t (r + j) * Q t c := by
  unfold cDk sAcc
  rw [cDz_mat h hn h1 Q O K V T q o tot k v pre gpre hq ho ht hk hv hp hg, hq, hd, shapeCast_self, zer_eq, matmul_tn, addf_mat]
  refine mat_congr fun j c _ _ => ?_
  rw [zero_add, sum_tail (fun t => rDz Q O K V T t (r + j) * Q t c)]
  intro t ht
  rw [rDz_zero _ _ _ _ _ (by omega), zero_mul]

include hn h1 hq ho ht hk hp in
theorem cDv_mat (old : FVec Ideal (sh2 256 128) .f32) (hd : old = mat 256 128 fun _ _ => 0) :
    cDv (F := Ideal) h upM q o tot k pre old
      = mat 256 128 fun j c => ∑ t ∈ Finset.range (r + n), rW Q K T t (r + j) * O t c := by
  subst hq ho ht hk hp hd
  unfold cDv sAcc
  rw [z_mat, w_mat h hn h1, truncf_mat, shapeCast_self, zer_eq, matmul_tn, addf_mat]
  refine mat_congr fun j c _ _ => ?_
  rw [zero_add, sum_tail (fun t => rW Q K T t (r + j) * O t c)]
  intro t ht
  rw [rW_zero _ _ _ (by omega), zero_mul]
end

end Cert.Proof

end
-- ==== Proof.Ten.lean ====
/- Rank-three vectors of real numbers, and the host's operations on them. -/
module

public import proofs.«01_k».proof.Proof.Core

@[expose] public section

noncomputable section

namespace Cert.Proof

open Idealize.ShloMosaic
open scoped BigOperators

/-- The [a, b, c] vector of the real numbers `f i j k`. -/
def ten (a b c : ℕ) (f : ℕ → ℕ → ℕ → ℝ) : (sh3 a b c).Idx → EReal := fun i => ((f (i 0).val (i 1).val (i 2).val : ℝ) : EReal)
/-- The [a, b, c] vector of the bits `p i j k`. -/
def bits3 (a b c : ℕ) (p : ℕ → ℕ → ℕ → Bool) : IVec (sh3 a b c) 1 := fun i => BitVec.ofBool (p (i 0).val (i 1).val (i 2).val)

variable {a b c : ℕ} {f g : ℕ → ℕ → ℕ → ℝ}

theorem ten_congr (h : ∀ i j k, i < a → j < b → k < c → f i j k = g i j k) : ten a b c f = ten a b c g :=
  funext fun i => congrArg _ (h _ _ _ (i 0).isLt (i 1).isLt (i 2).isLt)

/-! ## Entry by entry -/

theorem addf_ten (φ : FTy) : addf (F := Ideal) (φ := φ) (ten a b c f) (ten a b c g) = ten a b c fun i j k => f i j k + g i j k :=
  funext fun _ => (EReal.coe_add _ _).symm
theorem subf_ten (φ : FTy) : subf (F := Ideal) (φ := φ) (ten a b c f) (ten a b c g) = ten a b c fun i j k => f i j k - g i j k :=
  funext fun _ => (EReal.coe_sub _ _).symm
theorem mulf_ten (φ : FTy) : mulf (F := Ideal) (φ := φ) (ten a b c f) (ten a b c g) = ten a b c fun i j k => f i j k * g i j k :=
  funext fun _ => (EReal.coe_mul _ _).symm
theorem maximumf_ten (φ : FTy) : maximumf (F := Ideal) (φ := φ) (ten a b c f) (ten a b c g) = ten a b c fun i j k => max (f i j k) (g i j k) :=
  funext fun _ => (coe_max _ _).symm
theorem hnegf_ten (φ : FTy) : Host.negf (F := Ideal) (φ := φ) (ten a b c f) = ten a b c fun i j k => -f i j k :=
  funext fun _ => (EReal.coe_neg _).symm
theorem habsf_ten (φ : FTy) : Host.absf (F := Ideal) (φ := φ) (ten a b c f) = ten a b c fun i j k => |f i j k| :=
  funext fun _ => (coe_abs _).symm
theorem hexp_ten (φ : FTy) : Host.exp (F := Ideal) (φ := φ) (ten a b c f) = ten a b c fun i j k => Real.exp (f i j k) := rfl
theorem hlog1p_ten (φ : FTy) (h : ∀ i j k, 0 < 1 + f i j k) :
    Host.log1p (F := Ideal) (φ := φ) (ten a b c f) = ten a b c fun i j k => Real.log (1 + f i j k) := by
  funext i
  show Ideal.log (1 + ((f (i 0).val (i 1).val (i 2).val : ℝ) : EReal)) = _
  rw [← EReal.coe_one, ← EReal.coe_add, Ideal.log_coe, if_neg (not_le.2 (h _ _ _))]; rfl
theorem select_ten (p : ℕ → ℕ → ℕ → Bool) :
    select (bits3 a b c p) (ten a b c f) (ten a b c g) = ten a b c fun i j k => if p i j k then f i j k else g i j k := by
  funext i
  show Scalar.select (BitVec.ofBool (p (i 0).val (i 1).val (i 2).val)) _ _ = _
  unfold ten
  dsimp only
  cases p (i 0).val (i 1).val (i 2).val <;> rfl
theorem une_self (φ : FTy) (x : (sh3 a b c).Idx → EReal) : cmpf (F := Ideal) (φ := φ) .une x x = bits3 a b c fun _ _ _ => false := by
  funext i
  show Ideal.cmp .une (x i) (x i) = _
  simp [Ideal.cmp, bits3]
/-- No real number is +∞. -/
theorem oeq_inf (s : (sh3 a b c).Idx → EReal) (h : ∀ i, s i = ⊤) :
    cmpf (F := Ideal) (φ := .f32) .oeq (ten a b c f) s = bits3 a b c fun _ _ _ => false := by
  funext i
  show Ideal.cmp .oeq (ten a b c f i) (s i) = _
  rw [h]
  simp [Ideal.cmp, bits3, ten]

/-- One number spread. -/
theorem bcast_ten (h : (⟨0, ![]⟩ : Shape).BroadcastsInDim (sh3 a b c) (![] : Fin 0 → Fin 3)) (x : ℝ) (w : BitVec 32) (hw : Ideal.ofBits .f32 w = (x : EReal)) :
    broadcastInDim (sh3 a b c) ![] h (constant (F := Ideal) ⟨0, ![]⟩ .f32 w) = ten a b c fun _ _ _ => x := by
  funext i
  exact hw

/-! ## Heads: [n, d·h] and [h, n, d] -/

theorem split_mat {n h d : ℕ} (F : ℕ → ℕ → ℝ) (hs : (sh2 n (h * d)).ShapeCasts (sh3 n h d)) :
    shapeCast (sh3 n h d) (mat n (h * d) F) hs = ten n h d fun t i j => F t (d * i + j) := by
  funext y
  have h0 : (y 0).val < n := (y 0).isLt
  have h1 : (y 1).val < h := (y 1).isLt
  have h2 : (y 2).val < d := (y 2).isLt
  have hl : d * (y 1).val + (y 2).val < h * d := by nlinarith
  refine (shapeCast_apply (mat n (h * d) F) hs y (ValueIdx.ix2 ⟨(y 0).val, h0⟩ ⟨d * (y 1).val + (y 2).val, hl⟩) ?_).trans rfl
  rw [Shape.rowMajor_val_two, Shape.rowMajor_val_three]
  show (y 0).val * (h * d) + (d * (y 1).val + (y 2).val) = ((y 0).val * h + (y 1).val) * d + (y 2).val
  ring
theorem merge_ten {n h d : ℕ} (F : ℕ → ℕ → ℕ → ℝ) (hs : (sh3 n h d).ShapeCasts (sh2 n (h * d))) :
    shapeCast (sh2 n (h * d)) (ten n h d F) hs = mat n (h * d) fun t j => F t (j / d) (j % d) := by
  funext y
  have h0 : (y 0).val < n := (y 0).isLt
  have h1 : (y 1).val < h * d := (y 1).isLt
  have hd : 0 < d := Nat.pos_of_ne_zero fun e => by subst e; simp at h1
  have hq : (y 1).val / d < h := (Nat.div_lt_iff_lt_mul hd).2 h1
  refine (shapeCast_apply (ten n h d F) hs y (ValueIdx.ix3 ⟨(y 0).val, h0⟩ ⟨(y 1).val / d, hq⟩ ⟨(y 1).val % d, Nat.mod_lt _ hd⟩) ?_).trans rfl
  rw [Shape.rowMajor_val_two, Shape.rowMajor_val_three]
  show ((y 0).val * h + (y 1).val / d) * d + (y 1).val % d = (y 0).val * (h * d) + (y 1).val
  have := Nat.div_add_mod (y 1).val d
  nlinarith
theorem transpose_102 (h : (sh3 a b c).Transposes [1, 0, 2] (sh3 b a c)) :
    transpose (sh3 b a c) [1, 0, 2] (ten a b c f) h = ten b a c fun i j k => f j i k := rfl
theorem transpose_021 (h : (sh3 a b c).Transposes [0, 2, 1] (sh3 a c b)) :
    transpose (sh3 a c b) [0, 2, 1] (ten a b c f) h = ten a c b fun i j k => f i k j := rfl
theorem transpose_10 {n m : ℕ} {F : ℕ → ℕ → ℝ} (h : (sh2 n m).Transposes [1, 0] (sh2 m n)) :
    transpose (sh2 m n) [1, 0] (mat n m F) h = mat m n fun i j => F j i := rfl
/-- A matrix along a new last axis. -/
theorem along_last {F : ℕ → ℕ → ℝ} (ha : a ≠ 1) (hb : b ≠ 1) (h : (sh2 a b).BroadcastsInDim (sh3 a b c) (![0, 1] : Fin 2 → Fin 3)) :
    broadcastInDim (sh3 a b c) ![0, 1] h (mat a b F) = ten a b c fun i j _ => F i j := by
  funext i
  show ((F _ _ : ℝ) : EReal) = ((F _ _ : ℝ) : EReal)
  congr 2 <;> simp [ha, hb]

/-! ## Where the key is before the query -/

/-- The bits `column < row`, as the host computes them, on every head. -/
def hMask (H n : ℕ) (h1 : (sh2 n n).BroadcastsInDim (sh3 H n n) (![1, 2] : Fin 2 → Fin 3)) (h2 : (sh2 1 n).BroadcastsInDim (sh2 n n) (![0, 1] : Fin 2 → Fin 2))
    (h3 : (⟨1, ![n]⟩ : Shape).BroadcastsInDim (sh2 1 n) (![1] : Fin 1 → Fin 2)) (h4 : (sh2 n 1).BroadcastsInDim (sh2 n n) (![0, 1] : Fin 2 → Fin 2))
    (h5 : (⟨1, ![n]⟩ : Shape).BroadcastsInDim (sh2 n 1) (![0] : Fin 1 → Fin 2)) : IVec (sh3 H n n) 1 :=
  broadcastInDim (s := sh2 n n) (sh3 H n n) ![1, 2] h1 (cmpi .slt
    (broadcastInDim (s := sh2 1 n) (sh2 n n) ![0, 1] h2 (broadcastInDim (s := ⟨1, ![n]⟩) (sh2 1 n) ![1] h3 (iotaInDim ⟨1, ![n]⟩ 32 0)))
    (broadcastInDim (s := sh2 n 1) (sh2 n n) ![0, 1] h4 (broadcastInDim (s := ⟨1, ![n]⟩) (sh2 n 1) ![0] h5 (iotaInDim ⟨1, ![n]⟩ 32 0))))
theorem hMask_eq (H n : ℕ) (h1 h2 h3 h4 h5) (hn : n ≠ 1) (hb : n < 2 ^ 31) : hMask H n h1 h2 h3 h4 h5 = bits3 H n n fun _ t s => decide (s < t) := by
  funext i
  have e1 : (i 1).val < n := (i 1).isLt
  have e2 : (i 2).val < n := (i 2).isLt
  rw [bits3, ← slt_ofNat _ _ (lt_trans e2 hb) (lt_trans e1 hb)]
  show BitVec.ofBool ((BitVec.ofNat 32 _).slt (BitVec.ofNat 32 _)) = _
  congr 3 <;> simp [hn]

/-! ## Sums along the last axis -/

theorem hsum_ten (h : (sh3 a b c).ReducesTo [2] (sh2 a b)) (hu : 0 < (⟨0, ![]⟩ : Shape).numel) :
    Host.reduceAdd (F := Ideal) (φ := .f32) (ten a b c f) (constant ⟨0, ![]⟩ .f32 0x00000000#32) h hu
      = mat a b fun i j => ∑ k ∈ Finset.range c, f i j k := by
  funext j
  show Ideal.hostReduceAdd h (ten a b c f) (Ideal.ofBits .f32 0x00000000#32) j = _
  rw [Ideal.hostReduceAdd_r3_a2, Ideal.ofBits_zero_f32, zero_add]
  show (∑ k : Fin c, ((f _ _ _ : ℝ) : EReal)) = _
  rw [coe_sum]
  refine congrArg _ ?_
  show _ = ∑ k ∈ Finset.range c, f (j 0).val (j 1).val k
  rw [Finset.sum_range]
  rfl

theorem foldl_add {ι : Type} (l : List ι) (x : ι → EReal) (u : ι → ℝ) (h : ∀ n, x n = (u n : EReal)) (v : ℝ) :
    l.foldl (fun r n => r + x n) (v : EReal) = ((v + (l.map u).sum : ℝ) : EReal) := by
  induction l generalizing v with
  | nil => simp
  | cons n l ih => rw [List.foldl_cons, h, ← EReal.coe_add, ih, List.map_cons, List.sum_cons, add_assoc]

/-- The windows' positions along the last axis. -/
theorem win_numel (w : ℕ) : (sh3 1 1 w).numel = w := by simp [Shape.numel, Fin.prod_univ_succ]
theorem win_symm {w : ℕ} (n : Fin (sh3 1 1 w).numel) (i : Fin 3) :
    ((sh3 1 1 w).rowMajor.symm n i).val = if i = 2 then n.val else 0 := by
  have e := Shape.rowMajor_val_three ((sh3 1 1 w).rowMajor.symm n)
  rw [Equiv.apply_symm_apply] at e
  have h0 : ((sh3 1 1 w).rowMajor.symm n 0).val < 1 := ((sh3 1 1 w).rowMajor.symm n 0).isLt
  have h1 : ((sh3 1 1 w).rowMajor.symm n 1).val < 1 := ((sh3 1 1 w).rowMajor.symm n 1).isLt
  have z0 := Nat.lt_one_iff.1 h0
  have z1 := Nat.lt_one_iff.1 h1
  fin_cases i
  · exact z0
  · exact z1
  · rw [z0, z1] at e
    simpa using e.symm
theorem finRange_sum {N w : ℕ} (h : N = w) (u : ℕ → ℝ) : ((List.finRange N).map fun n => u n.val).sum = ∑ n ∈ Finset.range w, u n := by
  subst h
  rw [Finset.sum_range, Fin.sum_univ_def]

/-- A running sum along the last axis: the window of `w` places, `lo` of them before the first. -/
theorem window_ten {w lo hi : ℕ} (h : (sh3 a b c).ReduceWindows (![1, 1, w] : Fin 3 → ℕ) ![1, 1, 1] ![0, 0, lo] ![0, 0, hi] (sh3 a b c))
    (hu : 0 < (⟨0, ![]⟩ : Shape).numel) (v : (⟨0, ![]⟩ : Shape).Idx → EReal) (hv : v = fun _ => 0) :
    Host.reduceWindowAdd (F := Ideal) (φ := .f32) ![1, 1, w] ![1, 1, 1] ![0, 0, lo] ![0, 0, hi] (ten a b c f) v h hu
      = ten a b c fun i j k => ∑ n ∈ Finset.range w, if lo ≤ k + n ∧ k + n - lo < c then f i j (k + n - lo) else 0 := by
  subst hv
  funext y
  have y0 : (y 0).val < a := (y 0).isLt
  have y1 : (y 1).val < b := (y 1).isLt
  show Host.reduceWindow (· + ·) ![1, 1, w] ![1, 1, 1] ![0, 0, lo] ![0, 0, hi] (ten a b c f) (fun _ : (⟨0, ![]⟩ : Shape).Idx => (0 : EReal)) h hu y = _
  unfold Host.reduceWindow
  refine (foldl_add _ _ (fun n => if lo ≤ (y 2).val + n.val ∧ (y 2).val + n.val - lo < c then f (y 0).val (y 1).val ((y 2).val + n.val - lo) else 0) (fun n => ?_) 0).trans ?_
  · dsimp only
    have p0 : (y 0).val * 1 + ((sh3 1 1 w).rowMajor.symm n 0).val = (y 0).val := by rw [win_symm]; simp
    have p1 : (y 1).val * 1 + ((sh3 1 1 w).rowMajor.symm n 1).val = (y 1).val := by rw [win_symm]; simp
    have p2 : (y 2).val * 1 + ((sh3 1 1 w).rowMajor.symm n 2).val = (y 2).val + n.val := by rw [win_symm]; simp
    split
    · next hin =>
      have i2 := hin 2
      change lo ≤ (y 2).val * 1 + ((sh3 1 1 w).rowMajor.symm n 2).val ∧ (y 2).val * 1 + ((sh3 1 1 w).rowMajor.symm n 2).val - lo < c at i2
      rw [p2] at i2
      rw [if_pos i2]
      show ((f ((y 0).val * 1 + ((sh3 1 1 w).rowMajor.symm n 0).val - 0) ((y 1).val * 1 + ((sh3 1 1 w).rowMajor.symm n 1).val - 0)
        ((y 2).val * 1 + ((sh3 1 1 w).rowMajor.symm n 2).val - lo) : ℝ) : EReal) = _
      rw [p0, p1, p2, Nat.sub_zero, Nat.sub_zero]
    · next hin =>
      rw [if_neg fun i2 => hin fun i => ?_]
      · rfl
      · match i with
        | ⟨0, _⟩ =>
          show 0 ≤ (y 0).val * 1 + ((sh3 1 1 w).rowMajor.symm n 0).val ∧ (y 0).val * 1 + ((sh3 1 1 w).rowMajor.symm n 0).val - 0 < a
          rw [p0]; omega
        | ⟨1, _⟩ =>
          show 0 ≤ (y 1).val * 1 + ((sh3 1 1 w).rowMajor.symm n 1).val ∧ (y 1).val * 1 + ((sh3 1 1 w).rowMajor.symm n 1).val - 0 < b
          rw [p1]; omega
        | ⟨2, _⟩ =>
          show lo ≤ (y 2).val * 1 + ((sh3 1 1 w).rowMajor.symm n 2).val ∧ (y 2).val * 1 + ((sh3 1 1 w).rowMajor.symm n 2).val - lo < c
          rw [p2]; exact i2
  · rw [zero_add]
    exact congrArg _ (finRange_sum (win_numel w) fun n => if lo ≤ (y 2).val + n ∧ (y 2).val + n - lo < c then f (y 0).val (y 1).val ((y 2).val + n - lo) else 0)

/-- The sum from a place on. -/
theorem sum_from {w : ℕ} (u : ℕ → ℝ) {k : ℕ} (hk : k < w) :
    (∑ n ∈ Finset.range w, if 0 ≤ k + n ∧ k + n - 0 < w then u (k + n - 0) else 0) = ∑ n ∈ Finset.range w, u n - ∑ n ∈ Finset.range k, u n := by
  obtain ⟨d, rfl⟩ := Nat.exists_eq_add_of_lt hk
  have e : ∑ n ∈ Finset.range (k + d + 1), u n = ∑ n ∈ Finset.range k, u n + ∑ n ∈ Finset.range (d + 1), u (k + n) := by
    rw [add_assoc]; exact sum_cut u k (d + 1)
  rw [e, add_sub_cancel_left, show k + d + 1 = (d + 1) + k by omega, sum_cut _ (d + 1) k]
  rw [Finset.sum_congr rfl (g := fun n => u (k + n)) fun n hn => by rw [if_pos (by have := Finset.mem_range.1 hn; omega), Nat.sub_zero],
    Finset.sum_congr rfl (g := fun _ => (0 : ℝ)) (s₁ := Finset.range k) fun n hn => by rw [if_neg (by omega)]]
  simp

/-- The sum up to a place. -/
theorem sum_to {w : ℕ} (u : ℕ → ℝ) {k : ℕ} (hk : k < w + 1) :
    (∑ n ∈ Finset.range (w + 1), if w ≤ k + n ∧ k + n - w < w + 1 then u (k + n - w) else 0) = ∑ n ∈ Finset.range (k + 1), u n := by
  obtain ⟨d, rfl⟩ := Nat.exists_eq_add_of_le (Nat.lt_succ_iff.1 hk)
  rw [show k + d + 1 = d + (k + 1) by omega, sum_cut _ d (k + 1)]
  rw [Finset.sum_congr rfl (g := fun _ => (0 : ℝ)) fun n hn => by rw [if_neg (by have := Finset.mem_range.1 hn; omega)],
    Finset.sum_congr rfl (g := u) (s₁ := Finset.range (k + 1)) fun n hn => by
      rw [if_pos (by have := Finset.mem_range.1 hn; omega)]; congr 1; omega]
  simp

/-! ## Products, head by head -/

section
variable {H M N K : ℕ}
/-- `[H, M, K]` by `[H, N, K]` along the last axes. -/
def dotLast (H M N K : ℕ) (wf : DotDims.WF (sh3 H M K) (sh3 H N K) (sh3 H M N) [2] [2] [1] [1] [0] [0]) : DotDims (sh3 H M K) (sh3 H N K) (sh3 H M N) :=
  ⟨[2], [2], [1], [1], [0], [0], wf⟩
/-- `[H, M, K]` by `[H, K, N]`. -/
def dotMid (H M N K : ℕ) (wf : DotDims.WF (sh3 H M K) (sh3 H K N) (sh3 H M N) [2] [1] [1] [2] [0] [0]) : DotDims (sh3 H M K) (sh3 H K N) (sh3 H M N) :=
  ⟨[2], [1], [1], [2], [0], [0], wf⟩
/-- `[H, K, M]` by `[H, K, N]` along the middle axes. -/
def dotRows (H M N K : ℕ) (wf : DotDims.WF (sh3 H K M) (sh3 H K N) (sh3 H M N) [1] [1] [2] [2] [0] [0]) : DotDims (sh3 H K M) (sh3 H K N) (sh3 H M N) :=
  ⟨[1], [1], [2], [2], [0], [0], wf⟩

theorem dotLast_ten (wf) : Host.dotGeneral (F := Ideal) (φ₁ := .f32) (φ₂ := .f32) (dotLast H M N K wf) none (ten H M K f) (ten H N K g)
    = ten H M N fun h i j => ∑ k ∈ Finset.range K, f h i k * g h j k := by
  funext j
  refine (Ideal.matmul_apply₁_of (dotLast H M N K wf) (a := 2) rfl (K := K) rfl _ _ _ j (fun k => ValueIdx.ix3 (j 0) (j 1) k) (fun k => ValueIdx.ix3 (j 0) (j 2) k) ?_ ?_).trans ?_
  · intro k; funext i
    match i with
    | ⟨0, _⟩ => rfl
    | ⟨1, _⟩ => rfl
    | ⟨2, _⟩ => rfl
  · intro k; funext i
    match i with
    | ⟨0, _⟩ => rfl
    | ⟨1, _⟩ => rfl
    | ⟨2, _⟩ => rfl
  · show (0 : EReal) + ∑ k : Fin K, ((f (j 0).val (j 1).val k.val : ℝ) : EReal) * ((g (j 0).val (j 2).val k.val : ℝ) : EReal)
      = ((∑ k ∈ Finset.range K, f (j 0).val (j 1).val k * g (j 0).val (j 2).val k : ℝ) : EReal)
    simp only [← EReal.coe_mul, coe_sum, zero_add]
    rw [Finset.sum_range]
theorem dotMid_ten (wf) : Host.dotGeneral (F := Ideal) (φ₁ := .f32) (φ₂ := .f32) (dotMid H M N K wf) none (ten H M K f) (ten H K N g)
    = ten H M N fun h i j => ∑ k ∈ Finset.range K, f h i k * g h k j := by
  funext j
  refine (Ideal.matmul_apply₁_of (dotMid H M N K wf) (a := 2) rfl (K := K) rfl _ _ _ j (fun k => ValueIdx.ix3 (j 0) (j 1) k) (fun k => ValueIdx.ix3 (j 0) k (j 2)) ?_ ?_).trans ?_
  · intro k; funext i
    match i with
    | ⟨0, _⟩ => rfl
    | ⟨1, _⟩ => rfl
    | ⟨2, _⟩ => rfl
  · intro k; funext i
    match i with
    | ⟨0, _⟩ => rfl
    | ⟨1, _⟩ => rfl
    | ⟨2, _⟩ => rfl
  · show (0 : EReal) + ∑ k : Fin K, ((f (j 0).val (j 1).val k.val : ℝ) : EReal) * ((g (j 0).val k.val (j 2).val : ℝ) : EReal)
      = ((∑ k ∈ Finset.range K, f (j 0).val (j 1).val k * g (j 0).val k (j 2).val : ℝ) : EReal)
    simp only [← EReal.coe_mul, coe_sum, zero_add]
    rw [Finset.sum_range]
theorem dotRows_ten (wf) : Host.dotGeneral (F := Ideal) (φ₁ := .f32) (φ₂ := .f32) (dotRows H M N K wf) none (ten H K M f) (ten H K N g)
    = ten H M N fun h i j => ∑ k ∈ Finset.range K, f h k i * g h k j := by
  funext j
  refine (Ideal.matmul_apply₁_of (dotRows H M N K wf) (a := 1) rfl (K := K) rfl _ _ _ j (fun k => ValueIdx.ix3 (j 0) k (j 1)) (fun k => ValueIdx.ix3 (j 0) k (j 2)) ?_ ?_).trans ?_
  · intro k; funext i
    match i with
    | ⟨0, _⟩ => rfl
    | ⟨1, _⟩ => rfl
    | ⟨2, _⟩ => rfl
  · intro k; funext i
    match i with
    | ⟨0, _⟩ => rfl
    | ⟨1, _⟩ => rfl
    | ⟨2, _⟩ => rfl
  · show (0 : EReal) + ∑ k : Fin K, ((f (j 0).val k.val (j 1).val : ℝ) : EReal) * ((g (j 0).val k.val (j 2).val : ℝ) : EReal)
      = ((∑ k ∈ Finset.range K, f (j 0).val k (j 1).val * g (j 0).val k (j 2).val : ℝ) : EReal)
    simp only [← EReal.coe_mul, coe_sum, zero_add]
    rw [Finset.sum_range]
end

end Cert.Proof

end
-- ==== Proof.Fin.lean ====
/- The precondition: every entry of the four arguments is a number. -/
module

public import proofs.«01_k».proof.Proof.Ten
public import proofs.«01_k».proof.Pre_finite
public import Idealize.ShloMosaic.Lib.ReduceAll

@[expose] public section

noncomputable section

namespace Cert.Proof

open Idealize.ShloMosaic Cert.Pre_finite

/-- The side conditions of the precondition's function. -/
theorem pre_facts : Cert.Pre_finite.Facts where
  bitsLt_bf16_f32 := by decide
  bcast_S_S4096x2048 := by decide
  reducesTo_S4096x2048_S_d0_1 := by decide
  h_S_ := by decide
  bcast_S_S4096x4096 := by decide
  reducesTo_S4096x4096_S_d0_1 := by decide

theorem number_of (x : EReal) (h : Ideal.cmp .olt (max x (-x)) (Ideal.ofBits .f32 0x7F800000#32) = 1#1) : x ≠ ⊤ ∧ x ≠ ⊥ := by
  have e : Ideal.ofBits .f32 0x7F800000#32 = ⊤ := by simp [Ideal.ofBits, Ideal.ieee]
  rw [e] at h
  constructor
  · rintro rfl; simp [Ideal.cmp] at h
  · rintro rfl; simp [Ideal.cmp] at h

instance : Subsingleton (S_.Idx) := ⟨fun a b => funext fun i => i.elim0⟩

theorem numbers {n k : ℕ} {axes : List (Fin 2)} (x : (sh2 n k).Idx → EReal) (w : (sh2 n k).Idx → EReal) (hw : ∀ i, w i = Ideal.ofBits .f32 0x7F800000#32)
    (h : (sh2 n k).ReducesTo axes S_) (hu : 0 < S_.numel) (j : S_.Idx)
    (e : Host.reduce IntOp.andi (cmpf (F := Ideal) (φ := .f32) .olt (Host.absf (F := Ideal) (φ := .f32) x) w) (constantI S_ 1 1#1) h hu j = 1#1) (i : (sh2 n k).Idx) :
    x i ≠ ⊤ ∧ x i ≠ ⊥ := by
  have a := Host.reduce_andi_all _ _ h hu j e i
  refine number_of (x i) ?_
  rw [← hw i]
  exact a

theorem and_one {p q : IVec S_ 1} (h : andi p q = fun _ => 1#1) : (∀ j, p j = 1#1) ∧ ∀ j, q j = 1#1 := by
  have e : ∀ j, p j &&& q j = 1#1 := fun j => congrFun h j
  constructor <;> intro j <;> have := e j <;> revert this <;> generalize p j = a <;> generalize q j = b <;> revert a b <;> decide

theorem finite_args (hf : Cert.Pre_finite.Facts) (x0 x1 x2 : FVec Ideal S4096x2048 .bf16) (x3 : FVec Ideal S4096x4096 .f32)
    (h : fn (F := Ideal) x0 x1 x2 x3 = fun _ => 1#1) :
    (∀ i, x0 i ≠ ⊤ ∧ x0 i ≠ ⊥) ∧ (∀ i, x1 i ≠ ⊤ ∧ x1 i ≠ ⊥) ∧ (∀ i, x2 i ≠ ⊤ ∧ x2 i ≠ ⊥) ∧ ∀ i, x3 i ≠ ⊤ ∧ x3 i ≠ ⊥ := by
  unfold fn fn_part1 at h
  obtain ⟨h', h3⟩ := and_one h
  obtain ⟨h'', h2⟩ := and_one (funext h')
  obtain ⟨h0, h1⟩ := and_one (funext h'')
  have j : S_.Idx := fun i => i.elim0
  exact ⟨numbers x0 _ (fun _ => rfl) _ _ j (h0 j), numbers x1 _ (fun _ => rfl) _ _ j (h1 j), numbers x2 _ (fun _ => rfl) _ _ j (h2 j),
    numbers x3 _ (fun _ => rfl) _ _ j (h3 j)⟩

end Cert.Proof

end
-- ==== Proof.Host.lean ====
/- The host's operations of the attention on all heads: the scores, the logarithms of the probabilities, the weights and
   the scores' gradient, and the real numbers they are. -/
module

public import proofs.«01_k».proof.Proof.Ten

@[expose] public section

noncomputable section

namespace Cert.Proof

open Idealize.ShloMosaic
open scoped BigOperators

/-! ## The operations -/

/-- [heads, queries, keys], and [heads, tokens, channels]. -/
abbrev V3 := FVec Ideal (sh3 16 4096 4096) .f32
abbrev H3 := FVec Ideal (sh3 16 4096 128) .f32

/-- One constant everywhere. -/
def sc (w : BitVec 32) : V3 := broadcastInDim (s := ⟨0, ![]⟩) (sh3 16 4096 4096) ![] (by decide) (constant ⟨0, ![]⟩ .f32 w)
/-- Where the key is before the query. -/
def msk : IVec (sh3 16 4096 4096) 1 := hMask 16 4096 (by decide) (by decide) (by decide) (by decide) (by decide)
/-- [tokens, 2048] as heads, and back. -/
def heads (x : FVec Ideal (sh2 4096 2048) .f32) : H3 :=
  transpose (sh3 16 4096 128) [1, 0, 2] (shapeCast (sh3 4096 16 128) x (by decide)) (by decide)
def unheads (x : H3) : FVec Ideal (sh2 4096 2048) .f32 :=
  shapeCast (sh2 4096 2048) (transpose (sh3 4096 16 128) [1, 0, 2] x (by decide)) (by decide)
def vDot (q k : H3) : V3 := Host.dotGeneral (φ₁ := .f32) (φ₂ := .f32) (dotLast 16 4096 4096 128 (by decide)) none q k
/-- The scores. -/
def vZ (q k : H3) : V3 := mulf (vDot q k) (sc 0x3DB504F3#32)
/-- log (1 + eʸ). -/
def vSp (y : V3) : V3 :=
  select (cmpf .une (subf y (sc 0x00000000#32)) (subf y (sc 0x00000000#32))) (addf y (sc 0x00000000#32))
    (addf (maximumf y (sc 0x00000000#32)) (Host.log1p (Host.exp (Host.negf (Host.absf (subf y (sc 0x00000000#32)))))))
/-- σ(y), as the gradient of log (1 + eʸ). -/
def vSig (y : V3) : V3 :=
  Host.exp (subf (select (cmpf .oeq y (sc 0x7F800000#32)) (sc 0x00000000#32) y)
    (select (cmpf .oeq (vSp y) (sc 0x7F800000#32)) (sc 0x00000000#32) (vSp y)))
/-- log σ(-z) where the key is before the query. -/
def vLk (z : V3) : V3 := select msk (Host.negf (vSp (Host.negf (Host.negf z)))) (sc 0x00000000#32)
def zero0 : FVec Ideal ⟨0, ![]⟩ .f32 := broadcastInDim (s := ⟨0, ![]⟩) ⟨0, ![]⟩ ![] (by decide) (constant ⟨0, ![]⟩ .f32 0x00000000#32)
/-- The sums from each key on, and up to each key. -/
def vFrom (x : V3) : V3 := Host.reduceWindowAdd ![1, 1, 4096] ![1, 1, 1] ![0, 0, 0] ![0, 0, 4095] x zero0 (by decide) (by decide)
def vTo (x : V3) : V3 := Host.reduceWindowAdd ![1, 1, 4096] ![1, 1, 1] ![0, 0, 4095] ![0, 0, 0] x zero0 (by decide) (by decide)
/-- The weights before the mask. -/
def vE (z : V3) : V3 := Host.exp (addf (Host.negf (vSp (Host.negf z))) (subf (vFrom (vLk z)) (vLk z)))
def vW (z : V3) : V3 := select msk (vE z) (sc 0x00000000#32)
def vGg (z w : V3) : V3 := mulf (select msk w (sc 0x00000000#32)) (vE z)
/-- The gradient of the scores. -/
def vDz (z w : V3) : V3 :=
  mulf (addf
    (Host.negf (Host.negf (mulf (Host.negf (select msk (addf (Host.negf (vGg z w)) (vTo (vGg z w))) (sc 0x00000000#32))) (vSig (Host.negf (Host.negf z))))))
    (Host.negf (mulf (Host.negf (vGg z w)) (vSig (Host.negf z))))) (sc 0x3DB504F3#32)

/-! ## Their values -/

/-- log (1 + eʸ). -/
def sp (y : ℝ) : ℝ := max y 0 + Real.log (1 + Real.exp (-|y|))

theorem sc_zero : sc 0x00000000#32 = ten 16 4096 4096 fun _ _ _ => 0 := bcast_ten _ 0 _ (Ideal.ofBits_zero_f32.trans EReal.coe_zero.symm)
theorem sc_scale : sc 0x3DB504F3#32 = ten 16 4096 4096 fun _ _ _ => scale := bcast_ten _ _ _ scale_eq
theorem sc_inf (i) : sc 0x7F800000#32 i = ⊤ := by
  show Ideal.ofBits .f32 0x7F800000#32 = ⊤
  simp [Ideal.ofBits, Ideal.ieee]
theorem msk_eq : msk = bits3 16 4096 4096 fun _ t s => decide (s < t) := hMask_eq 16 4096 _ _ _ _ _ (by decide) (by norm_num)

variable {Q K : ℕ → ℕ → ℝ} {f g : ℕ → ℕ → ℕ → ℝ}

theorem heads_mat : heads (mat 4096 2048 Q) = ten 16 4096 128 fun h t c => Q t (128 * h + c) := by
  unfold heads
  rw [show shapeCast (sh3 4096 16 128) (mat 4096 2048 Q) _ = ten 4096 16 128 fun t i j => Q t (128 * i + j) from split_mat (n := 4096) (h := 16) (d := 128) Q _]
  rfl
theorem unheads_ten : unheads (ten 16 4096 128 f) = mat 4096 2048 fun t j => f (j / 128) t (j % 128) := by
  unfold unheads
  rw [transpose_102]
  exact merge_ten (n := 4096) (h := 16) (d := 128) (fun t h c => f h t c) _
theorem vDot_ten : vDot (ten 16 4096 128 f) (ten 16 4096 128 g) = ten 16 4096 4096 fun h t s => ∑ c ∈ Finset.range 128, f h t c * g h s c :=
  dotLast_ten _
theorem vZ_ten : vZ (ten 16 4096 128 f) (ten 16 4096 128 g) = ten 16 4096 4096 fun h t s => rZ (f h) (g h) t s := by
  unfold vZ
  rw [vDot_ten, sc_scale, mulf_ten]
  rfl
theorem vSp_ten : vSp (ten 16 4096 4096 f) = ten 16 4096 4096 fun h t s => sp (f h t s) := by
  unfold vSp
  rw [sc_zero, subf_ten, une_self, addf_ten, maximumf_ten, habsf_ten, hnegf_ten, hexp_ten, hlog1p_ten _ (fun _ _ _ => by positivity), addf_ten, select_ten]
  refine ten_congr fun h t s _ _ _ => ?_
  simp [sp]
theorem vSig_ten : vSig (ten 16 4096 4096 f) = ten 16 4096 4096 fun h t s => Real.exp (f h t s - sp (f h t s)) := by
  unfold vSig
  rw [vSp_ten, oeq_inf _ sc_inf, oeq_inf _ sc_inf, sc_zero, select_ten, select_ten, subf_ten, hexp_ten]
  exact ten_congr fun h t s _ _ _ => by simp
theorem lb_sub (x : ℝ) : lb x - x = -sp x := by
  unfold lb sp
  rw [zero_sub]
  rcases le_total x 0 with h | h
  · rw [min_eq_left h, max_eq_right h]; ring
  · rw [min_eq_right h, max_eq_left h]; ring
theorem lb_eq (x : ℝ) : lb x = -sp (-x) := by
  unfold lb sp
  rw [zero_sub, abs_neg]
  rcases le_total x 0 with h | h
  · rw [min_eq_left h, max_eq_left (by linarith)]; ring
  · rw [min_eq_right h, max_eq_right (by linarith)]; ring
theorem exp_lb (x : ℝ) : Real.exp (lb x) * (1 + Real.exp (-x)) = 1 := by
  unfold lb
  rw [zero_sub]
  rcases le_total x 0 with h | h
  · rw [min_eq_left h, abs_of_nonpos h, neg_neg, Real.exp_sub, Real.exp_log (by positivity), Real.exp_neg]
    have := Real.exp_pos x
    field_simp
    ring
  · rw [min_eq_right h, abs_of_nonneg h, Real.exp_sub, Real.exp_log (by positivity), Real.exp_zero]
    have := Real.exp_pos (-x)
    field_simp
/-- σ(x) and σ(-x). -/
theorem sig_pos (x : ℝ) : Real.exp (x - sp x) = Real.exp (lb x) := by
  congr 1; linarith [lb_sub x]
theorem sig_neg (x : ℝ) : Real.exp (-x - sp (-x)) = 1 - Real.exp (lb x) := by
  rw [show -x - sp (-x) = lb x + -x by linarith [lb_eq x], Real.exp_add]
  linarith [exp_lb x]

variable {q k o w : ℕ → ℕ → ℕ → ℝ}

theorem vLk_ten : vLk (ten 16 4096 4096 fun h t s => rZ (q h) (k h) t s) = ten 16 4096 4096 fun h t s => rLk (q h) (k h) t s := by
  unfold vLk
  rw [hnegf_ten, hnegf_ten, vSp_ten, hnegf_ten, msk_eq, sc_zero, select_ten]
  refine ten_congr fun h t s _ _ _ => ?_
  simp only [neg_neg, decide_eq_true_eq, rLk, lb_sub]
theorem zero0_eq : zero0 = fun _ => 0 := funext fun _ => Ideal.ofBits_zero_f32
theorem vFrom_ten : vFrom (ten 16 4096 4096 f) = ten 16 4096 4096 fun h t s => ∑ u ∈ Finset.range 4096, f h t u - ∑ u ∈ Finset.range s, f h t u :=
  (window_ten (w := 4096) (lo := 0) (hi := 4095) _ _ _ zero0_eq).trans (ten_congr fun h t s _ _ hs => sum_from (w := 4096) (fun u => f h t u) hs)
theorem vTo_ten : vTo (ten 16 4096 4096 f) = ten 16 4096 4096 fun h t s => ∑ u ∈ Finset.range (s + 1), f h t u :=
  (window_ten (w := 4096) (lo := 4095) (hi := 0) _ _ _ zero0_eq).trans (ten_congr fun h t s _ _ hs => sum_to (w := 4095) (fun u => f h t u) hs)

/-- The sum of log σ(-z) over a query's keys. -/
def tot (Q K : ℕ → ℕ → ℝ) (t : ℕ) : ℝ := ∑ u ∈ Finset.range 4096, rLk Q K t u

theorem vE_ten : vE (ten 16 4096 4096 fun h t s => rZ (q h) (k h) t s)
    = ten 16 4096 4096 fun h t s => Real.exp (lb (rZ (q h) (k h) t s) + (tot (q h) (k h) t - ∑ u ∈ Finset.range (s + 1), rLk (q h) (k h) t u)) := by
  unfold vE
  rw [vLk_ten, vFrom_ten, subf_ten, hnegf_ten, vSp_ten, hnegf_ten, addf_ten, hexp_ten]
  refine ten_congr fun h t s _ _ _ => ?_
  rw [lb_eq, Finset.sum_range_succ _ s, tot, sub_sub]
theorem vW_ten : vW (ten 16 4096 4096 fun h t s => rZ (q h) (k h) t s) = ten 16 4096 4096 fun h t s => rW (q h) (k h) (tot (q h) (k h)) t s := by
  unfold vW
  rw [vE_ten, msk_eq, sc_zero, select_ten]
  refine ten_congr fun h t s _ _ _ => ?_
  simp only [decide_eq_true_eq, rW]
theorem vGg_ten : vGg (ten 16 4096 4096 fun h t s => rZ (q h) (k h) t s) (ten 16 4096 4096 fun h t s => ∑ c ∈ Finset.range 128, o h t c * w h s c)
    = ten 16 4096 4096 fun h t s => rGg (q h) (o h) (k h) (w h) (tot (q h) (k h)) t s := by
  unfold vGg
  rw [vE_ten, msk_eq, sc_zero, select_ten, mulf_ten]
  refine ten_congr fun h t s _ _ _ => ?_
  simp only [decide_eq_true_eq, rGg, rW]
  split <;> simp
theorem vDz_ten : vDz (ten 16 4096 4096 fun h t s => rZ (q h) (k h) t s) (ten 16 4096 4096 fun h t s => ∑ c ∈ Finset.range 128, o h t c * w h s c)
    = ten 16 4096 4096 fun h t s => rDz (q h) (o h) (k h) (w h) (tot (q h) (k h)) t s := by
  unfold vDz
  rw [vGg_ten, vTo_ten, hnegf_ten, hnegf_ten, hnegf_ten, vSig_ten, vSig_ten, addf_ten, msk_eq, sc_zero, sc_scale, select_ten, hnegf_ten, mulf_ten, mulf_ten,
    hnegf_ten, hnegf_ten, hnegf_ten, addf_ten, mulf_ten]
  refine ten_congr fun h t s _ _ _ => ?_
  simp only [neg_neg, decide_eq_true_eq, sig_neg, rDz]
  rw [sig_pos]
  split
  · rw [Finset.sum_range_succ _ s]; ring
  · next hs => rw [rGg_zero _ _ _ _ _ (not_lt.1 hs)]; simp

end Cert.Proof

end
-- ==== Proof.Chain.lean ====
/- The kernel's body as sixteen steps over blocks of 256 keys: what its run leaves in its three outputs, each step's
   values being the operations of `Step` on the values of the step before. -/
module

public import proofs.«01_k».proof.Proof.Step
public import proofs.«01_k».proof.Proof.Gen.KernelIdeal.Value

@[expose] public section

set_option maxRecDepth 16384

noncomputable section

namespace Cert.Proof

open Idealize.ShloMosaic Idealize.ShloMosaic.TcCoe
open Cert.KernelIdeal Cert.KernelIdeal.Gen

theorem side_of {n : ℕ} (a : (sh2 n 256).Slices (![0, 255] : Fin 2 → ℕ) (sh2 n 1)) (b : (sh2 n 1).Broadcasts (sh2 n 256))
    (c : Shape.Concatenates [sh2 n 256, sh2 n 256] (sh2 n 512) 1) (d : (sh2 n 256).Iotas .tc 32 [0]) (e : (sh2 n 256).Iotas .tc 32 [1])
    (f : DotDims.WF (sh2 n 256) (sh2 n 128) (sh2 256 128) [0] [0] [1] [1] [] []) : Side n :=
  ⟨d, e, b, c, by decide +kernel, a, f, by decide +kernel, by decide +kernel⟩

theorem side0 : Side 4096 := side_of (by decide +kernel) (by decide +kernel) (by decide +kernel) (by decide +kernel) (by decide +kernel) (by decide +kernel)
theorem side1 : Side 3840 := side_of (by decide +kernel) (by decide +kernel) (by decide +kernel) (by decide +kernel) (by decide +kernel) (by decide +kernel)
theorem rows1 : Cut 256 3840 := ⟨by decide +kernel, by decide +kernel, by decide +kernel, by decide +kernel, by decide +kernel, by decide +kernel⟩
theorem side2 : Side 3584 := side_of (by decide +kernel) (by decide +kernel) (by decide +kernel) (by decide +kernel) (by decide +kernel) (by decide +kernel)
theorem rows2 : Cut 512 3584 := ⟨by decide +kernel, by decide +kernel, by decide +kernel, by decide +kernel, by decide +kernel, by decide +kernel⟩
theorem side3 : Side 3328 := side_of (by decide +kernel) (by decide +kernel) (by decide +kernel) (by decide +kernel) (by decide +kernel) (by decide +kernel)
theorem rows3 : Cut 768 3328 := ⟨by decide +kernel, by decide +kernel, by decide +kernel, by decide +kernel, by decide +kernel, by decide +kernel⟩
theorem side4 : Side 3072 := side_of (by decide +kernel) (by decide +kernel) (by decide +kernel) (by decide +kernel) (by decide +kernel) (by decide +kernel)
theorem rows4 : Cut 1024 3072 := ⟨by decide +kernel, by decide +kernel, by decide +kernel, by decide +kernel, by decide +kernel, by decide +kernel⟩
theorem side5 : Side 2816 := side_of (by decide +kernel) (by decide +kernel) (by decide +kernel) (by decide +kernel) (by decide +kernel) (by decide +kernel)
theorem rows5 : Cut 1280 2816 := ⟨by decide +kernel, by decide +kernel, by decide +kernel, by decide +kernel, by decide +kernel, by decide +kernel⟩
theorem side6 : Side 2560 := side_of (by decide +kernel) (by decide +kernel) (by decide +kernel) (by decide +kernel) (by decide +kernel) (by decide +kernel)
theorem rows6 : Cut 1536 2560 := ⟨by decide +kernel, by decide +kernel, by decide +kernel, by decide +kernel, by decide +kernel, by decide +kernel⟩
theorem side7 : Side 2304 := side_of (by decide +kernel) (by decide +kernel) (by decide +kernel) (by decide +kernel) (by decide +kernel) (by decide +kernel)
theorem rows7 : Cut 1792 2304 := ⟨by decide +kernel, by decide +kernel, by decide +kernel, by decide +kernel, by decide +kernel, by decide +kernel⟩
theorem side8 : Side 2048 := side_of (by decide +kernel) (by decide +kernel) (by decide +kernel) (by decide +kernel) (by decide +kernel) (by decide +kernel)
theorem rows8 : Cut 2048 2048 := ⟨by decide +kernel, by decide +kernel, by decide +kernel, by decide +kernel, by decide +kernel, by decide +kernel⟩
theorem side9 : Side 1792 := side_of (by decide +kernel) (by decide +kernel) (by decide +kernel) (by decide +kernel) (by decide +kernel) (by decide +kernel)
theorem rows9 : Cut 2304 1792 := ⟨by decide +kernel, by decide +kernel, by decide +kernel, by decide +kernel, by decide +kernel, by decide +kernel⟩
theorem side10 : Side 1536 := side_of (by decide +kernel) (by decide +kernel) (by decide +kernel) (by decide +kernel) (by decide +kernel) (by decide +kernel)
theorem rows10 : Cut 2560 1536 := ⟨by decide +kernel, by decide +kernel, by decide +kernel, by decide +kernel, by decide +kernel, by decide +kernel⟩
theorem side11 : Side 1280 := side_of (by decide +kernel) (by decide +kernel) (by decide +kernel) (by decide +kernel) (by decide +kernel) (by decide +kernel)
theorem rows11 : Cut 2816 1280 := ⟨by decide +kernel, by decide +kernel, by decide +kernel, by decide +kernel, by decide +kernel, by decide +kernel⟩
theorem side12 : Side 1024 := side_of (by decide +kernel) (by decide +kernel) (by decide +kernel) (by decide +kernel) (by decide +kernel) (by decide +kernel)
theorem rows12 : Cut 3072 1024 := ⟨by decide +kernel, by decide +kernel, by decide +kernel, by decide +kernel, by decide +kernel, by decide +kernel⟩
theorem side13 : Side 768 := side_of (by decide +kernel) (by decide +kernel) (by decide +kernel) (by decide +kernel) (by decide +kernel) (by decide +kernel)
theorem rows13 : Cut 3328 768 := ⟨by decide +kernel, by decide +kernel, by decide +kernel, by decide +kernel, by decide +kernel, by decide +kernel⟩
theorem side14 : Side 512 := side_of (by decide +kernel) (by decide +kernel) (by decide +kernel) (by decide +kernel) (by decide +kernel) (by decide +kernel)
theorem rows14 : Cut 3584 512 := ⟨by decide +kernel, by decide +kernel, by decide +kernel, by decide +kernel, by decide +kernel, by decide +kernel⟩
theorem side15 : Side 256 := side_of (by decide +kernel) (by decide +kernel) (by decide +kernel) (by decide +kernel) (by decide +kernel) (by decide +kernel)
theorem rows15 : Cut 3840 256 := ⟨by decide +kernel, by decide +kernel, by decide +kernel, by decide +kernel, by decide +kernel, by decide +kernel⟩

/-- The arguments of the kernel's body at a point of its grid: the buffers and what the five inputs hold. -/
structure Pt (F : FTy → Type) [FloatOps F] where
  c : Dev nD
  i : grid0.Coords
  arg2 : Memref sig .tc .vmem S4096x128 .bf16
  harg2 : arg2.IsWhole
  arg3 : Memref sig .tc .vmem S4096x128 .bf16
  harg3 : arg3.IsWhole
  arg4 : Memref sig .tc .vmem S4096x128 .bf16
  harg4 : arg4.IsWhole
  arg5 : Memref sig .tc .vmem S4096x128 .f32
  harg5 : arg5.IsWhole
  arg6 : Memref sig .tc .vmem S4096x128 .f32
  harg6 : arg6.IsWhole
  arg7 : Memref sig .tc .vmem S4096x128 .f32
  harg7 : arg7.IsWhole
  arg8 : Memref sig .tc .vmem S4096x128 .f32
  harg8 : arg8.IsWhole
  arg9 : Memref sig .tc .vmem S4096x128 .f32
  harg9 : arg9.IsWhole
  hc0 : cond0_0 i
  x0 : Vec F S4096x128 .bf16
  x1 : Vec F S4096x128 .bf16
  x2 : Vec F S4096x128 .bf16
  x3 : Vec F S4096x128 .f32
  x4 : Vec F S4096x128 .f32

variable {F : FTy → Type} [FloatOps F] (p : Pt F)

namespace Pt

abbrev rect (i : grid0.Coords) (d : Fin 16) : Rect S4096x128 :=
  Rect.unit (s := S4096x128) (k0_off3 i (BitVec.ofNat 32 d.val)) S256x128.size (k0_off3_inb i d)

def q : FVec F (sh2 4096 128) .bf16 := kernelRun0_A.sl.r (F := F) p.c p.arg2 p.harg2 p.x0
def o : FVec F (sh2 4096 128) .bf16 := kernelRun0_A.sl.r_1 (F := F) p.c p.arg5 p.harg5 p.x3
def tot : FVec F (sh2 4096 1) .f32 := kernelRun0_A.sl.r_2 (F := F) p.c p.arg6 p.harg6 p.x4
def up : FVec F (sh2 256 256) .bf16 := k0_pay22
def bf : FVec F (sh2 256 256) .bf16 := k0_pay23
def K (d : Fin 16) : FVec F (sh2 256 128) .bf16 :=
  View.readAt (Elt F) p.arg3.view (rect p.i d).toLoadRect (p.harg3.unread p.x1)
def V (d : Fin 16) : FVec F (sh2 256 128) .bf16 :=
  View.readAt (Elt F) p.arg4.view (rect p.i d).toLoadRect (p.harg4.unread p.x2)
/-- Block `d` of the second output as the pieces `H` leave it. -/
def old6 (d : Fin 16) (H : List (View.Piece (Elt F) S4096x128 .f32)) : FVec F (sh2 256 128) .f32 :=
  View.readAt (Elt F) p.arg8.view (rect p.i d).toLoadRect (p.arg8.view.writes (Elt F) p.arg8.view.junk H)
def old7 (d : Fin 16) (H : List (View.Piece (Elt F) S4096x128 .f32)) : FVec F (sh2 256 128) .f32 :=
  View.readAt (Elt F) p.arg9.view (rect p.i d).toLoadRect (p.arg9.view.writes (Elt F) p.arg9.view.junk H)
/-- The three outputs and the two running sums after step `d`. -/
def dq0 : FVec F (sh2 4096 128) .f32 := kernelRun0_A.sl.r_11 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def pre0 : FVec F (sh2 4096 1) .f32 := kernelRun0_A.sl.r_12 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def gpre0 : FVec F (sh2 4096 1) .f32 := kernelRun0_A.sl.r_13 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def h6_0 : List (View.Piece (Elt F) S4096x128 .f32) := kernelRun0_A.sl.H6_1_1 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def h7_0 : List (View.Piece (Elt F) S4096x128 .f32) := kernelRun0_A.sl.H7_1_1 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def dq1 : FVec F (sh2 4096 128) .f32 := kernelRun0_A.sl.r_27 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def pre1 : FVec F (sh2 4096 1) .f32 := kernelRun0_A.sl.r_28 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def gpre1 : FVec F (sh2 4096 1) .f32 := kernelRun0_A.sl.r_29 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def h6_1 : List (View.Piece (Elt F) S4096x128 .f32) := kernelRun0_A.sl.H6_2 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def h7_1 : List (View.Piece (Elt F) S4096x128 .f32) := kernelRun0_A.sl.H7_2 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def dq2 : FVec F (sh2 4096 128) .f32 := kernelRun0_A.sl.r_41 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def pre2 : FVec F (sh2 4096 1) .f32 := kernelRun0_A.sl.r_42 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def gpre2 : FVec F (sh2 4096 1) .f32 := kernelRun0_A.sl.r_43 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def h6_2 : List (View.Piece (Elt F) S4096x128 .f32) := kernelRun0_A.sl.H6_3 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def h7_2 : List (View.Piece (Elt F) S4096x128 .f32) := kernelRun0_A.sl.H7_3 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def dq3 : FVec F (sh2 4096 128) .f32 := kernelRun0_A.sl.r_54 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def pre3 : FVec F (sh2 4096 1) .f32 := kernelRun0_A.sl.r_55 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def gpre3 : FVec F (sh2 4096 1) .f32 := kernelRun0_A.sl.r_56 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def h6_3 : List (View.Piece (Elt F) S4096x128 .f32) := kernelRun0_A.sl.H6_4 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def h7_3 : List (View.Piece (Elt F) S4096x128 .f32) := kernelRun0_A.sl.H7_4 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def dq4 : FVec F (sh2 4096 128) .f32 := kernelRun0_A.sl.r_66 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def pre4 : FVec F (sh2 4096 1) .f32 := kernelRun0_A.sl.r_67 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def gpre4 : FVec F (sh2 4096 1) .f32 := kernelRun0_A.sl.r_68 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def h6_4 : List (View.Piece (Elt F) S4096x128 .f32) := kernelRun0_A.sl.H6_5 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def h7_4 : List (View.Piece (Elt F) S4096x128 .f32) := kernelRun0_A.sl.H7_5 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def dq5 : FVec F (sh2 4096 128) .f32 := kernelRun0_A.sl.r_77 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def pre5 : FVec F (sh2 4096 1) .f32 := kernelRun0_A.sl.r_78 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def gpre5 : FVec F (sh2 4096 1) .f32 := kernelRun0_A.sl.r_79 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def h6_5 : List (View.Piece (Elt F) S4096x128 .f32) := kernelRun0_A.sl.H6_6 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def h7_5 : List (View.Piece (Elt F) S4096x128 .f32) := kernelRun0_A.sl.H7_6 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def dq6 : FVec F (sh2 4096 128) .f32 := kernelRun0_A.sl.r_87 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def pre6 : FVec F (sh2 4096 1) .f32 := kernelRun0_A.sl.r_88 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def gpre6 : FVec F (sh2 4096 1) .f32 := kernelRun0_A.sl.r_89 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def h6_6 : List (View.Piece (Elt F) S4096x128 .f32) := kernelRun0_A.sl.H6_7 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def h7_6 : List (View.Piece (Elt F) S4096x128 .f32) := kernelRun0_A.sl.H7_7 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def dq7 : FVec F (sh2 4096 128) .f32 := kernelRun0_A.sl.r_96 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def pre7 : FVec F (sh2 4096 1) .f32 := kernelRun0_A.sl.r_97 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def gpre7 : FVec F (sh2 4096 1) .f32 := kernelRun0_A.sl.r_98 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def h6_7 : List (View.Piece (Elt F) S4096x128 .f32) := kernelRun0_A.sl.H6_8 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def h7_7 : List (View.Piece (Elt F) S4096x128 .f32) := kernelRun0_A.sl.H7_8 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def dq8 : FVec F (sh2 4096 128) .f32 := kernelRun0_A.sl.r_106 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def pre8 : FVec F (sh2 4096 1) .f32 := kernelRun0_A.sl.r_107 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def gpre8 : FVec F (sh2 4096 1) .f32 := kernelRun0_A.sl.r_108 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def h6_8 : List (View.Piece (Elt F) S4096x128 .f32) := kernelRun0_A.sl.H6_9 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def h7_8 : List (View.Piece (Elt F) S4096x128 .f32) := kernelRun0_A.sl.H7_9 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def dq9 : FVec F (sh2 4096 128) .f32 := kernelRun0_A.sl.r_116 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def pre9 : FVec F (sh2 4096 1) .f32 := kernelRun0_A.sl.r_117 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def gpre9 : FVec F (sh2 4096 1) .f32 := kernelRun0_A.sl.r_118 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def h6_9 : List (View.Piece (Elt F) S4096x128 .f32) := kernelRun0_A.sl.H6_10 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def h7_9 : List (View.Piece (Elt F) S4096x128 .f32) := kernelRun0_A.sl.H7_10 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def dq10 : FVec F (sh2 4096 128) .f32 := kernelRun0_A.sl.r_128 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def pre10 : FVec F (sh2 4096 1) .f32 := kernelRun0_A.sl.r_129 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def gpre10 : FVec F (sh2 4096 1) .f32 := kernelRun0_A.sl.r_130 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def h6_10 : List (View.Piece (Elt F) S4096x128 .f32) := kernelRun0_A.sl.H6_11 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def h7_10 : List (View.Piece (Elt F) S4096x128 .f32) := kernelRun0_A.sl.H7_11 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def dq11 : FVec F (sh2 4096 128) .f32 := kernelRun0_A.sl.r_139 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def pre11 : FVec F (sh2 4096 1) .f32 := kernelRun0_A.sl.r_140 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def gpre11 : FVec F (sh2 4096 1) .f32 := kernelRun0_A.sl.r_141 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def h6_11 : List (View.Piece (Elt F) S4096x128 .f32) := kernelRun0_A.sl.H6_12 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def h7_11 : List (View.Piece (Elt F) S4096x128 .f32) := kernelRun0_A.sl.H7_12 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def dq12 : FVec F (sh2 4096 128) .f32 := kernelRun0_A.sl.r_149 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def pre12 : FVec F (sh2 4096 1) .f32 := kernelRun0_A.sl.r_150 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def gpre12 : FVec F (sh2 4096 1) .f32 := kernelRun0_A.sl.r_151 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def h6_12 : List (View.Piece (Elt F) S4096x128 .f32) := kernelRun0_A.sl.H6_13 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def h7_12 : List (View.Piece (Elt F) S4096x128 .f32) := kernelRun0_A.sl.H7_13 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def dq13 : FVec F (sh2 4096 128) .f32 := kernelRun0_A.sl.r_159 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def pre13 : FVec F (sh2 4096 1) .f32 := kernelRun0_A.sl.r_160 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def gpre13 : FVec F (sh2 4096 1) .f32 := kernelRun0_A.sl.r_162 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def h6_13 : List (View.Piece (Elt F) S4096x128 .f32) := kernelRun0_A.sl.H6_14 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def h7_13 : List (View.Piece (Elt F) S4096x128 .f32) := kernelRun0_A.sl.H7_14 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def dq14 : FVec F (sh2 4096 128) .f32 := kernelRun0_A.sl.r_171 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def pre14 : FVec F (sh2 4096 1) .f32 := kernelRun0_A.sl.r_172 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def gpre14 : FVec F (sh2 4096 1) .f32 := kernelRun0_A.sl.r_174 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def h6_14 : List (View.Piece (Elt F) S4096x128 .f32) := kernelRun0_A.sl.H6_15 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4
def h7_14 : List (View.Piece (Elt F) S4096x128 .f32) := kernelRun0_A.sl.H7_15 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4

theorem trips1 : Scf.trips (k0_t1_loop p.i).lb (k0_t1_loop p.i).ub (k0_t1_loop p.i).st = 0 := Nat.le_zero.1 (k0_t1_abs p.i).2.1
theorem trips2 : Scf.trips (k0_t2_loop p.i).lb (k0_t2_loop p.i).ub (k0_t2_loop p.i).st = 0 := Nat.le_zero.1 (k0_t2_abs p.i).2.1

/-- The outputs' first pieces, zeros. -/
def z6 : List (View.Piece (Elt F) S4096x128 .f32) := kernelRun0_A.sl.H6_1 (F := F)
def z7 : List (View.Piece (Elt F) S4096x128 .f32) := kernelRun0_A.sl.H7_1 (F := F)

theorem r_3_eq : kernelRun0_A.sl.r_3 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4 = k0_pay24 := by
  unfold kernelRun0_A.sl.r_3; rw [trips2, trips1]; rfl
theorem r_4_eq : kernelRun0_A.sl.r_4 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4 = k0_pay25 := by
  unfold kernelRun0_A.sl.r_4; rw [trips2, trips1]; rfl
theorem r_5_eq : kernelRun0_A.sl.r_5 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4 = k0_pay26 := by
  unfold kernelRun0_A.sl.r_5; rw [trips2, trips1]; rfl
theorem v96_eq : kernelRun0_A.sl.v96 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4 = p.old6 0 z6 := by
  unfold kernelRun0_A.sl.v96; rw [trips2, trips1]; rfl
theorem v72_eq : kernelRun0_A.sl.v72 (F := F) p.c p.i p.arg2 p.harg2 p.arg3 p.harg3 p.arg4 p.harg4 p.arg5 p.harg5 p.arg6 p.harg6 p.arg7 p.harg7 p.arg8 p.harg8 p.arg9 p.harg9 p.x0 p.x1 p.x2 p.x3 p.x4 = p.old7 0 z7 := by
  unfold kernelRun0_A.sl.v72; rw [trips2, trips1]; rfl

theorem dq0_eq : p.dq0 = cDq side0 up bf p.q p.o p.tot (p.K 0) (p.V 0) k0_pay24 k0_pay25 k0_pay26 := by
  rw [← p.r_3_eq, ← p.r_4_eq, ← p.r_5_eq]; rfl
theorem pre0_eq : p.pre0 = cPre side0 up p.q (p.K 0) k0_pay25 := by rw [← p.r_4_eq]; rfl
theorem gpre0_eq : p.gpre0 = cGpre side0 up bf p.q p.o p.tot (p.K 0) (p.V 0) k0_pay25 k0_pay26 := by rw [← p.r_4_eq, ← p.r_5_eq]; rfl
theorem h6_0_eq : p.h6_0 = ⟨rect p.i 0, cDk side0 up bf p.q p.o p.tot (p.K 0) (p.V 0) k0_pay25 k0_pay26 (p.old6 0 z6)⟩ :: z6 := by
  rw [← p.r_4_eq, ← p.r_5_eq, ← p.v96_eq]; unfold h6_0 kernelRun0_A.sl.H6_1_1; rw [trips2, trips1]; rfl
theorem h7_0_eq : p.h7_0 = ⟨rect p.i 0, cDv side0 up p.q p.o p.tot (p.K 0) k0_pay25 (p.old7 0 z7)⟩ :: z7 := by
  rw [← p.r_4_eq, ← p.v72_eq]; unfold h7_0 kernelRun0_A.sl.H7_1_1; rw [trips2, trips1]; rfl

theorem dq1_eq : p.dq1 = put128 rows1 p.dq0 (cDq side1 up bf (cut128 rows1 p.q) (cut128 rows1 p.o) (cut1 rows1 p.tot) (p.K 1) (p.V 1) (cut128 rows1 p.dq0) (cut1 rows1 p.pre0) (cut1 rows1 p.gpre0)) := rfl
theorem pre1_eq : p.pre1 = put1 rows1 p.pre0 (cPre side1 up (cut128 rows1 p.q) (p.K 1) (cut1 rows1 p.pre0)) := rfl
theorem gpre1_eq : p.gpre1 = put1 rows1 p.gpre0 (cGpre side1 up bf (cut128 rows1 p.q) (cut128 rows1 p.o) (cut1 rows1 p.tot) (p.K 1) (p.V 1) (cut1 rows1 p.pre0) (cut1 rows1 p.gpre0)) := rfl
theorem h6_1_eq : p.h6_1 = ⟨rect p.i 1, cDk side1 up bf (cut128 rows1 p.q) (cut128 rows1 p.o) (cut1 rows1 p.tot) (p.K 1) (p.V 1) (cut1 rows1 p.pre0) (cut1 rows1 p.gpre0) (p.old6 1 p.h6_0)⟩ :: p.h6_0 := rfl
theorem h7_1_eq : p.h7_1 = ⟨rect p.i 1, cDv side1 up (cut128 rows1 p.q) (cut128 rows1 p.o) (cut1 rows1 p.tot) (p.K 1) (cut1 rows1 p.pre0) (p.old7 1 p.h7_0)⟩ :: p.h7_0 := rfl

theorem dq2_eq : p.dq2 = put128 rows2 p.dq1 (cDq side2 up bf (cut128 rows2 p.q) (cut128 rows2 p.o) (cut1 rows2 p.tot) (p.K 2) (p.V 2) (cut128 rows2 p.dq1) (cut1 rows2 p.pre1) (cut1 rows2 p.gpre1)) := rfl
theorem pre2_eq : p.pre2 = put1 rows2 p.pre1 (cPre side2 up (cut128 rows2 p.q) (p.K 2) (cut1 rows2 p.pre1)) := rfl
theorem gpre2_eq : p.gpre2 = put1 rows2 p.gpre1 (cGpre side2 up bf (cut128 rows2 p.q) (cut128 rows2 p.o) (cut1 rows2 p.tot) (p.K 2) (p.V 2) (cut1 rows2 p.pre1) (cut1 rows2 p.gpre1)) := rfl
theorem h6_2_eq : p.h6_2 = ⟨rect p.i 2, cDk side2 up bf (cut128 rows2 p.q) (cut128 rows2 p.o) (cut1 rows2 p.tot) (p.K 2) (p.V 2) (cut1 rows2 p.pre1) (cut1 rows2 p.gpre1) (p.old6 2 p.h6_1)⟩ :: p.h6_1 := rfl
theorem h7_2_eq : p.h7_2 = ⟨rect p.i 2, cDv side2 up (cut128 rows2 p.q) (cut128 rows2 p.o) (cut1 rows2 p.tot) (p.K 2) (cut1 rows2 p.pre1) (p.old7 2 p.h7_1)⟩ :: p.h7_1 := rfl

theorem dq3_eq : p.dq3 = put128 rows3 p.dq2 (cDq side3 up bf (cut128 rows3 p.q) (cut128 rows3 p.o) (cut1 rows3 p.tot) (p.K 3) (p.V 3) (cut128 rows3 p.dq2) (cut1 rows3 p.pre2) (cut1 rows3 p.gpre2)) := rfl
theorem pre3_eq : p.pre3 = put1 rows3 p.pre2 (cPre side3 up (cut128 rows3 p.q) (p.K 3) (cut1 rows3 p.pre2)) := rfl
theorem gpre3_eq : p.gpre3 = put1 rows3 p.gpre2 (cGpre side3 up bf (cut128 rows3 p.q) (cut128 rows3 p.o) (cut1 rows3 p.tot) (p.K 3) (p.V 3) (cut1 rows3 p.pre2) (cut1 rows3 p.gpre2)) := rfl
theorem h6_3_eq : p.h6_3 = ⟨rect p.i 3, cDk side3 up bf (cut128 rows3 p.q) (cut128 rows3 p.o) (cut1 rows3 p.tot) (p.K 3) (p.V 3) (cut1 rows3 p.pre2) (cut1 rows3 p.gpre2) (p.old6 3 p.h6_2)⟩ :: p.h6_2 := rfl
theorem h7_3_eq : p.h7_3 = ⟨rect p.i 3, cDv side3 up (cut128 rows3 p.q) (cut128 rows3 p.o) (cut1 rows3 p.tot) (p.K 3) (cut1 rows3 p.pre2) (p.old7 3 p.h7_2)⟩ :: p.h7_2 := rfl

theorem dq4_eq : p.dq4 = put128 rows4 p.dq3 (cDq side4 up bf (cut128 rows4 p.q) (cut128 rows4 p.o) (cut1 rows4 p.tot) (p.K 4) (p.V 4) (cut128 rows4 p.dq3) (cut1 rows4 p.pre3) (cut1 rows4 p.gpre3)) := rfl
theorem pre4_eq : p.pre4 = put1 rows4 p.pre3 (cPre side4 up (cut128 rows4 p.q) (p.K 4) (cut1 rows4 p.pre3)) := rfl
theorem gpre4_eq : p.gpre4 = put1 rows4 p.gpre3 (cGpre side4 up bf (cut128 rows4 p.q) (cut128 rows4 p.o) (cut1 rows4 p.tot) (p.K 4) (p.V 4) (cut1 rows4 p.pre3) (cut1 rows4 p.gpre3)) := rfl
theorem h6_4_eq : p.h6_4 = ⟨rect p.i 4, cDk side4 up bf (cut128 rows4 p.q) (cut128 rows4 p.o) (cut1 rows4 p.tot) (p.K 4) (p.V 4) (cut1 rows4 p.pre3) (cut1 rows4 p.gpre3) (p.old6 4 p.h6_3)⟩ :: p.h6_3 := rfl
theorem h7_4_eq : p.h7_4 = ⟨rect p.i 4, cDv side4 up (cut128 rows4 p.q) (cut128 rows4 p.o) (cut1 rows4 p.tot) (p.K 4) (cut1 rows4 p.pre3) (p.old7 4 p.h7_3)⟩ :: p.h7_3 := rfl

theorem dq5_eq : p.dq5 = put128 rows5 p.dq4 (cDq side5 up bf (cut128 rows5 p.q) (cut128 rows5 p.o) (cut1 rows5 p.tot) (p.K 5) (p.V 5) (cut128 rows5 p.dq4) (cut1 rows5 p.pre4) (cut1 rows5 p.gpre4)) := rfl
theorem pre5_eq : p.pre5 = put1 rows5 p.pre4 (cPre side5 up (cut128 rows5 p.q) (p.K 5) (cut1 rows5 p.pre4)) := rfl
theorem gpre5_eq : p.gpre5 = put1 rows5 p.gpre4 (cGpre side5 up bf (cut128 rows5 p.q) (cut128 rows5 p.o) (cut1 rows5 p.tot) (p.K 5) (p.V 5) (cut1 rows5 p.pre4) (cut1 rows5 p.gpre4)) := rfl
theorem h6_5_eq : p.h6_5 = ⟨rect p.i 5, cDk side5 up bf (cut128 rows5 p.q) (cut128 rows5 p.o) (cut1 rows5 p.tot) (p.K 5) (p.V 5) (cut1 rows5 p.pre4) (cut1 rows5 p.gpre4) (p.old6 5 p.h6_4)⟩ :: p.h6_4 := rfl
theorem h7_5_eq : p.h7_5 = ⟨rect p.i 5, cDv side5 up (cut128 rows5 p.q) (cut128 rows5 p.o) (cut1 rows5 p.tot) (p.K 5) (cut1 rows5 p.pre4) (p.old7 5 p.h7_4)⟩ :: p.h7_4 := rfl

theorem dq6_eq : p.dq6 = put128 rows6 p.dq5 (cDq side6 up bf (cut128 rows6 p.q) (cut128 rows6 p.o) (cut1 rows6 p.tot) (p.K 6) (p.V 6) (cut128 rows6 p.dq5) (cut1 rows6 p.pre5) (cut1 rows6 p.gpre5)) := rfl
theorem pre6_eq : p.pre6 = put1 rows6 p.pre5 (cPre side6 up (cut128 rows6 p.q) (p.K 6) (cut1 rows6 p.pre5)) := rfl
theorem gpre6_eq : p.gpre6 = put1 rows6 p.gpre5 (cGpre side6 up bf (cut128 rows6 p.q) (cut128 rows6 p.o) (cut1 rows6 p.tot) (p.K 6) (p.V 6) (cut1 rows6 p.pre5) (cut1 rows6 p.gpre5)) := rfl
theorem h6_6_eq : p.h6_6 = ⟨rect p.i 6, cDk side6 up bf (cut128 rows6 p.q) (cut128 rows6 p.o) (cut1 rows6 p.tot) (p.K 6) (p.V 6) (cut1 rows6 p.pre5) (cut1 rows6 p.gpre5) (p.old6 6 p.h6_5)⟩ :: p.h6_5 := rfl
theorem h7_6_eq : p.h7_6 = ⟨rect p.i 6, cDv side6 up (cut128 rows6 p.q) (cut128 rows6 p.o) (cut1 rows6 p.tot) (p.K 6) (cut1 rows6 p.pre5) (p.old7 6 p.h7_5)⟩ :: p.h7_5 := rfl

theorem dq7_eq : p.dq7 = put128 rows7 p.dq6 (cDq side7 up bf (cut128 rows7 p.q) (cut128 rows7 p.o) (cut1 rows7 p.tot) (p.K 7) (p.V 7) (cut128 rows7 p.dq6) (cut1 rows7 p.pre6) (cut1 rows7 p.gpre6)) := rfl
theorem pre7_eq : p.pre7 = put1 rows7 p.pre6 (cPre side7 up (cut128 rows7 p.q) (p.K 7) (cut1 rows7 p.pre6)) := rfl
theorem gpre7_eq : p.gpre7 = put1 rows7 p.gpre6 (cGpre side7 up bf (cut128 rows7 p.q) (cut128 rows7 p.o) (cut1 rows7 p.tot) (p.K 7) (p.V 7) (cut1 rows7 p.pre6) (cut1 rows7 p.gpre6)) := rfl
theorem h6_7_eq : p.h6_7 = ⟨rect p.i 7, cDk side7 up bf (cut128 rows7 p.q) (cut128 rows7 p.o) (cut1 rows7 p.tot) (p.K 7) (p.V 7) (cut1 rows7 p.pre6) (cut1 rows7 p.gpre6) (p.old6 7 p.h6_6)⟩ :: p.h6_6 := rfl
theorem h7_7_eq : p.h7_7 = ⟨rect p.i 7, cDv side7 up (cut128 rows7 p.q) (cut128 rows7 p.o) (cut1 rows7 p.tot) (p.K 7) (cut1 rows7 p.pre6) (p.old7 7 p.h7_6)⟩ :: p.h7_6 := rfl

theorem dq8_eq : p.dq8 = put128 rows8 p.dq7 (cDq side8 up bf (cut128 rows8 p.q) (cut128 rows8 p.o) (cut1 rows8 p.tot) (p.K 8) (p.V 8) (cut128 rows8 p.dq7) (cut1 rows8 p.pre7) (cut1 rows8 p.gpre7)) := rfl
theorem pre8_eq : p.pre8 = put1 rows8 p.pre7 (cPre side8 up (cut128 rows8 p.q) (p.K 8) (cut1 rows8 p.pre7)) := rfl
theorem gpre8_eq : p.gpre8 = put1 rows8 p.gpre7 (cGpre side8 up bf (cut128 rows8 p.q) (cut128 rows8 p.o) (cut1 rows8 p.tot) (p.K 8) (p.V 8) (cut1 rows8 p.pre7) (cut1 rows8 p.gpre7)) := rfl
theorem h6_8_eq : p.h6_8 = ⟨rect p.i 8, cDk side8 up bf (cut128 rows8 p.q) (cut128 rows8 p.o) (cut1 rows8 p.tot) (p.K 8) (p.V 8) (cut1 rows8 p.pre7) (cut1 rows8 p.gpre7) (p.old6 8 p.h6_7)⟩ :: p.h6_7 := rfl
theorem h7_8_eq : p.h7_8 = ⟨rect p.i 8, cDv side8 up (cut128 rows8 p.q) (cut128 rows8 p.o) (cut1 rows8 p.tot) (p.K 8) (cut1 rows8 p.pre7) (p.old7 8 p.h7_7)⟩ :: p.h7_7 := rfl

theorem dq9_eq : p.dq9 = put128 rows9 p.dq8 (cDq side9 up bf (cut128 rows9 p.q) (cut128 rows9 p.o) (cut1 rows9 p.tot) (p.K 9) (p.V 9) (cut128 rows9 p.dq8) (cut1 rows9 p.pre8) (cut1 rows9 p.gpre8)) := rfl
theorem pre9_eq : p.pre9 = put1 rows9 p.pre8 (cPre side9 up (cut128 rows9 p.q) (p.K 9) (cut1 rows9 p.pre8)) := rfl
theorem gpre9_eq : p.gpre9 = put1 rows9 p.gpre8 (cGpre side9 up bf (cut128 rows9 p.q) (cut128 rows9 p.o) (cut1 rows9 p.tot) (p.K 9) (p.V 9) (cut1 rows9 p.pre8) (cut1 rows9 p.gpre8)) := rfl
theorem h6_9_eq : p.h6_9 = ⟨rect p.i 9, cDk side9 up bf (cut128 rows9 p.q) (cut128 rows9 p.o) (cut1 rows9 p.tot) (p.K 9) (p.V 9) (cut1 rows9 p.pre8) (cut1 rows9 p.gpre8) (p.old6 9 p.h6_8)⟩ :: p.h6_8 := rfl
theorem h7_9_eq : p.h7_9 = ⟨rect p.i 9, cDv side9 up (cut128 rows9 p.q) (cut128 rows9 p.o) (cut1 rows9 p.tot) (p.K 9) (cut1 rows9 p.pre8) (p.old7 9 p.h7_8)⟩ :: p.h7_8 := rfl

theorem dq10_eq : p.dq10 = put128 rows10 p.dq9 (cDq side10 up bf (cut128 rows10 p.q) (cut128 rows10 p.o) (cut1 rows10 p.tot) (p.K 10) (p.V 10) (cut128 rows10 p.dq9) (cut1 rows10 p.pre9) (cut1 rows10 p.gpre9)) := rfl
theorem pre10_eq : p.pre10 = put1 rows10 p.pre9 (cPre side10 up (cut128 rows10 p.q) (p.K 10) (cut1 rows10 p.pre9)) := rfl
theorem gpre10_eq : p.gpre10 = put1 rows10 p.gpre9 (cGpre side10 up bf (cut128 rows10 p.q) (cut128 rows10 p.o) (cut1 rows10 p.tot) (p.K 10) (p.V 10) (cut1 rows10 p.pre9) (cut1 rows10 p.gpre9)) := rfl
theorem h6_10_eq : p.h6_10 = ⟨rect p.i 10, cDk side10 up bf (cut128 rows10 p.q) (cut128 rows10 p.o) (cut1 rows10 p.tot) (p.K 10) (p.V 10) (cut1 rows10 p.pre9) (cut1 rows10 p.gpre9) (p.old6 10 p.h6_9)⟩ :: p.h6_9 := rfl
theorem h7_10_eq : p.h7_10 = ⟨rect p.i 10, cDv side10 up (cut128 rows10 p.q) (cut128 rows10 p.o) (cut1 rows10 p.tot) (p.K 10) (cut1 rows10 p.pre9) (p.old7 10 p.h7_9)⟩ :: p.h7_9 := rfl

theorem dq11_eq : p.dq11 = put128 rows11 p.dq10 (cDq side11 up bf (cut128 rows11 p.q) (cut128 rows11 p.o) (cut1 rows11 p.tot) (p.K 11) (p.V 11) (cut128 rows11 p.dq10) (cut1 rows11 p.pre10) (cut1 rows11 p.gpre10)) := rfl
theorem pre11_eq : p.pre11 = put1 rows11 p.pre10 (cPre side11 up (cut128 rows11 p.q) (p.K 11) (cut1 rows11 p.pre10)) := rfl
theorem gpre11_eq : p.gpre11 = put1 rows11 p.gpre10 (cGpre side11 up bf (cut128 rows11 p.q) (cut128 rows11 p.o) (cut1 rows11 p.tot) (p.K 11) (p.V 11) (cut1 rows11 p.pre10) (cut1 rows11 p.gpre10)) := rfl
theorem h6_11_eq : p.h6_11 = ⟨rect p.i 11, cDk side11 up bf (cut128 rows11 p.q) (cut128 rows11 p.o) (cut1 rows11 p.tot) (p.K 11) (p.V 11) (cut1 rows11 p.pre10) (cut1 rows11 p.gpre10) (p.old6 11 p.h6_10)⟩ :: p.h6_10 := rfl
theorem h7_11_eq : p.h7_11 = ⟨rect p.i 11, cDv side11 up (cut128 rows11 p.q) (cut128 rows11 p.o) (cut1 rows11 p.tot) (p.K 11) (cut1 rows11 p.pre10) (p.old7 11 p.h7_10)⟩ :: p.h7_10 := rfl

theorem dq12_eq : p.dq12 = put128 rows12 p.dq11 (cDq side12 up bf (cut128 rows12 p.q) (cut128 rows12 p.o) (cut1 rows12 p.tot) (p.K 12) (p.V 12) (cut128 rows12 p.dq11) (cut1 rows12 p.pre11) (cut1 rows12 p.gpre11)) := rfl
theorem pre12_eq : p.pre12 = put1 rows12 p.pre11 (cPre side12 up (cut128 rows12 p.q) (p.K 12) (cut1 rows12 p.pre11)) := rfl
theorem gpre12_eq : p.gpre12 = put1 rows12 p.gpre11 (cGpre side12 up bf (cut128 rows12 p.q) (cut128 rows12 p.o) (cut1 rows12 p.tot) (p.K 12) (p.V 12) (cut1 rows12 p.pre11) (cut1 rows12 p.gpre11)) := rfl
theorem h6_12_eq : p.h6_12 = ⟨rect p.i 12, cDk side12 up bf (cut128 rows12 p.q) (cut128 rows12 p.o) (cut1 rows12 p.tot) (p.K 12) (p.V 12) (cut1 rows12 p.pre11) (cut1 rows12 p.gpre11) (p.old6 12 p.h6_11)⟩ :: p.h6_11 := rfl
theorem h7_12_eq : p.h7_12 = ⟨rect p.i 12, cDv side12 up (cut128 rows12 p.q) (cut128 rows12 p.o) (cut1 rows12 p.tot) (p.K 12) (cut1 rows12 p.pre11) (p.old7 12 p.h7_11)⟩ :: p.h7_11 := rfl

theorem dq13_eq : p.dq13 = put128 rows13 p.dq12 (cDq side13 up bf (cut128 rows13 p.q) (cut128 rows13 p.o) (cut1 rows13 p.tot) (p.K 13) (p.V 13) (cut128 rows13 p.dq12) (cut1 rows13 p.pre12) (cut1 rows13 p.gpre12)) := rfl
theorem pre13_eq : p.pre13 = put1 rows13 p.pre12 (cPre side13 up (cut128 rows13 p.q) (p.K 13) (cut1 rows13 p.pre12)) := rfl
theorem gpre13_eq : p.gpre13 = put1 rows13 p.gpre12 (cGpre side13 up bf (cut128 rows13 p.q) (cut128 rows13 p.o) (cut1 rows13 p.tot) (p.K 13) (p.V 13) (cut1 rows13 p.pre12) (cut1 rows13 p.gpre12)) := rfl
theorem h6_13_eq : p.h6_13 = ⟨rect p.i 13, cDk side13 up bf (cut128 rows13 p.q) (cut128 rows13 p.o) (cut1 rows13 p.tot) (p.K 13) (p.V 13) (cut1 rows13 p.pre12) (cut1 rows13 p.gpre12) (p.old6 13 p.h6_12)⟩ :: p.h6_12 := rfl
theorem h7_13_eq : p.h7_13 = ⟨rect p.i 13, cDv side13 up (cut128 rows13 p.q) (cut128 rows13 p.o) (cut1 rows13 p.tot) (p.K 13) (cut1 rows13 p.pre12) (p.old7 13 p.h7_12)⟩ :: p.h7_12 := rfl

theorem dq14_eq : p.dq14 = put128 rows14 p.dq13 (cDq side14 up bf (cut128 rows14 p.q) (cut128 rows14 p.o) (cut1 rows14 p.tot) (p.K 14) (p.V 14) (cut128 rows14 p.dq13) (cut1 rows14 p.pre13) (cut1 rows14 p.gpre13)) := rfl
theorem pre14_eq : p.pre14 = put1 rows14 p.pre13 (cPre side14 up (cut128 rows14 p.q) (p.K 14) (cut1 rows14 p.pre13)) := rfl
theorem gpre14_eq : p.gpre14 = put1 rows14 p.gpre13 (cGpre side14 up bf (cut128 rows14 p.q) (cut128 rows14 p.o) (cut1 rows14 p.tot) (p.K 14) (p.V 14) (cut1 rows14 p.pre13) (cut1 rows14 p.gpre13)) := rfl
theorem h6_14_eq : p.h6_14 = ⟨rect p.i 14, cDk side14 up bf (cut128 rows14 p.q) (cut128 rows14 p.o) (cut1 rows14 p.tot) (p.K 14) (p.V 14) (cut1 rows14 p.pre13) (cut1 rows14 p.gpre13) (p.old6 14 p.h6_13)⟩ :: p.h6_13 := rfl
theorem h7_14_eq : p.h7_14 = ⟨rect p.i 14, cDv side14 up (cut128 rows14 p.q) (cut128 rows14 p.o) (cut1 rows14 p.tot) (p.K 14) (cut1 rows14 p.pre13) (p.old7 14 p.h7_13)⟩ :: p.h7_13 := rfl

def l5 : List (View.Piece (Elt F) S4096x128 .f32) := (kernelRun0_A (F := F) p.c p.i p.arg2 p.harg2 p.arg3 p.harg3 p.arg4 p.harg4 p.arg5 p.harg5 p.arg6 p.harg6 p.arg7 p.harg7 p.arg8 p.harg8 p.arg9 p.harg9 p.hc0 p.x0 p.x1 p.x2 p.x3 p.x4).1
def l6 : List (View.Piece (Elt F) S4096x128 .f32) := (kernelRun0_A (F := F) p.c p.i p.arg2 p.harg2 p.arg3 p.harg3 p.arg4 p.harg4 p.arg5 p.harg5 p.arg6 p.harg6 p.arg7 p.harg7 p.arg8 p.harg8 p.arg9 p.harg9 p.hc0 p.x0 p.x1 p.x2 p.x3 p.x4).2.1
def l7 : List (View.Piece (Elt F) S4096x128 .f32) := (kernelRun0_A (F := F) p.c p.i p.arg2 p.harg2 p.arg3 p.harg3 p.arg4 p.harg4 p.arg5 p.harg5 p.arg6 p.harg6 p.arg7 p.harg7 p.arg8 p.harg8 p.arg9 p.harg9 p.hc0 p.x0 p.x1 p.x2 p.x3 p.x4).2.2.1
theorem l5_eq : p.l5 = [⟨Rect.unit (s := S4096x128) ![0, 0] S4096x128.size inb_S4096x128_S4096x128_0_0,
    put128 rows15 p.dq14 (cDq side15 up bf (cut128 rows15 p.q) (cut128 rows15 p.o) (cut1 rows15 p.tot) (p.K 15) (p.V 15) (cut128 rows15 p.dq14) (cut1 rows15 p.pre14) (cut1 rows15 p.gpre14))⟩] := rfl
theorem l6_eq : p.l6 = ⟨rect p.i 15, cDk side15 up bf (cut128 rows15 p.q) (cut128 rows15 p.o) (cut1 rows15 p.tot) (p.K 15) (p.V 15) (cut1 rows15 p.pre14) (cut1 rows15 p.gpre14) (p.old6 15 p.h6_14)⟩ :: p.h6_14 := rfl
theorem l7_eq : p.l7 = ⟨rect p.i 15, cDv side15 up (cut128 rows15 p.q) (cut128 rows15 p.o) (cut1 rows15 p.tot) (p.K 15) (cut1 rows15 p.pre14) (p.old7 15 p.h7_14)⟩ :: p.h7_14 := rfl

end Pt

end Cert.Proof

end
-- ==== Proof.KVal.lean ====
/- What the kernel's body leaves in its three outputs when its five inputs hold real numbers. -/
module

public import proofs.«01_k».proof.Proof.Core
public import proofs.«01_k».proof.Proof.Chain
public import Idealize.ShloMosaic.Lib.WholeRead
public import Idealize.ShloMosaic.Lib.WritesUnit

@[expose] public section

set_option maxRecDepth 16384

noncomputable section

namespace Cert.Proof

open Idealize.ShloMosaic Idealize.ShloMosaic.TcCoe
open Cert.KernelIdeal Cert.KernelIdeal.Gen
open scoped BigOperators

theorem off3_eq (i : grid0.Coords) (d : Fin 16) : k0_off3 i (BitVec.ofNat 32 d.val) = ![256 * d.val, 0] := by
  have h := k0_off3_eq i d
  have h0 : (i 1).val = 0 := by have := (i 1).isLt; change (i 1).val < 1 at this; omega
  rw [h, h0]; simp

theorem cut128_mat {r n : ℕ} (k : Cut r n) (φ : FTy) (f : ℕ → ℕ → ℝ) :
    cut128 (F := Ideal) (φ := φ) k (mat 4096 128 f) = mat n 128 fun i j => f (r + i) j := by
  unfold cut128; rw [slice_mat]; exact mat_congr fun _ _ _ _ => by rw [Nat.zero_add]
theorem cut1_mat {r n : ℕ} (k : Cut r n) (f : ℕ → ℕ → ℝ) :
    cut1 (F := Ideal) k (mat 4096 1 f) = mat n 1 fun i j => f (r + i) j := by
  unfold cut1; rw [slice_mat]; exact mat_congr fun _ _ _ _ => by rw [Nat.zero_add]
theorem put128_mat {r n : ℕ} (k : Cut r n) (f g : ℕ → ℕ → ℝ) (hfg : ∀ t c, t < r → f t c = g t c) :
    put128 (F := Ideal) k (mat 4096 128 f) (mat n 128 fun i j => g (r + i) j) = mat 4096 128 g := by
  unfold put128; rw [slice_mat, concat_rows_mat]
  refine mat_congr fun i j _ _ => ?_
  split_ifs with h
  · rw [Nat.zero_add, Nat.zero_add, hfg _ _ h]
  · rw [Nat.add_sub_cancel' (not_lt.1 h)]
theorem put1_mat {r n : ℕ} (k : Cut r n) (f g : ℕ → ℕ → ℝ) (hfg : ∀ t c, t < r → f t c = g t c) :
    put1 (F := Ideal) k (mat 4096 1 f) (mat n 1 fun i j => g (r + i) j) = mat 4096 1 g := by
  unfold put1; rw [slice_mat, concat_rows_mat]
  refine mat_congr fun i j _ _ => ?_
  split_ifs with h
  · rw [Nat.zero_add, Nat.zero_add, hfg _ _ h]
  · rw [Nat.add_sub_cancel' (not_lt.1 h)]

/-- A sum over the keys before a place of summands that vanish from `t` on does not grow past `t`. -/
theorem sum_stay (f : ℕ → ℝ) {t r : ℕ} (b : ℕ) (ht : t < r) (h0 : ∀ s, t ≤ s → f s = 0) :
    ∑ s ∈ Finset.range r, f s = ∑ s ∈ Finset.range (r + b), f s := by
  rw [sum_cut, Finset.sum_eq_zero (s := Finset.range b) fun x _ => h0 _ (by omega), add_zero]

/-! ## Pieces -/

/-- Written over anything, the pieces `H` leave rows below `e` at `f` and the rest at zero. -/
def Good (H : List (View.Piece (Elt Ideal) S4096x128 .f32)) (e : ℕ) (f : ℕ → ℕ → ℝ) : Prop :=
  ∀ (v : View sig .tc .vmem S4096x128 .f32) (b : v.ty.Contents (Elt Ideal)) (y : S4096x128.Idx),
    v.read (Elt Ideal) (v.writes (Elt Ideal) b H) y = mat 4096 128 (fun t c => if t < e then f t c else 0) y

theorem good_zero (w : S4096x128.Idx → EReal) (hw : w = mat 4096 128 fun _ _ => 0) (f : ℕ → ℕ → ℝ) :
    Good [⟨Rect.unit (s := S4096x128) ![0, 0] S4096x128.size inb_S4096x128_S4096x128_0_0, w⟩] 0 f := by
  intro v b y
  rw [View.read_writes_cons_rows_of_mem v b inb_S4096x128_S4096x128_0_0 w [] y y (o := 0) rfl (by simp) rfl, hw]
  simp [mat]

theorem good_cons {H : List (View.Piece (Elt Ideal) S4096x128 .f32)} {f : ℕ → ℕ → ℝ} (i : grid0.Coords) (d : Fin 16) {e e' : ℕ} (he : e = 256 * d.val)
    (he' : e' = e + 256) (hH : Good H e f) (w : (Pt.rect i d).shape.Idx → EReal) (hw : w = mat 256 128 fun j c => f (e + j) c) :
    Good (⟨Pt.rect i d, w⟩ :: H) e' f := by
  intro v b y
  subst he he'
  rw [View.read_writes_cons_rows (W := 256) v b (k0_off3_inb i d) w H y (off3_eq i d) rfl rfl]
  split_ifs with h
  · rw [hw]
    show ((f (256 * d.val + ((y 0).val - 256 * d.val)) ((y 1).val - 0) : ℝ) : EReal) = (((if (y 0).val < 256 * d.val + 256 then f (y 0).val (y 1).val else 0) : ℝ) : EReal)
    rw [Nat.add_sub_cancel' h.1, Nat.sub_zero, if_pos h.2]
  · rw [hH v b y]
    show (((if (y 0).val < 256 * d.val then f (y 0).val (y 1).val else 0) : ℝ) : EReal) = (((if (y 0).val < 256 * d.val + 256 then f (y 0).val (y 1).val else 0) : ℝ) : EReal)
    by_cases h0 : (y 0).val < 256 * d.val
    · rw [if_pos h0, if_pos (by omega)]
    · rw [if_neg h0, if_neg (by omega)]

namespace Pt
variable (p : Pt Ideal)

theorem idx_rect (d : Fin 16) (x : (rect p.i d).shape.Idx) :
    ((rect p.i d).toLoadRect.idx x 0).val = 256 * d.val + (x 0).val ∧ ((rect p.i d).toLoadRect.idx x 1).val = (x 1).val := by
  have e0 : ((rect p.i d).toLoadRect.idx x 0).val = k0_off3 p.i (BitVec.ofNat 32 d.val) 0 + (x 0).val := by
    show _ + 1 * _ = _ + _; rw [Nat.one_mul]; rfl
  have e1 : ((rect p.i d).toLoadRect.idx x 1).val = k0_off3 p.i (BitVec.ofNat 32 d.val) 1 + (x 1).val := by
    show _ + 1 * _ = _ + _; rw [Nat.one_mul]; rfl
  rw [off3_eq] at e0 e1
  exact ⟨e0, e1.trans (Nat.zero_add _)⟩

theorem old6_zero {H : List (View.Piece (Elt Ideal) S4096x128 .f32)} {f : ℕ → ℕ → ℝ} (d : Fin 16) {e : ℕ} (he : e = 256 * d.val)
    (hH : Good H e f) : p.old6 d H = mat 256 128 fun _ _ => 0 := by
  funext x
  have h := hH p.arg8.view p.arg8.view.junk ((rect p.i d).toLoadRect.idx x)
  refine Eq.trans ?_ (h.trans ?_)
  · rfl
  · show (((if ((rect p.i d).toLoadRect.idx x 0).val < e then _ else 0) : ℝ) : EReal) = _
    rw [(p.idx_rect d x).1, if_neg (by omega)]; rfl
theorem old7_zero {H : List (View.Piece (Elt Ideal) S4096x128 .f32)} {f : ℕ → ℕ → ℝ} (d : Fin 16) {e : ℕ} (he : e = 256 * d.val)
    (hH : Good H e f) : p.old7 d H = mat 256 128 fun _ _ => 0 := by
  funext x
  have h := hH p.arg9.view p.arg9.view.junk ((rect p.i d).toLoadRect.idx x)
  refine Eq.trans ?_ (h.trans ?_)
  · rfl
  · show (((if ((rect p.i d).toLoadRect.idx x 0).val < e then _ else 0) : ℝ) : EReal) = _
    rw [(p.idx_rect d x).1, if_neg (by omega)]; rfl

/-- The five inputs hold real numbers, the last one's first column being `T`. -/
structure Has (Q K V O X : ℕ → ℕ → ℝ) : Prop where
  h0 : p.x0 = mat 4096 128 Q
  h1 : p.x1 = mat 4096 128 K
  h2 : p.x2 = mat 4096 128 V
  h3 : p.x3 = mat 4096 128 O
  h4 : p.x4 = mat 4096 128 X

variable {p} {Q K V O X : ℕ → ℕ → ℝ} (h : p.Has Q K V O X)
include h

theorem q_eq : p.q = mat 4096 128 Q := by
  funext x
  refine (Memref.IsWhole.readAt_unread p.harg2 p.x0 (Rect.unit (s := S4096x128) ![0, 0] S4096x128.size inb_S4096x128_S4096x128_0_0).toLoadRect x).trans ?_
  rw [h.h0]
  show ((Q (0 + 1 * (x 0).val) (0 + 1 * (x 1).val) : ℝ) : EReal) = ((Q (x 0).val (x 1).val : ℝ) : EReal)
  simp
theorem o_eq : p.o = mat 4096 128 O := by
  funext x
  refine (Memref.IsWhole.readAt_unread p.harg5 p.x3 (Rect.unit (s := S4096x128) ![0, 0] S4096x128.size inb_S4096x128_S4096x128_0_0).toLoadRect x).trans ?_
  rw [h.h3]
  show ((O (0 + 1 * (x 0).val) (0 + 1 * (x 1).val) : ℝ) : EReal) = ((O (x 0).val (x 1).val : ℝ) : EReal)
  simp
theorem tot_eq : p.tot = mat 4096 1 fun i _ => X i 0 := by
  have e : p.tot = shapeCast (sh2 4096 1) (View.readAt (Elt Ideal) p.arg6.view (Rect.unit (s := S4096x128) ![0, 0] S4096x1.size inb_S4096x128_S4096x1_0_0).toLoadRect (p.harg6.unread p.x4)) shapeCasts_S4096x1_S4096x1 := rfl
  rw [e, show shapeCast (sh2 4096 1) (View.readAt (Elt Ideal) p.arg6.view (Rect.unit (s := S4096x128) ![0, 0] S4096x1.size inb_S4096x128_S4096x1_0_0).toLoadRect (p.harg6.unread p.x4)) shapeCasts_S4096x1_S4096x1 = (View.readAt (Elt Ideal) p.arg6.view (Rect.unit (s := S4096x128) ![0, 0] S4096x1.size inb_S4096x128_S4096x1_0_0).toLoadRect (p.harg6.unread p.x4)) from shapeCast_self (n := 4096) (c := 1) _ _]
  funext x
  refine (Memref.IsWhole.readAt_unread p.harg6 p.x4 (Rect.unit (s := S4096x128) ![0, 0] S4096x1.size inb_S4096x128_S4096x1_0_0).toLoadRect x).trans ?_
  rw [h.h4]
  show ((X (0 + 1 * (x 0).val) (0 + 1 * (x 1).val) : ℝ) : EReal) = ((X (x 0).val 0 : ℝ) : EReal)
  have : (x 1).val < 1 := (x 1).isLt
  have : (x 1).val = 0 := by omega
  simp [this]
theorem K_eq (d : Fin 16) (r : ℕ) (hr : r = 256 * d.val) : p.K d = mat 256 128 fun s j => K (r + s) j := by
  funext x
  refine (Memref.IsWhole.readAt_unread p.harg3 p.x1 (rect p.i d).toLoadRect x).trans ?_
  rw [h.h1]
  show ((K ((rect p.i d).toLoadRect.idx x 0).val ((rect p.i d).toLoadRect.idx x 1).val : ℝ) : EReal) = _
  rw [(p.idx_rect d x).1, (p.idx_rect d x).2, hr]; rfl
theorem V_eq (d : Fin 16) (r : ℕ) (hr : r = 256 * d.val) : p.V d = mat 256 128 fun s j => V (r + s) j := by
  funext x
  refine (Memref.IsWhole.readAt_unread p.harg4 p.x2 (rect p.i d).toLoadRect x).trans ?_
  rw [h.h2]
  show ((V ((rect p.i d).toLoadRect.idx x 0).val ((rect p.i d).toLoadRect.idx x 1).val : ℝ) : EReal) = _
  rw [(p.idx_rect d x).1, (p.idx_rect d x).2, hr]; rfl
omit h

theorem up_eq : up (F := Ideal) = upM := by
  funext x
  show (((BitVec.setWidth 32 (BitVec.ofBool ((iota .tc S256x256 32 [0] iota_S256x256_d0_w32 x).sle (iota .tc S256x256 32 [1] iota_S256x256_d1_w32 x)))).toInt : ℝ) : EReal) = _
  rw [iota_row, iota_col, sle_ofNat _ _ (lt_trans (x 0).isLt (by norm_num)) (lt_trans (x 1).isLt (by norm_num))]
  unfold upM mat
  by_cases e : (x 0).val ≤ (x 1).val <;> simp [e]
theorem bf_eq : bf (F := Ideal) = bfM := by
  funext x
  show (((BitVec.setWidth 32 (BitVec.ofBool ((iota .tc S256x256 32 [0] iota_S256x256_d0_w32 x).slt (iota .tc S256x256 32 [1] iota_S256x256_d1_w32 x)))).toInt : ℝ) : EReal) = _
  rw [iota_row, iota_col, slt_ofNat _ _ (lt_trans (x 0).isLt (by norm_num)) (lt_trans (x 1).isLt (by norm_num))]
  unfold bfM mat
  by_cases e : (x 0).val < (x 1).val <;> simp [e]

/-! ## The state after a step -/

variable (Q K V O X)
/-- The gradients as the kernel computes them, from totals `X`, and the running sums, over the keys before `r`. -/
abbrev Dq (r t c : ℕ) : ℝ := ∑ s ∈ Finset.range r, rDz Q O K V (fun t => X t 0) t s * K s c
abbrev Dk (s c : ℕ) : ℝ := ∑ t ∈ Finset.range 4096, rDz Q O K V (fun t => X t 0) t s * Q t c
abbrev Dv (s c : ℕ) : ℝ := ∑ t ∈ Finset.range 4096, rW Q K (fun t => X t 0) t s * O t c
abbrev SPre (r t : ℕ) : ℝ := ∑ s ∈ Finset.range r, rLk Q K t s
abbrev SGpre (r t : ℕ) : ℝ := ∑ s ∈ Finset.range r, rGg Q O K V (fun t => X t 0) t s

theorem stay_dq {r t : ℕ} (c : ℕ) (ht : t < r) : Dq Q K V O X r t c = Dq Q K V O X (r + 256) t c :=
  sum_stay _ _ ht fun s hs => by rw [rDz_zero _ _ _ _ _ hs, zero_mul]
theorem stay_pre {r t : ℕ} (ht : t < r) : SPre Q K r t = SPre Q K (r + 256) t :=
  sum_stay _ _ ht fun s hs => rLk_zero _ _ hs
theorem stay_gpre {r t : ℕ} (ht : t < r) : SGpre Q K V O X r t = SGpre Q K V O X (r + 256) t :=
  sum_stay _ _ ht fun s hs => rGg_zero _ _ _ _ _ hs

variable {Q K V O X}
include h

theorem cst24 : k0_pay24 (F := Ideal) = mat 4096 128 fun i c => Dq Q K V O X 0 i c := by
  refine (cst_zero 4096 128).trans (mat_congr fun _ _ _ _ => (Finset.sum_range_zero _).symm)
theorem cst25 : k0_pay25 (F := Ideal) = mat 4096 1 fun i _ => SPre Q K 0 i := by
  refine (cst_zero 4096 1).trans (mat_congr fun _ _ _ _ => (Finset.sum_range_zero _).symm)
theorem cst26 : k0_pay26 (F := Ideal) = mat 4096 1 fun i _ => SGpre Q K V O X 0 i := by
  refine (cst_zero 4096 1).trans (mat_congr fun _ _ _ _ => (Finset.sum_range_zero _).symm)
theorem good6 : Good (z6 (F := Ideal)) 0 (Dk Q K V O X) := good_zero _ (cst_zero 4096 128) _
theorem good7 : Good (z7 (F := Ideal)) 0 (Dv Q K O X) := good_zero _ (cst_zero 4096 128) _

theorem ins0 : p.q = (mat 4096 128 fun i j => Q (0 + i) j) ∧ p.o = (mat 4096 128 fun i j => O (0 + i) j)
    ∧ p.tot = (mat 4096 1 fun i _ => X (0 + i) 0) ∧ k0_pay25 (F := Ideal) = preM Q K 4096 0
    ∧ k0_pay26 (F := Ideal) = gpreM Q O K V (fun t => X t 0) 4096 0 := by
  refine ⟨?_, ?_, ?_, ?_, ?_⟩
  · rw [q_eq h]; exact (mat_congr fun i j _ _ => by rw [Nat.zero_add])
  · rw [o_eq h]; exact (mat_congr fun i j _ _ => by rw [Nat.zero_add])
  · rw [tot_eq h]; exact (mat_congr fun i j _ _ => by rw [Nat.zero_add])
  · rw [cst25 h]; exact mat_congr fun i j _ _ => (Finset.sum_range_zero _).trans (Finset.sum_range_zero _).symm
  · rw [cst26 h]; exact mat_congr fun i j _ _ => (Finset.sum_range_zero _).trans (Finset.sum_range_zero _).symm

theorem dq0_mat : p.dq0 = mat 4096 128 fun t c => Dq Q K V O X 256 t c := by
  have a := ins0 h
  rw [dq0_eq, up_eq, bf_eq, cDq_mat (n := 4096) (r := 0) side0 (by norm_num) (by norm_num) Q O K V (fun t => X t 0) p.q p.o p.tot (p.K 0) (p.V 0) k0_pay25 k0_pay26 a.1 a.2.1 a.2.2.1 (K_eq h 0 0 rfl) (V_eq h 0 0 rfl) a.2.2.2.1 a.2.2.2.2 k0_pay24 (by rw [cst24 h]; exact mat_congr fun i j _ _ => (Finset.sum_range_zero _).trans (Finset.sum_range_zero _).symm)]
  exact mat_congr fun i j _ _ => by rw [Nat.zero_add, Nat.zero_add]
theorem pre0_mat : p.pre0 = mat 4096 1 fun t _ => SPre Q K 256 t := by
  have a := ins0 h
  rw [pre0_eq, up_eq, cPre_mat (n := 4096) (r := 0) side0 (by norm_num) Q K p.q (p.K 0) k0_pay25 a.1 (K_eq h 0 0 rfl) a.2.2.2.1]
  exact mat_congr fun i j _ _ => by rw [Nat.zero_add, Nat.zero_add]
theorem gpre0_mat : p.gpre0 = mat 4096 1 fun t _ => SGpre Q K V O X 256 t := by
  have a := ins0 h
  rw [gpre0_eq, up_eq, bf_eq, cGpre_mat (n := 4096) (r := 0) side0 (by norm_num) (by norm_num) Q O K V (fun t => X t 0) p.q p.o p.tot (p.K 0) (p.V 0) k0_pay25 k0_pay26 a.1 a.2.1 a.2.2.1 (K_eq h 0 0 rfl) (V_eq h 0 0 rfl) a.2.2.2.1 a.2.2.2.2]
  exact mat_congr fun i j _ _ => by rw [Nat.zero_add, Nat.zero_add]
theorem h6_0_good : Good p.h6_0 256 (Dk Q K V O X) := by
  have a := ins0 h
  rw [h6_0_eq, up_eq, bf_eq]
  exact good_cons p.i 0 rfl rfl (good6 h) _ (cDk_mat (n := 4096) (r := 0) side0 (by norm_num) (by norm_num) Q O K V (fun t => X t 0) p.q p.o p.tot (p.K 0) (p.V 0) k0_pay25 k0_pay26 a.1 a.2.1 a.2.2.1 (K_eq h 0 0 rfl) (V_eq h 0 0 rfl) a.2.2.2.1 a.2.2.2.2 _ (p.old6_zero 0 rfl (good6 h)))
theorem h7_0_good : Good p.h7_0 256 (Dv Q K O X) := by
  have a := ins0 h
  rw [h7_0_eq, up_eq]
  exact good_cons p.i 0 rfl rfl (good7 h) _ (cDv_mat (n := 4096) (r := 0) side0 (by norm_num) (by norm_num) Q O K (fun t => X t 0) p.q p.o p.tot (p.K 0) k0_pay25 a.1 a.2.1 a.2.2.1 (K_eq h 0 0 rfl) a.2.2.2.1 _ (p.old7_zero 0 rfl (good7 h)))

theorem ins1 : cut128 rows1 p.q = (mat 3840 128 fun i j => Q (256 + i) j) ∧ cut128 rows1 p.o = (mat 3840 128 fun i j => O (256 + i) j)
    ∧ cut1 rows1 p.tot = (mat 3840 1 fun i _ => X (256 + i) 0) ∧ cut1 rows1 p.pre0 = preM Q K 3840 256
    ∧ cut1 rows1 p.gpre0 = gpreM Q O K V (fun t => X t 0) 3840 256 := by
  rw [q_eq h, o_eq h, tot_eq h, pre0_mat h, gpre0_mat h, cut128_mat, cut128_mat, cut1_mat, cut1_mat, cut1_mat]
  exact ⟨rfl, rfl, rfl, rfl, rfl⟩
theorem dq1_mat' : put128 rows1 p.dq0 (cDq side1 up bf (cut128 rows1 p.q) (cut128 rows1 p.o) (cut1 rows1 p.tot) (p.K 1) (p.V 1) (cut128 rows1 p.dq0) (cut1 rows1 p.pre0) (cut1 rows1 p.gpre0))
    = mat 4096 128 fun t c => Dq Q K V O X 512 t c := by
  have a := ins1 h
  rw [up_eq, bf_eq, cDq_mat (n := 3840) (r := 256) side1 (by norm_num) (by norm_num) Q O K V (fun t => X t 0) (cut128 rows1 p.q) (cut128 rows1 p.o) (cut1 rows1 p.tot) (p.K 1) (p.V 1) (cut1 rows1 p.pre0) (cut1 rows1 p.gpre0) a.1 a.2.1 a.2.2.1 (K_eq h 1 256 rfl) (V_eq h 1 256 rfl) a.2.2.2.1 a.2.2.2.2 (cut128 rows1 p.dq0) (by rw [dq0_mat h, cut128_mat]), dq0_mat h]
  exact put128_mat rows1 _ (fun t c => Dq Q K V O X 512 t c) fun t c ht => stay_dq Q K V O X c ht
theorem dq1_mat : p.dq1 = mat 4096 128 fun t c => Dq Q K V O X 512 t c := p.dq1_eq.trans (dq1_mat' h)
theorem pre1_mat : p.pre1 = mat 4096 1 fun t _ => SPre Q K 512 t := by
  have a := ins1 h
  rw [pre1_eq, up_eq, cPre_mat (n := 3840) (r := 256) side1 (by norm_num) Q K (cut128 rows1 p.q) (p.K 1) (cut1 rows1 p.pre0) a.1 (K_eq h 1 256 rfl) a.2.2.2.1, pre0_mat h]
  exact put1_mat rows1 _ (fun t _ => SPre Q K 512 t) fun t c ht => stay_pre Q K ht
theorem gpre1_mat : p.gpre1 = mat 4096 1 fun t _ => SGpre Q K V O X 512 t := by
  have a := ins1 h
  rw [gpre1_eq, up_eq, bf_eq, cGpre_mat (n := 3840) (r := 256) side1 (by norm_num) (by norm_num) Q O K V (fun t => X t 0) (cut128 rows1 p.q) (cut128 rows1 p.o) (cut1 rows1 p.tot) (p.K 1) (p.V 1) (cut1 rows1 p.pre0) (cut1 rows1 p.gpre0) a.1 a.2.1 a.2.2.1 (K_eq h 1 256 rfl) (V_eq h 1 256 rfl) a.2.2.2.1 a.2.2.2.2, gpre0_mat h]
  exact put1_mat rows1 _ (fun t _ => SGpre Q K V O X 512 t) fun t c ht => stay_gpre Q K V O X ht
theorem h6_1_good : Good p.h6_1 512 (Dk Q K V O X) := by
  have a := ins1 h
  rw [h6_1_eq, up_eq, bf_eq]
  exact good_cons p.i 1 rfl rfl (h6_0_good h) _ (cDk_mat (n := 3840) (r := 256) side1 (by norm_num) (by norm_num) Q O K V (fun t => X t 0) (cut128 rows1 p.q) (cut128 rows1 p.o) (cut1 rows1 p.tot) (p.K 1) (p.V 1) (cut1 rows1 p.pre0) (cut1 rows1 p.gpre0) a.1 a.2.1 a.2.2.1 (K_eq h 1 256 rfl) (V_eq h 1 256 rfl) a.2.2.2.1 a.2.2.2.2 _ (p.old6_zero 1 rfl (h6_0_good h)))
theorem h7_1_good : Good p.h7_1 512 (Dv Q K O X) := by
  have a := ins1 h
  rw [h7_1_eq, up_eq]
  exact good_cons p.i 1 rfl rfl (h7_0_good h) _ (cDv_mat (n := 3840) (r := 256) side1 (by norm_num) (by norm_num) Q O K (fun t => X t 0) (cut128 rows1 p.q) (cut128 rows1 p.o) (cut1 rows1 p.tot) (p.K 1) (cut1 rows1 p.pre0) a.1 a.2.1 a.2.2.1 (K_eq h 1 256 rfl) a.2.2.2.1 _ (p.old7_zero 1 rfl (h7_0_good h)))

theorem ins2 : cut128 rows2 p.q = (mat 3584 128 fun i j => Q (512 + i) j) ∧ cut128 rows2 p.o = (mat 3584 128 fun i j => O (512 + i) j)
    ∧ cut1 rows2 p.tot = (mat 3584 1 fun i _ => X (512 + i) 0) ∧ cut1 rows2 p.pre1 = preM Q K 3584 512
    ∧ cut1 rows2 p.gpre1 = gpreM Q O K V (fun t => X t 0) 3584 512 := by
  rw [q_eq h, o_eq h, tot_eq h, pre1_mat h, gpre1_mat h, cut128_mat, cut128_mat, cut1_mat, cut1_mat, cut1_mat]
  exact ⟨rfl, rfl, rfl, rfl, rfl⟩
theorem dq2_mat' : put128 rows2 p.dq1 (cDq side2 up bf (cut128 rows2 p.q) (cut128 rows2 p.o) (cut1 rows2 p.tot) (p.K 2) (p.V 2) (cut128 rows2 p.dq1) (cut1 rows2 p.pre1) (cut1 rows2 p.gpre1))
    = mat 4096 128 fun t c => Dq Q K V O X 768 t c := by
  have a := ins2 h
  rw [up_eq, bf_eq, cDq_mat (n := 3584) (r := 512) side2 (by norm_num) (by norm_num) Q O K V (fun t => X t 0) (cut128 rows2 p.q) (cut128 rows2 p.o) (cut1 rows2 p.tot) (p.K 2) (p.V 2) (cut1 rows2 p.pre1) (cut1 rows2 p.gpre1) a.1 a.2.1 a.2.2.1 (K_eq h 2 512 rfl) (V_eq h 2 512 rfl) a.2.2.2.1 a.2.2.2.2 (cut128 rows2 p.dq1) (by rw [dq1_mat h, cut128_mat]), dq1_mat h]
  exact put128_mat rows2 _ (fun t c => Dq Q K V O X 768 t c) fun t c ht => stay_dq Q K V O X c ht
theorem dq2_mat : p.dq2 = mat 4096 128 fun t c => Dq Q K V O X 768 t c := p.dq2_eq.trans (dq2_mat' h)
theorem pre2_mat : p.pre2 = mat 4096 1 fun t _ => SPre Q K 768 t := by
  have a := ins2 h
  rw [pre2_eq, up_eq, cPre_mat (n := 3584) (r := 512) side2 (by norm_num) Q K (cut128 rows2 p.q) (p.K 2) (cut1 rows2 p.pre1) a.1 (K_eq h 2 512 rfl) a.2.2.2.1, pre1_mat h]
  exact put1_mat rows2 _ (fun t _ => SPre Q K 768 t) fun t c ht => stay_pre Q K ht
theorem gpre2_mat : p.gpre2 = mat 4096 1 fun t _ => SGpre Q K V O X 768 t := by
  have a := ins2 h
  rw [gpre2_eq, up_eq, bf_eq, cGpre_mat (n := 3584) (r := 512) side2 (by norm_num) (by norm_num) Q O K V (fun t => X t 0) (cut128 rows2 p.q) (cut128 rows2 p.o) (cut1 rows2 p.tot) (p.K 2) (p.V 2) (cut1 rows2 p.pre1) (cut1 rows2 p.gpre1) a.1 a.2.1 a.2.2.1 (K_eq h 2 512 rfl) (V_eq h 2 512 rfl) a.2.2.2.1 a.2.2.2.2, gpre1_mat h]
  exact put1_mat rows2 _ (fun t _ => SGpre Q K V O X 768 t) fun t c ht => stay_gpre Q K V O X ht
theorem h6_2_good : Good p.h6_2 768 (Dk Q K V O X) := by
  have a := ins2 h
  rw [h6_2_eq, up_eq, bf_eq]
  exact good_cons p.i 2 rfl rfl (h6_1_good h) _ (cDk_mat (n := 3584) (r := 512) side2 (by norm_num) (by norm_num) Q O K V (fun t => X t 0) (cut128 rows2 p.q) (cut128 rows2 p.o) (cut1 rows2 p.tot) (p.K 2) (p.V 2) (cut1 rows2 p.pre1) (cut1 rows2 p.gpre1) a.1 a.2.1 a.2.2.1 (K_eq h 2 512 rfl) (V_eq h 2 512 rfl) a.2.2.2.1 a.2.2.2.2 _ (p.old6_zero 2 rfl (h6_1_good h)))
theorem h7_2_good : Good p.h7_2 768 (Dv Q K O X) := by
  have a := ins2 h
  rw [h7_2_eq, up_eq]
  exact good_cons p.i 2 rfl rfl (h7_1_good h) _ (cDv_mat (n := 3584) (r := 512) side2 (by norm_num) (by norm_num) Q O K (fun t => X t 0) (cut128 rows2 p.q) (cut128 rows2 p.o) (cut1 rows2 p.tot) (p.K 2) (cut1 rows2 p.pre1) a.1 a.2.1 a.2.2.1 (K_eq h 2 512 rfl) a.2.2.2.1 _ (p.old7_zero 2 rfl (h7_1_good h)))

theorem ins3 : cut128 rows3 p.q = (mat 3328 128 fun i j => Q (768 + i) j) ∧ cut128 rows3 p.o = (mat 3328 128 fun i j => O (768 + i) j)
    ∧ cut1 rows3 p.tot = (mat 3328 1 fun i _ => X (768 + i) 0) ∧ cut1 rows3 p.pre2 = preM Q K 3328 768
    ∧ cut1 rows3 p.gpre2 = gpreM Q O K V (fun t => X t 0) 3328 768 := by
  rw [q_eq h, o_eq h, tot_eq h, pre2_mat h, gpre2_mat h, cut128_mat, cut128_mat, cut1_mat, cut1_mat, cut1_mat]
  exact ⟨rfl, rfl, rfl, rfl, rfl⟩
theorem dq3_mat' : put128 rows3 p.dq2 (cDq side3 up bf (cut128 rows3 p.q) (cut128 rows3 p.o) (cut1 rows3 p.tot) (p.K 3) (p.V 3) (cut128 rows3 p.dq2) (cut1 rows3 p.pre2) (cut1 rows3 p.gpre2))
    = mat 4096 128 fun t c => Dq Q K V O X 1024 t c := by
  have a := ins3 h
  rw [up_eq, bf_eq, cDq_mat (n := 3328) (r := 768) side3 (by norm_num) (by norm_num) Q O K V (fun t => X t 0) (cut128 rows3 p.q) (cut128 rows3 p.o) (cut1 rows3 p.tot) (p.K 3) (p.V 3) (cut1 rows3 p.pre2) (cut1 rows3 p.gpre2) a.1 a.2.1 a.2.2.1 (K_eq h 3 768 rfl) (V_eq h 3 768 rfl) a.2.2.2.1 a.2.2.2.2 (cut128 rows3 p.dq2) (by rw [dq2_mat h, cut128_mat]), dq2_mat h]
  exact put128_mat rows3 _ (fun t c => Dq Q K V O X 1024 t c) fun t c ht => stay_dq Q K V O X c ht
theorem dq3_mat : p.dq3 = mat 4096 128 fun t c => Dq Q K V O X 1024 t c := p.dq3_eq.trans (dq3_mat' h)
theorem pre3_mat : p.pre3 = mat 4096 1 fun t _ => SPre Q K 1024 t := by
  have a := ins3 h
  rw [pre3_eq, up_eq, cPre_mat (n := 3328) (r := 768) side3 (by norm_num) Q K (cut128 rows3 p.q) (p.K 3) (cut1 rows3 p.pre2) a.1 (K_eq h 3 768 rfl) a.2.2.2.1, pre2_mat h]
  exact put1_mat rows3 _ (fun t _ => SPre Q K 1024 t) fun t c ht => stay_pre Q K ht
theorem gpre3_mat : p.gpre3 = mat 4096 1 fun t _ => SGpre Q K V O X 1024 t := by
  have a := ins3 h
  rw [gpre3_eq, up_eq, bf_eq, cGpre_mat (n := 3328) (r := 768) side3 (by norm_num) (by norm_num) Q O K V (fun t => X t 0) (cut128 rows3 p.q) (cut128 rows3 p.o) (cut1 rows3 p.tot) (p.K 3) (p.V 3) (cut1 rows3 p.pre2) (cut1 rows3 p.gpre2) a.1 a.2.1 a.2.2.1 (K_eq h 3 768 rfl) (V_eq h 3 768 rfl) a.2.2.2.1 a.2.2.2.2, gpre2_mat h]
  exact put1_mat rows3 _ (fun t _ => SGpre Q K V O X 1024 t) fun t c ht => stay_gpre Q K V O X ht
theorem h6_3_good : Good p.h6_3 1024 (Dk Q K V O X) := by
  have a := ins3 h
  rw [h6_3_eq, up_eq, bf_eq]
  exact good_cons p.i 3 rfl rfl (h6_2_good h) _ (cDk_mat (n := 3328) (r := 768) side3 (by norm_num) (by norm_num) Q O K V (fun t => X t 0) (cut128 rows3 p.q) (cut128 rows3 p.o) (cut1 rows3 p.tot) (p.K 3) (p.V 3) (cut1 rows3 p.pre2) (cut1 rows3 p.gpre2) a.1 a.2.1 a.2.2.1 (K_eq h 3 768 rfl) (V_eq h 3 768 rfl) a.2.2.2.1 a.2.2.2.2 _ (p.old6_zero 3 rfl (h6_2_good h)))
theorem h7_3_good : Good p.h7_3 1024 (Dv Q K O X) := by
  have a := ins3 h
  rw [h7_3_eq, up_eq]
  exact good_cons p.i 3 rfl rfl (h7_2_good h) _ (cDv_mat (n := 3328) (r := 768) side3 (by norm_num) (by norm_num) Q O K (fun t => X t 0) (cut128 rows3 p.q) (cut128 rows3 p.o) (cut1 rows3 p.tot) (p.K 3) (cut1 rows3 p.pre2) a.1 a.2.1 a.2.2.1 (K_eq h 3 768 rfl) a.2.2.2.1 _ (p.old7_zero 3 rfl (h7_2_good h)))

theorem ins4 : cut128 rows4 p.q = (mat 3072 128 fun i j => Q (1024 + i) j) ∧ cut128 rows4 p.o = (mat 3072 128 fun i j => O (1024 + i) j)
    ∧ cut1 rows4 p.tot = (mat 3072 1 fun i _ => X (1024 + i) 0) ∧ cut1 rows4 p.pre3 = preM Q K 3072 1024
    ∧ cut1 rows4 p.gpre3 = gpreM Q O K V (fun t => X t 0) 3072 1024 := by
  rw [q_eq h, o_eq h, tot_eq h, pre3_mat h, gpre3_mat h, cut128_mat, cut128_mat, cut1_mat, cut1_mat, cut1_mat]
  exact ⟨rfl, rfl, rfl, rfl, rfl⟩
theorem dq4_mat' : put128 rows4 p.dq3 (cDq side4 up bf (cut128 rows4 p.q) (cut128 rows4 p.o) (cut1 rows4 p.tot) (p.K 4) (p.V 4) (cut128 rows4 p.dq3) (cut1 rows4 p.pre3) (cut1 rows4 p.gpre3))
    = mat 4096 128 fun t c => Dq Q K V O X 1280 t c := by
  have a := ins4 h
  rw [up_eq, bf_eq, cDq_mat (n := 3072) (r := 1024) side4 (by norm_num) (by norm_num) Q O K V (fun t => X t 0) (cut128 rows4 p.q) (cut128 rows4 p.o) (cut1 rows4 p.tot) (p.K 4) (p.V 4) (cut1 rows4 p.pre3) (cut1 rows4 p.gpre3) a.1 a.2.1 a.2.2.1 (K_eq h 4 1024 rfl) (V_eq h 4 1024 rfl) a.2.2.2.1 a.2.2.2.2 (cut128 rows4 p.dq3) (by rw [dq3_mat h, cut128_mat]), dq3_mat h]
  exact put128_mat rows4 _ (fun t c => Dq Q K V O X 1280 t c) fun t c ht => stay_dq Q K V O X c ht
theorem dq4_mat : p.dq4 = mat 4096 128 fun t c => Dq Q K V O X 1280 t c := p.dq4_eq.trans (dq4_mat' h)
theorem pre4_mat : p.pre4 = mat 4096 1 fun t _ => SPre Q K 1280 t := by
  have a := ins4 h
  rw [pre4_eq, up_eq, cPre_mat (n := 3072) (r := 1024) side4 (by norm_num) Q K (cut128 rows4 p.q) (p.K 4) (cut1 rows4 p.pre3) a.1 (K_eq h 4 1024 rfl) a.2.2.2.1, pre3_mat h]
  exact put1_mat rows4 _ (fun t _ => SPre Q K 1280 t) fun t c ht => stay_pre Q K ht
theorem gpre4_mat : p.gpre4 = mat 4096 1 fun t _ => SGpre Q K V O X 1280 t := by
  have a := ins4 h
  rw [gpre4_eq, up_eq, bf_eq, cGpre_mat (n := 3072) (r := 1024) side4 (by norm_num) (by norm_num) Q O K V (fun t => X t 0) (cut128 rows4 p.q) (cut128 rows4 p.o) (cut1 rows4 p.tot) (p.K 4) (p.V 4) (cut1 rows4 p.pre3) (cut1 rows4 p.gpre3) a.1 a.2.1 a.2.2.1 (K_eq h 4 1024 rfl) (V_eq h 4 1024 rfl) a.2.2.2.1 a.2.2.2.2, gpre3_mat h]
  exact put1_mat rows4 _ (fun t _ => SGpre Q K V O X 1280 t) fun t c ht => stay_gpre Q K V O X ht
theorem h6_4_good : Good p.h6_4 1280 (Dk Q K V O X) := by
  have a := ins4 h
  rw [h6_4_eq, up_eq, bf_eq]
  exact good_cons p.i 4 rfl rfl (h6_3_good h) _ (cDk_mat (n := 3072) (r := 1024) side4 (by norm_num) (by norm_num) Q O K V (fun t => X t 0) (cut128 rows4 p.q) (cut128 rows4 p.o) (cut1 rows4 p.tot) (p.K 4) (p.V 4) (cut1 rows4 p.pre3) (cut1 rows4 p.gpre3) a.1 a.2.1 a.2.2.1 (K_eq h 4 1024 rfl) (V_eq h 4 1024 rfl) a.2.2.2.1 a.2.2.2.2 _ (p.old6_zero 4 rfl (h6_3_good h)))
theorem h7_4_good : Good p.h7_4 1280 (Dv Q K O X) := by
  have a := ins4 h
  rw [h7_4_eq, up_eq]
  exact good_cons p.i 4 rfl rfl (h7_3_good h) _ (cDv_mat (n := 3072) (r := 1024) side4 (by norm_num) (by norm_num) Q O K (fun t => X t 0) (cut128 rows4 p.q) (cut128 rows4 p.o) (cut1 rows4 p.tot) (p.K 4) (cut1 rows4 p.pre3) a.1 a.2.1 a.2.2.1 (K_eq h 4 1024 rfl) a.2.2.2.1 _ (p.old7_zero 4 rfl (h7_3_good h)))

theorem ins5 : cut128 rows5 p.q = (mat 2816 128 fun i j => Q (1280 + i) j) ∧ cut128 rows5 p.o = (mat 2816 128 fun i j => O (1280 + i) j)
    ∧ cut1 rows5 p.tot = (mat 2816 1 fun i _ => X (1280 + i) 0) ∧ cut1 rows5 p.pre4 = preM Q K 2816 1280
    ∧ cut1 rows5 p.gpre4 = gpreM Q O K V (fun t => X t 0) 2816 1280 := by
  rw [q_eq h, o_eq h, tot_eq h, pre4_mat h, gpre4_mat h, cut128_mat, cut128_mat, cut1_mat, cut1_mat, cut1_mat]
  exact ⟨rfl, rfl, rfl, rfl, rfl⟩
theorem dq5_mat' : put128 rows5 p.dq4 (cDq side5 up bf (cut128 rows5 p.q) (cut128 rows5 p.o) (cut1 rows5 p.tot) (p.K 5) (p.V 5) (cut128 rows5 p.dq4) (cut1 rows5 p.pre4) (cut1 rows5 p.gpre4))
    = mat 4096 128 fun t c => Dq Q K V O X 1536 t c := by
  have a := ins5 h
  rw [up_eq, bf_eq, cDq_mat (n := 2816) (r := 1280) side5 (by norm_num) (by norm_num) Q O K V (fun t => X t 0) (cut128 rows5 p.q) (cut128 rows5 p.o) (cut1 rows5 p.tot) (p.K 5) (p.V 5) (cut1 rows5 p.pre4) (cut1 rows5 p.gpre4) a.1 a.2.1 a.2.2.1 (K_eq h 5 1280 rfl) (V_eq h 5 1280 rfl) a.2.2.2.1 a.2.2.2.2 (cut128 rows5 p.dq4) (by rw [dq4_mat h, cut128_mat]), dq4_mat h]
  exact put128_mat rows5 _ (fun t c => Dq Q K V O X 1536 t c) fun t c ht => stay_dq Q K V O X c ht
theorem dq5_mat : p.dq5 = mat 4096 128 fun t c => Dq Q K V O X 1536 t c := p.dq5_eq.trans (dq5_mat' h)
theorem pre5_mat : p.pre5 = mat 4096 1 fun t _ => SPre Q K 1536 t := by
  have a := ins5 h
  rw [pre5_eq, up_eq, cPre_mat (n := 2816) (r := 1280) side5 (by norm_num) Q K (cut128 rows5 p.q) (p.K 5) (cut1 rows5 p.pre4) a.1 (K_eq h 5 1280 rfl) a.2.2.2.1, pre4_mat h]
  exact put1_mat rows5 _ (fun t _ => SPre Q K 1536 t) fun t c ht => stay_pre Q K ht
theorem gpre5_mat : p.gpre5 = mat 4096 1 fun t _ => SGpre Q K V O X 1536 t := by
  have a := ins5 h
  rw [gpre5_eq, up_eq, bf_eq, cGpre_mat (n := 2816) (r := 1280) side5 (by norm_num) (by norm_num) Q O K V (fun t => X t 0) (cut128 rows5 p.q) (cut128 rows5 p.o) (cut1 rows5 p.tot) (p.K 5) (p.V 5) (cut1 rows5 p.pre4) (cut1 rows5 p.gpre4) a.1 a.2.1 a.2.2.1 (K_eq h 5 1280 rfl) (V_eq h 5 1280 rfl) a.2.2.2.1 a.2.2.2.2, gpre4_mat h]
  exact put1_mat rows5 _ (fun t _ => SGpre Q K V O X 1536 t) fun t c ht => stay_gpre Q K V O X ht
theorem h6_5_good : Good p.h6_5 1536 (Dk Q K V O X) := by
  have a := ins5 h
  rw [h6_5_eq, up_eq, bf_eq]
  exact good_cons p.i 5 rfl rfl (h6_4_good h) _ (cDk_mat (n := 2816) (r := 1280) side5 (by norm_num) (by norm_num) Q O K V (fun t => X t 0) (cut128 rows5 p.q) (cut128 rows5 p.o) (cut1 rows5 p.tot) (p.K 5) (p.V 5) (cut1 rows5 p.pre4) (cut1 rows5 p.gpre4) a.1 a.2.1 a.2.2.1 (K_eq h 5 1280 rfl) (V_eq h 5 1280 rfl) a.2.2.2.1 a.2.2.2.2 _ (p.old6_zero 5 rfl (h6_4_good h)))
theorem h7_5_good : Good p.h7_5 1536 (Dv Q K O X) := by
  have a := ins5 h
  rw [h7_5_eq, up_eq]
  exact good_cons p.i 5 rfl rfl (h7_4_good h) _ (cDv_mat (n := 2816) (r := 1280) side5 (by norm_num) (by norm_num) Q O K (fun t => X t 0) (cut128 rows5 p.q) (cut128 rows5 p.o) (cut1 rows5 p.tot) (p.K 5) (cut1 rows5 p.pre4) a.1 a.2.1 a.2.2.1 (K_eq h 5 1280 rfl) a.2.2.2.1 _ (p.old7_zero 5 rfl (h7_4_good h)))

theorem ins6 : cut128 rows6 p.q = (mat 2560 128 fun i j => Q (1536 + i) j) ∧ cut128 rows6 p.o = (mat 2560 128 fun i j => O (1536 + i) j)
    ∧ cut1 rows6 p.tot = (mat 2560 1 fun i _ => X (1536 + i) 0) ∧ cut1 rows6 p.pre5 = preM Q K 2560 1536
    ∧ cut1 rows6 p.gpre5 = gpreM Q O K V (fun t => X t 0) 2560 1536 := by
  rw [q_eq h, o_eq h, tot_eq h, pre5_mat h, gpre5_mat h, cut128_mat, cut128_mat, cut1_mat, cut1_mat, cut1_mat]
  exact ⟨rfl, rfl, rfl, rfl, rfl⟩
theorem dq6_mat' : put128 rows6 p.dq5 (cDq side6 up bf (cut128 rows6 p.q) (cut128 rows6 p.o) (cut1 rows6 p.tot) (p.K 6) (p.V 6) (cut128 rows6 p.dq5) (cut1 rows6 p.pre5) (cut1 rows6 p.gpre5))
    = mat 4096 128 fun t c => Dq Q K V O X 1792 t c := by
  have a := ins6 h
  rw [up_eq, bf_eq, cDq_mat (n := 2560) (r := 1536) side6 (by norm_num) (by norm_num) Q O K V (fun t => X t 0) (cut128 rows6 p.q) (cut128 rows6 p.o) (cut1 rows6 p.tot) (p.K 6) (p.V 6) (cut1 rows6 p.pre5) (cut1 rows6 p.gpre5) a.1 a.2.1 a.2.2.1 (K_eq h 6 1536 rfl) (V_eq h 6 1536 rfl) a.2.2.2.1 a.2.2.2.2 (cut128 rows6 p.dq5) (by rw [dq5_mat h, cut128_mat]), dq5_mat h]
  exact put128_mat rows6 _ (fun t c => Dq Q K V O X 1792 t c) fun t c ht => stay_dq Q K V O X c ht
theorem dq6_mat : p.dq6 = mat 4096 128 fun t c => Dq Q K V O X 1792 t c := p.dq6_eq.trans (dq6_mat' h)
theorem pre6_mat : p.pre6 = mat 4096 1 fun t _ => SPre Q K 1792 t := by
  have a := ins6 h
  rw [pre6_eq, up_eq, cPre_mat (n := 2560) (r := 1536) side6 (by norm_num) Q K (cut128 rows6 p.q) (p.K 6) (cut1 rows6 p.pre5) a.1 (K_eq h 6 1536 rfl) a.2.2.2.1, pre5_mat h]
  exact put1_mat rows6 _ (fun t _ => SPre Q K 1792 t) fun t c ht => stay_pre Q K ht
theorem gpre6_mat : p.gpre6 = mat 4096 1 fun t _ => SGpre Q K V O X 1792 t := by
  have a := ins6 h
  rw [gpre6_eq, up_eq, bf_eq, cGpre_mat (n := 2560) (r := 1536) side6 (by norm_num) (by norm_num) Q O K V (fun t => X t 0) (cut128 rows6 p.q) (cut128 rows6 p.o) (cut1 rows6 p.tot) (p.K 6) (p.V 6) (cut1 rows6 p.pre5) (cut1 rows6 p.gpre5) a.1 a.2.1 a.2.2.1 (K_eq h 6 1536 rfl) (V_eq h 6 1536 rfl) a.2.2.2.1 a.2.2.2.2, gpre5_mat h]
  exact put1_mat rows6 _ (fun t _ => SGpre Q K V O X 1792 t) fun t c ht => stay_gpre Q K V O X ht
theorem h6_6_good : Good p.h6_6 1792 (Dk Q K V O X) := by
  have a := ins6 h
  rw [h6_6_eq, up_eq, bf_eq]
  exact good_cons p.i 6 rfl rfl (h6_5_good h) _ (cDk_mat (n := 2560) (r := 1536) side6 (by norm_num) (by norm_num) Q O K V (fun t => X t 0) (cut128 rows6 p.q) (cut128 rows6 p.o) (cut1 rows6 p.tot) (p.K 6) (p.V 6) (cut1 rows6 p.pre5) (cut1 rows6 p.gpre5) a.1 a.2.1 a.2.2.1 (K_eq h 6 1536 rfl) (V_eq h 6 1536 rfl) a.2.2.2.1 a.2.2.2.2 _ (p.old6_zero 6 rfl (h6_5_good h)))
theorem h7_6_good : Good p.h7_6 1792 (Dv Q K O X) := by
  have a := ins6 h
  rw [h7_6_eq, up_eq]
  exact good_cons p.i 6 rfl rfl (h7_5_good h) _ (cDv_mat (n := 2560) (r := 1536) side6 (by norm_num) (by norm_num) Q O K (fun t => X t 0) (cut128 rows6 p.q) (cut128 rows6 p.o) (cut1 rows6 p.tot) (p.K 6) (cut1 rows6 p.pre5) a.1 a.2.1 a.2.2.1 (K_eq h 6 1536 rfl) a.2.2.2.1 _ (p.old7_zero 6 rfl (h7_5_good h)))

theorem ins7 : cut128 rows7 p.q = (mat 2304 128 fun i j => Q (1792 + i) j) ∧ cut128 rows7 p.o = (mat 2304 128 fun i j => O (1792 + i) j)
    ∧ cut1 rows7 p.tot = (mat 2304 1 fun i _ => X (1792 + i) 0) ∧ cut1 rows7 p.pre6 = preM Q K 2304 1792
    ∧ cut1 rows7 p.gpre6 = gpreM Q O K V (fun t => X t 0) 2304 1792 := by
  rw [q_eq h, o_eq h, tot_eq h, pre6_mat h, gpre6_mat h, cut128_mat, cut128_mat, cut1_mat, cut1_mat, cut1_mat]
  exact ⟨rfl, rfl, rfl, rfl, rfl⟩
theorem dq7_mat' : put128 rows7 p.dq6 (cDq side7 up bf (cut128 rows7 p.q) (cut128 rows7 p.o) (cut1 rows7 p.tot) (p.K 7) (p.V 7) (cut128 rows7 p.dq6) (cut1 rows7 p.pre6) (cut1 rows7 p.gpre6))
    = mat 4096 128 fun t c => Dq Q K V O X 2048 t c := by
  have a := ins7 h
  rw [up_eq, bf_eq, cDq_mat (n := 2304) (r := 1792) side7 (by norm_num) (by norm_num) Q O K V (fun t => X t 0) (cut128 rows7 p.q) (cut128 rows7 p.o) (cut1 rows7 p.tot) (p.K 7) (p.V 7) (cut1 rows7 p.pre6) (cut1 rows7 p.gpre6) a.1 a.2.1 a.2.2.1 (K_eq h 7 1792 rfl) (V_eq h 7 1792 rfl) a.2.2.2.1 a.2.2.2.2 (cut128 rows7 p.dq6) (by rw [dq6_mat h, cut128_mat]), dq6_mat h]
  exact put128_mat rows7 _ (fun t c => Dq Q K V O X 2048 t c) fun t c ht => stay_dq Q K V O X c ht
theorem dq7_mat : p.dq7 = mat 4096 128 fun t c => Dq Q K V O X 2048 t c := p.dq7_eq.trans (dq7_mat' h)
theorem pre7_mat : p.pre7 = mat 4096 1 fun t _ => SPre Q K 2048 t := by
  have a := ins7 h
  rw [pre7_eq, up_eq, cPre_mat (n := 2304) (r := 1792) side7 (by norm_num) Q K (cut128 rows7 p.q) (p.K 7) (cut1 rows7 p.pre6) a.1 (K_eq h 7 1792 rfl) a.2.2.2.1, pre6_mat h]
  exact put1_mat rows7 _ (fun t _ => SPre Q K 2048 t) fun t c ht => stay_pre Q K ht
theorem gpre7_mat : p.gpre7 = mat 4096 1 fun t _ => SGpre Q K V O X 2048 t := by
  have a := ins7 h
  rw [gpre7_eq, up_eq, bf_eq, cGpre_mat (n := 2304) (r := 1792) side7 (by norm_num) (by norm_num) Q O K V (fun t => X t 0) (cut128 rows7 p.q) (cut128 rows7 p.o) (cut1 rows7 p.tot) (p.K 7) (p.V 7) (cut1 rows7 p.pre6) (cut1 rows7 p.gpre6) a.1 a.2.1 a.2.2.1 (K_eq h 7 1792 rfl) (V_eq h 7 1792 rfl) a.2.2.2.1 a.2.2.2.2, gpre6_mat h]
  exact put1_mat rows7 _ (fun t _ => SGpre Q K V O X 2048 t) fun t c ht => stay_gpre Q K V O X ht
theorem h6_7_good : Good p.h6_7 2048 (Dk Q K V O X) := by
  have a := ins7 h
  rw [h6_7_eq, up_eq, bf_eq]
  exact good_cons p.i 7 rfl rfl (h6_6_good h) _ (cDk_mat (n := 2304) (r := 1792) side7 (by norm_num) (by norm_num) Q O K V (fun t => X t 0) (cut128 rows7 p.q) (cut128 rows7 p.o) (cut1 rows7 p.tot) (p.K 7) (p.V 7) (cut1 rows7 p.pre6) (cut1 rows7 p.gpre6) a.1 a.2.1 a.2.2.1 (K_eq h 7 1792 rfl) (V_eq h 7 1792 rfl) a.2.2.2.1 a.2.2.2.2 _ (p.old6_zero 7 rfl (h6_6_good h)))
theorem h7_7_good : Good p.h7_7 2048 (Dv Q K O X) := by
  have a := ins7 h
  rw [h7_7_eq, up_eq]
  exact good_cons p.i 7 rfl rfl (h7_6_good h) _ (cDv_mat (n := 2304) (r := 1792) side7 (by norm_num) (by norm_num) Q O K (fun t => X t 0) (cut128 rows7 p.q) (cut128 rows7 p.o) (cut1 rows7 p.tot) (p.K 7) (cut1 rows7 p.pre6) a.1 a.2.1 a.2.2.1 (K_eq h 7 1792 rfl) a.2.2.2.1 _ (p.old7_zero 7 rfl (h7_6_good h)))

theorem ins8 : cut128 rows8 p.q = (mat 2048 128 fun i j => Q (2048 + i) j) ∧ cut128 rows8 p.o = (mat 2048 128 fun i j => O (2048 + i) j)
    ∧ cut1 rows8 p.tot = (mat 2048 1 fun i _ => X (2048 + i) 0) ∧ cut1 rows8 p.pre7 = preM Q K 2048 2048
    ∧ cut1 rows8 p.gpre7 = gpreM Q O K V (fun t => X t 0) 2048 2048 := by
  rw [q_eq h, o_eq h, tot_eq h, pre7_mat h, gpre7_mat h, cut128_mat, cut128_mat, cut1_mat, cut1_mat, cut1_mat]
  exact ⟨rfl, rfl, rfl, rfl, rfl⟩
theorem dq8_mat' : put128 rows8 p.dq7 (cDq side8 up bf (cut128 rows8 p.q) (cut128 rows8 p.o) (cut1 rows8 p.tot) (p.K 8) (p.V 8) (cut128 rows8 p.dq7) (cut1 rows8 p.pre7) (cut1 rows8 p.gpre7))
    = mat 4096 128 fun t c => Dq Q K V O X 2304 t c := by
  have a := ins8 h
  rw [up_eq, bf_eq, cDq_mat (n := 2048) (r := 2048) side8 (by norm_num) (by norm_num) Q O K V (fun t => X t 0) (cut128 rows8 p.q) (cut128 rows8 p.o) (cut1 rows8 p.tot) (p.K 8) (p.V 8) (cut1 rows8 p.pre7) (cut1 rows8 p.gpre7) a.1 a.2.1 a.2.2.1 (K_eq h 8 2048 rfl) (V_eq h 8 2048 rfl) a.2.2.2.1 a.2.2.2.2 (cut128 rows8 p.dq7) (by rw [dq7_mat h, cut128_mat]), dq7_mat h]
  exact put128_mat rows8 _ (fun t c => Dq Q K V O X 2304 t c) fun t c ht => stay_dq Q K V O X c ht
theorem dq8_mat : p.dq8 = mat 4096 128 fun t c => Dq Q K V O X 2304 t c := p.dq8_eq.trans (dq8_mat' h)
theorem pre8_mat : p.pre8 = mat 4096 1 fun t _ => SPre Q K 2304 t := by
  have a := ins8 h
  rw [pre8_eq, up_eq, cPre_mat (n := 2048) (r := 2048) side8 (by norm_num) Q K (cut128 rows8 p.q) (p.K 8) (cut1 rows8 p.pre7) a.1 (K_eq h 8 2048 rfl) a.2.2.2.1, pre7_mat h]
  exact put1_mat rows8 _ (fun t _ => SPre Q K 2304 t) fun t c ht => stay_pre Q K ht
theorem gpre8_mat : p.gpre8 = mat 4096 1 fun t _ => SGpre Q K V O X 2304 t := by
  have a := ins8 h
  rw [gpre8_eq, up_eq, bf_eq, cGpre_mat (n := 2048) (r := 2048) side8 (by norm_num) (by norm_num) Q O K V (fun t => X t 0) (cut128 rows8 p.q) (cut128 rows8 p.o) (cut1 rows8 p.tot) (p.K 8) (p.V 8) (cut1 rows8 p.pre7) (cut1 rows8 p.gpre7) a.1 a.2.1 a.2.2.1 (K_eq h 8 2048 rfl) (V_eq h 8 2048 rfl) a.2.2.2.1 a.2.2.2.2, gpre7_mat h]
  exact put1_mat rows8 _ (fun t _ => SGpre Q K V O X 2304 t) fun t c ht => stay_gpre Q K V O X ht
theorem h6_8_good : Good p.h6_8 2304 (Dk Q K V O X) := by
  have a := ins8 h
  rw [h6_8_eq, up_eq, bf_eq]
  exact good_cons p.i 8 rfl rfl (h6_7_good h) _ (cDk_mat (n := 2048) (r := 2048) side8 (by norm_num) (by norm_num) Q O K V (fun t => X t 0) (cut128 rows8 p.q) (cut128 rows8 p.o) (cut1 rows8 p.tot) (p.K 8) (p.V 8) (cut1 rows8 p.pre7) (cut1 rows8 p.gpre7) a.1 a.2.1 a.2.2.1 (K_eq h 8 2048 rfl) (V_eq h 8 2048 rfl) a.2.2.2.1 a.2.2.2.2 _ (p.old6_zero 8 rfl (h6_7_good h)))
theorem h7_8_good : Good p.h7_8 2304 (Dv Q K O X) := by
  have a := ins8 h
  rw [h7_8_eq, up_eq]
  exact good_cons p.i 8 rfl rfl (h7_7_good h) _ (cDv_mat (n := 2048) (r := 2048) side8 (by norm_num) (by norm_num) Q O K (fun t => X t 0) (cut128 rows8 p.q) (cut128 rows8 p.o) (cut1 rows8 p.tot) (p.K 8) (cut1 rows8 p.pre7) a.1 a.2.1 a.2.2.1 (K_eq h 8 2048 rfl) a.2.2.2.1 _ (p.old7_zero 8 rfl (h7_7_good h)))

theorem ins9 : cut128 rows9 p.q = (mat 1792 128 fun i j => Q (2304 + i) j) ∧ cut128 rows9 p.o = (mat 1792 128 fun i j => O (2304 + i) j)
    ∧ cut1 rows9 p.tot = (mat 1792 1 fun i _ => X (2304 + i) 0) ∧ cut1 rows9 p.pre8 = preM Q K 1792 2304
    ∧ cut1 rows9 p.gpre8 = gpreM Q O K V (fun t => X t 0) 1792 2304 := by
  rw [q_eq h, o_eq h, tot_eq h, pre8_mat h, gpre8_mat h, cut128_mat, cut128_mat, cut1_mat, cut1_mat, cut1_mat]
  exact ⟨rfl, rfl, rfl, rfl, rfl⟩
theorem dq9_mat' : put128 rows9 p.dq8 (cDq side9 up bf (cut128 rows9 p.q) (cut128 rows9 p.o) (cut1 rows9 p.tot) (p.K 9) (p.V 9) (cut128 rows9 p.dq8) (cut1 rows9 p.pre8) (cut1 rows9 p.gpre8))
    = mat 4096 128 fun t c => Dq Q K V O X 2560 t c := by
  have a := ins9 h
  rw [up_eq, bf_eq, cDq_mat (n := 1792) (r := 2304) side9 (by norm_num) (by norm_num) Q O K V (fun t => X t 0) (cut128 rows9 p.q) (cut128 rows9 p.o) (cut1 rows9 p.tot) (p.K 9) (p.V 9) (cut1 rows9 p.pre8) (cut1 rows9 p.gpre8) a.1 a.2.1 a.2.2.1 (K_eq h 9 2304 rfl) (V_eq h 9 2304 rfl) a.2.2.2.1 a.2.2.2.2 (cut128 rows9 p.dq8) (by rw [dq8_mat h, cut128_mat]), dq8_mat h]
  exact put128_mat rows9 _ (fun t c => Dq Q K V O X 2560 t c) fun t c ht => stay_dq Q K V O X c ht
theorem dq9_mat : p.dq9 = mat 4096 128 fun t c => Dq Q K V O X 2560 t c := p.dq9_eq.trans (dq9_mat' h)
theorem pre9_mat : p.pre9 = mat 4096 1 fun t _ => SPre Q K 2560 t := by
  have a := ins9 h
  rw [pre9_eq, up_eq, cPre_mat (n := 1792) (r := 2304) side9 (by norm_num) Q K (cut128 rows9 p.q) (p.K 9) (cut1 rows9 p.pre8) a.1 (K_eq h 9 2304 rfl) a.2.2.2.1, pre8_mat h]
  exact put1_mat rows9 _ (fun t _ => SPre Q K 2560 t) fun t c ht => stay_pre Q K ht
theorem gpre9_mat : p.gpre9 = mat 4096 1 fun t _ => SGpre Q K V O X 2560 t := by
  have a := ins9 h
  rw [gpre9_eq, up_eq, bf_eq, cGpre_mat (n := 1792) (r := 2304) side9 (by norm_num) (by norm_num) Q O K V (fun t => X t 0) (cut128 rows9 p.q) (cut128 rows9 p.o) (cut1 rows9 p.tot) (p.K 9) (p.V 9) (cut1 rows9 p.pre8) (cut1 rows9 p.gpre8) a.1 a.2.1 a.2.2.1 (K_eq h 9 2304 rfl) (V_eq h 9 2304 rfl) a.2.2.2.1 a.2.2.2.2, gpre8_mat h]
  exact put1_mat rows9 _ (fun t _ => SGpre Q K V O X 2560 t) fun t c ht => stay_gpre Q K V O X ht
theorem h6_9_good : Good p.h6_9 2560 (Dk Q K V O X) := by
  have a := ins9 h
  rw [h6_9_eq, up_eq, bf_eq]
  exact good_cons p.i 9 rfl rfl (h6_8_good h) _ (cDk_mat (n := 1792) (r := 2304) side9 (by norm_num) (by norm_num) Q O K V (fun t => X t 0) (cut128 rows9 p.q) (cut128 rows9 p.o) (cut1 rows9 p.tot) (p.K 9) (p.V 9) (cut1 rows9 p.pre8) (cut1 rows9 p.gpre8) a.1 a.2.1 a.2.2.1 (K_eq h 9 2304 rfl) (V_eq h 9 2304 rfl) a.2.2.2.1 a.2.2.2.2 _ (p.old6_zero 9 rfl (h6_8_good h)))
theorem h7_9_good : Good p.h7_9 2560 (Dv Q K O X) := by
  have a := ins9 h
  rw [h7_9_eq, up_eq]
  exact good_cons p.i 9 rfl rfl (h7_8_good h) _ (cDv_mat (n := 1792) (r := 2304) side9 (by norm_num) (by norm_num) Q O K (fun t => X t 0) (cut128 rows9 p.q) (cut128 rows9 p.o) (cut1 rows9 p.tot) (p.K 9) (cut1 rows9 p.pre8) a.1 a.2.1 a.2.2.1 (K_eq h 9 2304 rfl) a.2.2.2.1 _ (p.old7_zero 9 rfl (h7_8_good h)))

theorem ins10 : cut128 rows10 p.q = (mat 1536 128 fun i j => Q (2560 + i) j) ∧ cut128 rows10 p.o = (mat 1536 128 fun i j => O (2560 + i) j)
    ∧ cut1 rows10 p.tot = (mat 1536 1 fun i _ => X (2560 + i) 0) ∧ cut1 rows10 p.pre9 = preM Q K 1536 2560
    ∧ cut1 rows10 p.gpre9 = gpreM Q O K V (fun t => X t 0) 1536 2560 := by
  rw [q_eq h, o_eq h, tot_eq h, pre9_mat h, gpre9_mat h, cut128_mat, cut128_mat, cut1_mat, cut1_mat, cut1_mat]
  exact ⟨rfl, rfl, rfl, rfl, rfl⟩
theorem dq10_mat' : put128 rows10 p.dq9 (cDq side10 up bf (cut128 rows10 p.q) (cut128 rows10 p.o) (cut1 rows10 p.tot) (p.K 10) (p.V 10) (cut128 rows10 p.dq9) (cut1 rows10 p.pre9) (cut1 rows10 p.gpre9))
    = mat 4096 128 fun t c => Dq Q K V O X 2816 t c := by
  have a := ins10 h
  rw [up_eq, bf_eq, cDq_mat (n := 1536) (r := 2560) side10 (by norm_num) (by norm_num) Q O K V (fun t => X t 0) (cut128 rows10 p.q) (cut128 rows10 p.o) (cut1 rows10 p.tot) (p.K 10) (p.V 10) (cut1 rows10 p.pre9) (cut1 rows10 p.gpre9) a.1 a.2.1 a.2.2.1 (K_eq h 10 2560 rfl) (V_eq h 10 2560 rfl) a.2.2.2.1 a.2.2.2.2 (cut128 rows10 p.dq9) (by rw [dq9_mat h, cut128_mat]), dq9_mat h]
  exact put128_mat rows10 _ (fun t c => Dq Q K V O X 2816 t c) fun t c ht => stay_dq Q K V O X c ht
theorem dq10_mat : p.dq10 = mat 4096 128 fun t c => Dq Q K V O X 2816 t c := p.dq10_eq.trans (dq10_mat' h)
theorem pre10_mat : p.pre10 = mat 4096 1 fun t _ => SPre Q K 2816 t := by
  have a := ins10 h
  rw [pre10_eq, up_eq, cPre_mat (n := 1536) (r := 2560) side10 (by norm_num) Q K (cut128 rows10 p.q) (p.K 10) (cut1 rows10 p.pre9) a.1 (K_eq h 10 2560 rfl) a.2.2.2.1, pre9_mat h]
  exact put1_mat rows10 _ (fun t _ => SPre Q K 2816 t) fun t c ht => stay_pre Q K ht
theorem gpre10_mat : p.gpre10 = mat 4096 1 fun t _ => SGpre Q K V O X 2816 t := by
  have a := ins10 h
  rw [gpre10_eq, up_eq, bf_eq, cGpre_mat (n := 1536) (r := 2560) side10 (by norm_num) (by norm_num) Q O K V (fun t => X t 0) (cut128 rows10 p.q) (cut128 rows10 p.o) (cut1 rows10 p.tot) (p.K 10) (p.V 10) (cut1 rows10 p.pre9) (cut1 rows10 p.gpre9) a.1 a.2.1 a.2.2.1 (K_eq h 10 2560 rfl) (V_eq h 10 2560 rfl) a.2.2.2.1 a.2.2.2.2, gpre9_mat h]
  exact put1_mat rows10 _ (fun t _ => SGpre Q K V O X 2816 t) fun t c ht => stay_gpre Q K V O X ht
theorem h6_10_good : Good p.h6_10 2816 (Dk Q K V O X) := by
  have a := ins10 h
  rw [h6_10_eq, up_eq, bf_eq]
  exact good_cons p.i 10 rfl rfl (h6_9_good h) _ (cDk_mat (n := 1536) (r := 2560) side10 (by norm_num) (by norm_num) Q O K V (fun t => X t 0) (cut128 rows10 p.q) (cut128 rows10 p.o) (cut1 rows10 p.tot) (p.K 10) (p.V 10) (cut1 rows10 p.pre9) (cut1 rows10 p.gpre9) a.1 a.2.1 a.2.2.1 (K_eq h 10 2560 rfl) (V_eq h 10 2560 rfl) a.2.2.2.1 a.2.2.2.2 _ (p.old6_zero 10 rfl (h6_9_good h)))
theorem h7_10_good : Good p.h7_10 2816 (Dv Q K O X) := by
  have a := ins10 h
  rw [h7_10_eq, up_eq]
  exact good_cons p.i 10 rfl rfl (h7_9_good h) _ (cDv_mat (n := 1536) (r := 2560) side10 (by norm_num) (by norm_num) Q O K (fun t => X t 0) (cut128 rows10 p.q) (cut128 rows10 p.o) (cut1 rows10 p.tot) (p.K 10) (cut1 rows10 p.pre9) a.1 a.2.1 a.2.2.1 (K_eq h 10 2560 rfl) a.2.2.2.1 _ (p.old7_zero 10 rfl (h7_9_good h)))

theorem ins11 : cut128 rows11 p.q = (mat 1280 128 fun i j => Q (2816 + i) j) ∧ cut128 rows11 p.o = (mat 1280 128 fun i j => O (2816 + i) j)
    ∧ cut1 rows11 p.tot = (mat 1280 1 fun i _ => X (2816 + i) 0) ∧ cut1 rows11 p.pre10 = preM Q K 1280 2816
    ∧ cut1 rows11 p.gpre10 = gpreM Q O K V (fun t => X t 0) 1280 2816 := by
  rw [q_eq h, o_eq h, tot_eq h, pre10_mat h, gpre10_mat h, cut128_mat, cut128_mat, cut1_mat, cut1_mat, cut1_mat]
  exact ⟨rfl, rfl, rfl, rfl, rfl⟩
theorem dq11_mat' : put128 rows11 p.dq10 (cDq side11 up bf (cut128 rows11 p.q) (cut128 rows11 p.o) (cut1 rows11 p.tot) (p.K 11) (p.V 11) (cut128 rows11 p.dq10) (cut1 rows11 p.pre10) (cut1 rows11 p.gpre10))
    = mat 4096 128 fun t c => Dq Q K V O X 3072 t c := by
  have a := ins11 h
  rw [up_eq, bf_eq, cDq_mat (n := 1280) (r := 2816) side11 (by norm_num) (by norm_num) Q O K V (fun t => X t 0) (cut128 rows11 p.q) (cut128 rows11 p.o) (cut1 rows11 p.tot) (p.K 11) (p.V 11) (cut1 rows11 p.pre10) (cut1 rows11 p.gpre10) a.1 a.2.1 a.2.2.1 (K_eq h 11 2816 rfl) (V_eq h 11 2816 rfl) a.2.2.2.1 a.2.2.2.2 (cut128 rows11 p.dq10) (by rw [dq10_mat h, cut128_mat]), dq10_mat h]
  exact put128_mat rows11 _ (fun t c => Dq Q K V O X 3072 t c) fun t c ht => stay_dq Q K V O X c ht
theorem dq11_mat : p.dq11 = mat 4096 128 fun t c => Dq Q K V O X 3072 t c := p.dq11_eq.trans (dq11_mat' h)
theorem pre11_mat : p.pre11 = mat 4096 1 fun t _ => SPre Q K 3072 t := by
  have a := ins11 h
  rw [pre11_eq, up_eq, cPre_mat (n := 1280) (r := 2816) side11 (by norm_num) Q K (cut128 rows11 p.q) (p.K 11) (cut1 rows11 p.pre10) a.1 (K_eq h 11 2816 rfl) a.2.2.2.1, pre10_mat h]
  exact put1_mat rows11 _ (fun t _ => SPre Q K 3072 t) fun t c ht => stay_pre Q K ht
theorem gpre11_mat : p.gpre11 = mat 4096 1 fun t _ => SGpre Q K V O X 3072 t := by
  have a := ins11 h
  rw [gpre11_eq, up_eq, bf_eq, cGpre_mat (n := 1280) (r := 2816) side11 (by norm_num) (by norm_num) Q O K V (fun t => X t 0) (cut128 rows11 p.q) (cut128 rows11 p.o) (cut1 rows11 p.tot) (p.K 11) (p.V 11) (cut1 rows11 p.pre10) (cut1 rows11 p.gpre10) a.1 a.2.1 a.2.2.1 (K_eq h 11 2816 rfl) (V_eq h 11 2816 rfl) a.2.2.2.1 a.2.2.2.2, gpre10_mat h]
  exact put1_mat rows11 _ (fun t _ => SGpre Q K V O X 3072 t) fun t c ht => stay_gpre Q K V O X ht
theorem h6_11_good : Good p.h6_11 3072 (Dk Q K V O X) := by
  have a := ins11 h
  rw [h6_11_eq, up_eq, bf_eq]
  exact good_cons p.i 11 rfl rfl (h6_10_good h) _ (cDk_mat (n := 1280) (r := 2816) side11 (by norm_num) (by norm_num) Q O K V (fun t => X t 0) (cut128 rows11 p.q) (cut128 rows11 p.o) (cut1 rows11 p.tot) (p.K 11) (p.V 11) (cut1 rows11 p.pre10) (cut1 rows11 p.gpre10) a.1 a.2.1 a.2.2.1 (K_eq h 11 2816 rfl) (V_eq h 11 2816 rfl) a.2.2.2.1 a.2.2.2.2 _ (p.old6_zero 11 rfl (h6_10_good h)))
theorem h7_11_good : Good p.h7_11 3072 (Dv Q K O X) := by
  have a := ins11 h
  rw [h7_11_eq, up_eq]
  exact good_cons p.i 11 rfl rfl (h7_10_good h) _ (cDv_mat (n := 1280) (r := 2816) side11 (by norm_num) (by norm_num) Q O K (fun t => X t 0) (cut128 rows11 p.q) (cut128 rows11 p.o) (cut1 rows11 p.tot) (p.K 11) (cut1 rows11 p.pre10) a.1 a.2.1 a.2.2.1 (K_eq h 11 2816 rfl) a.2.2.2.1 _ (p.old7_zero 11 rfl (h7_10_good h)))

theorem ins12 : cut128 rows12 p.q = (mat 1024 128 fun i j => Q (3072 + i) j) ∧ cut128 rows12 p.o = (mat 1024 128 fun i j => O (3072 + i) j)
    ∧ cut1 rows12 p.tot = (mat 1024 1 fun i _ => X (3072 + i) 0) ∧ cut1 rows12 p.pre11 = preM Q K 1024 3072
    ∧ cut1 rows12 p.gpre11 = gpreM Q O K V (fun t => X t 0) 1024 3072 := by
  rw [q_eq h, o_eq h, tot_eq h, pre11_mat h, gpre11_mat h, cut128_mat, cut128_mat, cut1_mat, cut1_mat, cut1_mat]
  exact ⟨rfl, rfl, rfl, rfl, rfl⟩
theorem dq12_mat' : put128 rows12 p.dq11 (cDq side12 up bf (cut128 rows12 p.q) (cut128 rows12 p.o) (cut1 rows12 p.tot) (p.K 12) (p.V 12) (cut128 rows12 p.dq11) (cut1 rows12 p.pre11) (cut1 rows12 p.gpre11))
    = mat 4096 128 fun t c => Dq Q K V O X 3328 t c := by
  have a := ins12 h
  rw [up_eq, bf_eq, cDq_mat (n := 1024) (r := 3072) side12 (by norm_num) (by norm_num) Q O K V (fun t => X t 0) (cut128 rows12 p.q) (cut128 rows12 p.o) (cut1 rows12 p.tot) (p.K 12) (p.V 12) (cut1 rows12 p.pre11) (cut1 rows12 p.gpre11) a.1 a.2.1 a.2.2.1 (K_eq h 12 3072 rfl) (V_eq h 12 3072 rfl) a.2.2.2.1 a.2.2.2.2 (cut128 rows12 p.dq11) (by rw [dq11_mat h, cut128_mat]), dq11_mat h]
  exact put128_mat rows12 _ (fun t c => Dq Q K V O X 3328 t c) fun t c ht => stay_dq Q K V O X c ht
theorem dq12_mat : p.dq12 = mat 4096 128 fun t c => Dq Q K V O X 3328 t c := p.dq12_eq.trans (dq12_mat' h)
theorem pre12_mat : p.pre12 = mat 4096 1 fun t _ => SPre Q K 3328 t := by
  have a := ins12 h
  rw [pre12_eq, up_eq, cPre_mat (n := 1024) (r := 3072) side12 (by norm_num) Q K (cut128 rows12 p.q) (p.K 12) (cut1 rows12 p.pre11) a.1 (K_eq h 12 3072 rfl) a.2.2.2.1, pre11_mat h]
  exact put1_mat rows12 _ (fun t _ => SPre Q K 3328 t) fun t c ht => stay_pre Q K ht
theorem gpre12_mat : p.gpre12 = mat 4096 1 fun t _ => SGpre Q K V O X 3328 t := by
  have a := ins12 h
  rw [gpre12_eq, up_eq, bf_eq, cGpre_mat (n := 1024) (r := 3072) side12 (by norm_num) (by norm_num) Q O K V (fun t => X t 0) (cut128 rows12 p.q) (cut128 rows12 p.o) (cut1 rows12 p.tot) (p.K 12) (p.V 12) (cut1 rows12 p.pre11) (cut1 rows12 p.gpre11) a.1 a.2.1 a.2.2.1 (K_eq h 12 3072 rfl) (V_eq h 12 3072 rfl) a.2.2.2.1 a.2.2.2.2, gpre11_mat h]
  exact put1_mat rows12 _ (fun t _ => SGpre Q K V O X 3328 t) fun t c ht => stay_gpre Q K V O X ht
theorem h6_12_good : Good p.h6_12 3328 (Dk Q K V O X) := by
  have a := ins12 h
  rw [h6_12_eq, up_eq, bf_eq]
  exact good_cons p.i 12 rfl rfl (h6_11_good h) _ (cDk_mat (n := 1024) (r := 3072) side12 (by norm_num) (by norm_num) Q O K V (fun t => X t 0) (cut128 rows12 p.q) (cut128 rows12 p.o) (cut1 rows12 p.tot) (p.K 12) (p.V 12) (cut1 rows12 p.pre11) (cut1 rows12 p.gpre11) a.1 a.2.1 a.2.2.1 (K_eq h 12 3072 rfl) (V_eq h 12 3072 rfl) a.2.2.2.1 a.2.2.2.2 _ (p.old6_zero 12 rfl (h6_11_good h)))
theorem h7_12_good : Good p.h7_12 3328 (Dv Q K O X) := by
  have a := ins12 h
  rw [h7_12_eq, up_eq]
  exact good_cons p.i 12 rfl rfl (h7_11_good h) _ (cDv_mat (n := 1024) (r := 3072) side12 (by norm_num) (by norm_num) Q O K (fun t => X t 0) (cut128 rows12 p.q) (cut128 rows12 p.o) (cut1 rows12 p.tot) (p.K 12) (cut1 rows12 p.pre11) a.1 a.2.1 a.2.2.1 (K_eq h 12 3072 rfl) a.2.2.2.1 _ (p.old7_zero 12 rfl (h7_11_good h)))

theorem ins13 : cut128 rows13 p.q = (mat 768 128 fun i j => Q (3328 + i) j) ∧ cut128 rows13 p.o = (mat 768 128 fun i j => O (3328 + i) j)
    ∧ cut1 rows13 p.tot = (mat 768 1 fun i _ => X (3328 + i) 0) ∧ cut1 rows13 p.pre12 = preM Q K 768 3328
    ∧ cut1 rows13 p.gpre12 = gpreM Q O K V (fun t => X t 0) 768 3328 := by
  rw [q_eq h, o_eq h, tot_eq h, pre12_mat h, gpre12_mat h, cut128_mat, cut128_mat, cut1_mat, cut1_mat, cut1_mat]
  exact ⟨rfl, rfl, rfl, rfl, rfl⟩
theorem dq13_mat' : put128 rows13 p.dq12 (cDq side13 up bf (cut128 rows13 p.q) (cut128 rows13 p.o) (cut1 rows13 p.tot) (p.K 13) (p.V 13) (cut128 rows13 p.dq12) (cut1 rows13 p.pre12) (cut1 rows13 p.gpre12))
    = mat 4096 128 fun t c => Dq Q K V O X 3584 t c := by
  have a := ins13 h
  rw [up_eq, bf_eq, cDq_mat (n := 768) (r := 3328) side13 (by norm_num) (by norm_num) Q O K V (fun t => X t 0) (cut128 rows13 p.q) (cut128 rows13 p.o) (cut1 rows13 p.tot) (p.K 13) (p.V 13) (cut1 rows13 p.pre12) (cut1 rows13 p.gpre12) a.1 a.2.1 a.2.2.1 (K_eq h 13 3328 rfl) (V_eq h 13 3328 rfl) a.2.2.2.1 a.2.2.2.2 (cut128 rows13 p.dq12) (by rw [dq12_mat h, cut128_mat]), dq12_mat h]
  exact put128_mat rows13 _ (fun t c => Dq Q K V O X 3584 t c) fun t c ht => stay_dq Q K V O X c ht
theorem dq13_mat : p.dq13 = mat 4096 128 fun t c => Dq Q K V O X 3584 t c := p.dq13_eq.trans (dq13_mat' h)
theorem pre13_mat : p.pre13 = mat 4096 1 fun t _ => SPre Q K 3584 t := by
  have a := ins13 h
  rw [pre13_eq, up_eq, cPre_mat (n := 768) (r := 3328) side13 (by norm_num) Q K (cut128 rows13 p.q) (p.K 13) (cut1 rows13 p.pre12) a.1 (K_eq h 13 3328 rfl) a.2.2.2.1, pre12_mat h]
  exact put1_mat rows13 _ (fun t _ => SPre Q K 3584 t) fun t c ht => stay_pre Q K ht
theorem gpre13_mat : p.gpre13 = mat 4096 1 fun t _ => SGpre Q K V O X 3584 t := by
  have a := ins13 h
  rw [gpre13_eq, up_eq, bf_eq, cGpre_mat (n := 768) (r := 3328) side13 (by norm_num) (by norm_num) Q O K V (fun t => X t 0) (cut128 rows13 p.q) (cut128 rows13 p.o) (cut1 rows13 p.tot) (p.K 13) (p.V 13) (cut1 rows13 p.pre12) (cut1 rows13 p.gpre12) a.1 a.2.1 a.2.2.1 (K_eq h 13 3328 rfl) (V_eq h 13 3328 rfl) a.2.2.2.1 a.2.2.2.2, gpre12_mat h]
  exact put1_mat rows13 _ (fun t _ => SGpre Q K V O X 3584 t) fun t c ht => stay_gpre Q K V O X ht
theorem h6_13_good : Good p.h6_13 3584 (Dk Q K V O X) := by
  have a := ins13 h
  rw [h6_13_eq, up_eq, bf_eq]
  exact good_cons p.i 13 rfl rfl (h6_12_good h) _ (cDk_mat (n := 768) (r := 3328) side13 (by norm_num) (by norm_num) Q O K V (fun t => X t 0) (cut128 rows13 p.q) (cut128 rows13 p.o) (cut1 rows13 p.tot) (p.K 13) (p.V 13) (cut1 rows13 p.pre12) (cut1 rows13 p.gpre12) a.1 a.2.1 a.2.2.1 (K_eq h 13 3328 rfl) (V_eq h 13 3328 rfl) a.2.2.2.1 a.2.2.2.2 _ (p.old6_zero 13 rfl (h6_12_good h)))
theorem h7_13_good : Good p.h7_13 3584 (Dv Q K O X) := by
  have a := ins13 h
  rw [h7_13_eq, up_eq]
  exact good_cons p.i 13 rfl rfl (h7_12_good h) _ (cDv_mat (n := 768) (r := 3328) side13 (by norm_num) (by norm_num) Q O K (fun t => X t 0) (cut128 rows13 p.q) (cut128 rows13 p.o) (cut1 rows13 p.tot) (p.K 13) (cut1 rows13 p.pre12) a.1 a.2.1 a.2.2.1 (K_eq h 13 3328 rfl) a.2.2.2.1 _ (p.old7_zero 13 rfl (h7_12_good h)))

theorem ins14 : cut128 rows14 p.q = (mat 512 128 fun i j => Q (3584 + i) j) ∧ cut128 rows14 p.o = (mat 512 128 fun i j => O (3584 + i) j)
    ∧ cut1 rows14 p.tot = (mat 512 1 fun i _ => X (3584 + i) 0) ∧ cut1 rows14 p.pre13 = preM Q K 512 3584
    ∧ cut1 rows14 p.gpre13 = gpreM Q O K V (fun t => X t 0) 512 3584 := by
  rw [q_eq h, o_eq h, tot_eq h, pre13_mat h, gpre13_mat h, cut128_mat, cut128_mat, cut1_mat, cut1_mat, cut1_mat]
  exact ⟨rfl, rfl, rfl, rfl, rfl⟩
theorem dq14_mat' : put128 rows14 p.dq13 (cDq side14 up bf (cut128 rows14 p.q) (cut128 rows14 p.o) (cut1 rows14 p.tot) (p.K 14) (p.V 14) (cut128 rows14 p.dq13) (cut1 rows14 p.pre13) (cut1 rows14 p.gpre13))
    = mat 4096 128 fun t c => Dq Q K V O X 3840 t c := by
  have a := ins14 h
  rw [up_eq, bf_eq, cDq_mat (n := 512) (r := 3584) side14 (by norm_num) (by norm_num) Q O K V (fun t => X t 0) (cut128 rows14 p.q) (cut128 rows14 p.o) (cut1 rows14 p.tot) (p.K 14) (p.V 14) (cut1 rows14 p.pre13) (cut1 rows14 p.gpre13) a.1 a.2.1 a.2.2.1 (K_eq h 14 3584 rfl) (V_eq h 14 3584 rfl) a.2.2.2.1 a.2.2.2.2 (cut128 rows14 p.dq13) (by rw [dq13_mat h, cut128_mat]), dq13_mat h]
  exact put128_mat rows14 _ (fun t c => Dq Q K V O X 3840 t c) fun t c ht => stay_dq Q K V O X c ht
theorem dq14_mat : p.dq14 = mat 4096 128 fun t c => Dq Q K V O X 3840 t c := p.dq14_eq.trans (dq14_mat' h)
theorem pre14_mat : p.pre14 = mat 4096 1 fun t _ => SPre Q K 3840 t := by
  have a := ins14 h
  rw [pre14_eq, up_eq, cPre_mat (n := 512) (r := 3584) side14 (by norm_num) Q K (cut128 rows14 p.q) (p.K 14) (cut1 rows14 p.pre13) a.1 (K_eq h 14 3584 rfl) a.2.2.2.1, pre13_mat h]
  exact put1_mat rows14 _ (fun t _ => SPre Q K 3840 t) fun t c ht => stay_pre Q K ht
theorem gpre14_mat : p.gpre14 = mat 4096 1 fun t _ => SGpre Q K V O X 3840 t := by
  have a := ins14 h
  rw [gpre14_eq, up_eq, bf_eq, cGpre_mat (n := 512) (r := 3584) side14 (by norm_num) (by norm_num) Q O K V (fun t => X t 0) (cut128 rows14 p.q) (cut128 rows14 p.o) (cut1 rows14 p.tot) (p.K 14) (p.V 14) (cut1 rows14 p.pre13) (cut1 rows14 p.gpre13) a.1 a.2.1 a.2.2.1 (K_eq h 14 3584 rfl) (V_eq h 14 3584 rfl) a.2.2.2.1 a.2.2.2.2, gpre13_mat h]
  exact put1_mat rows14 _ (fun t _ => SGpre Q K V O X 3840 t) fun t c ht => stay_gpre Q K V O X ht
theorem h6_14_good : Good p.h6_14 3840 (Dk Q K V O X) := by
  have a := ins14 h
  rw [h6_14_eq, up_eq, bf_eq]
  exact good_cons p.i 14 rfl rfl (h6_13_good h) _ (cDk_mat (n := 512) (r := 3584) side14 (by norm_num) (by norm_num) Q O K V (fun t => X t 0) (cut128 rows14 p.q) (cut128 rows14 p.o) (cut1 rows14 p.tot) (p.K 14) (p.V 14) (cut1 rows14 p.pre13) (cut1 rows14 p.gpre13) a.1 a.2.1 a.2.2.1 (K_eq h 14 3584 rfl) (V_eq h 14 3584 rfl) a.2.2.2.1 a.2.2.2.2 _ (p.old6_zero 14 rfl (h6_13_good h)))
theorem h7_14_good : Good p.h7_14 3840 (Dv Q K O X) := by
  have a := ins14 h
  rw [h7_14_eq, up_eq]
  exact good_cons p.i 14 rfl rfl (h7_13_good h) _ (cDv_mat (n := 512) (r := 3584) side14 (by norm_num) (by norm_num) Q O K (fun t => X t 0) (cut128 rows14 p.q) (cut128 rows14 p.o) (cut1 rows14 p.tot) (p.K 14) (cut1 rows14 p.pre13) a.1 a.2.1 a.2.2.1 (K_eq h 14 3584 rfl) a.2.2.2.1 _ (p.old7_zero 14 rfl (h7_13_good h)))

theorem ins15 : cut128 rows15 p.q = (mat 256 128 fun i j => Q (3840 + i) j) ∧ cut128 rows15 p.o = (mat 256 128 fun i j => O (3840 + i) j)
    ∧ cut1 rows15 p.tot = (mat 256 1 fun i _ => X (3840 + i) 0) ∧ cut1 rows15 p.pre14 = preM Q K 256 3840
    ∧ cut1 rows15 p.gpre14 = gpreM Q O K V (fun t => X t 0) 256 3840 := by
  rw [q_eq h, o_eq h, tot_eq h, pre14_mat h, gpre14_mat h, cut128_mat, cut128_mat, cut1_mat, cut1_mat, cut1_mat]
  exact ⟨rfl, rfl, rfl, rfl, rfl⟩
theorem dq15_mat' : put128 rows15 p.dq14 (cDq side15 up bf (cut128 rows15 p.q) (cut128 rows15 p.o) (cut1 rows15 p.tot) (p.K 15) (p.V 15) (cut128 rows15 p.dq14) (cut1 rows15 p.pre14) (cut1 rows15 p.gpre14))
    = mat 4096 128 fun t c => Dq Q K V O X 4096 t c := by
  have a := ins15 h
  rw [up_eq, bf_eq, cDq_mat (n := 256) (r := 3840) side15 (by norm_num) (by norm_num) Q O K V (fun t => X t 0) (cut128 rows15 p.q) (cut128 rows15 p.o) (cut1 rows15 p.tot) (p.K 15) (p.V 15) (cut1 rows15 p.pre14) (cut1 rows15 p.gpre14) a.1 a.2.1 a.2.2.1 (K_eq h 15 3840 rfl) (V_eq h 15 3840 rfl) a.2.2.2.1 a.2.2.2.2 (cut128 rows15 p.dq14) (by rw [dq14_mat h, cut128_mat]), dq14_mat h]
  exact put128_mat rows15 _ (fun t c => Dq Q K V O X 4096 t c) fun t c ht => stay_dq Q K V O X c ht
theorem l6_good : Good p.l6 4096 (Dk Q K V O X) := by
  have a := ins15 h
  rw [l6_eq, up_eq, bf_eq]
  exact good_cons p.i 15 rfl rfl (h6_14_good h) _ (cDk_mat (n := 256) (r := 3840) side15 (by norm_num) (by norm_num) Q O K V (fun t => X t 0) (cut128 rows15 p.q) (cut128 rows15 p.o) (cut1 rows15 p.tot) (p.K 15) (p.V 15) (cut1 rows15 p.pre14) (cut1 rows15 p.gpre14) a.1 a.2.1 a.2.2.1 (K_eq h 15 3840 rfl) (V_eq h 15 3840 rfl) a.2.2.2.1 a.2.2.2.2 _ (p.old6_zero 15 rfl (h6_14_good h)))
theorem l7_good : Good p.l7 4096 (Dv Q K O X) := by
  have a := ins15 h
  rw [l7_eq, up_eq]
  exact good_cons p.i 15 rfl rfl (h7_14_good h) _ (cDv_mat (n := 256) (r := 3840) side15 (by norm_num) (by norm_num) Q O K (fun t => X t 0) (cut128 rows15 p.q) (cut128 rows15 p.o) (cut1 rows15 p.tot) (p.K 15) (cut1 rows15 p.pre14) a.1 a.2.1 a.2.2.1 (K_eq h 15 3840 rfl) a.2.2.2.1 _ (p.old7_zero 15 rfl (h7_14_good h)))

/-- What the run leaves in the three outputs. -/
theorem out5 (v : View sig .tc .vmem S4096x128 .f32) (b : v.ty.Contents (Elt Ideal)) :
    v.read (Elt Ideal) (v.writes (Elt Ideal) b p.l5) = mat 4096 128 fun t c => Dq Q K V O X 4096 t c := by
  funext y
  rw [l5_eq, dq15_mat' h, View.read_writes_cons_rows_of_mem v b inb_S4096x128_S4096x128_0_0 _ [] y y (o := 0) rfl (by simp) rfl]
theorem out6 (v : View sig .tc .vmem S4096x128 .f32) (b : v.ty.Contents (Elt Ideal)) :
    v.read (Elt Ideal) (v.writes (Elt Ideal) b p.l6) = mat 4096 128 fun t c => Dk Q K V O X t c := by
  funext y
  rw [l6_good h v b y]
  exact congrFun (mat_congr (n := 4096) (c := 128) fun t c ht _ => if_pos ht) y
theorem out7 (v : View sig .tc .vmem S4096x128 .f32) (b : v.ty.Contents (Elt Ideal)) :
    v.read (Elt Ideal) (v.writes (Elt Ideal) b p.l7) = mat 4096 128 fun t c => Dv Q K O X t c := by
  funext y
  rw [l7_good h v b y]
  exact congrFun (mat_congr (n := 4096) (c := 128) fun t c ht _ => if_pos ht) y

end Pt

end Cert.Proof

end
-- ==== Proof.Out.lean ====
/- From what one run of the kernel's body leaves to the three whole arrays. -/
module

public import proofs.«01_k».proof.Proof.KVal
public import Idealize.ShloMosaic.Lib.Pipeline.ValueKit

@[expose] public section

set_option maxRecDepth 16384

noncomputable section

namespace Cert.Proof

open Idealize.ShloMosaic Idealize.ShloMosaic.TcCoe
open Cert.KernelIdeal Cert.KernelIdeal.Gen Cert.KernelIdeal.Value
open scoped BigOperators

variable (m : (ℓ : Loc nD τ sig) → Buf (Elt Ideal) ℓ) (c : Dev nD) (t : Fin cfg0.N)

/-- The head a point works on. -/
def head (t : Fin cfg0.N) : ℕ := (grid0.coords t 0).val

theorem index0 : ∀ t : Fin grid0.N, win0_0.index t = ![0, (grid0.coords t 0).val] := by decide +kernel
theorem index1 : ∀ t : Fin grid0.N, win0_1.index t = ![0, (grid0.coords t 0).val] := by decide +kernel
theorem index2 : ∀ t : Fin grid0.N, win0_2.index t = ![0, (grid0.coords t 0).val] := by decide +kernel
theorem index3 : ∀ t : Fin grid0.N, win0_3.index t = ![0, (grid0.coords t 0).val + 16] := by decide +kernel
theorem index4 : ∀ t : Fin grid0.N, win0_4.index t = ![0, (grid0.coords t 0).val] := by decide +kernel
theorem index5 : ∀ t : Fin grid0.N, win0_5.index t = ![0, (grid0.coords t 0).val] := by decide +kernel
theorem index6 : ∀ t : Fin grid0.N, win0_6.index t = ![0, (grid0.coords t 0).val] := by decide +kernel
theorem index7 : ∀ t : Fin grid0.N, win0_7.index t = ![0, (grid0.coords t 0).val] := by decide +kernel

theorem iblk0 {Q : ℕ → ℕ → ℝ} (h : V m c main_arg0 = mat 4096 2048 Q) :
    iblk m c 0 t = mat 4096 128 fun i j => Q i (128 * head t + j) := by
  funext y
  have e : ∀ (i : S4096x2048.Idx), V m c main_arg0 i = ((Q (i 0).val (i 1).val : ℝ) : EReal) := fun i => congrFun h i
  have e0 : (((cfg0.win 0).blk t).view.emb y 0).val = (y 0).val := by blk_simp [index0]
  have e1 : (((cfg0.win 0).blk t).view.emb y 1).val = 128 * head t + (y 1).val := by blk_simp [index0]; simp [head]; omega
  refine (e (((cfg0.win 0).blk t).view.emb y)).trans ?_
  rw [e0, e1]; rfl

theorem iblk1 {Q : ℕ → ℕ → ℝ} (h : V m c main_arg1 = mat 4096 2048 Q) :
    iblk m c 1 t = mat 4096 128 fun i j => Q i (128 * head t + j) := by
  funext y
  have e : ∀ (i : S4096x2048.Idx), V m c main_arg1 i = ((Q (i 0).val (i 1).val : ℝ) : EReal) := fun i => congrFun h i
  have e0 : (((cfg0.win 1).blk t).view.emb y 0).val = (y 0).val := by blk_simp [index1]
  have e1 : (((cfg0.win 1).blk t).view.emb y 1).val = 128 * head t + (y 1).val := by blk_simp [index1]; simp [head]; omega
  refine (e (((cfg0.win 1).blk t).view.emb y)).trans ?_
  rw [e0, e1]; rfl

theorem iblk2 {Q : ℕ → ℕ → ℝ} (h : V m c main_arg2 = mat 4096 2048 Q) :
    iblk m c 2 t = mat 4096 128 fun i j => Q i (128 * head t + j) := by
  funext y
  have e : ∀ (i : S4096x2048.Idx), V m c main_arg2 i = ((Q (i 0).val (i 1).val : ℝ) : EReal) := fun i => congrFun h i
  have e0 : (((cfg0.win 2).blk t).view.emb y 0).val = (y 0).val := by blk_simp [index2]
  have e1 : (((cfg0.win 2).blk t).view.emb y 1).val = 128 * head t + (y 1).val := by blk_simp [index2]; simp [head]; omega
  refine (e (((cfg0.win 2).blk t).view.emb y)).trans ?_
  rw [e0, e1]; rfl

theorem iblk3 {Q : ℕ → ℕ → ℝ} (h : V m c main_arg3 = mat 4096 4096 Q) :
    iblk m c 3 t = mat 4096 128 fun i j => Q i (2048 + 128 * head t + j) := by
  funext y
  have e : ∀ (i : S4096x4096.Idx), V m c main_arg3 i = ((Q (i 0).val (i 1).val : ℝ) : EReal) := fun i => congrFun h i
  have e0 : (((cfg0.win 3).blk t).view.emb y 0).val = (y 0).val := by blk_simp [index3]
  have e1 : (((cfg0.win 3).blk t).view.emb y 1).val = 2048 + 128 * head t + (y 1).val := by blk_simp [index3]; simp [head]; omega
  refine (e (((cfg0.win 3).blk t).view.emb y)).trans ?_
  rw [e0, e1]; rfl

theorem iblk4 {Q : ℕ → ℕ → ℝ} (h : V m c main_v22 = mat 4096 2048 Q) :
    iblk m c 4 t = mat 4096 128 fun i j => Q i (128 * head t + j) := by
  funext y
  have e : ∀ (i : S4096x2048.Idx), V m c main_v22 i = ((Q (i 0).val (i 1).val : ℝ) : EReal) := fun i => congrFun h i
  have e0 : (((cfg0.win 4).blk t).view.emb y 0).val = (y 0).val := by blk_simp [index4]
  have e1 : (((cfg0.win 4).blk t).view.emb y 1).val = 128 * head t + (y 1).val := by blk_simp [index4]; simp [head]; omega
  refine (e (((cfg0.win 4).blk t).view.emb y)).trans ?_
  rw [e0, e1]; rfl

/-- The point's arguments. -/
def pt : Pt Ideal where
  c := c
  i := grid0.coords t
  arg2 := ms0_0 t
  harg2 := hs0_0 t
  arg3 := ms0_1 t
  harg3 := hs0_1 t
  arg4 := ms0_2 t
  harg4 := hs0_2 t
  arg5 := ms0_3 t
  harg5 := hs0_3 t
  arg6 := ms0_4 t
  harg6 := hs0_4 t
  arg7 := ms0_5 t
  harg7 := hs0_5 t
  arg8 := ms0_6 t
  harg8 := hs0_6 t
  arg9 := ms0_7 t
  harg9 := hs0_7 t
  hc0 := hcond0_0 t
  x0 := iblk m c 0 t
  x1 := iblk m c 1 t
  x2 := iblk m c 2 t
  x3 := iblk m c 3 t
  x4 := iblk m c 4 t

variable {m c} {Q K W O X : ℕ → ℕ → ℝ}

/-- Columns of head `h`. -/
def col (h : ℕ) (f : ℕ → ℕ → ℝ) : ℕ → ℕ → ℝ := fun i j => f i (128 * h + j)
/-- The upper half of the columns. -/
def hi (f : ℕ → ℕ → ℝ) : ℕ → ℕ → ℝ := fun i j => f i (2048 + j)

/-- The four arguments and the totals hold real numbers when the kernel starts. -/
structure Ins (m : (ℓ : Loc nD τ sig) → Buf (Elt Ideal) ℓ) (c : Dev nD) (Q K W O X : ℕ → ℕ → ℝ) : Prop where
  h0 : V m c main_arg0 = mat 4096 2048 Q
  h1 : V m c main_arg1 = mat 4096 2048 K
  h2 : V m c main_arg2 = mat 4096 2048 W
  h3 : V m c main_arg3 = mat 4096 4096 O
  h4 : V m c main_v22 = mat 4096 2048 X

variable (H : Ins m c Q K W O X)
include H

theorem has : (pt m c t).Has (col (head t) Q) (col (head t) K) (col (head t) W) (col (head t) (hi O)) (col (head t) X) := by
  have e : (mat 4096 128 fun i j => O i (2048 + 128 * head t + j)) = mat 4096 128 (col (head t) (hi O)) :=
    mat_congr fun _ _ _ _ => by unfold col hi; rw [Nat.add_assoc]
  have a0 := iblk0 m c t H.h0
  have a1 := iblk1 m c t H.h1
  have a2 := iblk2 m c t H.h2
  have a3 := (iblk3 m c t H.h3).trans e
  have a4 := iblk4 m c t H.h4
  exact ⟨a0, a1, a2, a3, a4⟩
omit H

variable (Q K W O X)
/-- The three results, head by head. -/
def gDq (t j : ℕ) : ℝ := Pt.Dq (col (j / 128) Q) (col (j / 128) K) (col (j / 128) W) (col (j / 128) (hi O)) (col (j / 128) X) 4096 t (j % 128)
def gDk (t j : ℕ) : ℝ := Pt.Dk (col (j / 128) Q) (col (j / 128) K) (col (j / 128) W) (col (j / 128) (hi O)) (col (j / 128) X) t (j % 128)
def gDv (t j : ℕ) : ℝ := Pt.Dv (col (j / 128) Q) (col (j / 128) K) (col (j / 128) (hi O)) (col (j / 128) X) t (j % 128)
variable {Q K W O X}

theorem run5 (p : Pt Ideal) : out0_A_5 (F := Ideal) p.c p.i p.arg2 p.harg2 p.arg3 p.harg3 p.arg4 p.harg4 p.arg5 p.harg5 p.arg6 p.harg6 p.arg7 p.harg7 p.arg8 p.harg8 p.arg9 p.harg9 p.hc0 p.x0 p.x1 p.x2 p.x3 p.x4
    = VO0_5.read (Elt Ideal) (VO0_5.writes (Elt Ideal) VO0_5.junk p.l5) := rfl
theorem outs5 (m : (ℓ : Loc nD τ sig) → Buf (Elt Ideal) ℓ) (c : Dev nD) (t : Fin cfg0.N) :
    (outsAt0 m c t).1 = VO0_5.read (Elt Ideal) (VO0_5.writes (Elt Ideal) VO0_5.junk (pt m c t).l5) := by
  rw [← run5]
  simp only [outsAt0, pt]
theorem run6 (p : Pt Ideal) : out0_A_6 (F := Ideal) p.c p.i p.arg2 p.harg2 p.arg3 p.harg3 p.arg4 p.harg4 p.arg5 p.harg5 p.arg6 p.harg6 p.arg7 p.harg7 p.arg8 p.harg8 p.arg9 p.harg9 p.hc0 p.x0 p.x1 p.x2 p.x3 p.x4
    = VO0_6.read (Elt Ideal) (VO0_6.writes (Elt Ideal) VO0_6.junk p.l6) := rfl
theorem outs6 (m : (ℓ : Loc nD τ sig) → Buf (Elt Ideal) ℓ) (c : Dev nD) (t : Fin cfg0.N) :
    (outsAt0 m c t).2.1 = VO0_6.read (Elt Ideal) (VO0_6.writes (Elt Ideal) VO0_6.junk (pt m c t).l6) := by
  rw [← run6]
  simp only [outsAt0, pt]
theorem run7 (p : Pt Ideal) : out0_A_7 (F := Ideal) p.c p.i p.arg2 p.harg2 p.arg3 p.harg3 p.arg4 p.harg4 p.arg5 p.harg5 p.arg6 p.harg6 p.arg7 p.harg7 p.arg8 p.harg8 p.arg9 p.harg9 p.hc0 p.x0 p.x1 p.x2 p.x3 p.x4
    = VO0_7.read (Elt Ideal) (VO0_7.writes (Elt Ideal) VO0_7.junk p.l7) := rfl
theorem outs7 (m : (ℓ : Loc nD τ sig) → Buf (Elt Ideal) ℓ) (c : Dev nD) (t : Fin cfg0.N) :
    (outsAt0 m c t).2.2 = VO0_7.read (Elt Ideal) (VO0_7.writes (Elt Ideal) VO0_7.junk (pt m c t).l7) := by
  rw [← run7]
  simp only [outsAt0, pt]
include H in
theorem outs5_mat (t : Fin cfg0.N) : (outsAt0 m c t).1 = mat 4096 128 fun i j => Pt.Dq (col (head t) Q) (col (head t) K) (col (head t) W) (col (head t) (hi O)) (col (head t) X) 4096 i j :=
  (outs5 m c t).trans (Pt.out5 (has t H) VO0_5 VO0_5.junk)
include H in
theorem arr5 : (dats m 0 c).arrAt 5 cfg0.N = mat 4096 2048 (gDq Q K W O X) := by
  refine (dats m 0 c).arrAt_eq_of_covers 5 (mat 4096 2048 (gDq Q K W O X)) (by decide +kernel) fun t hf y => ?_
  have e0 : (((cfg0.win 5).blk t).view.emb y 0).val = (y 0).val := by blk_simp [index5]
  have e1 : (((cfg0.win 5).blk t).view.emb y 1).val = 128 * head t + (y 1).val := by blk_simp [index5]; simp [head]; omega
  have hy : (y 1).val < 128 := (y 1).isLt
  have r : mat 4096 2048 (gDq Q K W O X) (((cfg0.win 5).blk t).view.emb y) = ((gDq Q K W O X (y 0).val (128 * head t + (y 1).val) : ℝ) : EReal) := by
    unfold mat; rw [e0, e1]
  refine Eq.trans ?_ r.symm
  have d : (128 * head t + (y 1).val) / 128 = head t := by omega
  have d' : (128 * head t + (y 1).val) % 128 = (y 1).val := by omega
  unfold gDq
  rw [d, d', after0_5, outs5_mat H t]
  blk_simp
  rfl

include H in
theorem outs6_mat (t : Fin cfg0.N) : (outsAt0 m c t).2.1 = mat 4096 128 fun i j => Pt.Dk (col (head t) Q) (col (head t) K) (col (head t) W) (col (head t) (hi O)) (col (head t) X) i j :=
  (outs6 m c t).trans (Pt.out6 (has t H) VO0_6 VO0_6.junk)
include H in
theorem arr6 : (dats m 0 c).arrAt 6 cfg0.N = mat 4096 2048 (gDk Q K W O X) := by
  refine (dats m 0 c).arrAt_eq_of_covers 6 (mat 4096 2048 (gDk Q K W O X)) (by decide +kernel) fun t hf y => ?_
  have e0 : (((cfg0.win 6).blk t).view.emb y 0).val = (y 0).val := by blk_simp [index6]
  have e1 : (((cfg0.win 6).blk t).view.emb y 1).val = 128 * head t + (y 1).val := by blk_simp [index6]; simp [head]; omega
  have hy : (y 1).val < 128 := (y 1).isLt
  have r : mat 4096 2048 (gDk Q K W O X) (((cfg0.win 6).blk t).view.emb y) = ((gDk Q K W O X (y 0).val (128 * head t + (y 1).val) : ℝ) : EReal) := by
    unfold mat; rw [e0, e1]
  refine Eq.trans ?_ r.symm
  have d : (128 * head t + (y 1).val) / 128 = head t := by omega
  have d' : (128 * head t + (y 1).val) % 128 = (y 1).val := by omega
  unfold gDk
  rw [d, d', after0_6, outs6_mat H t]
  blk_simp
  rfl

include H in
theorem outs7_mat (t : Fin cfg0.N) : (outsAt0 m c t).2.2 = mat 4096 128 fun i j => Pt.Dv (col (head t) Q) (col (head t) K) (col (head t) (hi O)) (col (head t) X) i j :=
  (outs7 m c t).trans (Pt.out7 (has t H) VO0_7 VO0_7.junk)
include H in
theorem arr7 : (dats m 0 c).arrAt 7 cfg0.N = mat 4096 2048 (gDv Q K O X) := by
  refine (dats m 0 c).arrAt_eq_of_covers 7 (mat 4096 2048 (gDv Q K O X)) (by decide +kernel) fun t hf y => ?_
  have e0 : (((cfg0.win 7).blk t).view.emb y 0).val = (y 0).val := by blk_simp [index7]
  have e1 : (((cfg0.win 7).blk t).view.emb y 1).val = 128 * head t + (y 1).val := by blk_simp [index7]; simp [head]; omega
  have hy : (y 1).val < 128 := (y 1).isLt
  have r : mat 4096 2048 (gDv Q K O X) (((cfg0.win 7).blk t).view.emb y) = ((gDv Q K O X (y 0).val (128 * head t + (y 1).val) : ℝ) : EReal) := by
    unfold mat; rw [e0, e1]
  refine Eq.trans ?_ r.symm
  have d : (128 * head t + (y 1).val) / 128 = head t := by omega
  have d' : (128 * head t + (y 1).val) % 128 = (y 1).val := by omega
  unfold gDv
  rw [d, d', after0_7, outs7_mat H t]
  blk_simp
  rfl

end Cert.Proof

end
-- ==== Proof.Tot.lean ====
/- The totals the kernel's host code computes. -/
module

public import proofs.«01_k».proof.Proof.Host
public import proofs.«01_k».proof.Proof.Out

@[expose] public section

set_option maxRecDepth 8192

noncomputable section

namespace Cert.Proof

open Idealize.ShloMosaic Cert.KernelIdeal Cert.KernelIdeal.Gen
open scoped BigOperators

variable (m : (ℓ : Loc nD τ sig) → Buf (Elt Ideal) ℓ) (c : Dev nD)

/-- The sums over the keys, on every channel of the head. -/
def vTot (x : V3) : FVec Ideal (sh2 4096 2048) .f32 :=
  shapeCast (sh2 4096 2048) (broadcastInDim (s := sh2 4096 16) (sh3 4096 16 128) ![0, 1] (by decide) (transpose (sh2 4096 16) [1, 0]
    (Host.reduceAdd (s := sh3 16 4096 4096) (axes := [2]) (t := sh2 16 4096) x (constant ⟨0, ![]⟩ .f32 0x00000000#32) (by decide) (by decide)) (by decide))) (by decide)

theorem vTot_ten {f : ℕ → ℕ → ℕ → ℝ} : vTot (ten 16 4096 4096 f) = mat 4096 2048 fun t j => ∑ u ∈ Finset.range 4096, f (j / 128) t u := by
  unfold vTot
  rw [hsum_ten, transpose_10, along_last (by decide) (by decide)]
  exact merge_ten (n := 4096) (h := 16) (d := 128) _ _

theorem tot_eq : V m c main_v22 = vTot (vLk (vZ
    (heads (extf (φ := .bf16) .f32 (m ((c.tc : Thread nD τ).loc main_arg0)) (by decide)))
    (heads (extf (φ := .bf16) .f32 (m ((c.tc : Thread nD τ).loc main_arg1)) (by decide))))) := by
  entry_read
  rfl

end Cert.Proof

end
-- ==== Proof.Ref.lean ====
/- The reference's three results on real arguments. -/
module

public import proofs.«01_k».proof.Proof.Host
public import proofs.«01_k».proof.Proof.Out
public import proofs.«01_k».proof.Proof.Gen.ReferenceIdeal.Run

@[expose] public section

set_option maxRecDepth 8192

noncomputable section

namespace Cert.Proof.Reference

open Idealize.ShloMosaic Cert.ReferenceIdeal Cert.ReferenceIdeal.Gen Cert.ReferenceIdeal.Value
open scoped BigOperators

variable (m : (ℓ : Loc nD τ sig) → Buf (Elt Ideal) ℓ) (c : Dev nD)

/-- The arguments on the heads. -/
def aq : H3 := heads (extf (φ := .bf16) .f32 (m ((c.tc : Thread nD τ).loc main_arg0)) (by decide))
def ak : H3 := heads (extf (φ := .bf16) .f32 (m ((c.tc : Thread nD τ).loc main_arg1)) (by decide))
def aw : H3 := heads (extf (φ := .bf16) .f32 (m ((c.tc : Thread nD τ).loc main_arg2)) (by decide))
def ao : H3 := heads (extractStridedSlice (s := sh2 4096 4096) (sh2 4096 2048) ![0, 2048] (m ((c.tc : Thread nD τ).loc main_arg3)) (by decide))

theorem dq_eq : res_main_v56 m c = unheads (Host.dotGeneral (φ₁ := .f32) (φ₂ := .f32) (dotMid 16 4096 128 4096 (by decide)) none
    (vDz (vZ (aq m c) (ak m c)) (vDot (ao m c) (aw m c))) (ak m c)) := by
  unfold res_main_v56; rfl
theorem dk_eq : res_main_v54 m c = unheads (Host.dotGeneral (φ₁ := .f32) (φ₂ := .f32) (dotRows 16 4096 128 4096 (by decide)) none
    (vDz (vZ (aq m c) (ak m c)) (vDot (ao m c) (aw m c))) (aq m c)) := by
  unfold res_main_v54; rfl
theorem dv_eq : res_main_v52 m c = unheads (transpose (sh3 16 4096 128) [0, 2, 1] (Host.dotGeneral (φ₁ := .f32) (φ₂ := .f32) (dotRows 16 128 4096 4096 (by decide)) none
    (ao m c) (vW (vZ (aq m c) (ak m c)))) (by decide)) := by
  unfold res_main_v52; rfl

variable {m c} {Q K W O : ℕ → ℕ → ℝ}
variable (h0 : m ((c.tc : Thread nD τ).loc main_arg0) = mat 4096 2048 Q) (h1 : m ((c.tc : Thread nD τ).loc main_arg1) = mat 4096 2048 K)
variable (h2 : m ((c.tc : Thread nD τ).loc main_arg2) = mat 4096 2048 W) (h3 : m ((c.tc : Thread nD τ).loc main_arg3) = mat 4096 4096 O)

include h0 in
theorem aq_eq : aq m c = ten 16 4096 128 fun h => col h Q := by unfold aq; rw [h0]; exact heads_mat
include h1 in
theorem ak_eq : ak m c = ten 16 4096 128 fun h => col h K := by unfold ak; rw [h1]; exact heads_mat
include h2 in
theorem aw_eq : aw m c = ten 16 4096 128 fun h => col h W := by unfold aw; rw [h2]; exact heads_mat
include h3 in
theorem ao_eq : ao m c = ten 16 4096 128 fun h => col h (hi O) := by
  unfold ao; rw [h3, slice_mat]
  refine heads_mat.trans (ten_congr fun h t j _ _ _ => ?_)
  simp [col, hi]

/-- The totals on the columns of each head. -/
def totals (Q K : ℕ → ℕ → ℝ) (t j : ℕ) : ℝ := tot (col (j / 128) Q) (col (j / 128) K) t
theorem col_totals (h : ℕ) : (fun t => col h (totals Q K) t 0) = tot (col h Q) (col h K) := by
  funext t; simp [col, totals]

include h0 h1 h2 h3
theorem dq_mat : res_main_v56 m c = mat 4096 2048 (gDq Q K W O (totals Q K)) := by
  rw [dq_eq, aq_eq h0, ak_eq h1, aw_eq h2, ao_eq h3, vZ_ten, vDot_ten, vDz_ten, dotMid_ten, unheads_ten]
  refine mat_congr fun t j _ _ => ?_
  unfold gDq Pt.Dq
  rw [col_totals]
theorem dk_mat : res_main_v54 m c = mat 4096 2048 (gDk Q K W O (totals Q K)) := by
  rw [dk_eq, aq_eq h0, ak_eq h1, aw_eq h2, ao_eq h3, vZ_ten, vDot_ten, vDz_ten, dotRows_ten, unheads_ten]
  refine mat_congr fun t j _ _ => ?_
  unfold gDk Pt.Dk
  rw [col_totals]
theorem dv_mat : res_main_v52 m c = mat 4096 2048 (gDv Q K O (totals Q K)) := by
  rw [dv_eq, aq_eq h0, ak_eq h1, ao_eq h3, vZ_ten, vW_ten, dotRows_ten, transpose_021, unheads_ten]
  refine mat_congr fun t j _ _ => ?_
  unfold gDv Pt.Dv
  rw [col_totals]
  exact Finset.sum_congr rfl fun _ _ => mul_comm _ _

end Cert.Proof.Reference

end
-- ==== Proof.FMat.lean ====
/-
  Vectors of the extended reals given by functions of natural numbers, whatever their entries: `em n c f` is the [n, c]
  vector with entry (i, j) the value `f i j`, `et a b c f` the same at rank three. Every vector is of this form
  (`em_fn2`, `et_fn3`); the lemmas read the operations of the perceptron's calls and of their reference on them.
-/
module

public import proofs.«01_k».proof.Proof.Ten

@[expose] public section

noncomputable section

namespace Cert.Proof

open Idealize.ShloMosaic Idealize.ShloMosaic.ValueIdx
open scoped BigOperators

/-- The [n, c] vector of the values `f i j`. -/
def em (n c : ℕ) (f : ℕ → ℕ → EReal) : (sh2 n c).Idx → EReal := fun i => f (i 0).val (i 1).val
/-- The [a, b, c] vector of the values `f i j k`. -/
def et (a b c : ℕ) (f : ℕ → ℕ → ℕ → EReal) : (sh3 a b c).Idx → EReal := fun i => f (i 0).val (i 1).val (i 2).val

/-- A vector's entries as a function of natural numbers, nought outside. -/
def fn2 {n c : ℕ} (x : (sh2 n c).Idx → EReal) : ℕ → ℕ → EReal := fun i j =>
  if h : i < n ∧ j < c then x (ValueIdx.ix2 ⟨i, h.1⟩ ⟨j, h.2⟩) else 0
/-- The same at rank three. -/
def fn3 {a b c : ℕ} (x : (sh3 a b c).Idx → EReal) : ℕ → ℕ → ℕ → EReal := fun i j k =>
  if h : i < a ∧ j < b ∧ k < c then x (ValueIdx.ix3 ⟨i, h.1⟩ ⟨j, h.2.1⟩ ⟨k, h.2.2⟩) else 0

variable {n c a b : ℕ} {f g : ℕ → ℕ → EReal}

theorem em_fn2 (x : (sh2 n c).Idx → EReal) : em n c (fn2 x) = x := by
  funext i
  have e : (i 0).val < n ∧ (i 1).val < c := ⟨(i 0).isLt, (i 1).isLt⟩
  simp only [em, fn2, dif_pos e]
  exact congrArg x (ValueIdx.eq_ix2 i).symm
theorem et_fn3 (x : (sh3 a b c).Idx → EReal) : et a b c (fn3 x) = x := by
  funext i
  have e : (i 0).val < a ∧ (i 1).val < b ∧ (i 2).val < c := ⟨(i 0).isLt, (i 1).isLt, (i 2).isLt⟩
  simp only [et, fn3, dif_pos e]
  exact congrArg x (ValueIdx.eq_ix3 i).symm

theorem em_congr (h : ∀ i j, i < n → j < c → f i j = g i j) : em n c f = em n c g :=
  funext fun i => h _ _ (i 0).isLt (i 1).isLt
theorem et_congr {f g : ℕ → ℕ → ℕ → EReal} (h : ∀ i j k, i < a → j < b → k < c → f i j k = g i j k) : et a b c f = et a b c g :=
  funext fun i => h _ _ _ (i 0).isLt (i 1).isLt (i 2).isLt

/-- An entry, from what the index's coordinates are. -/
theorem em_at {x : (sh2 n c).Idx → EReal} (h : x = em n c f) (i : (sh2 n c).Idx) {p q : ℕ} (h0 : (i 0).val = p) (h1 : (i 1).val = q) :
    x i = f p q := by rw [h, ← h0, ← h1]; rfl
theorem et_at {x : (sh3 a b c).Idx → EReal} {f : ℕ → ℕ → ℕ → EReal} (h : x = et a b c f) (i : (sh3 a b c).Idx) {p q r : ℕ}
    (h0 : (i 0).val = p) (h1 : (i 1).val = q) (h2 : (i 2).val = r) : x i = f p q r := by rw [h, ← h0, ← h1, ← h2]; rfl

/-! ## Products: the kernel's from an accumulator of zeros, and the host's, which is the same sum -/

theorem zero_word : Ideal.ofBits .f32 (0x00000000#32) = (0 : EReal) := Ideal.ofBits_zero_f32
theorem zeros_em : constant (F := Ideal) (sh2 n c) .f32 0x00000000#32 = em n c fun _ _ => 0 := funext fun _ => zero_word

variable {M K N : ℕ}

/-- `[M, K]` by `[K, N]`, by the sum over the shared axis. -/
def dotNN (M K N : ℕ) (wf : DotDims.WF (sh2 M K) (sh2 K N) (sh2 M N) [1] [0] [0] [1] [] []) : DotDims (sh2 M K) (sh2 K N) (sh2 M N) :=
  ⟨[1], [0], [0], [1], [], [], wf⟩
/-- `[M, K]` by `[N, K]`. -/
def dotNT (M K N : ℕ) (wf : DotDims.WF (sh2 M K) (sh2 N K) (sh2 M N) [1] [1] [0] [0] [] []) : DotDims (sh2 M K) (sh2 N K) (sh2 M N) :=
  ⟨[1], [1], [0], [0], [], [], wf⟩

theorem nn_em (wf) : Ideal.matmul (dotNN M K N wf) (em M K f) (em K N g) (em M N fun _ _ => 0)
    = em M N fun i j => ∑ k ∈ Finset.range K, f i k * g k j := by
  funext j
  refine (Ideal.matmul_apply₁_of (dotNN M K N wf) (a := 1) rfl (K := K) rfl _ _ _ j (fun k => ValueIdx.ix2 (j 0) k) (fun k => ValueIdx.ix2 k (j 1)) ?_ ?_).trans ?_
  · intro k; funext i
    match i with
    | ⟨0, _⟩ => rfl
    | ⟨1, _⟩ => rfl
  · intro k; funext i
    match i with
    | ⟨0, _⟩ => rfl
    | ⟨1, _⟩ => rfl
  · show (0 : EReal) + ∑ k : Fin K, f (j 0).val k.val * g k.val (j 1).val = ∑ k ∈ Finset.range K, f (j 0).val k * g k (j 1).val
    rw [zero_add, Finset.sum_range]

theorem nt_em (wf) : Ideal.matmul (dotNT M K N wf) (em M K f) (em N K g) (em M N fun _ _ => 0)
    = em M N fun i j => ∑ k ∈ Finset.range K, f i k * g j k := by
  funext j
  refine (Ideal.matmul_apply₁_of (dotNT M K N wf) (a := 1) rfl (K := K) rfl _ _ _ j (fun k => ValueIdx.ix2 (j 0) k) (fun k => ValueIdx.ix2 (j 1) k) ?_ ?_).trans ?_
  · intro k; funext i
    match i with
    | ⟨0, _⟩ => rfl
    | ⟨1, _⟩ => rfl
  · intro k; funext i
    match i with
    | ⟨0, _⟩ => rfl
    | ⟨1, _⟩ => rfl
  · show (0 : EReal) + ∑ k : Fin K, f (j 0).val k.val * g (j 1).val k.val = ∑ k ∈ Finset.range K, f (j 0).val k * g (j 1).val k
    rw [zero_add, Finset.sum_range]

theorem tn_em (wf) : Ideal.matmul (dotTN K M N wf) (em K M f) (em K N g) (em M N fun _ _ => 0)
    = em M N fun i j => ∑ k ∈ Finset.range K, f k i * g k j := by
  funext j
  refine (Ideal.matmul_apply₁_of (dotTN K M N wf) (a := 0) rfl (K := K) rfl _ _ _ j (fun k => ValueIdx.ix2 k (j 0)) (fun k => ValueIdx.ix2 k (j 1)) ?_ ?_).trans ?_
  · intro k; funext i
    match i with
    | ⟨0, _⟩ => rfl
    | ⟨1, _⟩ => rfl
  · intro k; funext i
    match i with
    | ⟨0, _⟩ => rfl
    | ⟨1, _⟩ => rfl
  · show (0 : EReal) + ∑ k : Fin K, f k.val (j 0).val * g k.val (j 1).val = ∑ k ∈ Finset.range K, f k (j 0).val * g k (j 1).val
    rw [zero_add, Finset.sum_range]

/-! ## Layouts -/

/-- One slice of a stack, or one put as a stack of one. -/
theorem drop1_et {F : ℕ → ℕ → ℕ → EReal} (h : (sh3 1 n c).ShapeCasts (sh2 n c)) :
    shapeCast (sh2 n c) (et 1 n c F) h = em n c (F 0) := by
  funext y
  refine (shapeCast_apply (et 1 n c F) h y (ValueIdx.ix3 0 (y 0) (y 1)) ?_).trans rfl
  rw [Shape.rowMajor_val_two, Shape.rowMajor_val_three]
  show (0 * n + (y 0).val) * c + (y 1).val = (y 0).val * c + (y 1).val
  ring
theorem put1_em (h : (sh2 n c).ShapeCasts (sh3 1 n c)) : shapeCast (sh3 1 n c) (em n c f) h = et 1 n c fun _ => f := by
  funext y
  have h0 : (y 0).val = 0 := by have := (y 0).isLt; simp at this; omega
  refine (shapeCast_apply (em n c f) h y (ValueIdx.ix2 (y 1) (y 2)) ?_).trans rfl
  rw [Shape.rowMajor_val_two, Shape.rowMajor_val_three]
  show (y 1).val * c + (y 2).val = ((y 0).val * n + (y 1).val) * c + (y 2).val
  rw [h0]; ring
/-- A matrix's columns, or its rows, as stacks of bands. -/
theorem cols_em {m w : ℕ} (h : (sh2 n (m * w)).ShapeCasts (sh3 n m w)) (h' : (sh3 n m w).Transposes [1, 0, 2] (sh3 m n w)) :
    transpose (sh3 m n w) [1, 0, 2] (shapeCast (sh3 n m w) (em n (m * w) f) h) h' = et m n w fun p i j => f i (w * p + j) := by
  have e : shapeCast (sh3 n m w) (em n (m * w) f) h = et n m w fun i p j => f i (w * p + j) := by
    funext y
    have h0 : (y 0).val < n := (y 0).isLt
    have h1 : (y 1).val < m := (y 1).isLt
    have h2 : (y 2).val < w := (y 2).isLt
    have hl : w * (y 1).val + (y 2).val < m * w := by nlinarith
    refine (shapeCast_apply (em n (m * w) f) h y (ValueIdx.ix2 ⟨(y 0).val, h0⟩ ⟨w * (y 1).val + (y 2).val, hl⟩) ?_).trans rfl
    rw [Shape.rowMajor_val_two, Shape.rowMajor_val_three]
    show (y 0).val * (m * w) + (w * (y 1).val + (y 2).val) = ((y 0).val * m + (y 1).val) * w + (y 2).val
    ring
  rw [e]; rfl
theorem rows_em {m w : ℕ} (h : (sh2 (m * w) c).ShapeCasts (sh3 m w c)) :
    shapeCast (sh3 m w c) (em (m * w) c f) h = et m w c fun p i j => f (w * p + i) j := by
  funext y
  have h0 : (y 0).val < m := (y 0).isLt
  have h1 : (y 1).val < w := (y 1).isLt
  have h2 : (y 2).val < c := (y 2).isLt
  have hl : w * (y 0).val + (y 1).val < m * w := by nlinarith
  refine (shapeCast_apply (em (m * w) c f) h y (ValueIdx.ix2 ⟨w * (y 0).val + (y 1).val, hl⟩ ⟨(y 2).val, h2⟩) ?_).trans rfl
  rw [Shape.rowMajor_val_two, Shape.rowMajor_val_three]
  show (w * (y 0).val + (y 1).val) * c + (y 2).val = ((y 0).val * w + (y 1).val) * c + (y 2).val
  ring

end Cert.Proof

end
-- ==== Proof.Layer.lean ====
/-
  One perceptron layer and the gradients of its two weights, as functions of natural numbers with values in the extended
  reals, and the tiles of the layer's five calls: the text of each call's tile on blocks given by such functions.
-/
module

public import proofs.«01_k».proof.Proof.FMat

@[expose] public section

noncomputable section

namespace Cert.Proof.Layer

open Idealize.ShloMosaic Idealize.ShloMosaic.ValueIdx
open scoped BigOperators

/-! ## The layer -/

/-- A row's reciprocal root mean square: of its mean square plus the small number. -/
def rms (X : ℕ → ℕ → EReal) (i : ℕ) : EReal :=
  Ideal.rsqrt (Ideal.div (∑ k ∈ Finset.range 2048, X i k * X i k) (Ideal.ofBits .f32 0x45000000#32) + Ideal.ofBits .f32 0x358637BD#32)
/-- The normalised row times the gain. -/
def nrm (X : ℕ → ℕ → EReal) (g : ℕ → EReal) (i j : ℕ) : EReal := X i j * rms X i * g j
/-- Before the rectifier, and after. -/
def pre (h w : ℕ → ℕ → EReal) (i j : ℕ) : EReal := ∑ k ∈ Finset.range 2048, h i k * w k j
def act (h w : ℕ → ℕ → EReal) (i j : ℕ) : EReal := max (pre h w i j) 0
/-- The gradient before the rectifier, from the activations `u`. -/
def dct (d w u : ℕ → ℕ → EReal) (i j : ℕ) : EReal := (∑ k ∈ Finset.range 2048, d i k * w j k) * (2 * u i j)
/-- A gradient of a weight: the sum over the rows. -/
def wgr (p q : ℕ → ℕ → EReal) (i j : ℕ) : EReal := ∑ k ∈ Finset.range 4096, p k i * q k j

/-- The gradient of the first weight. -/
def dUp (X : ℕ → ℕ → EReal) (g : ℕ → EReal) (wu wd d : ℕ → ℕ → EReal) : ℕ → ℕ → EReal :=
  wgr (nrm X g) (dct d wd (act (nrm X g) wu))
/-- The gradient of the second. -/
def dDown (X : ℕ → ℕ → EReal) (g : ℕ → EReal) (wu d : ℕ → ℕ → EReal) : ℕ → ℕ → EReal :=
  wgr (fun i j => act (nrm X g) wu i j * act (nrm X g) wu i j) d

/-! ## Tiles -/

variable {n : ℕ}

theorem two_word : Ideal.ofBits .f32 (0x40000000#32) = (2 : EReal) := by
  simp [Ideal.ofBits, Ideal.ieee]
  exact (congrArg ((↑) : ℝ → EReal) (by norm_num : _ = (2 : ℝ))).trans rfl

section norm
variable (r : (sh2 n 2048).Reduces [1] ⟨1, ![n]⟩) (c1 : (⟨1, ![n]⟩ : Shape).ShapeCasts (sh2 n 1)) (b1 : (sh2 n 1).Broadcasts (sh2 n 2048))
  (c2 : (sh2 1 2048).ShapeCasts (sh2 1 2048)) (b2 : (sh2 1 2048).Broadcasts (sh2 n 2048)) (lt : FTy.bits .bf16 < FTy.bits .f32)

/-- The normalisation's tile. -/
def tNorm (x : FVec Ideal (sh2 n 2048) .f32) (g : FVec Ideal (sh2 1 2048) .f32) : FVec Ideal (sh2 n 2048) .bf16 :=
  truncf .bf16 (mulf (mulf x (broadcastTo (sh2 n 2048) (rsqrt (addf (divf
    (shapeCast (sh2 n 1) (multiReduction .add [1] ⟨1, ![n]⟩ (mulf x x) 0x00000000#32 r (.inl rfl) rfl) c1)
    (broadcast (sh2 n 1) (Scalar.ofBits .f32 0x45000000#32))) (broadcast (sh2 n 1) (Scalar.ofBits .f32 0x358637BD#32)))) b1))
    (broadcastTo (sh2 n 2048) (shapeCast (sh2 1 2048) g c2) b2)) lt

theorem tNorm_em (hn : n ≠ 1) (X : ℕ → ℕ → EReal) (G : ℕ → ℕ → EReal) :
    tNorm r c1 b1 c2 b2 lt (em n 2048 X) (em 1 2048 G) = em n 2048 (nrm X (G 0)) := by
  have e : shapeCast (sh2 n 1) (multiReduction (F := Ideal) (φ := .f32) .add [1] ⟨1, ![n]⟩ (mulf (F := Ideal) (φ := .f32) (em n 2048 X) (em n 2048 X)) 0x00000000#32 r (.inl rfl) rfl) c1
      = em n 1 fun i _ => ∑ k ∈ Finset.range 2048, X i k * X i k := by
    funext y
    have y0 : (y 0).val < n := (y 0).isLt
    have y1 : (y 1).val < 1 := (y 1).isLt
    refine (shapeCast_apply _ c1 y (ValueIdx.ix1 ⟨(y 0).val, y0⟩) ?_).trans ?_
    · rw [Shape.rowMajor_val_two, Shape.rowMajor_val_one]
      show (y 0).val = (y 0).val * 1 + (y 1).val
      omega
    · show Ideal.reduceAdd r _ _ = _
      rw [Ideal.reduceAdd_r2_a1]
      show ∑ k : Fin 2048, _ = ∑ k ∈ Finset.range 2048, X (y 0).val k * X (y 0).val k
      rw [Finset.sum_range]
      rfl
  have e2 : ∀ h, broadcastTo (sh2 n 2048) (em n 1 (fun i _ => rms X i)) h = em n 2048 fun i _ => rms X i := by
    intro h; funext y; show rms X _ = rms X _; congr 1; simp [hn]
  have e3 : ∀ h, broadcastTo (sh2 n 2048) (em 1 2048 G) h = em n 2048 fun _ j => G 0 j := by
    intro h; funext y; show G _ _ = G _ _; congr 1
  unfold tNorm
  rw [e, shapeCast_id, e3]
  exact congrArg (fun z => truncf (F := Ideal) .bf16 (mulf (φ := .f32) (mulf (φ := .f32) (em n 2048 X) z) (em n 2048 fun _ j => G 0 j)) lt) (e2 b1)
end norm

section up
variable (c1 : (sh2 1024 2048).ShapeCasts (sh2 1024 2048)) (c2 : (sh3 1 2048 1024).ShapeCasts (sh2 2048 1024)) (wf)
/-- The first product's tile, rectified. -/
def tUp (x : FVec Ideal (sh2 1024 2048) .bf16) (w : FVec Ideal (sh3 1 2048 1024) .bf16) : FVec Ideal (sh2 1024 1024) .f32 :=
  maximumf (matmul (dotNN 1024 2048 1024 wf) none (shapeCast (sh2 1024 2048) x c1) (shapeCast (sh2 2048 1024) w c2) (constant (sh2 1024 1024) .f32 0x00000000#32))
    (broadcast (sh2 1024 1024) (Scalar.ofBits .f32 0x00000000#32))
theorem tUp_em (A : ℕ → ℕ → EReal) (B : ℕ → ℕ → ℕ → EReal) :
    tUp c1 c2 wf (em 1024 2048 A) (et 1 2048 1024 B) = em 1024 1024 (act A (B 0)) := by
  unfold tUp
  rw [shapeCast_id, drop1_et, zeros_em]
  refine (congrArg₂ _ (nn_em wf) (funext fun _ => zero_word : _ = em 1024 1024 fun _ _ => 0)).trans rfl
end up

section dact
variable (c1 : (sh2 1024 2048).ShapeCasts (sh2 1024 2048)) (c2 : (sh3 1 1024 2048).ShapeCasts (sh2 1024 2048)) (wf)
  (c3 : (sh2 1024 1024).ShapeCasts (sh2 1024 1024)) (lt : FTy.bits .bf16 < FTy.bits .f32)
/-- The tile of the gradient before the rectifier. -/
def tDact (x : FVec Ideal (sh2 1024 2048) .bf16) (w : FVec Ideal (sh3 1 1024 2048) .bf16) (u : FVec Ideal (sh2 1024 1024) .bf16) : FVec Ideal (sh2 1024 1024) .bf16 :=
  truncf .bf16 (mulf (matmul (dotNT 1024 2048 1024 wf) none (shapeCast (sh2 1024 2048) x c1) (shapeCast (sh2 1024 2048) w c2) (constant (sh2 1024 1024) .f32 0x00000000#32))
    (mulf (broadcast (sh2 1024 1024) (Scalar.ofBits .f32 0x40000000#32)) (extf .f32 (shapeCast (sh2 1024 1024) u c3) lt))) lt
theorem tDact_em (A U : ℕ → ℕ → EReal) (B : ℕ → ℕ → ℕ → EReal) :
    tDact c1 c2 wf c3 lt (em 1024 2048 A) (et 1 1024 2048 B) (em 1024 1024 U) = em 1024 1024 (dct A (B 0) U) := by
  unfold tDact
  rw [shapeCast_id, shapeCast_id, drop1_et, zeros_em]
  refine (congrArg₂ (fun p q => truncf (F := Ideal) .bf16 (mulf (φ := .f32) p (mulf (φ := .f32) q (extf .f32 (em 1024 1024 U) lt))) lt) (nt_em wf)
    (funext fun _ => two_word : _ = em 1024 1024 fun _ _ => 2)).trans rfl
end dact

section wgrad
variable (c1 : (sh2 4096 1024).ShapeCasts (sh2 4096 1024)) (wf) (c2 : (sh2 1024 1024).ShapeCasts (sh3 1 1024 1024))
/-- The tile of a weight's gradient. -/
def tWgrad (x y : FVec Ideal (sh2 4096 1024) .bf16) : FVec Ideal (sh3 1 1024 1024) .f32 :=
  shapeCast (sh3 1 1024 1024) (matmul (dotTN 4096 1024 1024 wf) none (shapeCast (sh2 4096 1024) x c1) (shapeCast (sh2 4096 1024) y c1)
    (constant (sh2 1024 1024) .f32 0x00000000#32)) c2
theorem tWgrad_em (A B : ℕ → ℕ → EReal) :
    tWgrad c1 wf c2 (em 4096 1024 A) (em 4096 1024 B) = et 1 1024 1024 fun _ => wgr A B := by
  unfold tWgrad
  rw [shapeCast_id, shapeCast_id, zeros_em]
  exact (congrArg (fun z => shapeCast (sh3 1 1024 1024) z c2) (tn_em wf)).trans (put1_em c2)
end wgrad

end Cert.Proof.Layer

end
-- ==== Proof.Mlp.lean ====
/-
  What each of the perceptron layers' calls leaves in its output arrays, from what it finds in its inputs: the tiles of
  Proof/Layer.lean put together over the call's grid. The weights lie in four stacks of columns, or of rows.
-/
module

public import proofs.«01_k».proof.Proof.Layer
public import proofs.«01_k».proof.Proof.Gen.Kernel2Ideal.Frame
public import Idealize.ShloMosaic.Lib.Pipeline.ValueKit

@[expose] public section

set_option maxRecDepth 16384

noncomputable section

namespace Cert.Proof.Mlp

open Idealize.ShloMosaic Idealize.ShloMosaic.TcCoe
open Cert.Kernel2Ideal Cert.Kernel2Ideal.Gen Cert.Proof.Layer
open scoped BigOperators

variable (V : (c : Dev nD) → (b : Ref sig .tc) → Buf (Elt Ideal) ((c : Thread nD τ).loc b)) (c : Dev nD)

/-- A weight's columns in four stacks, its rows in four stacks, and the stacks of a gradient, a layer after another. -/
def colS (W : ℕ → ℕ → EReal) : (sh3 4 2048 2048).Idx → EReal := et 4 2048 2048 fun p i j => W i (2048 * p + j)
def rowS (W : ℕ → ℕ → EReal) : (sh3 4 2048 2048).Idx → EReal := et 4 2048 2048 fun p i j => W (2048 * p + i) j
def colG (G : ℕ → ℕ → EReal) : (sh3 4 4096 2048).Idx → EReal := et 4 4096 2048 fun p i j => G (i % 2048) (2048 * p + j)
def rowG (G : ℕ → ℕ → EReal) : (sh3 4 4096 2048).Idx → EReal := et 4 4096 2048 fun p i j => G (2048 * p + i % 2048) j

/-! ## The last layer -/

section r0
variable (t : Fin grid0.N) {X G : ℕ → ℕ → EReal}
theorem ix0_0 : ∀ t : Fin grid0.N, win0_0.index t = ![(grid0.coords t 0).val, 0] := by decide +kernel
theorem ix0_1 : ∀ t : Fin grid0.N, win0_1.index t = ![0, 0] := by decide +kernel
theorem ix0_2 : ∀ t : Fin grid0.N, win0_2.index t = ![(grid0.coords t 0).val, 0] := by decide +kernel
theorem blk0_0 (h : V c main_arg1 = em 4096 2048 X) : iblk0 V c 0 t = em 256 2048 fun i j => X ((grid0.coords t 0).val * 256 + i) j :=
  funext fun y => em_at h (((cfg0.win 0).blk t).view.emb y) (by blk_simp [ix0_0] <;> omega) (by blk_simp [ix0_0] <;> omega)
theorem blk0_1 (h : V c main_v0 = em 1 2048 G) : iblk0 V c 1 t = em 1 2048 G :=
  funext fun y => em_at h (((cfg0.win 1).blk t).view.emb y) (by blk_simp [ix0_1] <;> omega) (by blk_simp [ix0_1] <;> omega)
theorem tile0 (x : Vec Ideal S256x2048 .f32) (g : Vec Ideal S1x2048 .f32) :
    out0_2 x g = tNorm (n := 256) (by decide) (by decide) (by decide) (by decide) (by decide) (by decide) x g := by
  unfold out0_2; frame_out; rfl
theorem arr0 (h0 : V c main_arg1 = em 4096 2048 X) (h1 : V c main_v0 = em 1 2048 G) :
    (dat0 V c).arrAt 2 cfg0.N = em 4096 2048 (nrm X (G 0)) := by
  refine (dat0 V c).arrAt_eq_of_covers 2 (em 4096 2048 (nrm X (G 0))) (by decide +kernel) fun t hf y => ?_
  refine Eq.trans ?_ (em_at rfl _ (by blk_simp [ix0_2] <;> rfl) (by blk_simp [ix0_2] <;> rfl)).symm
  rw [after0_2, blk0_0 V c t h0, blk0_1 V c t h1, tile0, tNorm_em _ _ _ _ _ _ (by decide)]
  blk_simp
  rfl
end r0

section r1
variable (t : Fin grid1.N) {H W : ℕ → ℕ → EReal}
theorem ix1_0 : ∀ t : Fin grid1.N, win1_0.index t = ![(grid1.coords t 0).val, 0] := by decide +kernel
theorem ix1_1 : ∀ t : Fin grid1.N, win1_1.index t = ![(grid1.coords t 1).val / 2, 0, (grid1.coords t 1).val % 2] := by decide +kernel
theorem ix1_2 : ∀ t : Fin grid1.N, win1_2.index t = ![(grid1.coords t 0).val, (grid1.coords t 1).val] := by decide +kernel
theorem ix1_3 : ∀ t : Fin grid1.N, win1_3.index t = ![(grid1.coords t 0).val, (grid1.coords t 1).val] := by decide +kernel
theorem blk1_0 (h : V c main_v11 = em 4096 2048 H) : iblk1 V c 0 t = em 1024 2048 fun i j => H ((grid1.coords t 0).val * 1024 + i) j :=
  funext fun y => em_at h (((cfg1.win 0).blk t).view.emb y) (by blk_simp [ix1_0] <;> omega) (by blk_simp [ix1_0] <;> omega)
theorem blk1_1 (h : V c main_v8 = colS W) : iblk1 V c 1 t = et 1 2048 1024 fun _ i j => W i ((grid1.coords t 1).val * 1024 + j) :=
  funext fun y => (et_at h (((cfg1.win 1).blk t).view.emb y) (p := (grid1.coords t 1).val / 2) (q := (y 1).val)
    (r := (grid1.coords t 1).val % 2 * 1024 + (y 2).val) (by blk_simp [ix1_1] <;> omega) (by blk_simp [ix1_1] <;> omega)
    (by blk_simp [ix1_1] <;> omega)).trans (congrArg (W (y 1).val) (by omega))
theorem tile1 (x : Vec Ideal S1024x2048 .bf16) (w : Vec Ideal S1x2048x1024 .bf16) :
    out1_2 x w = truncf .bf16 (tUp (by decide) (by decide) (by decide) x w) bitsLt_bf16_f32 := by
  unfold out1_2; frame_out; rfl
theorem tile1' (x : Vec Ideal S1024x2048 .bf16) (w : Vec Ideal S1x2048x1024 .bf16) :
    out1_3 x w = truncf .bf16 (mulf (tUp (by decide) (by decide) (by decide) x w) (tUp (by decide) (by decide) (by decide) x w)) bitsLt_bf16_f32 := by
  unfold out1_3; frame_out; rfl
theorem arr1 (h0 : V c main_v11 = em 4096 2048 H) (h1 : V c main_v8 = colS W) : (dat1 V c).arrAt 2 cfg1.N = em 4096 8192 (act H W) := by
  refine (dat1 V c).arrAt_eq_of_covers 2 (em 4096 8192 (act H W)) (by decide +kernel) fun t hf y => ?_
  refine Eq.trans ?_ (em_at rfl _ (by blk_simp [ix1_2] <;> rfl) (by blk_simp [ix1_2] <;> rfl)).symm
  rw [after1_2, blk1_0 V c t h0, blk1_1 V c t h1, tile1, tUp_em]
  blk_simp
  rfl
theorem arr1' (h0 : V c main_v11 = em 4096 2048 H) (h1 : V c main_v8 = colS W) :
    (dat1 V c).arrAt 3 cfg1.N = em 4096 8192 fun i j => act H W i j * act H W i j := by
  refine (dat1 V c).arrAt_eq_of_covers 3 (em 4096 8192 fun i j => act H W i j * act H W i j) (by decide +kernel) fun t hf y => ?_
  refine Eq.trans ?_ (em_at rfl _ (by blk_simp [ix1_3] <;> rfl) (by blk_simp [ix1_3] <;> rfl)).symm
  rw [after1_3, blk1_0 V c t h0, blk1_1 V c t h1, tile1', tUp_em]
  blk_simp
  rfl
end r1

section r2
variable (t : Fin grid2.N) {D W U : ℕ → ℕ → EReal}
theorem ix2_0 : ∀ t : Fin grid2.N, win2_0.index t = ![(grid2.coords t 0).val, 0] := by decide +kernel
theorem ix2_1 : ∀ t : Fin grid2.N, win2_1.index t = ![(grid2.coords t 1).val / 2, (grid2.coords t 1).val % 2, 0] := by decide +kernel
theorem ix2_2 : ∀ t : Fin grid2.N, win2_2.index t = ![(grid2.coords t 0).val, (grid2.coords t 1).val] := by decide +kernel
theorem ix2_3 : ∀ t : Fin grid2.N, win2_3.index t = ![(grid2.coords t 0).val, (grid2.coords t 1).val] := by decide +kernel
theorem blk2_0 (h : V c main_v5 = em 4096 2048 D) : iblk2 V c 0 t = em 1024 2048 fun i j => D ((grid2.coords t 0).val * 1024 + i) j :=
  funext fun y => em_at h (((cfg2.win 0).blk t).view.emb y) (by blk_simp [ix2_0] <;> omega) (by blk_simp [ix2_0] <;> omega)
theorem blk2_1 (h : V c main_v10 = rowS W) : iblk2 V c 1 t = et 1 1024 2048 fun _ i j => W ((grid2.coords t 1).val * 1024 + i) j :=
  funext fun y => (et_at h (((cfg2.win 1).blk t).view.emb y) (p := (grid2.coords t 1).val / 2)
    (q := (grid2.coords t 1).val % 2 * 1024 + (y 1).val) (r := (y 2).val) (by blk_simp [ix2_1] <;> omega) (by blk_simp [ix2_1] <;> omega)
    (by blk_simp [ix2_1] <;> omega)).trans (congrArg (fun r => W r (y 2).val) (by omega))
theorem blk2_2 (h : V c main_v12_0 = em 4096 8192 U) :
    iblk2 V c 2 t = em 1024 1024 fun i j => U ((grid2.coords t 0).val * 1024 + i) ((grid2.coords t 1).val * 1024 + j) :=
  funext fun y => em_at h (((cfg2.win 2).blk t).view.emb y) (by blk_simp [ix2_2] <;> omega) (by blk_simp [ix2_2] <;> omega)
theorem tile2 (x : Vec Ideal S1024x2048 .bf16) (w : Vec Ideal S1x1024x2048 .bf16) (u : Vec Ideal S1024x1024 .bf16) :
    out2_3 x w u = tDact (by decide) (by decide) (by decide) (by decide) (by decide) x w u := by
  unfold out2_3; frame_out; rfl
theorem arr2 (h0 : V c main_v5 = em 4096 2048 D) (h1 : V c main_v10 = rowS W) (h2 : V c main_v12_0 = em 4096 8192 U) :
    (dat2 V c).arrAt 3 cfg2.N = em 4096 8192 (dct D W U) := by
  refine (dat2 V c).arrAt_eq_of_covers 3 (em 4096 8192 (dct D W U)) (by decide +kernel) fun t hf y => ?_
  refine Eq.trans ?_ (em_at rfl _ (by blk_simp [ix2_3] <;> rfl) (by blk_simp [ix2_3] <;> rfl)).symm
  rw [after2_3, blk2_0 V c t h0, blk2_1 V c t h1, blk2_2 V c t h2, tile2, tDact_em]
  blk_simp
  rfl
end r2

section r3
variable (t : Fin grid3.N) {P Q : ℕ → ℕ → EReal}
theorem ix3_0 : ∀ t : Fin grid3.N, win3_0.index t = ![0, (grid3.coords t 0).val] := by decide +kernel
theorem ix3_1 : ∀ t : Fin grid3.N, win3_1.index t = ![0, (grid3.coords t 1).val] := by decide +kernel
theorem ix3_2 : ∀ t : Fin grid3.N, win3_2.index t = ![(grid3.coords t 0).val / 2, 2 + (grid3.coords t 0).val % 2, (grid3.coords t 1).val] := by decide +kernel
theorem blk3_0 (h : V c main_v12_1 = em 4096 8192 P) : iblk3 V c 0 t = em 4096 1024 fun i j => P i ((grid3.coords t 0).val * 1024 + j) :=
  funext fun y => em_at h (((cfg3.win 0).blk t).view.emb y) (by blk_simp [ix3_0] <;> omega) (by blk_simp [ix3_0] <;> omega)
theorem blk3_1 (h : V c main_v5 = em 4096 2048 Q) : iblk3 V c 1 t = em 4096 1024 fun i j => Q i ((grid3.coords t 1).val * 1024 + j) :=
  funext fun y => em_at h (((cfg3.win 1).blk t).view.emb y) (by blk_simp [ix3_1] <;> omega) (by blk_simp [ix3_1] <;> omega)
theorem tile3 (x y : Vec Ideal S4096x1024 .bf16) : out3_2 x y = tWgrad (by decide) (by decide) (by decide) x y := by
  unfold out3_2; frame_out; rfl
theorem arr3 (h0 : V c main_v12_1 = em 4096 8192 P) (h1 : V c main_v5 = em 4096 2048 Q) :
    (dat3 V c).arrAt 2 cfg3.N = fun i => if 2 ≤ (i 1).val / 1024 then rowG (wgr P Q) i else (dat3 V c).A 2 i := by
  refine (dat3 V c).arrAt_eq_of_coversWhere 2 (rowG (wgr P Q)) (Q := fun β => 2 ≤ β 1) (by decide +kernel) (fun t hf y => ?_) (fun j => Iff.rfl)
  have hy : (y 1).val < 1024 := (y 1).isLt
  refine Eq.trans ?_ (et_at rfl _ (p := (grid3.coords t 0).val / 2) (q := (2 + (grid3.coords t 0).val % 2) * 1024 + (y 1).val) (r := (grid3.coords t 1).val * 1024 + (y 2).val) (by blk_simp [ix3_2] <;> omega) (by blk_simp [ix3_2] <;> omega) (by blk_simp [ix3_2] <;> omega)).symm
  rw [after3_2, blk3_0 V c t h0, blk3_1 V c t h1, tile3, tWgrad_em]
  blk_simp
  refine congrArg₂ (wgr P Q) ?_ ?_ <;> omega
end r3

section r4
variable (t : Fin grid4.N) {P Q : ℕ → ℕ → EReal}
theorem ix4_0 : ∀ t : Fin grid4.N, win4_0.index t = ![0, (grid4.coords t 0).val] := by decide +kernel
theorem ix4_1 : ∀ t : Fin grid4.N, win4_1.index t = ![0, (grid4.coords t 1).val] := by decide +kernel
theorem ix4_2 : ∀ t : Fin grid4.N, win4_2.index t = ![(grid4.coords t 1).val / 2, 2 + (grid4.coords t 0).val, (grid4.coords t 1).val % 2] := by decide +kernel
theorem blk4_0 (h : V c main_v11 = em 4096 2048 P) : iblk4 V c 0 t = em 4096 1024 fun i j => P i ((grid4.coords t 0).val * 1024 + j) :=
  funext fun y => em_at h (((cfg4.win 0).blk t).view.emb y) (by blk_simp [ix4_0] <;> omega) (by blk_simp [ix4_0] <;> omega)
theorem blk4_1 (h : V c main_v13 = em 4096 8192 Q) : iblk4 V c 1 t = em 4096 1024 fun i j => Q i ((grid4.coords t 1).val * 1024 + j) :=
  funext fun y => em_at h (((cfg4.win 1).blk t).view.emb y) (by blk_simp [ix4_1] <;> omega) (by blk_simp [ix4_1] <;> omega)
theorem tile4 (x y : Vec Ideal S4096x1024 .bf16) : out4_2 x y = tWgrad (by decide) (by decide) (by decide) x y := by
  unfold out4_2; frame_out; rfl
theorem arr4 (h0 : V c main_v11 = em 4096 2048 P) (h1 : V c main_v13 = em 4096 8192 Q) :
    (dat4 V c).arrAt 2 cfg4.N = fun i => if 2 ≤ (i 1).val / 1024 then colG (wgr P Q) i else (dat4 V c).A 2 i := by
  refine (dat4 V c).arrAt_eq_of_coversWhere 2 (colG (wgr P Q)) (Q := fun β => 2 ≤ β 1) (by decide +kernel) (fun t hf y => ?_) (fun j => Iff.rfl)
  have hy : (y 1).val < 1024 := (y 1).isLt
  have hi : (grid4.coords t 0).val < 2 := (grid4.coords t 0).isLt
  refine Eq.trans ?_ (et_at rfl _ (p := (grid4.coords t 1).val / 2) (q := (2 + (grid4.coords t 0).val) * 1024 + (y 1).val) (r := (grid4.coords t 1).val % 2 * 1024 + (y 2).val) (by blk_simp [ix4_2] <;> omega) (by blk_simp [ix4_2] <;> omega) (by blk_simp [ix4_2] <;> omega)).symm
  rw [after4_2, blk4_0 V c t h0, blk4_1 V c t h1, tile4, tWgrad_em]
  blk_simp
  refine congrArg₂ (wgr P Q) ?_ ?_ <;> omega
end r4

/-! ## The first layer -/

section r5
variable (t : Fin grid5.N) {X G : ℕ → ℕ → EReal}
theorem ix5_0 : ∀ t : Fin grid5.N, win5_0.index t = ![(grid5.coords t 0).val, 0] := by decide +kernel
theorem ix5_1 : ∀ t : Fin grid5.N, win5_1.index t = ![0, 0] := by decide +kernel
theorem ix5_2 : ∀ t : Fin grid5.N, win5_2.index t = ![(grid5.coords t 0).val, 0] := by decide +kernel
theorem blk5_0 (h : V c main_arg0 = em 4096 2048 X) : iblk5 V c 0 t = em 256 2048 fun i j => X ((grid5.coords t 0).val * 256 + i) j :=
  funext fun y => em_at h (((cfg5.win 0).blk t).view.emb y) (by blk_simp [ix5_0] <;> omega) (by blk_simp [ix5_0] <;> omega)
theorem blk5_1 (h : V c main_v16 = em 1 2048 G) : iblk5 V c 1 t = em 1 2048 G :=
  funext fun y => em_at h (((cfg5.win 1).blk t).view.emb y) (by blk_simp [ix5_1] <;> omega) (by blk_simp [ix5_1] <;> omega)
theorem tile5 (x : Vec Ideal S256x2048 .f32) (g : Vec Ideal S1x2048 .f32) :
    out5_2 x g = tNorm (n := 256) (by decide) (by decide) (by decide) (by decide) (by decide) (by decide) x g := by
  unfold out5_2; frame_out; rfl
theorem arr5 (h0 : V c main_arg0 = em 4096 2048 X) (h1 : V c main_v16 = em 1 2048 G) :
    (dat5 V c).arrAt 2 cfg5.N = em 4096 2048 (nrm X (G 0)) := by
  refine (dat5 V c).arrAt_eq_of_covers 2 (em 4096 2048 (nrm X (G 0))) (by decide +kernel) fun t hf y => ?_
  refine Eq.trans ?_ (em_at rfl _ (by blk_simp [ix5_2] <;> rfl) (by blk_simp [ix5_2] <;> rfl)).symm
  rw [after5_2, blk5_0 V c t h0, blk5_1 V c t h1, tile5, tNorm_em _ _ _ _ _ _ (by decide)]
  blk_simp
  rfl
end r5

section r6
variable (t : Fin grid6.N) {H W : ℕ → ℕ → EReal}
theorem ix6_0 : ∀ t : Fin grid6.N, win6_0.index t = ![(grid6.coords t 0).val, 0] := by decide +kernel
theorem ix6_1 : ∀ t : Fin grid6.N, win6_1.index t = ![(grid6.coords t 1).val / 2, 0, (grid6.coords t 1).val % 2] := by decide +kernel
theorem ix6_2 : ∀ t : Fin grid6.N, win6_2.index t = ![(grid6.coords t 0).val, (grid6.coords t 1).val] := by decide +kernel
theorem ix6_3 : ∀ t : Fin grid6.N, win6_3.index t = ![(grid6.coords t 0).val, (grid6.coords t 1).val] := by decide +kernel
theorem blk6_0 (h : V c main_v27 = em 4096 2048 H) : iblk6 V c 0 t = em 1024 2048 fun i j => H ((grid6.coords t 0).val * 1024 + i) j :=
  funext fun y => em_at h (((cfg6.win 0).blk t).view.emb y) (by blk_simp [ix6_0] <;> omega) (by blk_simp [ix6_0] <;> omega)
theorem blk6_1 (h : V c main_v24 = colS W) : iblk6 V c 1 t = et 1 2048 1024 fun _ i j => W i ((grid6.coords t 1).val * 1024 + j) :=
  funext fun y => (et_at h (((cfg6.win 1).blk t).view.emb y) (p := (grid6.coords t 1).val / 2) (q := (y 1).val)
    (r := (grid6.coords t 1).val % 2 * 1024 + (y 2).val) (by blk_simp [ix6_1] <;> omega) (by blk_simp [ix6_1] <;> omega)
    (by blk_simp [ix6_1] <;> omega)).trans (congrArg (W (y 1).val) (by omega))
theorem tile6 (x : Vec Ideal S1024x2048 .bf16) (w : Vec Ideal S1x2048x1024 .bf16) :
    out6_2 x w = truncf .bf16 (tUp (by decide) (by decide) (by decide) x w) bitsLt_bf16_f32 := by
  unfold out6_2; frame_out; rfl
theorem tile6' (x : Vec Ideal S1024x2048 .bf16) (w : Vec Ideal S1x2048x1024 .bf16) :
    out6_3 x w = truncf .bf16 (mulf (tUp (by decide) (by decide) (by decide) x w) (tUp (by decide) (by decide) (by decide) x w)) bitsLt_bf16_f32 := by
  unfold out6_3; frame_out; rfl
theorem arr6 (h0 : V c main_v27 = em 4096 2048 H) (h1 : V c main_v24 = colS W) : (dat6 V c).arrAt 2 cfg6.N = em 4096 8192 (act H W) := by
  refine (dat6 V c).arrAt_eq_of_covers 2 (em 4096 8192 (act H W)) (by decide +kernel) fun t hf y => ?_
  refine Eq.trans ?_ (em_at rfl _ (by blk_simp [ix6_2] <;> rfl) (by blk_simp [ix6_2] <;> rfl)).symm
  rw [after6_2, blk6_0 V c t h0, blk6_1 V c t h1, tile6, tUp_em]
  blk_simp
  rfl
theorem arr6' (h0 : V c main_v27 = em 4096 2048 H) (h1 : V c main_v24 = colS W) :
    (dat6 V c).arrAt 3 cfg6.N = em 4096 8192 fun i j => act H W i j * act H W i j := by
  refine (dat6 V c).arrAt_eq_of_covers 3 (em 4096 8192 fun i j => act H W i j * act H W i j) (by decide +kernel) fun t hf y => ?_
  refine Eq.trans ?_ (em_at rfl _ (by blk_simp [ix6_3] <;> rfl) (by blk_simp [ix6_3] <;> rfl)).symm
  rw [after6_3, blk6_0 V c t h0, blk6_1 V c t h1, tile6', tUp_em]
  blk_simp
  rfl
end r6

section r7
variable (t : Fin grid7.N) {D W U : ℕ → ℕ → EReal}
theorem ix7_0 : ∀ t : Fin grid7.N, win7_0.index t = ![(grid7.coords t 0).val, 0] := by decide +kernel
theorem ix7_1 : ∀ t : Fin grid7.N, win7_1.index t = ![(grid7.coords t 1).val / 2, (grid7.coords t 1).val % 2, 0] := by decide +kernel
theorem ix7_2 : ∀ t : Fin grid7.N, win7_2.index t = ![(grid7.coords t 0).val, (grid7.coords t 1).val] := by decide +kernel
theorem ix7_3 : ∀ t : Fin grid7.N, win7_3.index t = ![(grid7.coords t 0).val, (grid7.coords t 1).val] := by decide +kernel
theorem blk7_0 (h : V c main_v21 = em 4096 2048 D) : iblk7 V c 0 t = em 1024 2048 fun i j => D ((grid7.coords t 0).val * 1024 + i) j :=
  funext fun y => em_at h (((cfg7.win 0).blk t).view.emb y) (by blk_simp [ix7_0] <;> omega) (by blk_simp [ix7_0] <;> omega)
theorem blk7_1 (h : V c main_v26 = rowS W) : iblk7 V c 1 t = et 1 1024 2048 fun _ i j => W ((grid7.coords t 1).val * 1024 + i) j :=
  funext fun y => (et_at h (((cfg7.win 1).blk t).view.emb y) (p := (grid7.coords t 1).val / 2)
    (q := (grid7.coords t 1).val % 2 * 1024 + (y 1).val) (r := (y 2).val) (by blk_simp [ix7_1] <;> omega) (by blk_simp [ix7_1] <;> omega)
    (by blk_simp [ix7_1] <;> omega)).trans (congrArg (fun r => W r (y 2).val) (by omega))
theorem blk7_2 (h : V c main_v28_0 = em 4096 8192 U) :
    iblk7 V c 2 t = em 1024 1024 fun i j => U ((grid7.coords t 0).val * 1024 + i) ((grid7.coords t 1).val * 1024 + j) :=
  funext fun y => em_at h (((cfg7.win 2).blk t).view.emb y) (by blk_simp [ix7_2] <;> omega) (by blk_simp [ix7_2] <;> omega)
theorem tile7 (x : Vec Ideal S1024x2048 .bf16) (w : Vec Ideal S1x1024x2048 .bf16) (u : Vec Ideal S1024x1024 .bf16) :
    out7_3 x w u = tDact (by decide) (by decide) (by decide) (by decide) (by decide) x w u := by
  unfold out7_3; frame_out; rfl
theorem arr7 (h0 : V c main_v21 = em 4096 2048 D) (h1 : V c main_v26 = rowS W) (h2 : V c main_v28_0 = em 4096 8192 U) :
    (dat7 V c).arrAt 3 cfg7.N = em 4096 8192 (dct D W U) := by
  refine (dat7 V c).arrAt_eq_of_covers 3 (em 4096 8192 (dct D W U)) (by decide +kernel) fun t hf y => ?_
  refine Eq.trans ?_ (em_at rfl _ (by blk_simp [ix7_3] <;> rfl) (by blk_simp [ix7_3] <;> rfl)).symm
  rw [after7_3, blk7_0 V c t h0, blk7_1 V c t h1, blk7_2 V c t h2, tile7, tDact_em]
  blk_simp
  rfl
end r7

section r8
variable (t : Fin grid8.N) {P Q : ℕ → ℕ → EReal}
theorem ix8_0 : ∀ t : Fin grid8.N, win8_0.index t = ![0, (grid8.coords t 0).val] := by decide +kernel
theorem ix8_1 : ∀ t : Fin grid8.N, win8_1.index t = ![0, (grid8.coords t 1).val] := by decide +kernel
theorem ix8_2 : ∀ t : Fin grid8.N, win8_2.index t = ![(grid8.coords t 0).val / 2, (grid8.coords t 0).val % 2, (grid8.coords t 1).val] := by decide +kernel
theorem blk8_0 (h : V c main_v28_1 = em 4096 8192 P) : iblk8 V c 0 t = em 4096 1024 fun i j => P i ((grid8.coords t 0).val * 1024 + j) :=
  funext fun y => em_at h (((cfg8.win 0).blk t).view.emb y) (by blk_simp [ix8_0] <;> omega) (by blk_simp [ix8_0] <;> omega)
theorem blk8_1 (h : V c main_v21 = em 4096 2048 Q) : iblk8 V c 1 t = em 4096 1024 fun i j => Q i ((grid8.coords t 1).val * 1024 + j) :=
  funext fun y => em_at h (((cfg8.win 1).blk t).view.emb y) (by blk_simp [ix8_1] <;> omega) (by blk_simp [ix8_1] <;> omega)
theorem tile8 : outsAt8 V c t = tWgrad (by decide) (by decide) (by decide) (iblk8 V c 0 t) (iblk8 V c 1 t) := by
  unfold outsAt8 out8_A_2; frame_out; rfl
theorem arr8 (h0 : V c main_v28_1 = em 4096 8192 P) (h1 : V c main_v21 = em 4096 2048 Q) :
    (dat8 V c).arrAt 2 cfg8.N = fun i => if (i 1).val / 1024 < 2 then rowG (wgr P Q) i else (dat8 V c).A 2 i := by
  refine (dat8 V c).arrAt_eq_of_coversWhere 2 (rowG (wgr P Q)) (Q := fun β => β 1 < 2) (by decide +kernel) (fun t hf y => ?_) (fun j => Iff.rfl)
  have hy : (y 1).val < 1024 := (y 1).isLt
  refine Eq.trans ?_ (et_at rfl _ (p := (grid8.coords t 0).val / 2) (q := ((grid8.coords t 0).val % 2) * 1024 + (y 1).val) (r := (grid8.coords t 1).val * 1024 + (y 2).val) (by blk_simp [ix8_2] <;> omega) (by blk_simp [ix8_2] <;> omega) (by blk_simp [ix8_2] <;> omega)).symm
  rw [after8_2, tile8, blk8_0 V c t h0, blk8_1 V c t h1, tWgrad_em]
  blk_simp
  refine congrArg₂ (wgr P Q) ?_ ?_ <;> omega
end r8

section r9
variable (t : Fin grid9.N) {P Q : ℕ → ℕ → EReal}
theorem ix9_0 : ∀ t : Fin grid9.N, win9_0.index t = ![0, (grid9.coords t 0).val] := by decide +kernel
theorem ix9_1 : ∀ t : Fin grid9.N, win9_1.index t = ![0, (grid9.coords t 1).val] := by decide +kernel
theorem ix9_2 : ∀ t : Fin grid9.N, win9_2.index t = ![(grid9.coords t 1).val / 2, (grid9.coords t 0).val, (grid9.coords t 1).val % 2] := by decide +kernel
theorem blk9_0 (h : V c main_v27 = em 4096 2048 P) : iblk9 V c 0 t = em 4096 1024 fun i j => P i ((grid9.coords t 0).val * 1024 + j) :=
  funext fun y => em_at h (((cfg9.win 0).blk t).view.emb y) (by blk_simp [ix9_0] <;> omega) (by blk_simp [ix9_0] <;> omega)
theorem blk9_1 (h : V c main_v29 = em 4096 8192 Q) : iblk9 V c 1 t = em 4096 1024 fun i j => Q i ((grid9.coords t 1).val * 1024 + j) :=
  funext fun y => em_at h (((cfg9.win 1).blk t).view.emb y) (by blk_simp [ix9_1] <;> omega) (by blk_simp [ix9_1] <;> omega)
theorem tile9 : outsAt9 V c t = tWgrad (by decide) (by decide) (by decide) (iblk9 V c 0 t) (iblk9 V c 1 t) := by
  unfold outsAt9 out9_A_2; frame_out; rfl
theorem arr9 (h0 : V c main_v27 = em 4096 2048 P) (h1 : V c main_v29 = em 4096 8192 Q) :
    (dat9 V c).arrAt 2 cfg9.N = fun i => if (i 1).val / 1024 < 2 then colG (wgr P Q) i else (dat9 V c).A 2 i := by
  refine (dat9 V c).arrAt_eq_of_coversWhere 2 (colG (wgr P Q)) (Q := fun β => β 1 < 2) (by decide +kernel) (fun t hf y => ?_) (fun j => Iff.rfl)
  have hy : (y 1).val < 1024 := (y 1).isLt
  have hi : (grid9.coords t 0).val < 2 := (grid9.coords t 0).isLt
  refine Eq.trans ?_ (et_at rfl _ (p := (grid9.coords t 1).val / 2) (q := ((grid9.coords t 0).val) * 1024 + (y 1).val) (r := (grid9.coords t 1).val % 2 * 1024 + (y 2).val) (by blk_simp [ix9_2] <;> omega) (by blk_simp [ix9_2] <;> omega) (by blk_simp [ix9_2] <;> omega)).symm
  rw [after9_2, tile9, blk9_0 V c t h0, blk9_1 V c t h1, tWgrad_em]
  blk_simp
  refine congrArg₂ (wgr P Q) ?_ ?_ <;> omega
end r9

end Cert.Proof.Mlp

end
-- ==== Proof.LayerRef.lean ====
/-
  The reference's text of one perceptron layer and of the gradients of its two weights, on arrays given by functions: they
  are the functions of Proof/Layer.lean. The reference multiplies in the other order, and adds the two equal halves of the
  square's derivative where the kernel multiplies by two; where the rectifier is nought both are nought.
-/
module

public import proofs.«01_k».proof.Proof.Layer

@[expose] public section

set_option maxRecDepth 16384

noncomputable section

namespace Cert.Proof.Layer

open Idealize.ShloMosaic Idealize.ShloMosaic.ValueIdx
open scoped BigOperators

/-- The scalar shape, and the host's constants. -/
abbrev sh0 : Shape := ⟨0, ![]⟩
def hcst (n c : ℕ) (b : BitVec 32) (h : sh0.BroadcastsInDim (sh2 n c) ![] := by decide) : FVec Ideal (sh2 n c) .f32 :=
  broadcastInDim (s := sh0) (sh2 n c) ![] h (constant sh0 .f32 b)

/-- The normalisation. -/
def hNorm (x : FVec Ideal (sh2 4096 2048) .f32) (g : FVec Ideal ⟨1, ![2048]⟩ .f32) : FVec Ideal (sh2 4096 2048) .f32 :=
  mulf (mulf x (broadcastInDim (s := sh2 4096 1) (sh2 4096 2048) ![0, 1] (by decide) (Host.rsqrt (addf (Host.divf
    (broadcastInDim (s := ⟨1, ![4096]⟩) (sh2 4096 1) ![0] (by decide) (Host.reduceAdd (t := ⟨1, ![4096]⟩) (axes := [1]) (mulf x x) (constant sh0 .f32 0x00000000#32) (by decide) (by decide)))
    (hcst 4096 1 0x45000000#32)) (hcst 4096 1 0x358637BD#32)))))
    (broadcastInDim (s := sh2 1 2048) (sh2 4096 2048) ![0, 1] (by decide) (broadcastInDim (s := ⟨1, ![2048]⟩) (sh2 1 2048) ![1] (by decide) g))
/-- The first product, and rectified. -/
def hPre (h : FVec Ideal (sh2 4096 2048) .f32) (w : FVec Ideal (sh2 2048 8192) .f32) : FVec Ideal (sh2 4096 8192) .f32 :=
  Host.dotGeneral (dotNN 4096 2048 8192 (by decide)) none h w
def hAct (p : FVec Ideal (sh2 4096 8192) .f32) : FVec Ideal (sh2 4096 8192) .f32 := maximumf p (hcst 4096 8192 0x00000000#32)
/-- The gradient before the rectifier. -/
def hDct (p : FVec Ideal (sh2 4096 8192) .f32) (w : FVec Ideal (sh2 8192 2048) .f32) (d : FVec Ideal (sh2 4096 2048) .f32) : FVec Ideal (sh2 4096 8192) .f32 :=
  select (cmpf .ogt p (hcst 4096 8192 0x00000000#32))
    (addf (mulf (hAct p) (Host.dotGeneral (dotNT 4096 2048 8192 (by decide)) none d w)) (mulf (Host.dotGeneral (dotNT 4096 2048 8192 (by decide)) none d w) (hAct p)))
    (hcst 4096 8192 0x00000000#32)
/-- The two weights' gradients. -/
def hUp (x d : FVec Ideal (sh2 4096 2048) .f32) (g : FVec Ideal ⟨1, ![2048]⟩ .f32) (wu : FVec Ideal (sh2 2048 8192) .f32)
    (wd : FVec Ideal (sh2 8192 2048) .f32) : FVec Ideal (sh2 2048 8192) .f32 :=
  transpose (sh2 2048 8192) [1, 0] (Host.dotGeneral (dotTN 4096 8192 2048 (by decide)) none (hDct (hPre (hNorm x g) wu) wd d) (hNorm x g)) (by decide)
def hDown (x d : FVec Ideal (sh2 4096 2048) .f32) (g : FVec Ideal ⟨1, ![2048]⟩ .f32) (wu : FVec Ideal (sh2 2048 8192) .f32) :
    FVec Ideal (sh2 8192 2048) .f32 :=
  transpose (sh2 8192 2048) [1, 0] (Host.dotGeneral (dotTN 4096 2048 8192 (by decide)) none d
    (mulf (hAct (hPre (hNorm x g) wu)) (hAct (hPre (hNorm x g) wu)))) (by decide)

/-! ## Their values -/

variable {X D H WU WD : ℕ → ℕ → EReal} {G : ℕ → EReal}

theorem hNorm_em (g : FVec Ideal ⟨1, ![2048]⟩ .f32) (hg : ∀ j : Fin 2048, g (ValueIdx.ix1 j) = G j.val) :
    hNorm (em 4096 2048 X) g = em 4096 2048 (nrm X G) := by
  have e : broadcastInDim (s := ⟨1, ![4096]⟩) (sh2 4096 1) ![0] (by decide) (Host.reduceAdd (F := Ideal) (φ := .f32) (t := ⟨1, ![4096]⟩) (axes := [1])
      (mulf (F := Ideal) (φ := .f32) (em 4096 2048 X) (em 4096 2048 X)) (constant sh0 .f32 0x00000000#32) (by decide) (by decide))
      = em 4096 1 fun i _ => ∑ k ∈ Finset.range 2048, X i k * X i k := by
    funext y
    show Ideal.hostReduceAdd _ (em 4096 2048 fun i j => X i j * X i j) (Ideal.ofBits .f32 0x00000000#32) _ = _
    rw [Ideal.hostReduceAdd_r2_a1, Ideal.ofBits_zero_f32, zero_add]
    show _ = ∑ k ∈ Finset.range 2048, X (y 0).val k * X (y 0).val k
    rw [Finset.sum_range]
    rfl
  unfold hNorm
  rw [e]
  funext y
  refine congrArg₂ (· * ·) (congrArg (X (y 0).val (y 1).val * ·) ?_) ?_
  · rfl
  · refine Eq.trans (congrArg g ?_) (hg ⟨(y 1).val, (y 1).isLt⟩)
    exact ValueIdx.eq_ix1 _
theorem hPre_em : hPre (em 4096 2048 H) (em 2048 8192 WU) = em 4096 8192 (pre H WU) := nn_em _
theorem hAct_em : hAct (em 4096 8192 (pre H WU)) = em 4096 8192 (act H WU) := by
  funext y
  show max _ (Ideal.ofBits .f32 0x00000000#32) = max _ 0
  rw [Ideal.ofBits_zero_f32]; rfl

theorem twice (x : EReal) : x + x = 2 * x := by
  induction x with
  | bot => exact (EReal.mul_bot_of_pos (by norm_num : (0 : EReal) < 2)).symm
  | top => exact (EReal.mul_top_of_pos (by norm_num : (0 : EReal) < 2)).symm
  | coe r =>
    show (r : EReal) + r = ((2 : ℝ) : EReal) * r
    rw [← EReal.coe_add, ← EReal.coe_mul, two_mul]

/-- The two halves of the square's derivative under the rectifier's mask. -/
theorem masked (p c : EReal) :
    (if Ideal.cmp .ogt p (Ideal.ofBits .f32 0x00000000#32) = 1#1 then max p 0 * c + c * max p 0 else Ideal.ofBits .f32 0x00000000#32)
      = c * (2 * max p 0) := by
  rw [Ideal.ofBits_zero_f32]
  by_cases h : 0 < p
  · rw [if_pos (by simp [Ideal.cmp, h]), EReal.mul_comm (max p 0) c, twice, mul_left_comm]
  · rw [if_neg (by simp [Ideal.cmp, h]), max_eq_right (not_lt.mp h), mul_zero, mul_zero]

theorem hDct_em : hDct (em 4096 8192 (pre H WU)) (em 8192 2048 WD) (em 4096 2048 D) = em 4096 8192 (dct D WD (act H WU)) := by
  unfold hDct
  rw [hAct_em]
  have e : Host.dotGeneral (F := Ideal) (φ₁ := .f32) (φ₂ := .f32) (dotNT 4096 2048 8192 (by decide)) none (em 4096 2048 D) (em 8192 2048 WD)
      = em 4096 8192 fun i j => ∑ k ∈ Finset.range 2048, D i k * WD j k := nt_em _
  rw [e]
  funext y
  refine Eq.trans ?_ (masked (pre H WU (y 0).val (y 1).val) (∑ k ∈ Finset.range 2048, D (y 0).val k * WD (y 1).val k))
  rfl

theorem hUp_em (g : FVec Ideal ⟨1, ![2048]⟩ .f32) (hg : ∀ j : Fin 2048, g (ValueIdx.ix1 j) = G j.val) :
    hUp (em 4096 2048 X) (em 4096 2048 D) g (em 2048 8192 WU) (em 8192 2048 WD) = em 2048 8192 (dUp X G WU WD D) := by
  unfold hUp
  rw [hNorm_em g hg, hPre_em, hDct_em]
  have e := tn_em (M := 8192) (N := 2048) (K := 4096) (f := dct D WD (act (nrm X G) WU)) (g := nrm X G) (by decide)
  refine (congrArg (fun z => transpose (sh2 2048 8192) [1, 0] z (by decide)) e).trans ?_
  funext y
  show ∑ k ∈ Finset.range 4096, dct D WD (act (nrm X G) WU) k (y 1).val * nrm X G k (y 0).val
    = ∑ k ∈ Finset.range 4096, nrm X G k (y 0).val * dct D WD (act (nrm X G) WU) k (y 1).val
  exact Finset.sum_congr rfl fun k _ => EReal.mul_comm _ _
theorem hDown_em (g : FVec Ideal ⟨1, ![2048]⟩ .f32) (hg : ∀ j : Fin 2048, g (ValueIdx.ix1 j) = G j.val) :
    hDown (em 4096 2048 X) (em 4096 2048 D) g (em 2048 8192 WU) = em 8192 2048 (dDown X G WU D) := by
  unfold hDown
  rw [hNorm_em g hg, hPre_em, hAct_em]
  have e := tn_em (M := 2048) (N := 8192) (K := 4096) (f := D) (g := fun i j => act (nrm X G) WU i j * act (nrm X G) WU i j) (by decide)
  refine (congrArg (fun z => transpose (sh2 8192 2048) [1, 0] z (by decide)) e).trans ?_
  funext y
  show ∑ k ∈ Finset.range 4096, D k (y 1).val * (act (nrm X G) WU k (y 0).val * act (nrm X G) WU k (y 0).val)
    = ∑ k ∈ Finset.range 4096, (act (nrm X G) WU k (y 0).val * act (nrm X G) WU k (y 0).val) * D k (y 1).val
  exact Finset.sum_congr rfl fun k _ => EReal.mul_comm _ _

/-- Two stacked, and one of a stack. -/
theorem stack_et {n c : ℕ} {f g : ℕ → ℕ → EReal} (hb : (sh2 n c).BroadcastsInDim (sh3 1 n c) (![1, 2] : Fin 2 → Fin 3)) (hn : n ≠ 1) (hc : c ≠ 1)
    (h : Shape.Concatenates [sh3 1 n c, sh3 1 n c] (sh3 2 n c) 0) :
    concatenate (sh3 2 n c) 0 [⟨sh3 1 n c, broadcastInDim (sh3 1 n c) ![1, 2] hb (em n c f)⟩, ⟨sh3 1 n c, broadcastInDim (sh3 1 n c) ![1, 2] hb (em n c g)⟩] h
      = et 2 n c fun l i j => if l = 0 then f i j else g i j := by
  have e : ∀ f, broadcastInDim (sh3 1 n c) ![1, 2] hb (em n c f) = et 1 n c fun _ => f := by
    intro f; funext y; show f _ _ = f _ _; congr 1 <;> simp [hn, hc]
  rw [e, e]
  funext y
  rw [concatenate_pair_apply]
  by_cases hlt : (y 0).val < 1
  · rw [dif_pos (by exact hlt)]
    have : (y 0).val = 0 := by omega
    show f _ _ = if (y 0).val = 0 then _ else _
    rw [if_pos this]; rfl
  · rw [dif_neg (by exact hlt)]
    show g _ _ = if (y 0).val = 0 then _ else _
    rw [if_neg (by omega)]; rfl
theorem row_em {a n l : ℕ} {F : ℕ → ℕ → EReal} (hs : (sh2 a n).Slices (![l, 0] : Fin 2 → ℕ) (sh2 1 n)) (h : (sh2 1 n).ShapeCasts ⟨1, ![n]⟩) (j : Fin n) :
    shapeCast ⟨1, ![n]⟩ (extractStridedSlice (sh2 1 n) ![l, 0] (em a n F) hs) h (ValueIdx.ix1 j) = F l j.val := by
  have e : extractStridedSlice (sh2 1 n) ![l, 0] (em a n F) hs = em 1 n fun p i => F (l + p) i := by
    funext y
    show F (l + _) (0 + _) = F (l + _) _
    rw [Nat.zero_add]
    rfl
  rw [e]
  refine (shapeCast_apply (em 1 n fun p i => F (l + p) i) h (ValueIdx.ix1 j) (ValueIdx.ix2 (0 : Fin 1) j) ?_).trans rfl
  rw [Shape.rowMajor_val_two, Shape.rowMajor_val_one]
  show 0 * n + j.val = j.val
  omega
theorem member_em {a n c l : ℕ} {F : ℕ → ℕ → ℕ → EReal} (hs : (sh3 a n c).Slices (![l, 0, 0] : Fin 3 → ℕ) (sh3 1 n c)) (h : (sh3 1 n c).ShapeCasts (sh2 n c)) :
    shapeCast (sh2 n c) (extractStridedSlice (sh3 1 n c) ![l, 0, 0] (et a n c F) hs) h = em n c (F l) := by
  have e : extractStridedSlice (sh3 1 n c) ![l, 0, 0] (et a n c F) hs = et 1 n c fun p i j => F (l + p) i j := by
    funext y
    show F (l + _) (0 + _) (0 + _) = F (l + _) _ _
    rw [Nat.zero_add, Nat.zero_add]
    rfl
  rw [e]; exact drop1_et h

end Cert.Proof.Layer

end
-- ==== Proof.MlpRef.lean ====
/- The reference's two results for the perceptrons: the stacked gradients of the two layers. -/
module

public import proofs.«01_k».proof.Proof.LayerRef
public import proofs.«01_k».proof.Proof.Gen.Reference2Ideal.Run

@[expose] public section

set_option maxRecDepth 8192

noncomputable section

namespace Cert.Proof.Mlp

open Idealize.ShloMosaic Cert.Proof.Layer
open scoped BigOperators

/-- What both programs compute, from the two layers' inputs, the stacked gains and weights, and the two output gradients. -/
def wantUp (X0 X1 : ℕ → ℕ → EReal) (G : ℕ → ℕ → EReal) (WU WD : ℕ → ℕ → ℕ → EReal) (D0 D1 : ℕ → ℕ → EReal) :
    FVec Ideal (sh3 2 2048 8192) .f32 :=
  et 2 2048 8192 fun l i j => if l = 0 then dUp X0 (G 0) (WU 0) (WD 0) D0 i j else dUp X1 (G 1) (WU 1) (WD 1) D1 i j
def wantDown (X0 X1 : ℕ → ℕ → EReal) (G : ℕ → ℕ → EReal) (WU : ℕ → ℕ → ℕ → EReal) (D0 D1 : ℕ → ℕ → EReal) :
    FVec Ideal (sh3 2 8192 2048) .f32 :=
  et 2 8192 2048 fun l i j => if l = 0 then dDown X0 (G 0) (WU 0) D0 i j else dDown X1 (G 1) (WU 1) D1 i j

namespace Reference

open Cert.Reference2Ideal Cert.Reference2Ideal.Gen Cert.Reference2Ideal.Value

variable (m : (ℓ : Loc nD τ sig) → Buf (Elt Ideal) ℓ) (c : Dev nD)

/-- The output's gradient, reshaped to the shape that it has. -/
def same (x : FVec Ideal (sh2 4096 2048) .f32) : FVec Ideal (sh2 4096 2048) .f32 := shapeCast (sh2 4096 2048) x shapeCasts_S4096x2048_S4096x2048
theorem same_eq (x : FVec Ideal (sh2 4096 2048) .f32) : same x = x := shapeCast_id _ _
/-- The gains and the weights of one layer. -/
def gain (l : ℕ) (h : (sh2 2 2048).Slices ![l, 0] (sh2 1 2048) := by decide) : FVec Ideal ⟨1, ![2048]⟩ .f32 :=
  shapeCast _ (extractStridedSlice (s := sh2 2 2048) (sh2 1 2048) ![l, 0] (m ((c.tc : Thread nD τ).loc main_arg2)) h) shapeCasts_S1x2048_S2048
def wup (l : ℕ) (h : (sh3 2 2048 8192).Slices ![l, 0, 0] (sh3 1 2048 8192) := by decide) : FVec Ideal (sh2 2048 8192) .f32 :=
  shapeCast _ (extractStridedSlice (s := sh3 2 2048 8192) (sh3 1 2048 8192) ![l, 0, 0] (m ((c.tc : Thread nD τ).loc main_arg3)) h) shapeCasts_S1x2048x8192_S2048x8192
def wdown (l : ℕ) (h : (sh3 2 8192 2048).Slices ![l, 0, 0] (sh3 1 8192 2048) := by decide) : FVec Ideal (sh2 8192 2048) .f32 :=
  shapeCast _ (extractStridedSlice (s := sh3 2 8192 2048) (sh3 1 8192 2048) ![l, 0, 0] (m ((c.tc : Thread nD τ).loc main_arg4)) h) shapeCasts_S1x8192x2048_S8192x2048

theorem up_term : res_main_v128 m c = concatenate S2x2048x8192 0
    [⟨S1x2048x8192, broadcastInDim (s := sh2 2048 8192) S1x2048x8192 ![1, 2] bcast_S2048x8192_S1x2048x8192_1_2
      (hUp (m ((c.tc : Thread nD τ).loc main_arg0)) (same (m ((c.tc : Thread nD τ).loc main_arg5))) (gain m c 0) (wup m c 0) (wdown m c 0))⟩,
     ⟨S1x2048x8192, broadcastInDim (s := sh2 2048 8192) S1x2048x8192 ![1, 2] bcast_S2048x8192_S1x2048x8192_1_2
      (hUp (m ((c.tc : Thread nD τ).loc main_arg1)) (same (m ((c.tc : Thread nD τ).loc main_arg6))) (gain m c 1) (wup m c 1) (wdown m c 1))⟩]
    concatenates_S1x2048x8192_S1x2048x8192_S2x2048x8192_d0 := by unfold res_main_v128; rfl
theorem down_term : res_main_v131 m c = concatenate S2x8192x2048 0
    [⟨S1x8192x2048, broadcastInDim (s := sh2 8192 2048) S1x8192x2048 ![1, 2] bcast_S8192x2048_S1x8192x2048_1_2
      (hDown (m ((c.tc : Thread nD τ).loc main_arg0)) (same (m ((c.tc : Thread nD τ).loc main_arg5))) (gain m c 0) (wup m c 0))⟩,
     ⟨S1x8192x2048, broadcastInDim (s := sh2 8192 2048) S1x8192x2048 ![1, 2] bcast_S8192x2048_S1x8192x2048_1_2
      (hDown (m ((c.tc : Thread nD τ).loc main_arg1)) (same (m ((c.tc : Thread nD τ).loc main_arg6))) (gain m c 1) (wup m c 1))⟩]
    concatenates_S1x8192x2048_S1x8192x2048_S2x8192x2048_d0 := by unfold res_main_v131; rfl

variable {m c} {X0 X1 G D0 D1 : ℕ → ℕ → EReal} {WU WD : ℕ → ℕ → ℕ → EReal}
variable (h0 : m ((c.tc : Thread nD τ).loc main_arg0) = em 4096 2048 X0) (h1 : m ((c.tc : Thread nD τ).loc main_arg1) = em 4096 2048 X1)
  (h2 : m ((c.tc : Thread nD τ).loc main_arg2) = em 2 2048 G) (h3 : m ((c.tc : Thread nD τ).loc main_arg3) = et 2 2048 8192 WU)
  (h4 : m ((c.tc : Thread nD τ).loc main_arg4) = et 2 8192 2048 WD)
  (h5 : m ((c.tc : Thread nD τ).loc main_arg5) = em 4096 2048 D0) (h6 : m ((c.tc : Thread nD τ).loc main_arg6) = em 4096 2048 D1)

include h2 in
theorem gain_eq (l : ℕ) (h) (j : Fin 2048) : gain m c l h (ValueIdx.ix1 j) = G l j.val := by
  unfold gain; rw [h2]; exact row_em h _ j
include h3 in
theorem wup_eq (l : ℕ) (h) : wup m c l h = em 2048 8192 (WU l) := by unfold wup; rw [h3]; exact member_em h _
include h4 in
theorem wdown_eq (l : ℕ) (h) : wdown m c l h = em 8192 2048 (WD l) := by unfold wdown; rw [h4]; exact member_em h _

include h0 h1 h2 h3 h4 h5 h6 in
theorem up_eq : res_main_v128 m c = wantUp X0 X1 G WU WD D0 D1 := by
  rw [up_term, h0, h1, h5, h6, same_eq, same_eq, wup_eq h3, wup_eq h3, wdown_eq h4, wdown_eq h4,
    hUp_em _ (gain_eq h2 0 _), hUp_em _ (gain_eq h2 1 _)]
  exact stack_et _ (by decide) (by decide) _
include h0 h1 h2 h3 h5 h6 in
theorem down_eq : res_main_v131 m c = wantDown X0 X1 G WU D0 D1 := by
  rw [down_term, h0, h1, h5, h6, same_eq, same_eq, wup_eq h3, wup_eq h3,
    hDown_em _ (gain_eq h2 0 _), hDown_em _ (gain_eq h2 1 _)]
  exact stack_et _ (by decide) (by decide) _

end Reference
end Cert.Proof.Mlp

end
-- ==== Proof.MlpRun.lean ====
/-
  The perceptron program: what lies in its arrays after each call, and in its two results at the end. The last layer's
  gradients fill the upper half of each stack; the first layer's fill the lower half of a copy; the host takes the stacks
  apart into one array for each weight.
-/
module

public import proofs.«01_k».proof.Proof.Mlp
public import proofs.«01_k».proof.Proof.MlpRef
public import Idealize.ShloMosaic.Lib.Claim

@[expose] public section

set_option maxRecDepth 16384

noncomputable section

namespace Cert.Proof.Mlp

open Idealize.ShloMosaic Idealize.ShloMosaic.TcCoe Idealize.ShloMosaic.ValueIdx
open Cert.Kernel2Ideal Cert.Kernel2Ideal.Gen Cert.Proof.Layer
open scoped BigOperators

/-! ## The host's stacks -/

variable (σ : Valuation τ sig (Elt Ideal)) {D : ℕ → ℕ → EReal} {G : ℕ → ℕ → EReal} {W : ℕ → ℕ → ℕ → EReal}

theorem gain_row {l : ℕ} (h : (sh2 2 2048).Slices (![l, 0] : Fin 2 → ℕ) (sh2 1 2048)) :
    extractStridedSlice (sh2 1 2048) ![l, 0] (em 2 2048 G) h = em 1 2048 fun _ j => G l j := by
  funext y
  have hy : (y 0).val < 1 := (y 0).isLt
  show G (l + (y 0).val) (0 + (y 1).val) = G l (y 1).val
  rw [Nat.zero_add, show (y 0).val = 0 by omega, Nat.add_zero]
theorem cols_stack {l : ℕ} (hs : (sh3 2 2048 8192).Slices (![l, 0, 0] : Fin 3 → ℕ) (sh3 1 2048 8192)) (h1) (h2 : FTy.bits .bf16 < FTy.bits .f32)
    (h3 : (sh2 2048 8192).ShapeCasts (sh3 2048 4 2048)) (h4) :
    transpose (sh3 4 2048 2048) [1, 0, 2] (shapeCast (sh3 2048 4 2048) (truncf (F := Ideal) .bf16
      (shapeCast (sh2 2048 8192) (extractStridedSlice (sh3 1 2048 8192) ![l, 0, 0] (et 2 2048 8192 W) hs) h1) h2) h3) h4 = colS (W l) := by
  rw [member_em]
  exact cols_em (m := 4) (w := 2048) h3 h4
theorem rows_stack {l : ℕ} (hs : (sh3 2 8192 2048).Slices (![l, 0, 0] : Fin 3 → ℕ) (sh3 1 8192 2048)) (h1) (h2 : FTy.bits .bf16 < FTy.bits .f32)
    (h3 : (sh2 8192 2048).ShapeCasts (sh3 4 2048 2048)) :
    shapeCast (sh3 4 2048 2048) (truncf (F := Ideal) .bf16
      (shapeCast (sh2 8192 2048) (extractStridedSlice (sh3 1 8192 2048) ![l, 0, 0] (et 2 8192 2048 W) hs) h1) h2) h3 = rowS (W l) := by
  rw [member_em]
  exact rows_em (m := 4) (w := 2048) h3

section entry
variable (h2 : σ (Proc.tc.devRef main_arg2) = em 2 2048 G)
include h2 in
theorem host_v0 : StableHlo.after hostOps0 σ (Proc.tc.devRef main_v0) = em 1 2048 fun _ j => G 1 j := by
  entry_read; rw [h2]; exact gain_row _
include h2 in
theorem host_v16 : StableHlo.after hostOps5 σ (Proc.tc.devRef main_v16) = em 1 2048 fun _ j => G 0 j := by
  entry_read; rw [h2]; exact gain_row _
variable (h3 : σ (Proc.tc.devRef main_arg3) = et 2 2048 8192 W)
include h3 in
theorem host_v8 : StableHlo.after hostOps0 σ (Proc.tc.devRef main_v8) = colS (W 1) := by
  entry_read; rw [h3]; exact cols_stack _ _ _ _ _
include h3 in
theorem host_v24 : StableHlo.after hostOps5 σ (Proc.tc.devRef main_v24) = colS (W 0) := by
  entry_read; rw [h3]; exact cols_stack _ _ _ _ _
variable (h4 : σ (Proc.tc.devRef main_arg4) = et 2 8192 2048 W)
include h4 in
theorem host_v10 : StableHlo.after hostOps0 σ (Proc.tc.devRef main_v10) = rowS (W 1) := by
  entry_read; rw [h4]; exact rows_stack _ _ _ _
include h4 in
theorem host_v26 : StableHlo.after hostOps5 σ (Proc.tc.devRef main_v26) = rowS (W 0) := by
  entry_read; rw [h4]; exact rows_stack _ _ _ _
theorem host_v5 (h6 : σ (Proc.tc.devRef main_arg6) = em 4096 2048 D) : StableHlo.after hostOps0 σ (Proc.tc.devRef main_v5) = em 4096 2048 D := by
  entry_read; rw [h6]; rfl
theorem host_v21 (h5 : σ (Proc.tc.devRef main_arg5) = em 4096 2048 D) : StableHlo.after hostOps5 σ (Proc.tc.devRef main_v21) = em 4096 2048 D := by
  entry_read; rw [h5]; rfl
theorem host_v30 : StableHlo.after hostOps8 σ (Proc.tc.devRef main_v30) = σ (Proc.tc.devRef main_v14) := by entry_read; rfl
theorem host_v31 : StableHlo.after hostOps9 σ (Proc.tc.devRef main_v31) = σ (Proc.tc.devRef main_v15) := by entry_read; rfl
end entry

/-! ## Taking the stacks apart -/

/-- An array of four axes. -/
def e4 (a b c d : ℕ) (F : ℕ → ℕ → ℕ → ℕ → EReal) : (⟨4, ![a, b, c, d]⟩ : Shape).Idx → EReal := fun i => F (i 0).val (i 1).val (i 2).val (i 3).val

variable {F : ℕ → ℕ → ℕ → EReal}
theorem split_et (h : (sh3 4 4096 2048).ShapeCasts ⟨4, ![4, 2, 2048, 2048]⟩) :
    shapeCast ⟨4, ![4, 2, 2048, 2048]⟩ (et 4 4096 2048 F) h = e4 4 2 2048 2048 fun p l i j => F p (2048 * l + i) j := by
  funext y
  have h0 : (y 0).val < 4 := (y 0).isLt
  have h1 : (y 1).val < 2 := (y 1).isLt
  have h2 : (y 2).val < 2048 := (y 2).isLt
  have h3 : (y 3).val < 2048 := (y 3).isLt
  refine (shapeCast_apply (et 4 4096 2048 F) h y (ValueIdx.ix3 ⟨(y 0).val, h0⟩ ⟨2048 * (y 1).val + (y 2).val, by omega⟩ ⟨(y 3).val, h3⟩) ?_).trans rfl
  rw [Shape.rowMajor_val_three, Shape.rowMajor_val_four]
  show ((y 0).val * 4096 + (2048 * (y 1).val + (y 2).val)) * 2048 + (y 3).val = (((y 0).val * 2 + (y 1).val) * 2048 + (y 2).val) * 2048 + (y 3).val
  omega
theorem apart_cols (h1 h2 h3) :
    shapeCast (sh3 2 2048 8192) (transpose (⟨4, ![2, 2048, 4, 2048]⟩ : Shape) [1, 2, 0, 3] (shapeCast ⟨4, ![4, 2, 2048, 2048]⟩ (et 4 4096 2048 F) h1) h2) h3
      = et 2 2048 8192 fun l i j => F (j / 2048) (2048 * l + i) (j % 2048) := by
  rw [split_et]
  funext y
  have y0 : (y 0).val < 2 := (y 0).isLt
  have y1 : (y 1).val < 2048 := (y 1).isLt
  have y2 : (y 2).val < 8192 := (y 2).isLt
  refine (shapeCast_apply _ h3 y (ValueIdx.ix4 (⟨(y 0).val, y0⟩ : Fin 2) (⟨(y 1).val, y1⟩ : Fin 2048) (⟨(y 2).val / 2048, by omega⟩ : Fin 4) (⟨(y 2).val % 2048, by omega⟩ : Fin 2048)) ?_).trans rfl
  rw [Shape.rowMajor_val_three, Shape.rowMajor_val_four]
  show (((y 0).val * 2048 + (y 1).val) * 4 + (y 2).val / 2048) * 2048 + (y 2).val % 2048 = ((y 0).val * 2048 + (y 1).val) * 8192 + (y 2).val
  omega
theorem apart_rows (h1 h2 h3) :
    shapeCast (sh3 2 8192 2048) (transpose (⟨4, ![2, 4, 2048, 2048]⟩ : Shape) [1, 0, 2, 3] (shapeCast ⟨4, ![4, 2, 2048, 2048]⟩ (et 4 4096 2048 F) h1) h2) h3
      = et 2 8192 2048 fun l i j => F (i / 2048) (2048 * l + i % 2048) j := by
  rw [split_et]
  funext y
  have y0 : (y 0).val < 2 := (y 0).isLt
  have y1 : (y 1).val < 8192 := (y 1).isLt
  have y2 : (y 2).val < 2048 := (y 2).isLt
  refine (shapeCast_apply _ h3 y (ValueIdx.ix4 (⟨(y 0).val, y0⟩ : Fin 2) (⟨(y 1).val / 2048, by omega⟩ : Fin 4) (⟨(y 1).val % 2048, by omega⟩ : Fin 2048) (⟨(y 2).val, y2⟩ : Fin 2048)) ?_).trans rfl
  rw [Shape.rowMajor_val_three, Shape.rowMajor_val_four]
  show (((y 0).val * 4 + (y 1).val / 2048) * 2048 + (y 1).val % 2048) * 2048 + (y 2).val = ((y 0).val * 8192 + (y 1).val) * 2048 + (y 2).val
  omega

/-- Two halves, written one after the other. -/
theorem halves {f g : ℕ → ℕ → ℕ → EReal} {A : (sh3 4 4096 2048).Idx → EReal} :
    (fun i => if (i 1).val / 1024 < 2 then et 4 4096 2048 f i else if 2 ≤ (i 1).val / 1024 then et 4 4096 2048 g i else A i)
      = et 4 4096 2048 fun p i j => if i < 2048 then f p i j else g p i j := by
  funext i
  by_cases h : (i 1).val / 1024 < 2
  · rw [if_pos h]
    exact (if_pos (by omega : (i 1).val < 2048)).symm
  · rw [if_neg h, if_pos (by omega)]
    exact (if_neg (by omega : ¬(i 1).val < 2048)).symm

theorem host_v34 {f g : ℕ → ℕ → EReal} (h : σ (Proc.tc.devRef main_v31) = et 4 4096 2048 fun p i j => if i < 2048 then f (i % 2048) (2048 * p + j) else g (i % 2048) (2048 * p + j)) :
    StableHlo.after hostOps10 σ (Proc.tc.devRef main_v34) = et 2 2048 8192 fun l i j => if l = 0 then f i j else g i j := by
  entry_read; rw [h]
  refine (apart_cols _ _ _).trans (et_congr fun l i j hl hi hj => ?_)
  rw [show (2048 * l + i) % 2048 = i by omega, show 2048 * (j / 2048) + j % 2048 = j by omega]
  exact if_congr (by omega) rfl rfl
theorem host_v37 {f g : ℕ → ℕ → EReal} (h : σ (Proc.tc.devRef main_v30) = et 4 4096 2048 fun p i j => if i < 2048 then f (2048 * p + i % 2048) j else g (2048 * p + i % 2048) j) :
    StableHlo.after hostOps10 σ (Proc.tc.devRef main_v37) = et 2 8192 2048 fun l i j => if l = 0 then f i j else g i j := by
  entry_read; rw [h]
  refine (apart_rows _ _ _).trans (et_congr fun l i j hl hi hj => ?_)
  rw [show 2048 * (i / 2048) + (2048 * l + i % 2048) % 2048 = i by omega]
  exact if_congr (by omega) rfl rfl

/-! ## The calls, one after another -/

variable (m : (ℓ : Loc nD τ sig) → Buf (Elt Ideal) ℓ) (ρ : Dev nD → PrngReg) (c : Dev nD)

theorem carry1 (r : Ref sig .tc) (h1 : ∀ w : Fin cfg0.W, Pipeline.arrRef spec0 w = r → (cfg0.win w).isOut = false)
    (h2 : ∀ w : Fin cfg1.W, Pipeline.arrRef spec1 w = r → (cfg1.win w).isOut = false) : V3 m ρ c r = V1 m ρ c r :=
  (W3_of m ρ c r h2).trans (W2_of m ρ c r h1)
theorem carry2 (r : Ref sig .tc) (h2 : ∀ w : Fin cfg2.W, Pipeline.arrRef spec2 w = r → (cfg2.win w).isOut = false)
    (h3 : ∀ w : Fin cfg3.W, Pipeline.arrRef spec3 w = r → (cfg3.win w).isOut = false) : V5 m ρ c r = V3 m ρ c r :=
  (W5_of m ρ c r h3).trans (W4_of m ρ c r h2)
theorem carry5 (r : Ref sig .tc) (h1 : ∀ w : Fin cfg5.W, Pipeline.arrRef spec5 w = r → (cfg5.win w).isOut = false)
    (h2 : ∀ w : Fin cfg6.W, Pipeline.arrRef spec6 w = r → (cfg6.win w).isOut = false) : V9 m ρ c r = V7 m ρ c r :=
  (W9_of m ρ c r h2).trans (W8_of m ρ c r h1)
/-- From the first layer's entry to the copies of the last layer's stacks. -/
theorem carry6 (r : Ref sig .tc) (h1 : ∀ w : Fin cfg5.W, Pipeline.arrRef spec5 w = r → (cfg5.win w).isOut = false)
    (h2 : ∀ w : Fin cfg6.W, Pipeline.arrRef spec6 w = r → (cfg6.win w).isOut = false)
    (h3 : ∀ w : Fin cfg7.W, Pipeline.arrRef spec7 w = r → (cfg7.win w).isOut = false) (h4 : r ∉ hostOps5_W) : V10 m ρ c r = V6 m ρ c r :=
  (W10_of m ρ c r h3).trans ((carry5 m ρ c r h1 h2).trans (W7_of m ρ c r h4))
theorem carry7 (r : Ref sig .tc) (h3 : ∀ w : Fin cfg7.W, Pipeline.arrRef spec7 w = r → (cfg7.win w).isOut = false)
    (h4 : r ∉ hostOps8_W) : V11 m ρ c r = V9 m ρ c r :=
  (W11_of m ρ c r h4).trans (W10_of m ρ c r h3)
theorem carry8 (r : Ref sig .tc) (h3 : ∀ w : Fin cfg8.W, Pipeline.arrRef spec8 w = r → (cfg8.win w).isOut = false)
    (h4 : r ∉ hostOps9_W) : V13 m ρ c r = V11 m ρ c r :=
  (W13_of m ρ c r h4).trans (W12_of m ρ c r h3)

variable {X0 X1 G D0 D1 : ℕ → ℕ → EReal} {WU WD : ℕ → ℕ → ℕ → EReal}
variable (h0 : m ((c.tc : Thread nD τ).loc main_arg0) = em 4096 2048 X0) (h1 : m ((c.tc : Thread nD τ).loc main_arg1) = em 4096 2048 X1)
  (h2 : m ((c.tc : Thread nD τ).loc main_arg2) = em 2 2048 G) (h3 : m ((c.tc : Thread nD τ).loc main_arg3) = et 2 2048 8192 WU)
  (h4 : m ((c.tc : Thread nD τ).loc main_arg4) = et 2 8192 2048 WD)
  (h5 : m ((c.tc : Thread nD τ).loc main_arg5) = em 4096 2048 D0) (h6 : m ((c.tc : Thread nD τ).loc main_arg6) = em 4096 2048 D1)

/-! The last layer. -/

include h1 h2 in
theorem got11 : V2 m ρ c main_v11 = em 4096 2048 (nrm X1 (G 1)) :=
  (W2_arr m ρ c 2).trans (arr0 (V1 m ρ) c ((W1_args m ρ c main_arg1 (by decide)).trans h1) (host_v0 _ h2))
include h1 h2 h3 in
theorem got12 : V3 m ρ c main_v12_0 = em 4096 8192 (act (nrm X1 (G 1)) (WU 1)) :=
  (W3_arr m ρ c 2).trans (arr1 (V2 m ρ) c (got11 m ρ c h1 h2) ((W2_of m ρ c main_v8 (by decide +kernel)).trans (host_v8 _ h3)))
include h1 h2 h3 in
theorem got12' : V3 m ρ c main_v12_1 = em 4096 8192 fun i j => act (nrm X1 (G 1)) (WU 1) i j * act (nrm X1 (G 1)) (WU 1) i j :=
  (W3_arr m ρ c 3).trans (arr1' (V2 m ρ) c (got11 m ρ c h1 h2) ((W2_of m ρ c main_v8 (by decide +kernel)).trans (host_v8 _ h3)))
include h6 in
theorem got5 : V3 m ρ c main_v5 = em 4096 2048 D1 :=
  (carry1 m ρ c main_v5 (by decide +kernel) (by decide +kernel)).trans (host_v5 _ h6)
include h1 h2 h3 h4 h6 in
theorem got13 : V4 m ρ c main_v13 = em 4096 8192 (dct D1 (WD 1) (act (nrm X1 (G 1)) (WU 1))) :=
  (W4_arr m ρ c 3).trans (arr2 (V3 m ρ) c (got5 m ρ c h6)
    ((carry1 m ρ c main_v10 (by decide +kernel) (by decide +kernel)).trans (host_v10 _ h4)) (got12 m ρ c h1 h2 h3))
include h1 h2 h3 h6 in
theorem got14 : V5 m ρ c main_v14 = fun i => if 2 ≤ (i 1).val / 1024 then rowG (dDown X1 (G 1) (WU 1) D1) i else (dat3 (V4 m ρ) c).A 2 i :=
  (W5_arr m ρ c 2).trans (arr3 (V4 m ρ) c ((W4_of m ρ c main_v12_1 (by decide +kernel)).trans (got12' m ρ c h1 h2 h3))
    ((W4_of m ρ c main_v5 (by decide +kernel)).trans (got5 m ρ c h6)))
include h1 h2 h3 h4 h6 in
theorem got15 : V6 m ρ c main_v15 = fun i => if 2 ≤ (i 1).val / 1024 then colG (dUp X1 (G 1) (WU 1) (WD 1) D1) i else (dat4 (V5 m ρ) c).A 2 i :=
  (W6_arr m ρ c 2).trans (arr4 (V5 m ρ) c
    ((carry2 m ρ c main_v11 (by decide +kernel) (by decide +kernel)).trans ((W3_of m ρ c main_v11 (by decide +kernel)).trans (got11 m ρ c h1 h2)))
    ((W5_of m ρ c main_v13 (by decide +kernel)).trans (got13 m ρ c h1 h2 h3 h4 h6)))

/-! The first layer. -/

include h0 h2 in
theorem got27 : V8 m ρ c main_v27 = em 4096 2048 (nrm X0 (G 0)) :=
  (W8_arr m ρ c 2).trans (arr5 (V7 m ρ) c (G := fun _ j => G 0 j) ((W7_args m ρ c main_arg0 (by decide)).trans h0)
    (host_v16 _ ((W6_args m ρ c main_arg2 (by decide)).trans h2)))
include h0 h2 h3 in
theorem got28 : V9 m ρ c main_v28_0 = em 4096 8192 (act (nrm X0 (G 0)) (WU 0)) :=
  (W9_arr m ρ c 2).trans (arr6 (V8 m ρ) c (got27 m ρ c h0 h2) ((W8_of m ρ c main_v24 (by decide +kernel)).trans
    (host_v24 _ ((W6_args m ρ c main_arg3 (by decide)).trans h3))))
include h0 h2 h3 in
theorem got28' : V9 m ρ c main_v28_1 = em 4096 8192 fun i j => act (nrm X0 (G 0)) (WU 0) i j * act (nrm X0 (G 0)) (WU 0) i j :=
  (W9_arr m ρ c 3).trans (arr6' (V8 m ρ) c (got27 m ρ c h0 h2) ((W8_of m ρ c main_v24 (by decide +kernel)).trans
    (host_v24 _ ((W6_args m ρ c main_arg3 (by decide)).trans h3))))
include h5 in
theorem got21 : V9 m ρ c main_v21 = em 4096 2048 D0 :=
  (carry5 m ρ c main_v21 (by decide +kernel) (by decide +kernel)).trans (host_v21 _ ((W6_args m ρ c main_arg5 (by decide)).trans h5))
include h0 h2 h3 h4 h5 in
theorem got29 : V10 m ρ c main_v29 = em 4096 8192 (dct D0 (WD 0) (act (nrm X0 (G 0)) (WU 0))) :=
  (W10_arr m ρ c 3).trans (arr7 (V9 m ρ) c (got21 m ρ c h5)
    ((carry5 m ρ c main_v26 (by decide +kernel) (by decide +kernel)).trans (host_v26 _ ((W6_args m ρ c main_arg4 (by decide)).trans h4)))
    (got28 m ρ c h0 h2 h3))

include h0 h1 h2 h3 h5 h6 in
theorem got30 : V12 m ρ c main_v30 = et 4 4096 2048 fun p i j => if i < 2048 then dDown X0 (G 0) (WU 0) D0 (2048 * p + i % 2048) j
    else dDown X1 (G 1) (WU 1) D1 (2048 * p + i % 2048) j := by
  refine (W12_arr m ρ c 2).trans ((arr8 (V11 m ρ) c
    ((carry7 m ρ c main_v28_1 (by decide +kernel) (by decide)).trans (got28' m ρ c h0 h2 h3))
    ((carry7 m ρ c main_v21 (by decide +kernel) (by decide)).trans (got21 m ρ c h5))).trans ?_)
  rw [A_eq8]
  have e : V11 m ρ c (Pipeline.arrRef spec8 2) = _ := (host_v30 _).trans ((carry6 m ρ c main_v14 (by decide +kernel) (by decide +kernel) (by decide +kernel) (by decide)).trans
    ((W6_of m ρ c main_v14 (by decide +kernel)).trans (got14 m ρ c h1 h2 h3 h6)))
  rw [e]
  exact halves
include h0 h1 h2 h3 h4 h5 h6 in
theorem got31 : V14 m ρ c main_v31 = et 4 4096 2048 fun p i j => if i < 2048 then dUp X0 (G 0) (WU 0) (WD 0) D0 (i % 2048) (2048 * p + j)
    else dUp X1 (G 1) (WU 1) (WD 1) D1 (i % 2048) (2048 * p + j) := by
  refine (W14_arr m ρ c 2).trans ((arr9 (V13 m ρ) c
    ((carry8 m ρ c main_v27 (by decide +kernel) (by decide)).trans ((carry7 m ρ c main_v27 (by decide +kernel) (by decide)).trans
      ((W9_of m ρ c main_v27 (by decide +kernel)).trans (got27 m ρ c h0 h2))))
    ((carry8 m ρ c main_v29 (by decide +kernel) (by decide)).trans ((W11_of m ρ c main_v29 (by decide)).trans (got29 m ρ c h0 h2 h3 h4 h5)))).trans ?_)
  rw [A_eq9]
  have e : V13 m ρ c (Pipeline.arrRef spec9 2) = _ := (host_v31 _).trans ((W12_of m ρ c main_v15 (by decide +kernel)).trans ((W11_of m ρ c main_v15 (by decide)).trans
    ((carry6 m ρ c main_v15 (by decide +kernel) (by decide +kernel) (by decide +kernel) (by decide)).trans (got15 m ρ c h1 h2 h3 h4 h6))))
  rw [e]
  exact halves

/-! ## The results -/

section launch
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.Rounds

omit c in
set_option backward.isDefEq.respectTransparency.types false in
/-- Every weakly fair execution ends, the two results as the calls and the host leave them and the arguments as they were. -/
theorem contents : θ_run defs (onTc (τ := τ) (main (F := Ideal))) ⟨m, fun _ => 0, ρ⟩ (fun r => ∀ c : Dev nD,
      r.2.mem ((c.tc : Thread nD τ).loc main_v34) = W15 m ρ c (Proc.tc.devRef main_v34)
      ∧ r.2.mem ((c.tc : Thread nD τ).loc main_v37) = W15 m ρ c (Proc.tc.devRef main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h hz c => ⟨h c _ (mem_uc main_v34 (by decide)), h c _ (mem_uc main_v37 (by decide)),
      (h c _ (mem_uc main_arg0 (by decide))).trans (W15_main_arg0 m ρ c),
      (h c _ (mem_uc main_arg1 (by decide))).trans (W15_main_arg1 m ρ c),
      (h c _ (mem_uc main_arg2 (by decide))).trans (W15_main_arg2 m ρ c),
      (h c _ (mem_uc main_arg3 (by decide))).trans (W15_main_arg3 m ρ c),
      (h c _ (mem_uc main_arg4 (by decide))).trans (W15_main_arg4 m ρ c),
      (h c _ (mem_uc main_arg5 (by decide))).trans (W15_main_arg5 m ρ c),
      (h c _ (mem_uc main_arg6 (by decide))).trans (W15_main_arg6 m ρ c)⟩)
end launch

include h0 h1 h2 h3 h4 h5 h6 in
theorem up_result : W15 m ρ c (Proc.tc.devRef main_v34) = wantUp X0 X1 G WU WD D0 D1 := host_v34 _ (got31 m ρ c h0 h1 h2 h3 h4 h5 h6)
include h0 h1 h2 h3 h5 h6 in
theorem down_result : W15 m ρ c (Proc.tc.devRef main_v37) = wantDown X0 X1 G WU D0 D1 :=
  host_v37 _ ((W14_of m ρ c main_v30 (by decide +kernel)).trans ((W13_of m ρ c main_v30 (by decide)).trans (got30 m ρ c h0 h1 h2 h3 h5 h6)))

end Cert.Proof.Mlp

end
-- ==== Proof.Prod.lean ====
/-
  Products of matrices given by functions, over any sizes: a call's product from an accumulator of zeros and the host's,
  a product over an axis joined from two pieces, and the host's joining, cutting and padding of matrices along an axis.
-/
module

public import proofs.«01_k».proof.Proof.Layer
public import Idealize.ShloMosaic.Lib.KernelVsHost

@[expose] public section

set_option maxRecDepth 16384

noncomputable section

namespace Cert.Proof

open Idealize.ShloMosaic Idealize.ShloMosaic.ValueIdx
open scoped BigOperators

/-- The products with `K` terms: of a row and a column, of two rows, of two columns. -/
def mNN (K : ℕ) (f g : ℕ → ℕ → EReal) (i j : ℕ) : EReal := ∑ k ∈ Finset.range K, f i k * g k j
def mNT (K : ℕ) (f g : ℕ → ℕ → EReal) (i j : ℕ) : EReal := ∑ k ∈ Finset.range K, f i k * g j k
def mTN (K : ℕ) (f g : ℕ → ℕ → EReal) (i j : ℕ) : EReal := ∑ k ∈ Finset.range K, f k i * g k j

variable {M K N n c : ℕ} {f g : ℕ → ℕ → EReal}

section product
variable {φ ψ : FTy} (wf)
theorem nn_of {x : FVec Ideal (sh2 M K) φ} {w : FVec Ideal (sh2 K N) ψ} (hx : x = em M K f) (hw : w = em K N g) :
    matmul (dotNN M K N wf) none x w (constant (sh2 M N) .f32 0x00000000#32) = em M N (mNN K f g) := by
  rw [hx, hw, zeros_em]; exact nn_em wf
theorem nt_of {x : FVec Ideal (sh2 M K) φ} {w : FVec Ideal (sh2 N K) ψ} (hx : x = em M K f) (hw : w = em N K g) :
    matmul (dotNT M K N wf) none x w (constant (sh2 M N) .f32 0x00000000#32) = em M N (mNT K f g) := by
  rw [hx, hw, zeros_em]; exact nt_em wf
theorem tn_of {x : FVec Ideal (sh2 K M) φ} {w : FVec Ideal (sh2 K N) ψ} (hx : x = em K M f) (hw : w = em K N g) :
    matmul (dotTN K M N wf) none x w (constant (sh2 M N) .f32 0x00000000#32) = em M N (mTN K f g) := by
  rw [hx, hw, zeros_em]; exact tn_em wf
/-- The host's. -/
theorem host_nn {x : FVec Ideal (sh2 M K) φ} {w : FVec Ideal (sh2 K N) ψ} (hx : x = em M K f) (hw : w = em K N g) :
    Host.dotGeneral (dotNN M K N wf) none x w = em M N (mNN K f g) := by
  rw [hx, hw]; exact nn_em wf
theorem host_nt {x : FVec Ideal (sh2 M K) φ} {w : FVec Ideal (sh2 N K) ψ} (hx : x = em M K f) (hw : w = em N K g) :
    Host.dotGeneral (dotNT M K N wf) none x w = em M N (mNT K f g) := by
  rw [hx, hw]; exact nt_em wf
/-- The host's product of two columns, transposed: the factors change places. -/
theorem host_tn {x : FVec Ideal (sh2 K M) φ} {w : FVec Ideal (sh2 K N) ψ} (hx : x = em K M f) (hw : w = em K N g)
    (h : (sh2 M N).Transposes [1, 0] (sh2 N M)) :
    transpose (sh2 N M) [1, 0] (Host.dotGeneral (dotTN K M N wf) none x w) h = em N M (mTN K g f) := by
  rw [hx, hw]
  refine (congrArg (fun z => transpose (sh2 N M) [1, 0] z h) (tn_em wf)).trans ?_
  funext y
  show ∑ k ∈ Finset.range K, f k (y 1).val * g k (y 0).val = ∑ k ∈ Finset.range K, g k (y 0).val * f k (y 1).val
  exact Finset.sum_congr rfl fun k _ => EReal.mul_comm _ _
end product

/-! ## Joining -/

/-- The columns of `f`, `a` of them, and after them those of `g`; the same with rows. -/
def joinC (a : ℕ) (f g : ℕ → ℕ → EReal) (i j : ℕ) : EReal := if j < a then f i j else g i (j - a)
def joinR (a : ℕ) (f g : ℕ → ℕ → EReal) (i j : ℕ) : EReal := if i < a then f i j else g (i - a) j

theorem cat_cols {a b : ℕ} (h : Shape.Concatenates [sh2 n a, sh2 n b] (sh2 n c) 1) :
    concatenate (sh2 n c) 1 [⟨sh2 n a, em n a f⟩, ⟨sh2 n b, em n b g⟩] h = em n c (joinC a f g) := by
  funext y
  rw [concatenate_pair_apply]
  by_cases hlt : (y 1).val < a
  · rw [dif_pos (by exact hlt)]; exact (if_pos hlt).symm
  · rw [dif_neg (by exact hlt)]; exact (if_neg hlt).symm
theorem cat_rows {a b : ℕ} (h : Shape.Concatenates [sh2 a n, sh2 b n] (sh2 c n) 0) :
    concatenate (sh2 c n) 0 [⟨sh2 a n, em a n f⟩, ⟨sh2 b n, em b n g⟩] h = em c n (joinR a f g) := by
  funext y
  rw [concatenate_pair_apply]
  by_cases hlt : (y 0).val < a
  · rw [dif_pos (by exact hlt)]; exact (if_pos hlt).symm
  · rw [dif_neg (by exact hlt)]; exact (if_neg hlt).symm
/-- Four pieces. -/
theorem cat4_cols {p q r s : ℕ} {f₁ f₂ f₃ f₄ : ℕ → ℕ → EReal} (h : Shape.Concatenates [sh2 n p, sh2 n q, sh2 n r, sh2 n s] (sh2 n c) 1) :
    concatenate (sh2 n c) 1 [⟨sh2 n p, em n p f₁⟩, ⟨sh2 n q, em n q f₂⟩, ⟨sh2 n r, em n r f₃⟩, ⟨sh2 n s, em n s f₄⟩] h
      = em n c (joinC p f₁ (joinC q f₂ (joinC r f₃ f₄))) := by
  have hs : p + (q + (r + (s + 0))) = c := h.2.2
  funext y
  have y0 : (y 0).val < n := (y 0).isLt
  have y1 : (y 1).val < c := (y 1).isLt
  show _ = joinC p f₁ (joinC q f₂ (joinC r f₃ f₄)) (y 0).val (y 1).val
  unfold joinC
  have off : ∀ {b : ℕ} (i : Fin n) (j : Fin b) (e : i.val = (y 0).val) (k : Fin 2), k ≠ 1 → ((ValueIdx.ix2 i j : (sh2 n b).Idx) k).val = (y k).val := by
    intro b i j e k hk
    match k, hk with
    | ⟨0, _⟩, _ => exact e
    | ⟨1, _⟩, hk => exact absurd rfl hk
  have piece := concatenate_apply_piece (t := sh2 n c) 1 [⟨sh2 n p, em n p f₁⟩, ⟨sh2 n q, em n q f₂⟩, ⟨sh2 n r, em n r f₃⟩, ⟨sh2 n s, em n s f₄⟩] h y
  by_cases h1 : (y 1).val < p
  · rw [if_pos h1]
    exact piece 0 (by simp) (sh2 n p) (em n p f₁) rfl rfl 0 rfl (ValueIdx.ix2 ⟨(y 0).val, y0⟩ ⟨(y 1).val, h1⟩)
      (off _ _ rfl) (by show 0 + (y 1).val = (y 1).val; omega)
  rw [if_neg h1]
  by_cases h2 : (y 1).val - p < q
  · rw [if_pos h2]
    exact piece 1 (by simp) (sh2 n q) (em n q f₂) rfl rfl (p + 0) rfl (ValueIdx.ix2 ⟨(y 0).val, y0⟩ ⟨(y 1).val - p, h2⟩)
      (off _ _ rfl) (by show p + 0 + ((y 1).val - p) = (y 1).val; omega)
  rw [if_neg h2]
  by_cases h3 : (y 1).val - p - q < r
  · rw [if_pos h3]
    exact piece 2 (by simp) (sh2 n r) (em n r f₃) rfl rfl (p + (q + 0)) rfl (ValueIdx.ix2 ⟨(y 0).val, y0⟩ ⟨(y 1).val - p - q, h3⟩)
      (off _ _ rfl) (by show p + (q + 0) + ((y 1).val - p - q) = (y 1).val; omega)
  rw [if_neg h3]
  exact piece 3 (by simp) (sh2 n s) (em n s f₄) rfl rfl (p + (q + (r + 0))) rfl (ValueIdx.ix2 ⟨(y 0).val, y0⟩ ⟨(y 1).val - p - q - r, by omega⟩)
    (off _ _ rfl) (by show p + (q + (r + 0)) + ((y 1).val - p - q - r) = (y 1).val; omega)

/-- A product over two joined axes, a sum of two; one with joined columns, or rows, joined from products. -/
theorem mNN_join {a b : ℕ} (f g w : ℕ → ℕ → EReal) (i j : ℕ) :
    mNN (a + b) (joinC a f g) w i j = mNN a f w i j + mNN b g (fun k j => w (a + k) j) i j := by
  unfold mNN
  rw [Finset.sum_range_add]
  refine congrArg₂ (· + ·) (Finset.sum_congr rfl fun k hk => ?_) (Finset.sum_congr rfl fun k _ => ?_)
  · rw [joinC, if_pos (Finset.mem_range.mp hk)]
  · rw [joinC, if_neg (by omega), Nat.add_sub_cancel_left]
theorem mTN_cols (a : ℕ) (f g h : ℕ → ℕ → EReal) : mTN K f (joinC a g h) = joinC a (mTN K f g) (mTN K f h) := by
  funext i j
  unfold mTN joinC
  by_cases e : j < a
  · simp only [if_pos e]
  · simp only [if_neg e]
theorem mTN_rows (a : ℕ) (f g h : ℕ → ℕ → EReal) : mTN K (joinC a f g) h = joinR a (mTN K f h) (mTN K g h) := by
  funext i j
  unfold mTN joinC joinR
  by_cases e : i < a
  · simp only [if_pos e]
  · simp only [if_neg e]

/-! ## Cutting and padding -/

theorem cut_cols {a o : ℕ} (h : (sh2 n c).Slices (![0, o] : Fin 2 → ℕ) (sh2 n a)) :
    extractStridedSlice (sh2 n a) ![0, o] (em n c f) h = em n a fun i j => f i (o + j) := by
  funext y
  show f (0 + (y 0).val) (o + (y 1).val) = f (y 0).val (o + (y 1).val)
  rw [Nat.zero_add]
theorem pad_cols {a b : ℕ} {u : Shape} (v : u.Idx → EReal) (h : (sh2 n a).Pads (![0, 0] : Fin 2 → ℕ) ![0, b] ![0, 0] (sh2 n c)) (hu) :
    pad (sh2 n c) ![0, 0] ![0, b] ![0, 0] (em n a f) v h hu = em n c fun i j => if j < a then f i j else v (Shape.Idx.first hu) := by
  funext y
  have y0 : (y 0).val < n := (y 0).isLt
  show _ = if (y 1).val < a then f (y 0).val (y 1).val else _
  by_cases e : (y 1).val < a
  · rw [if_pos e]
    refine (pad_apply_of_inside _ _ _ (em n a f) v h hu y (ValueIdx.ix2 ⟨(y 0).val, y0⟩ ⟨(y 1).val, e⟩) fun k => ?_).trans rfl
    match k with
    | ⟨0, _⟩ => show (y 0).val = 0 + (y 0).val * (0 + 1); omega
    | ⟨1, _⟩ => show (y 1).val = 0 + (y 1).val * (0 + 1); omega
  · rw [if_neg e]
    refine pad_apply_of_not_inside _ _ _ (em n a f) v h hu y 1 fun hk => e ?_
    have := hk.2.2
    simpa using this

end Cert.Proof

end
-- ==== Proof.OutProj.lean ====
/-
  The output projection's program: the two forward products with the residual, the two products of the weight's gradient
  and the product of the input's gradient, from what each call leaves in its array to the program's three results, and the
  reference's three results.
-/
module

public import proofs.«01_k».proof.Proof.Prod
public import proofs.«01_k».proof.Proof.Gen.Kernel3Ideal.Frame
public import proofs.«01_k».proof.Proof.Gen.Reference3Ideal.Run
public import Idealize.ShloMosaic.Lib.Pipeline.ValueKit
public import Idealize.ShloMosaic.Lib.Claim

@[expose] public section

set_option maxRecDepth 16384

noncomputable section

namespace Cert.Proof.OutProj

open Idealize.ShloMosaic Idealize.ShloMosaic.TcCoe
open scoped BigOperators

/-! ## The results -/

/-- What both programs compute: the output with the residual, the input's gradient, and the weight's. -/
def wantX (X Y S W : ℕ → ℕ → EReal) : FVec Ideal (sh2 4096 2048) .f32 :=
  em 4096 2048 fun i j => X i j + mNN 2048 Y W i j + mNN 2048 S (fun i j => W (2048 + i) j) i j
def wantM (W D : ℕ → ℕ → EReal) : FVec Ideal (sh2 4096 4096) .f32 := em 4096 4096 (mNT 2048 D W)
def wantW (Y S D : ℕ → ℕ → EReal) : FVec Ideal (sh2 4096 2048) .f32 := em 4096 2048 (joinR 2048 (mTN 4096 Y D) (mTN 4096 S D))

section kernel
open Cert.Kernel3Ideal Cert.Kernel3Ideal.Gen

variable (V : (c : Dev nD) → (b : Ref sig .tc) → Buf (Elt Ideal) ((c : Thread nD τ).loc b)) (c : Dev nD) {A B C : ℕ → ℕ → EReal}

/-! ## The calls -/

section r0
variable (t : Fin grid0.N)
theorem ix0_0 : ∀ t : Fin grid0.N, win0_0.index t = ![(grid0.coords t 0).val, 0] := by decide +kernel
theorem ix0_1 : ∀ t : Fin grid0.N, win0_1.index t = ![0, (grid0.coords t 1).val] := by decide +kernel
theorem ix0_2 : ∀ t : Fin grid0.N, win0_2.index t = ![(grid0.coords t 0).val, (grid0.coords t 1).val] := by decide +kernel
theorem ix0_3 : ∀ t : Fin grid0.N, win0_3.index t = ![(grid0.coords t 0).val, (grid0.coords t 1).val] := by decide +kernel
theorem blk0_0 (h : V c main_arg1 = em 4096 2048 A) : iblk0 V c 0 t = em 1024 2048 fun i j => A ((grid0.coords t 0).val * 1024 + i) j :=
  funext fun y => em_at h (((cfg0.win 0).blk t).view.emb y) (by blk_simp [ix0_0] <;> omega) (by blk_simp [ix0_0] <;> omega)
theorem blk0_1 (h : V c main_v0 = em 4096 2048 B) : iblk0 V c 1 t = em 2048 1024 fun i j => B i ((grid0.coords t 1).val * 1024 + j) :=
  funext fun y => em_at h (((cfg0.win 1).blk t).view.emb y) (by blk_simp [ix0_1] <;> omega) (by blk_simp [ix0_1] <;> omega)
theorem blk0_2 (h : V c main_arg0 = em 4096 2048 C) :
    iblk0 V c 2 t = em 1024 1024 fun i j => C ((grid0.coords t 0).val * 1024 + i) ((grid0.coords t 1).val * 1024 + j) :=
  funext fun y => em_at h (((cfg0.win 2).blk t).view.emb y) (by blk_simp [ix0_2] <;> omega) (by blk_simp [ix0_2] <;> omega)
theorem tile0 : out0_3 (F := Ideal) (em 1024 2048 A) (em 2048 1024 B) (em 1024 1024 C) = em 1024 1024 fun i j => C i j + mNN 2048 A B i j := by
  unfold out0_3; frame_out
  exact (congrArg₂ (addf (F := Ideal) (φ := .f32)) rfl (nn_of (by decide) rfl (shapeCast_id _ _))).trans rfl
theorem arr0 (h0 : V c main_arg1 = em 4096 2048 A) (h1 : V c main_v0 = em 4096 2048 B) (h2 : V c main_arg0 = em 4096 2048 C) :
    (dat0 V c).arrAt 3 cfg0.N = em 4096 2048 fun i j => C i j + mNN 2048 A B i j := by
  refine (dat0 V c).arrAt_eq_of_covers 3 (em 4096 2048 fun i j => C i j + mNN 2048 A B i j) (by decide +kernel) fun t hf y => ?_
  refine Eq.trans ?_ (em_at rfl _ (by blk_simp [ix0_3] <;> rfl) (by blk_simp [ix0_3] <;> rfl)).symm
  rw [after0_3, blk0_0 V c t h0, blk0_1 V c t h1, blk0_2 V c t h2, tile0]
  blk_simp
  rfl
end r0

section r1
variable (t : Fin grid1.N)
theorem ix1_0 : ∀ t : Fin grid1.N, win1_0.index t = ![(grid1.coords t 0).val, 0] := by decide +kernel
theorem ix1_1 : ∀ t : Fin grid1.N, win1_1.index t = ![1, (grid1.coords t 1).val] := by decide +kernel
theorem ix1_2 : ∀ t : Fin grid1.N, win1_2.index t = ![(grid1.coords t 0).val, (grid1.coords t 1).val] := by decide +kernel
theorem ix1_3 : ∀ t : Fin grid1.N, win1_3.index t = ![(grid1.coords t 0).val, (grid1.coords t 1).val] := by decide +kernel
theorem blk1_0 (h : V c main_arg2 = em 4096 2048 A) : iblk1 V c 0 t = em 1024 2048 fun i j => A ((grid1.coords t 0).val * 1024 + i) j :=
  funext fun y => em_at h (((cfg1.win 0).blk t).view.emb y) (by blk_simp [ix1_0] <;> omega) (by blk_simp [ix1_0] <;> omega)
theorem blk1_1 (h : V c main_v0 = em 4096 2048 B) : iblk1 V c 1 t = em 2048 1024 fun i j => B (2048 + i) ((grid1.coords t 1).val * 1024 + j) :=
  funext fun y => em_at h (((cfg1.win 1).blk t).view.emb y) (by blk_simp [ix1_1] <;> omega) (by blk_simp [ix1_1] <;> omega)
theorem blk1_2 (h : V c main_v2 = em 4096 2048 C) :
    iblk1 V c 2 t = em 1024 1024 fun i j => C ((grid1.coords t 0).val * 1024 + i) ((grid1.coords t 1).val * 1024 + j) :=
  funext fun y => em_at h (((cfg1.win 2).blk t).view.emb y) (by blk_simp [ix1_2] <;> omega) (by blk_simp [ix1_2] <;> omega)
theorem tile1 : out1_3 (F := Ideal) (em 1024 2048 A) (em 2048 1024 B) (em 1024 1024 C) = em 1024 1024 fun i j => C i j + mNN 2048 A B i j := by
  unfold out1_3; frame_out
  exact (congrArg₂ (addf (F := Ideal) (φ := .f32)) (shapeCast_id _ _) (nn_of (by decide) rfl (shapeCast_id _ _))).trans rfl
theorem arr1 (h0 : V c main_arg2 = em 4096 2048 A) (h1 : V c main_v0 = em 4096 2048 B) (h2 : V c main_v2 = em 4096 2048 C) :
    (dat1 V c).arrAt 3 cfg1.N = em 4096 2048 fun i j => C i j + mNN 2048 A (fun i j => B (2048 + i) j) i j := by
  refine (dat1 V c).arrAt_eq_of_covers 3 (em 4096 2048 fun i j => C i j + mNN 2048 A (fun i j => B (2048 + i) j) i j) (by decide +kernel) fun t hf y => ?_
  refine Eq.trans ?_ (em_at rfl _ (by blk_simp [ix1_3] <;> rfl) (by blk_simp [ix1_3] <;> rfl)).symm
  rw [after1_3, blk1_0 V c t h0, blk1_1 V c t h1, blk1_2 V c t h2, tile1]
  blk_simp
  rfl
end r1

section r2
variable (t : Fin grid2.N)
theorem ix2_0 : ∀ t : Fin grid2.N, win2_0.index t = ![0, (grid2.coords t 0).val] := by decide +kernel
theorem ix2_1 : ∀ t : Fin grid2.N, win2_1.index t = ![0, (grid2.coords t 1).val] := by decide +kernel
theorem ix2_2 : ∀ t : Fin grid2.N, win2_2.index t = ![(grid2.coords t 0).val, (grid2.coords t 1).val] := by decide +kernel
theorem blk2_0 (h : V c main_arg1 = em 4096 2048 A) : iblk2 V c 0 t = em 4096 1024 fun i j => A i ((grid2.coords t 0).val * 1024 + j) :=
  funext fun y => em_at h (((cfg2.win 0).blk t).view.emb y) (by blk_simp [ix2_0] <;> omega) (by blk_simp [ix2_0] <;> omega)
theorem blk2_1 (h : V c main_v1 = em 4096 2048 B) : iblk2 V c 1 t = em 4096 1024 fun i j => B i ((grid2.coords t 1).val * 1024 + j) :=
  funext fun y => em_at h (((cfg2.win 1).blk t).view.emb y) (by blk_simp [ix2_1] <;> omega) (by blk_simp [ix2_1] <;> omega)
theorem tile2 : out2_2 (F := Ideal) (em 4096 1024 A) (em 4096 1024 B) = em 1024 1024 (mTN 4096 A B) := by
  unfold out2_2; frame_out
  exact tn_of (by decide) rfl (shapeCast_id _ _)
theorem arr2 (h0 : V c main_arg1 = em 4096 2048 A) (h1 : V c main_v1 = em 4096 2048 B) : (dat2 V c).arrAt 2 cfg2.N = em 2048 2048 (mTN 4096 A B) := by
  refine (dat2 V c).arrAt_eq_of_covers 2 (em 2048 2048 (mTN 4096 A B)) (by decide +kernel) fun t hf y => ?_
  refine Eq.trans ?_ (em_at rfl _ (by blk_simp [ix2_2] <;> rfl) (by blk_simp [ix2_2] <;> rfl)).symm
  rw [after2_2, blk2_0 V c t h0, blk2_1 V c t h1, tile2]
  blk_simp
  rfl
end r2

section r3
variable (t : Fin grid3.N)
theorem ix3_0 : ∀ t : Fin grid3.N, win3_0.index t = ![0, (grid3.coords t 0).val] := by decide +kernel
theorem ix3_1 : ∀ t : Fin grid3.N, win3_1.index t = ![0, (grid3.coords t 1).val] := by decide +kernel
theorem ix3_2 : ∀ t : Fin grid3.N, win3_2.index t = ![(grid3.coords t 0).val, (grid3.coords t 1).val] := by decide +kernel
theorem blk3_0 (h : V c main_arg2 = em 4096 2048 A) : iblk3 V c 0 t = em 4096 1024 fun i j => A i ((grid3.coords t 0).val * 1024 + j) :=
  funext fun y => em_at h (((cfg3.win 0).blk t).view.emb y) (by blk_simp [ix3_0] <;> omega) (by blk_simp [ix3_0] <;> omega)
theorem blk3_1 (h : V c main_v1 = em 4096 2048 B) : iblk3 V c 1 t = em 4096 1024 fun i j => B i ((grid3.coords t 1).val * 1024 + j) :=
  funext fun y => em_at h (((cfg3.win 1).blk t).view.emb y) (by blk_simp [ix3_1] <;> omega) (by blk_simp [ix3_1] <;> omega)
theorem tile3 : out3_2 (F := Ideal) (em 4096 1024 A) (em 4096 1024 B) = em 1024 1024 (mTN 4096 A B) := by
  unfold out3_2; frame_out
  exact tn_of (by decide) rfl (shapeCast_id _ _)
theorem arr3 (h0 : V c main_arg2 = em 4096 2048 A) (h1 : V c main_v1 = em 4096 2048 B) : (dat3 V c).arrAt 2 cfg3.N = em 2048 2048 (mTN 4096 A B) := by
  refine (dat3 V c).arrAt_eq_of_covers 2 (em 2048 2048 (mTN 4096 A B)) (by decide +kernel) fun t hf y => ?_
  refine Eq.trans ?_ (em_at rfl _ (by blk_simp [ix3_2] <;> rfl) (by blk_simp [ix3_2] <;> rfl)).symm
  rw [after3_2, blk3_0 V c t h0, blk3_1 V c t h1, tile3]
  blk_simp
  rfl
end r3

section r4
variable (t : Fin grid4.N)
theorem ix4_0 : ∀ t : Fin grid4.N, win4_0.index t = ![(grid4.coords t 0).val, 0] := by decide +kernel
theorem ix4_1 : ∀ t : Fin grid4.N, win4_1.index t = ![(grid4.coords t 1).val, 0] := by decide +kernel
theorem ix4_2 : ∀ t : Fin grid4.N, win4_2.index t = ![(grid4.coords t 0).val, (grid4.coords t 1).val] := by decide +kernel
theorem blk4_0 (h : V c main_v1 = em 4096 2048 A) : iblk4 V c 0 t = em 1024 2048 fun i j => A ((grid4.coords t 0).val * 1024 + i) j :=
  funext fun y => em_at h (((cfg4.win 0).blk t).view.emb y) (by blk_simp [ix4_0] <;> omega) (by blk_simp [ix4_0] <;> omega)
theorem blk4_1 (h : V c main_v0 = em 4096 2048 B) : iblk4 V c 1 t = em 1024 2048 fun i j => B ((grid4.coords t 1).val * 1024 + i) j :=
  funext fun y => em_at h (((cfg4.win 1).blk t).view.emb y) (by blk_simp [ix4_1] <;> omega) (by blk_simp [ix4_1] <;> omega)
theorem tile4 : out4_2 (F := Ideal) (em 1024 2048 A) (em 1024 2048 B) = em 1024 1024 (mNT 2048 A B) := by
  unfold out4_2; frame_out
  exact nt_of (by decide) (shapeCast_id _ _) (shapeCast_id _ _)
theorem arr4 (h0 : V c main_v1 = em 4096 2048 A) (h1 : V c main_v0 = em 4096 2048 B) : (dat4 V c).arrAt 2 cfg4.N = em 4096 4096 (mNT 2048 A B) := by
  refine (dat4 V c).arrAt_eq_of_covers 2 (em 4096 4096 (mNT 2048 A B)) (by decide +kernel) fun t hf y => ?_
  refine Eq.trans ?_ (em_at rfl _ (by blk_simp [ix4_2] <;> rfl) (by blk_simp [ix4_2] <;> rfl)).symm
  rw [after4_2, blk4_0 V c t h0, blk4_1 V c t h1, tile4]
  blk_simp
  rfl
end r4

/-! ## From call to call -/

variable (σ : Valuation τ sig (Elt Ideal))
theorem host_v0 (h : σ (Proc.tc.devRef main_arg3) = em 4096 2048 A) : StableHlo.after hostOps0 σ (Proc.tc.devRef main_v0) = em 4096 2048 A := by
  entry_read; rw [h]; rfl
theorem host_v1 (h : σ (Proc.tc.devRef main_arg4) = em 4096 2048 A) : StableHlo.after hostOps0 σ (Proc.tc.devRef main_v1) = em 4096 2048 A := by
  entry_read; rw [h]; rfl
theorem host_v6 (h0 : σ (Proc.tc.devRef main_v4) = em 2048 2048 A) (h1 : σ (Proc.tc.devRef main_v5) = em 2048 2048 B) :
    StableHlo.after hostOps4 σ (Proc.tc.devRef main_v6) = em 4096 2048 (joinR 2048 A B) := by
  entry_read; rw [h0, h1]; exact cat_rows _

variable (m : (ℓ : Loc nD τ sig) → Buf (Elt Ideal) ℓ) (ρ : Dev nD → PrngReg) {X Y S W D : ℕ → ℕ → EReal}
variable (h0 : m ((c.tc : Thread nD τ).loc main_arg0) = em 4096 2048 X) (h1 : m ((c.tc : Thread nD τ).loc main_arg1) = em 4096 2048 Y)
  (h2 : m ((c.tc : Thread nD τ).loc main_arg2) = em 4096 2048 S) (h3 : m ((c.tc : Thread nD τ).loc main_arg3) = em 4096 2048 W)
  (h4 : m ((c.tc : Thread nD τ).loc main_arg4) = em 4096 2048 D)

theorem carry (r : Ref sig .tc) (g0 : ∀ w : Fin cfg0.W, Pipeline.arrRef spec0 w = r → (cfg0.win w).isOut = false)
    (g1 : ∀ w : Fin cfg1.W, Pipeline.arrRef spec1 w = r → (cfg1.win w).isOut = false) : V3 m ρ c r = V1 m ρ c r :=
  (W3_of m ρ c r g1).trans (W2_of m ρ c r g0)

include h0 h1 h3 in
theorem got2 : V2 m ρ c main_v2 = em 4096 2048 fun i j => X i j + mNN 2048 Y W i j :=
  (W2_arr m ρ c 3).trans (arr0 (V1 m ρ) c ((W1_args m ρ c main_arg1 (by decide)).trans h1) (host_v0 _ h3) ((W1_args m ρ c main_arg0 (by decide)).trans h0))
include h0 h1 h2 h3 in
theorem got3 : V3 m ρ c main_v3 = wantX X Y S W :=
  (W3_arr m ρ c 3).trans (arr1 (V2 m ρ) c ((W2_args m ρ c main_arg2 (by decide)).trans h2) ((W2_of m ρ c main_v0 (by decide +kernel)).trans (host_v0 _ h3))
    (got2 c m ρ h0 h1 h3))
include h4 in
theorem gotD : V3 m ρ c main_v1 = em 4096 2048 D := (carry c m ρ main_v1 (by decide +kernel) (by decide +kernel)).trans (host_v1 _ h4)
include h1 h4 in
theorem got4 : V4 m ρ c main_v4 = em 2048 2048 (mTN 4096 Y D) :=
  (W4_arr m ρ c 2).trans (arr2 (V3 m ρ) c ((W3_args m ρ c main_arg1 (by decide)).trans h1) (gotD c m ρ h4))
include h2 h4 in
theorem got5 : V5 m ρ c main_v5 = em 2048 2048 (mTN 4096 S D) :=
  (W5_arr m ρ c 2).trans (arr3 (V4 m ρ) c ((W4_args m ρ c main_arg2 (by decide)).trans h2) ((W4_of m ρ c main_v1 (by decide +kernel)).trans (gotD c m ρ h4)))
include h1 h2 h4 in
theorem got6 : V6 m ρ c main_v6 = wantW Y S D :=
  host_v6 _ ((W5_of m ρ c main_v4 (by decide +kernel)).trans (got4 c m ρ h1 h4)) (got5 c m ρ h2 h4)
theorem carry6 (r : Ref sig .tc) (g2 : ∀ w : Fin cfg2.W, Pipeline.arrRef spec2 w = r → (cfg2.win w).isOut = false)
    (g3 : ∀ w : Fin cfg3.W, Pipeline.arrRef spec3 w = r → (cfg3.win w).isOut = false) (g : r ∉ hostOps4_W) : V6 m ρ c r = V3 m ρ c r :=
  (W6_of m ρ c r g).trans ((W5_of m ρ c r g3).trans (W4_of m ρ c r g2))
include h3 h4 in
theorem got7 : V7 m ρ c main_v7 = wantM W D :=
  (W7_arr m ρ c 2).trans (arr4 (V6 m ρ) c ((carry6 c m ρ main_v1 (by decide +kernel) (by decide +kernel) (by decide)).trans (gotD c m ρ h4))
    ((carry6 c m ρ main_v0 (by decide +kernel) (by decide +kernel) (by decide)).trans ((carry c m ρ main_v0 (by decide +kernel) (by decide +kernel)).trans (host_v0 _ h3))))

include h0 h1 h2 h3 in
theorem x_result : W7 m ρ c (Proc.tc.devRef main_v3) = wantX X Y S W :=
  (W7_of m ρ c main_v3 (by decide +kernel)).trans ((carry6 c m ρ main_v3 (by decide +kernel) (by decide +kernel) (by decide)).trans (got3 c m ρ h0 h1 h2 h3))
include h3 h4 in
theorem m_result : W7 m ρ c (Proc.tc.devRef main_v7) = wantM W D := got7 c m ρ h3 h4
include h1 h2 h4 in
theorem w_result : W7 m ρ c (Proc.tc.devRef main_v6) = wantW Y S D := (W7_of m ρ c main_v6 (by decide +kernel)).trans (got6 c m ρ h1 h2 h4)

section launch
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.Rounds

omit c in
set_option backward.isDefEq.respectTransparency.types false in
/-- Every weakly fair execution ends, the three results as the calls and the host leave them and the arguments as they were. -/
theorem contents : θ_run defs (onTc (τ := τ) (main (F := Ideal))) ⟨m, fun _ => 0, ρ⟩ (fun r => ∀ c : Dev nD,
      r.2.mem ((c.tc : Thread nD τ).loc main_v3) = W7 m ρ c (Proc.tc.devRef main_v3)
      ∧ r.2.mem ((c.tc : Thread nD τ).loc main_v7) = W7 m ρ c (Proc.tc.devRef main_v7)
      ∧ r.2.mem ((c.tc : Thread nD τ).loc main_v6) = W7 m ρ c (Proc.tc.devRef main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz c => ⟨h c _ (mem_uc main_v3 (by decide)), h c _ (mem_uc main_v7 (by decide)), h c _ (mem_uc main_v6 (by decide)),
      (h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c)⟩)
end launch
end kernel

/-! ## The reference -/

namespace Reference
open Cert.Reference3Ideal Cert.Reference3Ideal.Gen

variable (m : (ℓ : Loc nD τ sig) → Buf (Elt Ideal) ℓ) (c : Dev nD) {X Y S W D : ℕ → ℕ → EReal}
variable (h0 : m ((c.tc : Thread nD τ).loc main_arg0) = em 4096 2048 X) (h1 : m ((c.tc : Thread nD τ).loc main_arg1) = em 4096 2048 Y)
  (h2 : m ((c.tc : Thread nD τ).loc main_arg2) = em 4096 2048 S) (h3 : m ((c.tc : Thread nD τ).loc main_arg3) = em 4096 2048 W)
  (h4 : m ((c.tc : Thread nD τ).loc main_arg4) = em 4096 2048 D)

/-- The merged input. -/
def merged : FVec Ideal (sh2 4096 4096) .f32 := concatenate S4096x4096 1
  [⟨S4096x2048, (extf .f32 (m ((c.tc : Thread nD τ).loc main_arg1)) bitsLt_bf16_f32 : FVec Ideal S4096x2048 .f32)⟩,
   ⟨S4096x2048, (extf .f32 (m ((c.tc : Thread nD τ).loc main_arg2)) bitsLt_bf16_f32 : FVec Ideal S4096x2048 .f32)⟩] concatenates_S4096x2048_S4096x2048_S4096x4096_d1
include h1 h2 in
theorem merged_eq : merged m c = em 4096 4096 (joinC 2048 Y S) := by
  unfold merged; rw [h1, h2]; exact cat_cols _
include h0 h1 h2 h3 in
theorem x_eq : addf (F := Ideal) (φ := .f32) (m ((c.tc : Thread nD τ).loc main_arg0))
      (Host.dotGeneral (φ₁ := .f32) (φ₂ := .f32) dot_S4096x4096_S4096x2048_S4096x2048_1_0_0_1_n_n none (merged m c) (m ((c.tc : Thread nD τ).loc main_arg3))) = wantX X Y S W := by
  rw [h0]
  refine (congrArg (addf (F := Ideal) (φ := .f32) (em 4096 2048 X)) (host_nn (by decide) (merged_eq m c h1 h2) h3)).trans ?_
  unfold wantX
  funext y
  show X _ _ + mNN (2048 + 2048) (joinC 2048 Y S) W _ _ = X _ _ + mNN 2048 Y W _ _ + mNN 2048 S (fun i j => W (2048 + i) j) _ _
  rw [mNN_join, add_assoc]
include h3 h4 in
theorem m_eq : Host.dotGeneral (F := Ideal) (φ₁ := .f32) (φ₂ := .f32) dot_S4096x2048_S4096x2048_S4096x4096_1_1_0_0_n_n none (m ((c.tc : Thread nD τ).loc main_arg4))
      (m ((c.tc : Thread nD τ).loc main_arg3)) = wantM W D := host_nt (by decide) h4 h3
include h1 h2 h4 in
theorem w_eq : transpose S4096x2048 [1, 0] (Host.dotGeneral (F := Ideal) (φ₁ := .f32) (φ₂ := .f32) dot_S4096x2048_S4096x4096_S2048x4096_0_0_1_1_n_n none
      (m ((c.tc : Thread nD τ).loc main_arg4)) (merged m c)) transposes_S2048x4096_S4096x2048_1_0 = wantW Y S D := by
  refine (host_tn (by decide) h4 (merged_eq m c h1 h2) _).trans ?_
  rw [mTN_rows]; rfl
end Reference

end Cert.Proof.OutProj

end
-- ==== Proof.InProj.lean ====
/-
  The input projection's program: the norm, the four products of the projected rows, and the four of the weight's gradient,
  from what each call leaves in its array to the program's five results, and the reference's five results.
-/
module

public import proofs.«01_k».proof.Proof.Prod
public import proofs.«01_k».proof.Proof.LayerRef
public import proofs.«01_k».proof.Proof.Gen.Kernel4Ideal.Frame
public import proofs.«01_k».proof.Proof.Gen.Reference4Ideal.Run
public import Idealize.ShloMosaic.Lib.Pipeline.ValueKit
public import Idealize.ShloMosaic.Lib.Claim

@[expose] public section

set_option maxRecDepth 16384

noncomputable section

namespace Cert.Proof.InProj

open Idealize.ShloMosaic Idealize.ShloMosaic.TcCoe Cert.Proof.Layer
open scoped BigOperators

/-! ## The results -/

/-- The projected rows: some columns of the weight, from the given one on. -/
def part (o : ℕ) (X G W : ℕ → ℕ → EReal) : ℕ → ℕ → EReal := mNN 2048 (nrm X (G 0)) fun i j => W i (o + j)
/-- The four outputs' gradients side by side, of the third its first 32 columns. -/
def grads (DZ DX DT DQ : ℕ → ℕ → EReal) : ℕ → ℕ → EReal := joinC 2048 DZ (joinC 3072 DX (joinC 32 (fun i j => DT i (0 + j)) DQ))
/-- What both programs compute. -/
def want (o c : ℕ) (X G W : ℕ → ℕ → EReal) : FVec Ideal (sh2 4096 c) .f32 := em 4096 c (part o X G W)
def wantW (X G DZ DX DT DQ : ℕ → ℕ → EReal) : FVec Ideal (sh2 2048 11296) .f32 := em 2048 11296 (mTN 4096 (nrm X (G 0)) (grads DZ DX DT DQ))

section kernel
open Cert.Kernel4Ideal Cert.Kernel4Ideal.Gen

variable (V : (c : Dev nD) → (b : Ref sig .tc) → Buf (Elt Ideal) ((c : Thread nD τ).loc b)) (c : Dev nD) {A B : ℕ → ℕ → EReal}

/-! ## The calls -/

section r0
variable (t : Fin grid0.N)
theorem ix0_0 : ∀ t : Fin grid0.N, win0_0.index t = ![(grid0.coords t 0).val, 0] := by decide +kernel
theorem ix0_1 : ∀ t : Fin grid0.N, win0_1.index t = ![0, 0] := by decide +kernel
theorem ix0_2 : ∀ t : Fin grid0.N, win0_2.index t = ![(grid0.coords t 0).val, 0] := by decide +kernel
theorem blk0_0 (h : V c main_arg0 = em 4096 2048 A) : iblk0 V c 0 t = em 256 2048 fun i j => A ((grid0.coords t 0).val * 256 + i) j :=
  funext fun y => em_at h (((cfg0.win 0).blk t).view.emb y) (by blk_simp [ix0_0] <;> omega) (by blk_simp [ix0_0] <;> omega)
theorem blk0_1 (h : V c main_arg1 = em 1 2048 B) : iblk0 V c 1 t = em 1 2048 B :=
  funext fun y => em_at h (((cfg0.win 1).blk t).view.emb y) (by blk_simp [ix0_1] <;> omega) (by blk_simp [ix0_1] <;> omega)
theorem tile0 (x : Vec Ideal S256x2048 .f32) (g : Vec Ideal S1x2048 .f32) :
    out0_2 x g = tNorm (n := 256) (by decide) (by decide) (by decide) (by decide) (by decide) (by decide) x g := by
  unfold out0_2; frame_out
  exact (congrArg (k0_pay1 (F := Ideal) x) (shapeCast_id (s := sh2 1 2048) g rfl).symm).trans rfl
theorem arr0 (h0 : V c main_arg0 = em 4096 2048 A) (h1 : V c main_arg1 = em 1 2048 B) : (dat0 V c).arrAt 2 cfg0.N = em 4096 2048 (nrm A (B 0)) := by
  refine (dat0 V c).arrAt_eq_of_covers 2 (em 4096 2048 (nrm A (B 0))) (by decide +kernel) fun t hf y => ?_
  refine Eq.trans ?_ (em_at rfl _ (by blk_simp [ix0_2] <;> rfl) (by blk_simp [ix0_2] <;> rfl)).symm
  rw [after0_2, blk0_0 V c t h0, blk0_1 V c t h1, tile0, tNorm_em _ _ _ _ _ _ (by decide)]
  blk_simp
  rfl
end r0

section r1
variable (t : Fin grid1.N)
theorem ix1_0 : ∀ t : Fin grid1.N, win1_0.index t = ![(grid1.coords t 0).val, 0] := by decide +kernel
theorem ix1_1 : ∀ t : Fin grid1.N, win1_1.index t = ![0, (grid1.coords t 1).val] := by decide +kernel
theorem ix1_2 : ∀ t : Fin grid1.N, win1_2.index t = ![(grid1.coords t 0).val, (grid1.coords t 1).val] := by decide +kernel
theorem blk1_0 (h : V c main_v6 = em 4096 2048 A) : iblk1 V c 0 t = em 1024 2048 fun i j => A ((grid1.coords t 0).val * 1024 + i) j :=
  funext fun y => em_at h (((cfg1.win 0).blk t).view.emb y) (by blk_simp [ix1_0] <;> omega) (by blk_simp [ix1_0] <;> omega)
theorem blk1_1 (h : V c main_v1 = em 2048 2048 B) : iblk1 V c 1 t = em 2048 1024 fun i j => B i ((grid1.coords t 1).val * 1024 + j) :=
  funext fun y => em_at h (((cfg1.win 1).blk t).view.emb y) (by blk_simp [ix1_1] <;> omega) (by blk_simp [ix1_1] <;> omega)
theorem tile1 : out1_2 (F := Ideal) (em 1024 2048 A) (em 2048 1024 B) = em 1024 1024 (mNN 2048 A B) := by
  unfold out1_2; frame_out
  exact nn_of (by decide) (shapeCast_id _ _) (shapeCast_id _ _)
theorem arr1 (h0 : V c main_v6 = em 4096 2048 A) (h1 : V c main_v1 = em 2048 2048 B) : (dat1 V c).arrAt 2 cfg1.N = em 4096 2048 (mNN 2048 A B) := by
  refine (dat1 V c).arrAt_eq_of_covers 2 (em 4096 2048 (mNN 2048 A B)) (by decide +kernel) fun t hf y => ?_
  refine Eq.trans ?_ (em_at rfl _ (by blk_simp [ix1_2] <;> rfl) (by blk_simp [ix1_2] <;> rfl)).symm
  rw [after1_2, blk1_0 V c t h0, blk1_1 V c t h1, tile1]
  blk_simp
  rfl
end r1

section r2
variable (t : Fin grid2.N)
theorem ix2_0 : ∀ t : Fin grid2.N, win2_0.index t = ![(grid2.coords t 0).val, 0] := by decide +kernel
theorem ix2_1 : ∀ t : Fin grid2.N, win2_1.index t = ![0, (grid2.coords t 1).val] := by decide +kernel
theorem ix2_2 : ∀ t : Fin grid2.N, win2_2.index t = ![(grid2.coords t 0).val, (grid2.coords t 1).val] := by decide +kernel
theorem blk2_0 (h : V c main_v6 = em 4096 2048 A) : iblk2 V c 0 t = em 1024 2048 fun i j => A ((grid2.coords t 0).val * 1024 + i) j :=
  funext fun y => em_at h (((cfg2.win 0).blk t).view.emb y) (by blk_simp [ix2_0] <;> omega) (by blk_simp [ix2_0] <;> omega)
theorem blk2_1 (h : V c main_v2 = em 2048 3072 B) : iblk2 V c 1 t = em 2048 1024 fun i j => B i ((grid2.coords t 1).val * 1024 + j) :=
  funext fun y => em_at h (((cfg2.win 1).blk t).view.emb y) (by blk_simp [ix2_1] <;> omega) (by blk_simp [ix2_1] <;> omega)
theorem tile2 : out2_2 (F := Ideal) (em 1024 2048 A) (em 2048 1024 B) = em 1024 1024 (mNN 2048 A B) := by
  unfold out2_2; frame_out
  exact nn_of (by decide) (shapeCast_id _ _) (shapeCast_id _ _)
theorem arr2 (h0 : V c main_v6 = em 4096 2048 A) (h1 : V c main_v2 = em 2048 3072 B) : (dat2 V c).arrAt 2 cfg2.N = em 4096 3072 (mNN 2048 A B) := by
  refine (dat2 V c).arrAt_eq_of_covers 2 (em 4096 3072 (mNN 2048 A B)) (by decide +kernel) fun t hf y => ?_
  refine Eq.trans ?_ (em_at rfl _ (by blk_simp [ix2_2] <;> rfl) (by blk_simp [ix2_2] <;> rfl)).symm
  rw [after2_2, blk2_0 V c t h0, blk2_1 V c t h1, tile2]
  blk_simp
  rfl
end r2

section r3
variable (t : Fin grid3.N)
theorem ix3_0 : ∀ t : Fin grid3.N, win3_0.index t = ![(grid3.coords t 0).val, 0] := by decide +kernel
theorem ix3_1 : ∀ t : Fin grid3.N, win3_1.index t = ![0, (grid3.coords t 1).val] := by decide +kernel
theorem ix3_2 : ∀ t : Fin grid3.N, win3_2.index t = ![(grid3.coords t 0).val, (grid3.coords t 1).val] := by decide +kernel
theorem blk3_0 (h : V c main_v6 = em 4096 2048 A) : iblk3 V c 0 t = em 1024 2048 fun i j => A ((grid3.coords t 0).val * 1024 + i) j :=
  funext fun y => em_at h (((cfg3.win 0).blk t).view.emb y) (by blk_simp [ix3_0] <;> omega) (by blk_simp [ix3_0] <;> omega)
theorem blk3_1 (h : V c main_v4 = em 2048 128 B) : iblk3 V c 1 t = em 2048 128 fun i j => B i ((grid3.coords t 1).val * 128 + j) :=
  funext fun y => em_at h (((cfg3.win 1).blk t).view.emb y) (by blk_simp [ix3_1] <;> omega) (by blk_simp [ix3_1] <;> omega)
theorem tile3 : out3_2 (F := Ideal) (em 1024 2048 A) (em 2048 128 B) = em 1024 128 (mNN 2048 A B) := by
  unfold out3_2; frame_out
  exact nn_of (by decide) (shapeCast_id _ _) (shapeCast_id _ _)
theorem arr3 (h0 : V c main_v6 = em 4096 2048 A) (h1 : V c main_v4 = em 2048 128 B) : (dat3 V c).arrAt 2 cfg3.N = em 4096 128 (mNN 2048 A B) := by
  refine (dat3 V c).arrAt_eq_of_covers 2 (em 4096 128 (mNN 2048 A B)) (by decide +kernel) fun t hf y => ?_
  refine Eq.trans ?_ (em_at rfl _ (by blk_simp [ix3_2] <;> rfl) (by blk_simp [ix3_2] <;> rfl)).symm
  rw [after3_2, blk3_0 V c t h0, blk3_1 V c t h1, tile3]
  blk_simp
  rfl
end r3

section r4
variable (t : Fin grid4.N)
theorem ix4_0 : ∀ t : Fin grid4.N, win4_0.index t = ![(grid4.coords t 0).val, 0] := by decide +kernel
theorem ix4_1 : ∀ t : Fin grid4.N, win4_1.index t = ![0, (grid4.coords t 1).val] := by decide +kernel
theorem ix4_2 : ∀ t : Fin grid4.N, win4_2.index t = ![(grid4.coords t 0).val, (grid4.coords t 1).val] := by decide +kernel
theorem blk4_0 (h : V c main_v6 = em 4096 2048 A) : iblk4 V c 0 t = em 1024 2048 fun i j => A ((grid4.coords t 0).val * 1024 + i) j :=
  funext fun y => em_at h (((cfg4.win 0).blk t).view.emb y) (by blk_simp [ix4_0] <;> omega) (by blk_simp [ix4_0] <;> omega)
theorem blk4_1 (h : V c main_v5 = em 2048 6144 B) : iblk4 V c 1 t = em 2048 1024 fun i j => B i ((grid4.coords t 1).val * 1024 + j) :=
  funext fun y => em_at h (((cfg4.win 1).blk t).view.emb y) (by blk_simp [ix4_1] <;> omega) (by blk_simp [ix4_1] <;> omega)
theorem tile4 : out4_2 (F := Ideal) (em 1024 2048 A) (em 2048 1024 B) = em 1024 1024 (mNN 2048 A B) := by
  unfold out4_2; frame_out
  exact nn_of (by decide) (shapeCast_id _ _) (shapeCast_id _ _)
theorem arr4 (h0 : V c main_v6 = em 4096 2048 A) (h1 : V c main_v5 = em 2048 6144 B) : (dat4 V c).arrAt 2 cfg4.N = em 4096 6144 (mNN 2048 A B) := by
  refine (dat4 V c).arrAt_eq_of_covers 2 (em 4096 6144 (mNN 2048 A B)) (by decide +kernel) fun t hf y => ?_
  refine Eq.trans ?_ (em_at rfl _ (by blk_simp [ix4_2] <;> rfl) (by blk_simp [ix4_2] <;> rfl)).symm
  rw [after4_2, blk4_0 V c t h0, blk4_1 V c t h1, tile4]
  blk_simp
  rfl
end r4

section r5
variable (t : Fin grid5.N)
theorem ix5_0 : ∀ t : Fin grid5.N, win5_0.index t = ![0, (grid5.coords t 0).val] := by decide +kernel
theorem ix5_1 : ∀ t : Fin grid5.N, win5_1.index t = ![0, (grid5.coords t 1).val] := by decide +kernel
theorem ix5_2 : ∀ t : Fin grid5.N, win5_2.index t = ![(grid5.coords t 0).val, (grid5.coords t 1).val] := by decide +kernel
theorem blk5_0 (h : V c main_v6 = em 4096 2048 A) : iblk5 V c 0 t = em 4096 1024 fun i j => A i ((grid5.coords t 0).val * 1024 + j) :=
  funext fun y => em_at h (((cfg5.win 0).blk t).view.emb y) (by blk_simp [ix5_0] <;> omega) (by blk_simp [ix5_0] <;> omega)
theorem blk5_1 (h : V c main_arg3 = em 4096 2048 B) : iblk5 V c 1 t = em 4096 1024 fun i j => B i ((grid5.coords t 1).val * 1024 + j) :=
  funext fun y => em_at h (((cfg5.win 1).blk t).view.emb y) (by blk_simp [ix5_1] <;> omega) (by blk_simp [ix5_1] <;> omega)
theorem tile5 : out5_2 (F := Ideal) (em 4096 1024 A) (em 4096 1024 B) = em 1024 1024 (mTN 4096 A B) := by
  unfold out5_2; frame_out
  exact tn_of (by decide) (shapeCast_id _ _) rfl
theorem arr5 (h0 : V c main_v6 = em 4096 2048 A) (h1 : V c main_arg3 = em 4096 2048 B) : (dat5 V c).arrAt 2 cfg5.N = em 2048 2048 (mTN 4096 A B) := by
  refine (dat5 V c).arrAt_eq_of_covers 2 (em 2048 2048 (mTN 4096 A B)) (by decide +kernel) fun t hf y => ?_
  refine Eq.trans ?_ (em_at rfl _ (by blk_simp [ix5_2] <;> rfl) (by blk_simp [ix5_2] <;> rfl)).symm
  rw [after5_2, blk5_0 V c t h0, blk5_1 V c t h1, tile5]
  blk_simp
  rfl
end r5

section r6
variable (t : Fin grid6.N)
theorem ix6_0 : ∀ t : Fin grid6.N, win6_0.index t = ![0, (grid6.coords t 0).val] := by decide +kernel
theorem ix6_1 : ∀ t : Fin grid6.N, win6_1.index t = ![0, (grid6.coords t 1).val] := by decide +kernel
theorem ix6_2 : ∀ t : Fin grid6.N, win6_2.index t = ![(grid6.coords t 0).val, (grid6.coords t 1).val] := by decide +kernel
theorem blk6_0 (h : V c main_v6 = em 4096 2048 A) : iblk6 V c 0 t = em 4096 1024 fun i j => A i ((grid6.coords t 0).val * 1024 + j) :=
  funext fun y => em_at h (((cfg6.win 0).blk t).view.emb y) (by blk_simp [ix6_0] <;> omega) (by blk_simp [ix6_0] <;> omega)
theorem blk6_1 (h : V c main_arg4 = em 4096 3072 B) : iblk6 V c 1 t = em 4096 1024 fun i j => B i ((grid6.coords t 1).val * 1024 + j) :=
  funext fun y => em_at h (((cfg6.win 1).blk t).view.emb y) (by blk_simp [ix6_1] <;> omega) (by blk_simp [ix6_1] <;> omega)
theorem tile6 : out6_2 (F := Ideal) (em 4096 1024 A) (em 4096 1024 B) = em 1024 1024 (mTN 4096 A B) := by
  unfold out6_2; frame_out
  exact tn_of (by decide) (shapeCast_id _ _) rfl
theorem arr6 (h0 : V c main_v6 = em 4096 2048 A) (h1 : V c main_arg4 = em 4096 3072 B) : (dat6 V c).arrAt 2 cfg6.N = em 2048 3072 (mTN 4096 A B) := by
  refine (dat6 V c).arrAt_eq_of_covers 2 (em 2048 3072 (mTN 4096 A B)) (by decide +kernel) fun t hf y => ?_
  refine Eq.trans ?_ (em_at rfl _ (by blk_simp [ix6_2] <;> rfl) (by blk_simp [ix6_2] <;> rfl)).symm
  rw [after6_2, blk6_0 V c t h0, blk6_1 V c t h1, tile6]
  blk_simp
  rfl
end r6

section r7
variable (t : Fin grid7.N)
theorem ix7_0 : ∀ t : Fin grid7.N, win7_0.index t = ![0, (grid7.coords t 0).val] := by decide +kernel
theorem ix7_1 : ∀ t : Fin grid7.N, win7_1.index t = ![0, (grid7.coords t 1).val] := by decide +kernel
theorem ix7_2 : ∀ t : Fin grid7.N, win7_2.index t = ![(grid7.coords t 0).val, (grid7.coords t 1).val] := by decide +kernel
theorem blk7_0 (h : V c main_v6 = em 4096 2048 A) : iblk7 V c 0 t = em 4096 1024 fun i j => A i ((grid7.coords t 0).val * 1024 + j) :=
  funext fun y => em_at h (((cfg7.win 0).blk t).view.emb y) (by blk_simp [ix7_0] <;> omega) (by blk_simp [ix7_0] <;> omega)
theorem blk7_1 (h : V c main_arg5 = em 4096 128 B) : iblk7 V c 1 t = em 4096 128 fun i j => B i ((grid7.coords t 1).val * 128 + j) :=
  funext fun y => em_at h (((cfg7.win 1).blk t).view.emb y) (by blk_simp [ix7_1] <;> omega) (by blk_simp [ix7_1] <;> omega)
theorem tile7 : out7_2 (F := Ideal) (em 4096 1024 A) (em 4096 128 B) = em 1024 128 (mTN 4096 A B) := by
  unfold out7_2; frame_out
  exact tn_of (by decide) (shapeCast_id _ _) rfl
theorem arr7 (h0 : V c main_v6 = em 4096 2048 A) (h1 : V c main_arg5 = em 4096 128 B) : (dat7 V c).arrAt 2 cfg7.N = em 2048 128 (mTN 4096 A B) := by
  refine (dat7 V c).arrAt_eq_of_covers 2 (em 2048 128 (mTN 4096 A B)) (by decide +kernel) fun t hf y => ?_
  refine Eq.trans ?_ (em_at rfl _ (by blk_simp [ix7_2] <;> rfl) (by blk_simp [ix7_2] <;> rfl)).symm
  rw [after7_2, blk7_0 V c t h0, blk7_1 V c t h1, tile7]
  blk_simp
  rfl
end r7

section r8
variable (t : Fin grid8.N)
theorem ix8_0 : ∀ t : Fin grid8.N, win8_0.index t = ![0, (grid8.coords t 0).val] := by decide +kernel
theorem ix8_1 : ∀ t : Fin grid8.N, win8_1.index t = ![0, (grid8.coords t 1).val] := by decide +kernel
theorem ix8_2 : ∀ t : Fin grid8.N, win8_2.index t = ![(grid8.coords t 0).val, (grid8.coords t 1).val] := by decide +kernel
theorem blk8_0 (h : V c main_v6 = em 4096 2048 A) : iblk8 V c 0 t = em 4096 1024 fun i j => A i ((grid8.coords t 0).val * 1024 + j) :=
  funext fun y => em_at h (((cfg8.win 0).blk t).view.emb y) (by blk_simp [ix8_0] <;> omega) (by blk_simp [ix8_0] <;> omega)
theorem blk8_1 (h : V c main_arg6 = em 4096 6144 B) : iblk8 V c 1 t = em 4096 1024 fun i j => B i ((grid8.coords t 1).val * 1024 + j) :=
  funext fun y => em_at h (((cfg8.win 1).blk t).view.emb y) (by blk_simp [ix8_1] <;> omega) (by blk_simp [ix8_1] <;> omega)
theorem tile8 : out8_2 (F := Ideal) (em 4096 1024 A) (em 4096 1024 B) = em 1024 1024 (mTN 4096 A B) := by
  unfold out8_2; frame_out
  exact tn_of (by decide) (shapeCast_id _ _) rfl
theorem arr8 (h0 : V c main_v6 = em 4096 2048 A) (h1 : V c main_arg6 = em 4096 6144 B) : (dat8 V c).arrAt 2 cfg8.N = em 2048 6144 (mTN 4096 A B) := by
  refine (dat8 V c).arrAt_eq_of_covers 2 (em 2048 6144 (mTN 4096 A B)) (by decide +kernel) fun t hf y => ?_
  refine Eq.trans ?_ (em_at rfl _ (by blk_simp [ix8_2] <;> rfl) (by blk_simp [ix8_2] <;> rfl)).symm
  rw [after8_2, blk8_0 V c t h0, blk8_1 V c t h1, tile8]
  blk_simp
  rfl
end r8

/-! ## From call to call -/

section host
variable (σ : Valuation τ sig (Elt Ideal))
theorem host_v0 (h : σ (Proc.tc.devRef main_arg2) = em 2048 11296 A) : StableHlo.after hostOps0 σ (Proc.tc.devRef main_v0) = em 2048 11296 A := by
  entry_read; rw [h]; rfl
theorem host_v1 (h : σ (Proc.tc.devRef main_arg2) = em 2048 11296 A) : StableHlo.after hostOps0 σ (Proc.tc.devRef main_v1) = em 2048 2048 fun i j => A i (0 + j) := by
  entry_read; rw [h]; exact cut_cols _
theorem host_v2 (h : σ (Proc.tc.devRef main_arg2) = em 2048 11296 A) : StableHlo.after hostOps0 σ (Proc.tc.devRef main_v2) = em 2048 3072 fun i j => A i (2048 + j) := by
  entry_read; rw [h]; exact cut_cols _
theorem host_v3 (h : σ (Proc.tc.devRef main_arg2) = em 2048 11296 A) : StableHlo.after hostOps0 σ (Proc.tc.devRef main_v3) = em 2048 32 fun i j => A i (5120 + j) := by
  entry_read; rw [h]; exact cut_cols _
/-- The padded weight agrees with the weight in its columns. -/
theorem host_v4 (h : σ (Proc.tc.devRef main_v3) = em 2048 32 A) :
    ∃ P : ℕ → ℕ → EReal, StableHlo.after hostOps0_1 σ (Proc.tc.devRef main_v4) = em 2048 128 P ∧ ∀ i j, j < 32 → P i j = A i j := by
  refine ⟨fun i j => if j < 32 then A i j else (sitofp .bf16 (σ (Proc.tc.devRef main_c)) : FVec Ideal S_ .bf16) (Shape.Idx.first h_S_), ?_, fun i j hj => if_pos hj⟩
  entry_read; rw [h]
  exact pad_cols (b := 96) (sitofp .bf16 (σ (Proc.tc.devRef main_c)) : FVec Ideal S_ .bf16) pads_S2048x32_S2048x128_000_0960 h_S_
theorem host_v5 (h : σ (Proc.tc.devRef main_v0) = em 2048 11296 A) : StableHlo.after hostOps0_2 σ (Proc.tc.devRef main_v5) = em 2048 6144 fun i j => A i (5152 + j) := by
  entry_read; rw [h]; exact cut_cols _
theorem host_v14 (h : σ (Proc.tc.devRef main_v13) = em 2048 128 A) : StableHlo.after hostOps8 σ (Proc.tc.devRef main_v14) = em 2048 32 fun i j => A i (0 + j) := by
  entry_read; rw [h]; exact cut_cols _
theorem host_v16 (h : σ (Proc.tc.devRef main_v9) = em 4096 128 A) : StableHlo.after hostOps9 σ (Proc.tc.devRef main_v16) = em 4096 32 fun i j => A i (0 + j) := by
  entry_read; rw [h]; exact cut_cols _
theorem host_v17 {A1 A2 A3 A4 : ℕ → ℕ → EReal} (h1 : σ (Proc.tc.devRef main_v11) = em 2048 2048 A1) (h2 : σ (Proc.tc.devRef main_v12) = em 2048 3072 A2)
    (h3 : σ (Proc.tc.devRef main_v14) = em 2048 32 A3) (h4 : σ (Proc.tc.devRef main_v15) = em 2048 6144 A4) :
    StableHlo.after hostOps9 σ (Proc.tc.devRef main_v17) = em 2048 11296 (joinC 2048 A1 (joinC 3072 A2 (joinC 32 A3 A4))) := by
  entry_read
  show concatenate S2048x11296 1 [⟨S2048x2048, σ (Proc.tc.devRef main_v11)⟩, ⟨S2048x3072, σ (Proc.tc.devRef main_v12)⟩, ⟨S2048x32, σ (Proc.tc.devRef main_v14)⟩,
    ⟨S2048x6144, σ (Proc.tc.devRef main_v15)⟩] _ = _
  rw [h1, h2, h3, h4]; exact cat4_cols _
end host

variable (m : (ℓ : Loc nD τ sig) → Buf (Elt Ideal) ℓ) (ρ : Dev nD → PrngReg) {X G W DZ DX DT DQ : ℕ → ℕ → EReal}
variable (h0 : m ((c.tc : Thread nD τ).loc main_arg0) = em 4096 2048 X) (h1 : m ((c.tc : Thread nD τ).loc main_arg1) = em 1 2048 G)
  (h2 : m ((c.tc : Thread nD τ).loc main_arg2) = em 2048 11296 W) (h3 : m ((c.tc : Thread nD τ).loc main_arg3) = em 4096 2048 DZ)
  (h4 : m ((c.tc : Thread nD τ).loc main_arg4) = em 4096 3072 DX) (h5 : m ((c.tc : Thread nD τ).loc main_arg5) = em 4096 128 DT)
  (h6 : m ((c.tc : Thread nD τ).loc main_arg6) = em 4096 6144 DQ)

/-! The weight's parts before the first call. -/
theorem early (r : Ref sig .tc) (g1 : r ∉ hostOps0_1_W) (g2 : r ∉ hostOps0_2_W) : V3 m ρ c r = W1 m ρ c (Proc.tc.devRef r) := (W3_of m ρ c r g2).trans (W2_of m ρ c r g1)
include h2 in
theorem got_v1 : V3 m ρ c main_v1 = em 2048 2048 fun i j => W i (0 + j) := (early c m ρ main_v1 (by decide) (by decide)).trans (host_v1 _ h2)
include h2 in
theorem got_v2 : V3 m ρ c main_v2 = em 2048 3072 fun i j => W i (2048 + j) := (early c m ρ main_v2 (by decide) (by decide)).trans (host_v2 _ h2)
include h2 in
theorem got_v4 : ∃ P : ℕ → ℕ → EReal, V3 m ρ c main_v4 = em 2048 128 P ∧ ∀ i j, j < 32 → P i j = W i (5120 + j) :=
  let ⟨P, h, e⟩ := host_v4 (W1 m ρ c) (host_v3 _ h2)
  ⟨P, (W3_of m ρ c main_v4 (by decide)).trans h, e⟩
include h2 in
theorem got_v5 : V3 m ρ c main_v5 = em 2048 6144 fun i j => W i (5152 + j) :=
  host_v5 _ ((W2_of m ρ c main_v0 (by decide)).trans (host_v0 _ h2))

/-! The normed rows, call after call. -/
include h0 h1 in
theorem n4 : V4 m ρ c main_v6 = em 4096 2048 (nrm X (G 0)) :=
  (W4_arr m ρ c 2).trans (arr0 (V3 m ρ) c ((W3_args m ρ c main_arg0 (by decide)).trans h0) ((W3_args m ρ c main_arg1 (by decide)).trans h1))
include h0 h1 in
theorem n5 : V5 m ρ c main_v6 = em 4096 2048 (nrm X (G 0)) := (W5_of m ρ c main_v6 (by decide +kernel)).trans (n4 c m ρ h0 h1)
include h0 h1 in
theorem n6 : V6 m ρ c main_v6 = em 4096 2048 (nrm X (G 0)) := (W6_of m ρ c main_v6 (by decide +kernel)).trans (n5 c m ρ h0 h1)
include h0 h1 in
theorem n7 : V7 m ρ c main_v6 = em 4096 2048 (nrm X (G 0)) := (W7_of m ρ c main_v6 (by decide +kernel)).trans (n6 c m ρ h0 h1)
include h0 h1 in
theorem n8 : V8 m ρ c main_v6 = em 4096 2048 (nrm X (G 0)) := (W8_of m ρ c main_v6 (by decide +kernel)).trans (n7 c m ρ h0 h1)
include h0 h1 in
theorem n9 : V9 m ρ c main_v6 = em 4096 2048 (nrm X (G 0)) := (W9_of m ρ c main_v6 (by decide +kernel)).trans (n8 c m ρ h0 h1)
include h0 h1 in
theorem n10 : V10 m ρ c main_v6 = em 4096 2048 (nrm X (G 0)) := (W10_of m ρ c main_v6 (by decide +kernel)).trans (n9 c m ρ h0 h1)
include h0 h1 in
theorem n11 : V11 m ρ c main_v6 = em 4096 2048 (nrm X (G 0)) := (W11_of m ρ c main_v6 (by decide +kernel)).trans (n10 c m ρ h0 h1)
include h0 h1 in
theorem n12 : V12 m ρ c main_v6 = em 4096 2048 (nrm X (G 0)) := (W12_of m ρ c main_v6 (by decide)).trans (n11 c m ρ h0 h1)

/-! The products. -/
include h0 h1 h2 in
theorem got7 : V5 m ρ c main_v7 = want 0 2048 X G W :=
  (W5_arr m ρ c 2).trans (arr1 (V4 m ρ) c (n4 c m ρ h0 h1) ((W4_of m ρ c main_v1 (by decide +kernel)).trans (got_v1 c m ρ h2)))
include h0 h1 h2 in
theorem got8 : V6 m ρ c main_v8 = want 2048 3072 X G W :=
  (W6_arr m ρ c 2).trans (arr2 (V5 m ρ) c (n5 c m ρ h0 h1) ((W5_of m ρ c main_v2 (by decide +kernel)).trans
    ((W4_of m ρ c main_v2 (by decide +kernel)).trans (got_v2 c m ρ h2))))
include h0 h1 h2 in
theorem got9 : ∃ P : ℕ → ℕ → EReal, V7 m ρ c main_v9 = em 4096 128 (mNN 2048 (nrm X (G 0)) P) ∧ ∀ i j, j < 32 → P i j = W i (5120 + j) :=
  let ⟨P, h, e⟩ := got_v4 c m ρ h2
  ⟨P, (W7_arr m ρ c 2).trans (arr3 (V6 m ρ) c (n6 c m ρ h0 h1) ((W6_of m ρ c main_v4 (by decide +kernel)).trans
    ((W5_of m ρ c main_v4 (by decide +kernel)).trans ((W4_of m ρ c main_v4 (by decide +kernel)).trans h)))), e⟩
include h0 h1 h2 in
theorem got10 : V8 m ρ c main_v10 = want 5152 6144 X G W :=
  (W8_arr m ρ c 2).trans (arr4 (V7 m ρ) c (n7 c m ρ h0 h1) ((W7_of m ρ c main_v5 (by decide +kernel)).trans ((W6_of m ρ c main_v5 (by decide +kernel)).trans
    ((W5_of m ρ c main_v5 (by decide +kernel)).trans ((W4_of m ρ c main_v5 (by decide +kernel)).trans (got_v5 c m ρ h2))))))
include h0 h1 h3 in
theorem got11 : V9 m ρ c main_v11 = em 2048 2048 (mTN 4096 (nrm X (G 0)) DZ) :=
  (W9_arr m ρ c 2).trans (arr5 (V8 m ρ) c (n8 c m ρ h0 h1) ((W8_args m ρ c main_arg3 (by decide)).trans h3))
include h0 h1 h4 in
theorem got12 : V10 m ρ c main_v12 = em 2048 3072 (mTN 4096 (nrm X (G 0)) DX) :=
  (W10_arr m ρ c 2).trans (arr6 (V9 m ρ) c (n9 c m ρ h0 h1) ((W9_args m ρ c main_arg4 (by decide)).trans h4))
include h0 h1 h5 in
theorem got13 : V11 m ρ c main_v13 = em 2048 128 (mTN 4096 (nrm X (G 0)) DT) :=
  (W11_arr m ρ c 2).trans (arr7 (V10 m ρ) c (n10 c m ρ h0 h1) ((W10_args m ρ c main_arg5 (by decide)).trans h5))
include h0 h1 h6 in
theorem got15 : V13 m ρ c main_v15 = em 2048 6144 (mTN 4096 (nrm X (G 0)) DQ) :=
  (W13_arr m ρ c 2).trans (arr8 (V12 m ρ) c (n12 c m ρ h0 h1) ((W12_args m ρ c main_arg6 (by decide)).trans h6))

/-! The results, at the end. -/
theorem late (r : Ref sig .tc) (g5 : ∀ w : Fin cfg5.W, Pipeline.arrRef spec5 w = r → (cfg5.win w).isOut = false)
    (g6 : ∀ w : Fin cfg6.W, Pipeline.arrRef spec6 w = r → (cfg6.win w).isOut = false) (g7 : ∀ w : Fin cfg7.W, Pipeline.arrRef spec7 w = r → (cfg7.win w).isOut = false)
    (gh : r ∉ hostOps8_W) (g8 : ∀ w : Fin cfg8.W, Pipeline.arrRef spec8 w = r → (cfg8.win w).isOut = false) : V13 m ρ c r = V8 m ρ c r :=
  (W13_of m ρ c r g8).trans ((W12_of m ρ c r gh).trans ((W11_of m ρ c r g7).trans ((W10_of m ρ c r g6).trans (W9_of m ρ c r g5))))
include h0 h1 h2 in
theorem z_result : W14 m ρ c (Proc.tc.devRef main_v7) = want 0 2048 X G W :=
  (W14_of m ρ c main_v7 (by decide)).trans ((late c m ρ main_v7 (by decide +kernel) (by decide +kernel) (by decide +kernel) (by decide) (by decide +kernel)).trans
    ((W8_of m ρ c main_v7 (by decide +kernel)).trans ((W7_of m ρ c main_v7 (by decide +kernel)).trans ((W6_of m ρ c main_v7 (by decide +kernel)).trans (got7 c m ρ h0 h1 h2)))))
include h0 h1 h2 in
theorem x_result : W14 m ρ c (Proc.tc.devRef main_v8) = want 2048 3072 X G W :=
  (W14_of m ρ c main_v8 (by decide)).trans ((late c m ρ main_v8 (by decide +kernel) (by decide +kernel) (by decide +kernel) (by decide) (by decide +kernel)).trans
    ((W8_of m ρ c main_v8 (by decide +kernel)).trans ((W7_of m ρ c main_v8 (by decide +kernel)).trans (got8 c m ρ h0 h1 h2))))
include h0 h1 h2 in
theorem t_result : W14 m ρ c (Proc.tc.devRef main_v16) = want 5120 32 X G W := by
  obtain ⟨P, h, e⟩ := got9 c m ρ h0 h1 h2
  refine (host_v16 (W13 m ρ c) ((late c m ρ main_v9 (by decide +kernel) (by decide +kernel) (by decide +kernel) (by decide) (by decide +kernel)).trans
    ((W8_of m ρ c main_v9 (by decide +kernel)).trans h))).trans (em_congr fun i j hi hj => ?_)
  unfold part mNN
  refine Finset.sum_congr rfl fun k hk => ?_
  rw [Nat.zero_add, e k j hj]
include h0 h1 h2 in
theorem q_result : W14 m ρ c (Proc.tc.devRef main_v10) = want 5152 6144 X G W :=
  (W14_of m ρ c main_v10 (by decide)).trans ((late c m ρ main_v10 (by decide +kernel) (by decide +kernel) (by decide +kernel) (by decide) (by decide +kernel)).trans
    (got10 c m ρ h0 h1 h2))
include h0 h1 h3 h4 h5 h6 in
theorem w_result : W14 m ρ c (Proc.tc.devRef main_v17) = wantW X G DZ DX DT DQ := by
  refine (host_v17 (W13 m ρ c) ((W13_of m ρ c main_v11 (by decide +kernel)).trans ((W12_of m ρ c main_v11 (by decide)).trans ((W11_of m ρ c main_v11 (by decide +kernel)).trans
      ((W10_of m ρ c main_v11 (by decide +kernel)).trans (got11 c m ρ h0 h1 h3)))))
    ((W13_of m ρ c main_v12 (by decide +kernel)).trans ((W12_of m ρ c main_v12 (by decide)).trans ((W11_of m ρ c main_v12 (by decide +kernel)).trans (got12 c m ρ h0 h1 h4))))
    ((W13_of m ρ c main_v14 (by decide +kernel)).trans (host_v14 _ (got13 c m ρ h0 h1 h5))) (got15 c m ρ h0 h1 h6)).trans ?_
  unfold wantW grads
  rw [mTN_cols, mTN_cols, mTN_cols]
  rfl

section launch
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.Rounds

omit c in
set_option backward.isDefEq.respectTransparency.types false in
/-- Every weakly fair execution ends, the five results as the calls and the host leave them and the arguments as they were. -/
theorem contents : θ_run defs (onTc (τ := τ) (main (F := Ideal))) ⟨m, fun _ => 0, ρ⟩ (fun r => ∀ c : Dev nD,
      r.2.mem ((c.tc : Thread nD τ).loc main_v7) = W14 m ρ c (Proc.tc.devRef main_v7)
      ∧ r.2.mem ((c.tc : Thread nD τ).loc main_v8) = W14 m ρ c (Proc.tc.devRef main_v8)
      ∧ r.2.mem ((c.tc : Thread nD τ).loc main_v16) = W14 m ρ c (Proc.tc.devRef main_v16)
      ∧ r.2.mem ((c.tc : Thread nD τ).loc main_v10) = W14 m ρ c (Proc.tc.devRef main_v10)
      ∧ r.2.mem ((c.tc : Thread nD τ).loc main_v17) = W14 m ρ c (Proc.tc.devRef main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h hz c => ⟨h c _ (mem_uc main_v7 (by decide)), h c _ (mem_uc main_v8 (by decide)), h c _ (mem_uc main_v16 (by decide)), h c _ (mem_uc main_v10 (by decide)), h c _ (mem_uc main_v17 (by decide)),
      (h c _ (mem_uc main_arg0 (by decide))).trans (W14_main_arg0 m ρ c),
      (h c _ (mem_uc main_arg1 (by decide))).trans (W14_main_arg1 m ρ c),
      (h c _ (mem_uc main_arg2 (by decide))).trans (W14_main_arg2 m ρ c),
      (h c _ (mem_uc main_arg3 (by decide))).trans (W14_main_arg3 m ρ c),
      (h c _ (mem_uc main_arg4 (by decide))).trans (W14_main_arg4 m ρ c),
      (h c _ (mem_uc main_arg5 (by decide))).trans (W14_main_arg5 m ρ c),
      (h c _ (mem_uc main_arg6 (by decide))).trans (W14_main_arg6 m ρ c)⟩)
end launch
end kernel

/-! ## The reference -/

namespace Reference
open Cert.Reference4Ideal Cert.Reference4Ideal.Gen

variable (m : (ℓ : Loc nD τ sig) → Buf (Elt Ideal) ℓ) (c : Dev nD) {X G W DZ DX DT DQ : ℕ → ℕ → EReal}
variable (h0 : m ((c.tc : Thread nD τ).loc main_arg0) = em 4096 2048 X) (h1 : m ((c.tc : Thread nD τ).loc main_arg1) = em 1 2048 G)
  (h2 : m ((c.tc : Thread nD τ).loc main_arg2) = em 2048 11296 W) (h3 : m ((c.tc : Thread nD τ).loc main_arg3) = em 4096 2048 DZ)
  (h4 : m ((c.tc : Thread nD τ).loc main_arg4) = em 4096 3072 DX) (h5 : m ((c.tc : Thread nD τ).loc main_arg5) = em 4096 128 DT)
  (h6 : m ((c.tc : Thread nD τ).loc main_arg6) = em 4096 6144 DQ)

/-- The gain as a vector, the normed rows, their product with the whole weight, and the four gradients side by side. -/
def gain : FVec Ideal ⟨1, ![2048]⟩ .f32 := shapeCast ⟨1, ![2048]⟩ (m ((c.tc : Thread nD τ).loc main_arg1)) shapeCasts_S1x2048_S2048
def normed : FVec Ideal (sh2 4096 2048) .f32 := hNorm (m ((c.tc : Thread nD τ).loc main_arg0)) (gain m c)
def proj : FVec Ideal (sh2 4096 11296) .f32 :=
  Host.dotGeneral (φ₁ := .f32) (φ₂ := .f32) dot_S4096x2048_S2048x11296_S4096x11296_1_0_0_1_n_n none (normed m c) (m ((c.tc : Thread nD τ).loc main_arg2))
def joined : FVec Ideal (sh2 4096 11296) .f32 := concatenate S4096x11296 1
  [⟨S4096x2048, (extf .f32 (m ((c.tc : Thread nD τ).loc main_arg3)) bitsLt_bf16_f32 : FVec Ideal S4096x2048 .f32)⟩,
   ⟨S4096x3072, (extf .f32 (m ((c.tc : Thread nD τ).loc main_arg4)) bitsLt_bf16_f32 : FVec Ideal S4096x3072 .f32)⟩,
   ⟨S4096x32, (extractStridedSlice S4096x32 ![0, 0] (m ((c.tc : Thread nD τ).loc main_arg5)) slices_S4096x128_S4096x32_0_0 : FVec Ideal S4096x32 .f32)⟩,
   ⟨S4096x6144, (extf .f32 (m ((c.tc : Thread nD τ).loc main_arg6)) bitsLt_bf16_f32 : FVec Ideal S4096x6144 .f32)⟩]
  concatenates_S4096x2048_S4096x3072_S4096x32_S4096x6144_S4096x11296_d1

theorem flat_em (h : (sh2 1 2048).ShapeCasts ⟨1, ![2048]⟩) (j : Fin 2048) : shapeCast ⟨1, ![2048]⟩ (em 1 2048 G) h (ValueIdx.ix1 j) = G 0 j.val := by
  refine (shapeCast_apply (em 1 2048 G) h (ValueIdx.ix1 j) (ValueIdx.ix2 (0 : Fin 1) j) ?_).trans rfl
  rw [Shape.rowMajor_val_two, Shape.rowMajor_val_one]
  show 0 * 2048 + j.val = j.val
  omega
include h1 in
theorem gain_eq (j : Fin 2048) : gain m c (ValueIdx.ix1 j) = G 0 j.val := by
  unfold gain; rw [h1]; exact flat_em _ j
include h0 h1 in
theorem normed_eq : normed m c = em 4096 2048 (nrm X (G 0)) := by
  unfold normed; rw [h0]; exact hNorm_em _ (gain_eq m c h1)
include h0 h1 h2 in
theorem proj_eq : proj m c = em 4096 11296 (mNN 2048 (nrm X (G 0)) W) := host_nn (by decide) (normed_eq m c h0 h1) h2
include h3 h4 h5 h6 in
theorem joined_eq : joined m c = em 4096 11296 (grads DZ DX DT DQ) := by
  unfold joined; rw [h3, h4, h5, h6]
  exact (congrArg (fun z : FVec Ideal S4096x32 .f32 => concatenate S4096x11296 1
    [⟨S4096x2048, em 4096 2048 DZ⟩, ⟨S4096x3072, em 4096 3072 DX⟩, ⟨S4096x32, z⟩, ⟨S4096x6144, em 4096 6144 DQ⟩]
    concatenates_S4096x2048_S4096x3072_S4096x32_S4096x6144_S4096x11296_d1) (cut_cols _)).trans (cat4_cols _)
include h0 h1 h2 in
theorem part_eq {o a : ℕ} (h : (sh2 4096 11296).Slices (![0, o] : Fin 2 → ℕ) (sh2 4096 a)) : extractStridedSlice (sh2 4096 a) ![0, o] (proj m c) h = want o a X G W := by
  rw [proj_eq m c h0 h1 h2, cut_cols]; rfl
include h0 h1 h3 h4 h5 h6 in
theorem w_eq : transpose S2048x11296 [1, 0] (Host.dotGeneral (F := Ideal) (φ₁ := .f32) (φ₂ := .f32) dot_S4096x11296_S4096x2048_S11296x2048_0_0_1_1_n_n none
      (joined m c) (normed m c)) transposes_S11296x2048_S2048x11296_1_0 = wantW X G DZ DX DT DQ :=
  host_tn (by decide) (joined_eq m c h3 h4 h5 h6) (normed_eq m c h0 h1) _
end Reference

end Cert.Proof.InProj

end
-- ==== Proof.Down.lean ====
/-
  The perceptron's second product: four steps over the inner coordinate, summed in a scratch, and the residual added with
  the last; what the call leaves in its array, and the reference's result.
-/
module

public import proofs.«01_k».proof.Proof.Prod
public import proofs.«01_k».proof.Proof.Gen.Kernel5Ideal.Value
public import proofs.«01_k».proof.Proof.Gen.Reference5Ideal.Run
public import Idealize.ShloMosaic.Lib.Pipeline.ValueKit

@[expose] public section

set_option maxRecDepth 16384

noncomputable section

namespace Cert.Proof.Down

open Idealize.ShloMosaic Idealize.ShloMosaic.TcCoe
open scoped BigOperators

/-- What both programs compute: the residual, and the product over all 8192 inner coordinates. -/
def want (X A W : ℕ → ℕ → EReal) : FVec Ideal (sh2 4096 2048) .f32 := em 4096 2048 fun i j => X i j + mNN 8192 A W i j

section kernel
open Cert.Kernel5Ideal Cert.Kernel5Ideal.Gen

/-! ## One step -/

section step
variable (c : Dev nD) (i : grid0.Coords) (a3 : Memref sig .tc .vmem S1024x2048 .bf16) (h3 : a3.IsWhole) (a4 : Memref sig .tc .vmem S1x2048x1024 .bf16) (h4 : a4.IsWhole)
  (a5 : Memref sig .tc .vmem S1024x1024 .f32) (h5 : a5.IsWhole) (a6 : Memref sig .tc .vmem S1024x1024 .f32) (h6 : a6.IsWhole)
  (a7 : Memref sig .tc .vmem S1024x1024 .f32) (h7 : a7.IsWhole) {A X S : ℕ → ℕ → EReal} {B : ℕ → ℕ → ℕ → EReal}
theorem pay1 : k0_pay1 (F := Ideal) (em 1024 2048 A) (et 1 2048 1024 B) = em 1024 1024 (mNN 2048 A (B 0)) :=
  nn_of (by decide) rfl (drop1_et _)
theorem first (g0 g1 g2) : sout0_A_0 (F := Ideal) c i a3 h3 a4 h4 a5 h5 a6 h6 a7 h7 g0 g1 g2 (em 1024 2048 A) (et 1 2048 1024 B) (em 1024 1024 X)
    = em 1024 1024 (mNN 2048 A (B 0)) := by
  unfold sout0_A_0; frame_out
  exact (shapeCast_id _ _).trans pay1
theorem next (g0 g1 g2) : sout0_B_0 (F := Ideal) c i a3 h3 a4 h4 a5 h5 a6 h6 a7 h7 g0 g1 g2 (em 1024 2048 A) (et 1 2048 1024 B) (em 1024 1024 X) (em 1024 1024 S)
    = em 1024 1024 fun i j => S i j + mNN 2048 A (B 0) i j := by
  unfold sout0_B_0; frame_out
  exact (shapeCast_id _ _).trans (congrArg (addf (F := Ideal) (φ := .f32) (em 1024 1024 S)) pay1)
theorem last' (g0 g1 g2) : sout0_C_0 (F := Ideal) c i a3 h3 a4 h4 a5 h5 a6 h6 a7 h7 g0 g1 g2 (em 1024 2048 A) (et 1 2048 1024 B) (em 1024 1024 X) (em 1024 1024 S)
    = em 1024 1024 fun i j => S i j + mNN 2048 A (B 0) i j := by
  unfold sout0_C_0; frame_out
  exact (shapeCast_id _ _).trans (congrArg (addf (F := Ideal) (φ := .f32) (em 1024 1024 S)) pay1)
theorem last (g0 g1 g2) : out0_C_3 (F := Ideal) c i a3 h3 a4 h4 a5 h5 a6 h6 a7 h7 g0 g1 g2 (em 1024 2048 A) (et 1 2048 1024 B) (em 1024 1024 X) (em 1024 1024 S)
    = em 1024 1024 fun i j => X i j + (S i j + mNN 2048 A (B 0) i j) := by
  unfold out0_C_3; frame_out
  exact congrArg (addf (F := Ideal) (φ := .f32) (em 1024 1024 X))
    ((shapeCast_id _ _).trans (congrArg (addf (F := Ideal) (φ := .f32) (em 1024 1024 S)) pay1))
end step

/-! ## The blocks -/

variable (m : (ℓ : Loc nD τ sig) → Buf (Elt Ideal) ℓ) (c : Dev nD) {X A W : ℕ → ℕ → EReal}
variable (e0 : m ((c.tc : Thread nD τ).loc main_arg0) = em 4096 2048 X) (e1 : m ((c.tc : Thread nD τ).loc main_arg1) = em 4096 8192 A)
  (e2 : m ((c.tc : Thread nD τ).loc main_arg2) = em 8192 2048 W) (t : Fin cfg0.N)

theorem ix_0 : ∀ t : Fin grid0.N, win0_0.index t = ![t.val / 8, t.val % 4] := by decide +kernel
theorem ix_1 : ∀ t : Fin grid0.N, win0_1.index t = ![t.val % 4, 0, t.val / 4 % 2] := by decide +kernel
theorem ix_2 : ∀ t : Fin grid0.N, win0_2.index t = ![t.val / 8, t.val / 4 % 2] := by decide +kernel
theorem ix_3 : ∀ t : Fin grid0.N, win0_3.index t = ![t.val / 8, t.val / 4 % 2] := by decide +kernel

include e2 in
theorem stack : V m c main_v1 = et 4 2048 2048 fun p i j => W (2048 * p + i) j := by
  show StableHlo.after hostOps0 _ (Proc.tc.devRef main_v1) = _
  entry_read
  refine (congrArg (fun z : FVec Ideal (sh2 8192 2048) .bf16 => shapeCast (sh3 4 2048 2048) z shapeCasts_S8192x2048_S4x2048x2048) (e2 : _ = em 8192 2048 W)).trans ?_
  exact rows_em (m := 4) (w := 2048) _
include e1 in
theorem blk_0 : iblk m c 0 t = em 1024 2048 fun i j => A (t.val / 8 * 1024 + i) (2048 * (t.val % 4) + j) :=
  funext fun y => em_at ((V_main_arg1 m c).trans e1) (((cfg0.win 0).blk t).view.emb y) (by blk_simp [ix_0] <;> omega) (by blk_simp [ix_0] <;> omega)
include e2 in
theorem blk_1 : iblk m c 1 t = et 1 2048 1024 fun _ i j => W (2048 * (t.val % 4) + i) (t.val / 4 % 2 * 1024 + j) :=
  funext fun y => et_at (stack m c e2) (((cfg0.win 1).blk t).view.emb y) (p := t.val % 4) (q := (y 1).val)
    (r := t.val / 4 % 2 * 1024 + (y 2).val) (by blk_simp [ix_1] <;> omega) (by blk_simp [ix_1] <;> omega) (by blk_simp [ix_1] <;> omega)
include e0 in
theorem blk_2 : iblk m c 2 t = em 1024 1024 fun i j => X (t.val / 8 * 1024 + i) (t.val / 4 % 2 * 1024 + j) :=
  funext fun y => em_at ((V_main_arg0 m c).trans e0) (((cfg0.win 2).blk t).view.emb y) (by blk_simp [ix_2] <;> omega) (by blk_simp [ix_2] <;> omega)

/-! ## The sum over the steps -/

/-- The product over the inner coordinates of the first steps, at a point's block. -/
def upTo (n s : ℕ) (A W : ℕ → ℕ → EReal) (i j : ℕ) : EReal := mNN (2048 * s) A W (n / 8 * 1024 + i) (n / 4 % 2 * 1024 + j)
theorem upTo_succ (n s : ℕ) (A W : ℕ → ℕ → EReal) (i j : ℕ) :
    upTo n s A W i j + mNN 2048 (fun i j => A (n / 8 * 1024 + i) (2048 * s + j)) (fun i j => W (2048 * s + i) (n / 4 % 2 * 1024 + j)) i j = upTo n (s + 1) A W i j :=
  (Finset.sum_range_add _ (2048 * s) 2048).symm

theorem upTo_zero (n : ℕ) (A W : ℕ → ℕ → EReal) (i j : ℕ) : upTo n 0 A W i j = 0 := rfl
theorem upTo_prev {n : ℕ} (h : n % 4 ≠ 0) : upTo (n - 1) ((n - 1) % 4 + 1) A W = upTo n (n % 4) A W := by
  unfold upTo
  rw [show (n - 1) / 8 = n / 8 by omega, show (n - 1) / 4 = n / 4 by omega, show (n - 1) % 4 + 1 = n % 4 by omega]

include e0 e1 e2 in
theorem at_first (h : t.val % 4 = 0) : (outsAt0 m c t.val t.isLt).2 = em 1024 1024 (upTo t.val (t.val % 4 + 1) A W) := by
  rw [outsAt0_A m c t h (by omega) (by omega)]
  dsimp only
  rw [blk_0 m c e1, blk_1 m c e2, blk_2 m c e0]
  refine (first c _ _ _ _ _ _ _ _ _ _ _ _ _ _).trans (em_congr fun i j _ _ => ?_)
  rw [← upTo_succ, h, upTo_zero, zero_add]
include e0 e1 e2 in
theorem at_next (h : ¬t.val % 4 = 0) (p : (outsAt0 m c (t.val - 1) (Nat.lt_of_le_of_lt (Nat.sub_le _ _) t.isLt)).2
    = em 1024 1024 (upTo (t.val - 1) ((t.val - 1) % 4 + 1) A W)) : (outsAt0 m c t.val t.isLt).2 = em 1024 1024 (upTo t.val (t.val % 4 + 1) A W) := by
  rw [upTo_prev h] at p
  by_cases l : t.val % 4 = 3
  · rw [outsAt0_C m c t h (by omega) l]
    dsimp only
    rw [blk_0 m c e1, blk_1 m c e2, blk_2 m c e0, p]
    exact (last' c _ _ _ _ _ _ _ _ _ _ _ _ _ _).trans (em_congr fun i j _ _ => upTo_succ _ _ _ _ _ _)
  · rw [outsAt0_B m c t h (by omega) l]
    dsimp only
    rw [blk_0 m c e1, blk_1 m c e2, blk_2 m c e0, p]
    exact (next c _ _ _ _ _ _ _ _ _ _ _ _ _ _).trans (em_congr fun i j _ _ => upTo_succ _ _ _ _ _ _)
include e0 e1 e2 in
theorem scratch : ∀ n (h : n < cfg0.N), (outsAt0 m c n h).2 = em 1024 1024 (upTo n (n % 4 + 1) A W)
  | 0, h => at_first m c e0 e1 e2 ⟨0, h⟩ rfl
  | n + 1, h => by
    by_cases l : (n + 1) % 4 = 0
    · exact at_first m c e0 e1 e2 ⟨n + 1, h⟩ l
    · exact at_next m c e0 e1 e2 ⟨n + 1, h⟩ l (scratch n (Nat.lt_of_succ_lt h))
include e0 e1 e2 in
theorem at_last (h : t.val % 4 = 3) : (outsAt0 m c t.val t.isLt).1
    = em 1024 1024 fun i j => X (t.val / 8 * 1024 + i) (t.val / 4 % 2 * 1024 + j) + upTo t.val 4 A W i j := by
  have p := scratch m c e0 e1 e2 (t.val - 1) (Nat.lt_of_le_of_lt (Nat.sub_le _ _) t.isLt)
  rw [upTo_prev (by omega)] at p
  rw [outsAt0_C m c t (by omega) (by omega) h]
  dsimp only
  rw [blk_0 m c e1, blk_1 m c e2, blk_2 m c e0, p]
  refine (last c _ _ _ _ _ _ _ _ _ _ _ _ _ _).trans (em_congr fun i j _ _ => ?_)
  rw [upTo_succ, h]

include e0 e1 e2 in
theorem arr : (dats m 0 c).arrAt 3 cfg0.N = want X A W := by
  refine (dats m 0 c).arrAt_eq_of_covers 3 (want X A W) (by decide +kernel) fun t hf y => ?_
  refine Eq.trans ?_ (em_at rfl _ (by blk_simp [ix_3] <;> rfl) (by blk_simp [ix_3] <;> rfl)).symm
  have l : t.val % 4 = 3 := (flush0_3 t).mp hf
  rw [after0_3, at_last m c e0 e1 e2 t l]
  blk_simp
  rfl
end kernel

/-! ## The reference -/

namespace Reference
open Cert.Reference5Ideal Cert.Reference5Ideal.Gen

variable (m : (ℓ : Loc nD τ sig) → Buf (Elt Ideal) ℓ) (c : Dev nD) {X A W : ℕ → ℕ → EReal}
variable (h0 : m ((c.tc : Thread nD τ).loc main_arg0) = em 4096 2048 X) (h1 : m ((c.tc : Thread nD τ).loc main_arg1) = em 4096 8192 A)
  (h2 : m ((c.tc : Thread nD τ).loc main_arg2) = em 8192 2048 W)
include h0 h1 h2 in
theorem down_eq : addf (F := Ideal) (φ := .f32) (m ((c.tc : Thread nD τ).loc main_arg0))
      (Host.dotGeneral (φ₁ := .f32) (φ₂ := .f32) dot_S4096x8192_S8192x2048_S4096x2048_1_0_0_1_n_n none
        (extf .f32 (m ((c.tc : Thread nD τ).loc main_arg1)) bitsLt_bf16_f32 : FVec Ideal S4096x8192 .f32) (m ((c.tc : Thread nD τ).loc main_arg2))) = want X A W := by
  rw [h0]
  exact congrArg (addf (F := Ideal) (φ := .f32) (em 4096 2048 X)) (host_nn (by decide) h1 h2)
end Reference

end Cert.Proof.Down

end
-- ==== Proof.Dh.lean ====
/-
  The gradient of the perceptron's input before the norm: four steps over the inner coordinate, summed in a scratch; what
  the call leaves in its array, and the reference's result.
-/
module

public import proofs.«01_k».proof.Proof.Prod
public import proofs.«01_k».proof.Proof.Gen.Kernel6Ideal.Value
public import proofs.«01_k».proof.Proof.Gen.Reference6Ideal.Run
public import Idealize.ShloMosaic.Lib.Pipeline.ValueKit

@[expose] public section

set_option maxRecDepth 16384

noncomputable section

namespace Cert.Proof.Dh

open Idealize.ShloMosaic Idealize.ShloMosaic.TcCoe
open scoped BigOperators

/-- What both programs compute: the product over all 8192 inner coordinates. -/
def want (A W : ℕ → ℕ → EReal) : FVec Ideal (sh2 4096 2048) .f32 := em 4096 2048 (mNT 8192 A W)

section kernel
open Cert.Kernel6Ideal Cert.Kernel6Ideal.Gen

/-! ## One step -/

section step
variable (c : Dev nD) (i : grid0.Coords) (a3 : Memref sig .tc .vmem S1024x2048 .bf16) (h3 : a3.IsWhole) (a4 : Memref sig .tc .vmem S1x1024x2048 .bf16) (h4 : a4.IsWhole)
  (a5 : Memref sig .tc .vmem S1024x1024 .f32) (h5 : a5.IsWhole) (a6 : Memref sig .tc .vmem S1024x1024 .f32) (h6 : a6.IsWhole) {A S : ℕ → ℕ → EReal} {B : ℕ → ℕ → ℕ → EReal}
theorem pay1 : k0_pay1 (F := Ideal) (em 1024 2048 A) (et 1 1024 2048 B) = em 1024 1024 (mNT 2048 A (B 0)) :=
  nt_of (by decide) rfl (drop1_et _)
theorem first (g0 g1 g2) : sout0_A_0 (F := Ideal) c i a3 h3 a4 h4 a5 h5 a6 h6 g0 g1 g2 (em 1024 2048 A) (et 1 1024 2048 B)
    = em 1024 1024 (mNT 2048 A (B 0)) := by
  unfold sout0_A_0; frame_out
  exact (shapeCast_id _ _).trans pay1
theorem next (g0 g1 g2) : sout0_B_0 (F := Ideal) c i a3 h3 a4 h4 a5 h5 a6 h6 g0 g1 g2 (em 1024 2048 A) (et 1 1024 2048 B) (em 1024 1024 S)
    = em 1024 1024 fun i j => S i j + mNT 2048 A (B 0) i j := by
  unfold sout0_B_0; frame_out
  exact (shapeCast_id _ _).trans (congrArg (addf (F := Ideal) (φ := .f32) (em 1024 1024 S)) pay1)
theorem last' (g0 g1 g2) : sout0_C_0 (F := Ideal) c i a3 h3 a4 h4 a5 h5 a6 h6 g0 g1 g2 (em 1024 2048 A) (et 1 1024 2048 B) (em 1024 1024 S)
    = em 1024 1024 fun i j => S i j + mNT 2048 A (B 0) i j := by
  unfold sout0_C_0; frame_out
  exact (shapeCast_id _ _).trans (congrArg (addf (F := Ideal) (φ := .f32) (em 1024 1024 S)) pay1)
theorem last (g0 g1 g2) : out0_C_2 (F := Ideal) c i a3 h3 a4 h4 a5 h5 a6 h6 g0 g1 g2 (em 1024 2048 A) (et 1 1024 2048 B) (em 1024 1024 S)
    = em 1024 1024 fun i j => S i j + mNT 2048 A (B 0) i j := by
  unfold out0_C_2; frame_out
  exact (shapeCast_id _ _).trans (congrArg (addf (F := Ideal) (φ := .f32) (em 1024 1024 S)) pay1)
end step

/-! ## The blocks -/

variable (m : (ℓ : Loc nD τ sig) → Buf (Elt Ideal) ℓ) (c : Dev nD) {A W : ℕ → ℕ → EReal}
variable (e0 : m ((c.tc : Thread nD τ).loc main_arg0) = em 4096 8192 A) (e1 : m ((c.tc : Thread nD τ).loc main_arg1) = em 2048 8192 W) (t : Fin cfg0.N)

theorem ix_0 : ∀ t : Fin grid0.N, win0_0.index t = ![t.val / 8, t.val % 4] := by decide +kernel
theorem ix_1 : ∀ t : Fin grid0.N, win0_1.index t = ![t.val % 4, t.val / 4 % 2, 0] := by decide +kernel
theorem ix_2 : ∀ t : Fin grid0.N, win0_2.index t = ![t.val / 8, t.val / 4 % 2] := by decide +kernel

include e1 in
theorem stack : V m c main_v2 = et 4 2048 2048 fun p i j => W i (2048 * p + j) := by
  show StableHlo.after hostOps0 _ (Proc.tc.devRef main_v2) = _
  entry_read
  refine (congrArg (fun z : FVec Ideal (sh2 2048 8192) .bf16 => transpose (sh3 4 2048 2048) [1, 0, 2] (shapeCast (sh3 2048 4 2048) z shapeCasts_S2048x8192_S2048x4x2048)
    transposes_S2048x4x2048_S4x2048x2048_1_0_2) (e1 : _ = em 2048 8192 W)).trans ?_
  exact cols_em (m := 4) (w := 2048) _ _
include e0 in
theorem blk_0 : iblk m c 0 t = em 1024 2048 fun i j => A (t.val / 8 * 1024 + i) (2048 * (t.val % 4) + j) :=
  funext fun y => em_at ((V_main_arg0 m c).trans e0) (((cfg0.win 0).blk t).view.emb y) (by blk_simp [ix_0] <;> omega) (by blk_simp [ix_0] <;> omega)
include e1 in
theorem blk_1 : iblk m c 1 t = et 1 1024 2048 fun _ i j => W (t.val / 4 % 2 * 1024 + i) (2048 * (t.val % 4) + j) :=
  funext fun y => et_at (stack m c e1) (((cfg0.win 1).blk t).view.emb y) (p := t.val % 4) (q := t.val / 4 % 2 * 1024 + (y 1).val)
    (r := (y 2).val) (by blk_simp [ix_1] <;> omega) (by blk_simp [ix_1] <;> omega) (by blk_simp [ix_1] <;> omega)

/-! ## The sum over the steps -/

/-- The product over the inner coordinates of the first steps, at a point's block. -/
def upTo (n s : ℕ) (A W : ℕ → ℕ → EReal) (i j : ℕ) : EReal := mNT (2048 * s) A W (n / 8 * 1024 + i) (n / 4 % 2 * 1024 + j)
theorem upTo_succ (n s : ℕ) (A W : ℕ → ℕ → EReal) (i j : ℕ) :
    upTo n s A W i j + mNT 2048 (fun i j => A (n / 8 * 1024 + i) (2048 * s + j)) (fun i j => W (n / 4 % 2 * 1024 + i) (2048 * s + j)) i j = upTo n (s + 1) A W i j :=
  (Finset.sum_range_add _ (2048 * s) 2048).symm

theorem upTo_zero (n : ℕ) (A W : ℕ → ℕ → EReal) (i j : ℕ) : upTo n 0 A W i j = 0 := rfl
theorem upTo_prev {n : ℕ} (h : n % 4 ≠ 0) : upTo (n - 1) ((n - 1) % 4 + 1) A W = upTo n (n % 4) A W := by
  unfold upTo
  rw [show (n - 1) / 8 = n / 8 by omega, show (n - 1) / 4 = n / 4 by omega, show (n - 1) % 4 + 1 = n % 4 by omega]

include e0 e1 in
theorem at_first (h : t.val % 4 = 0) : (outsAt0 m c t.val t.isLt).2 = em 1024 1024 (upTo t.val (t.val % 4 + 1) A W) := by
  rw [outsAt0_A m c t h (by omega) (by omega)]
  dsimp only
  rw [blk_0 m c e0, blk_1 m c e1]
  refine (first c _ _ _ _ _ _ _ _ _ _ _ _).trans (em_congr fun i j _ _ => ?_)
  rw [← upTo_succ, h, upTo_zero, zero_add]
include e0 e1 in
theorem at_next (h : ¬t.val % 4 = 0) (p : (outsAt0 m c (t.val - 1) (Nat.lt_of_le_of_lt (Nat.sub_le _ _) t.isLt)).2
    = em 1024 1024 (upTo (t.val - 1) ((t.val - 1) % 4 + 1) A W)) : (outsAt0 m c t.val t.isLt).2 = em 1024 1024 (upTo t.val (t.val % 4 + 1) A W) := by
  rw [upTo_prev h] at p
  by_cases l : t.val % 4 = 3
  · rw [outsAt0_C m c t h (by omega) l]
    dsimp only
    rw [blk_0 m c e0, blk_1 m c e1, p]
    exact (last' c _ _ _ _ _ _ _ _ _ _ _ _).trans (em_congr fun i j _ _ => upTo_succ _ _ _ _ _ _)
  · rw [outsAt0_B m c t h (by omega) l]
    dsimp only
    rw [blk_0 m c e0, blk_1 m c e1, p]
    exact (next c _ _ _ _ _ _ _ _ _ _ _ _).trans (em_congr fun i j _ _ => upTo_succ _ _ _ _ _ _)
include e0 e1 in
theorem scratch : ∀ n (h : n < cfg0.N), (outsAt0 m c n h).2 = em 1024 1024 (upTo n (n % 4 + 1) A W)
  | 0, h => at_first m c e0 e1 ⟨0, h⟩ rfl
  | n + 1, h => by
    by_cases l : (n + 1) % 4 = 0
    · exact at_first m c e0 e1 ⟨n + 1, h⟩ l
    · exact at_next m c e0 e1 ⟨n + 1, h⟩ l (scratch n (Nat.lt_of_succ_lt h))
include e0 e1 in
theorem at_last (h : t.val % 4 = 3) : (outsAt0 m c t.val t.isLt).1
    = em 1024 1024 (upTo t.val 4 A W) := by
  have p := scratch m c e0 e1 (t.val - 1) (Nat.lt_of_le_of_lt (Nat.sub_le _ _) t.isLt)
  rw [upTo_prev (by omega)] at p
  rw [outsAt0_C m c t (by omega) (by omega) h]
  dsimp only
  rw [blk_0 m c e0, blk_1 m c e1, p]
  refine (last c _ _ _ _ _ _ _ _ _ _ _ _).trans (em_congr fun i j _ _ => ?_)
  rw [upTo_succ, h]

include e0 e1 in
theorem arr : (dats m 0 c).arrAt 2 cfg0.N = want A W := by
  refine (dats m 0 c).arrAt_eq_of_covers 2 (want A W) (by decide +kernel) fun t hf y => ?_
  refine Eq.trans ?_ (em_at rfl _ (by blk_simp [ix_2] <;> rfl) (by blk_simp [ix_2] <;> rfl)).symm
  have l : t.val % 4 = 3 := (flush0_2 t).mp hf
  rw [after0_2, at_last m c e0 e1 t l]
  blk_simp
  rfl
end kernel

/-! ## The reference -/

namespace Reference
open Cert.Reference6Ideal Cert.Reference6Ideal.Gen

variable (m : (ℓ : Loc nD τ sig) → Buf (Elt Ideal) ℓ) (c : Dev nD) {A W : ℕ → ℕ → EReal}
variable (h0 : m ((c.tc : Thread nD τ).loc main_arg0) = em 4096 8192 A) (h1 : m ((c.tc : Thread nD τ).loc main_arg1) = em 2048 8192 W)
include h0 h1 in
theorem dh_eq : Host.dotGeneral (F := Ideal) (φ₁ := .f32) (φ₂ := .f32) dot_S4096x8192_S2048x8192_S4096x2048_1_1_0_0_n_n none
      (extf .f32 (m ((c.tc : Thread nD τ).loc main_arg0)) bitsLt_bf16_f32 : FVec Ideal S4096x8192 .f32) (m ((c.tc : Thread nD τ).loc main_arg1)) = want A W :=
  host_nt (by decide) h0 h1
end Reference

end Cert.Proof.Dh

end
-- ==== Proof.DhQkv.lean ====
/-
  The gradient of q, k and v taken back to the input projection's input: three steps over the inner coordinate, summed in a scratch, and
  the gradient so far added with the last; what the call leaves in its array, and the reference's result.
-/
module

public import proofs.«01_k».proof.Proof.Prod
public import proofs.«01_k».proof.Proof.Gen.Kernel7Ideal.Value
public import proofs.«01_k».proof.Proof.Gen.Reference7Ideal.Run
public import Idealize.ShloMosaic.Lib.Pipeline.ValueKit

@[expose] public section

set_option maxRecDepth 16384

noncomputable section

namespace Cert.Proof.DhQkv

open Idealize.ShloMosaic Idealize.ShloMosaic.TcCoe
open scoped BigOperators

/-- What both programs compute: the gradient so far, and the product with the part's columns of the weight. -/
def want (A X W : ℕ → ℕ → EReal) : FVec Ideal (sh2 4096 2048) .f32 :=
  em 4096 2048 fun i j => X i j + mNT 6144 A (fun i j => W i (5152 + j)) i j

section kernel
open Cert.Kernel7Ideal Cert.Kernel7Ideal.Gen

/-! ## One step -/

section step
variable (c : Dev nD) (i : grid0.Coords) (a3 : Memref sig .tc .vmem S1024x2048 .bf16) (h3 : a3.IsWhole) (a4 : Memref sig .tc .vmem S1024x2048 .bf16) (h4 : a4.IsWhole)
  (a5 : Memref sig .tc .vmem S1024x1024 .f32) (h5 : a5.IsWhole) (a6 : Memref sig .tc .vmem S1024x1024 .f32) (h6 : a6.IsWhole)
  (a7 : Memref sig .tc .vmem S1024x1024 .f32) (h7 : a7.IsWhole) {A B X S : ℕ → ℕ → EReal}
theorem pay1 : k0_pay1 (F := Ideal) (em 1024 2048 A) (em 1024 2048 B) = em 1024 1024 (mNT 2048 A B) :=
  nt_of (by decide) rfl (shapeCast_id _ _)
theorem first (g0 g1 g2) : sout0_A_0 (F := Ideal) c i a3 h3 a4 h4 a5 h5 a6 h6 a7 h7 g0 g1 g2 (em 1024 2048 A) (em 1024 2048 B) (em 1024 1024 X)
    = em 1024 1024 (mNT 2048 A B) := by
  unfold sout0_A_0; frame_out
  exact (shapeCast_id _ _).trans pay1
theorem next (g0 g1 g2) : sout0_B_0 (F := Ideal) c i a3 h3 a4 h4 a5 h5 a6 h6 a7 h7 g0 g1 g2 (em 1024 2048 A) (em 1024 2048 B) (em 1024 1024 X) (em 1024 1024 S)
    = em 1024 1024 fun i j => S i j + mNT 2048 A B i j := by
  unfold sout0_B_0; frame_out
  exact (shapeCast_id _ _).trans (congrArg (addf (F := Ideal) (φ := .f32) (em 1024 1024 S)) pay1)
theorem last' (g0 g1 g2) : sout0_C_0 (F := Ideal) c i a3 h3 a4 h4 a5 h5 a6 h6 a7 h7 g0 g1 g2 (em 1024 2048 A) (em 1024 2048 B) (em 1024 1024 X) (em 1024 1024 S)
    = em 1024 1024 fun i j => S i j + mNT 2048 A B i j := by
  unfold sout0_C_0; frame_out
  exact (shapeCast_id _ _).trans (congrArg (addf (F := Ideal) (φ := .f32) (em 1024 1024 S)) pay1)
theorem last (g0 g1 g2) : out0_C_3 (F := Ideal) c i a3 h3 a4 h4 a5 h5 a6 h6 a7 h7 g0 g1 g2 (em 1024 2048 A) (em 1024 2048 B) (em 1024 1024 X) (em 1024 1024 S)
    = em 1024 1024 fun i j => X i j + (S i j + mNT 2048 A B i j) := by
  unfold out0_C_3; frame_out
  exact congrArg (addf (F := Ideal) (φ := .f32) (em 1024 1024 X))
    ((shapeCast_id _ _).trans (congrArg (addf (F := Ideal) (φ := .f32) (em 1024 1024 S)) pay1))
end step

/-! ## The blocks -/

variable (m : (ℓ : Loc nD τ sig) → Buf (Elt Ideal) ℓ) (c : Dev nD) {A X W : ℕ → ℕ → EReal}
variable (e0 : m ((c.tc : Thread nD τ).loc main_arg0) = em 4096 6144 A) (e1 : m ((c.tc : Thread nD τ).loc main_arg1) = em 4096 2048 X)
  (e2 : m ((c.tc : Thread nD τ).loc main_arg2) = em 2048 11296 W) (t : Fin cfg0.N)

theorem ix_0 : ∀ t : Fin grid0.N, win0_0.index t = ![t.val / 6, t.val % 3] := by decide +kernel
theorem ix_1 : ∀ t : Fin grid0.N, win0_1.index t = ![t.val / 3 % 2, t.val % 3] := by decide +kernel
theorem ix_2 : ∀ t : Fin grid0.N, win0_2.index t = ![t.val / 6, t.val / 3 % 2] := by decide +kernel
theorem ix_3 : ∀ t : Fin grid0.N, win0_3.index t = ![t.val / 6, t.val / 3 % 2] := by decide +kernel

include e2 in
theorem cols : V m c main_v1 = em 2048 6144 fun i j => W i (5152 + j) := by
  show StableHlo.after hostOps0 _ (Proc.tc.devRef main_v1) = _
  entry_read
  exact (congrArg (fun z : FVec Ideal (sh2 2048 11296) .bf16 => extractStridedSlice (sh2 2048 6144) ![0, 5152] z slices_S2048x11296_S2048x6144_0_5152)
    (e2 : _ = em 2048 11296 W)).trans (cut_cols _)
include e0 in
theorem blk_0 : iblk m c 0 t = em 1024 2048 fun i j => A (t.val / 6 * 1024 + i) (2048 * (t.val % 3) + j) :=
  funext fun y => em_at ((V_main_arg0 m c).trans e0) (((cfg0.win 0).blk t).view.emb y) (by blk_simp [ix_0] <;> omega) (by blk_simp [ix_0] <;> omega)
include e2 in
theorem blk_1 : iblk m c 1 t = em 1024 2048 fun i j => W (t.val / 3 % 2 * 1024 + i) (5152 + (2048 * (t.val % 3) + j)) :=
  funext fun y => em_at (cols m c e2) (((cfg0.win 1).blk t).view.emb y) (by blk_simp [ix_1] <;> omega) (by blk_simp [ix_1] <;> omega)
include e1 in
theorem blk_2 : iblk m c 2 t = em 1024 1024 fun i j => X (t.val / 6 * 1024 + i) (t.val / 3 % 2 * 1024 + j) :=
  funext fun y => em_at ((V_main_arg1 m c).trans e1) (((cfg0.win 2).blk t).view.emb y) (by blk_simp [ix_2] <;> omega) (by blk_simp [ix_2] <;> omega)

/-! ## The sum over the steps -/

/-- The product over the inner coordinates of the first steps, at a point's block. -/
def upTo (n s : ℕ) (A W : ℕ → ℕ → EReal) (i j : ℕ) : EReal := mNT (2048 * s) A (fun i j => W i (5152 + j)) (n / 6 * 1024 + i) (n / 3 % 2 * 1024 + j)
theorem upTo_succ (n s : ℕ) (A W : ℕ → ℕ → EReal) (i j : ℕ) :
    upTo n s A W i j + mNT 2048 (fun i j => A (n / 6 * 1024 + i) (2048 * s + j)) (fun i j => W (n / 3 % 2 * 1024 + i) (5152 + (2048 * s + j))) i j = upTo n (s + 1) A W i j :=
  (Finset.sum_range_add _ (2048 * s) 2048).symm
theorem upTo_zero (n : ℕ) (A W : ℕ → ℕ → EReal) (i j : ℕ) : upTo n 0 A W i j = 0 := rfl
theorem upTo_prev {n : ℕ} (h : n % 3 ≠ 0) : upTo (n - 1) ((n - 1) % 3 + 1) A W = upTo n (n % 3) A W := by
  unfold upTo
  rw [show (n - 1) / 6 = n / 6 by omega, show (n - 1) / 3 = n / 3 by omega, show (n - 1) % 3 + 1 = n % 3 by omega]

include e0 e1 e2 in
theorem at_first (h : t.val % 3 = 0) : (outsAt0 m c t.val t.isLt).2 = em 1024 1024 (upTo t.val (t.val % 3 + 1) A W) := by
  rw [outsAt0_A m c t h (by omega) (by omega)]
  dsimp only
  rw [blk_0 m c e0, blk_1 m c e2, blk_2 m c e1]
  refine (first c _ _ _ _ _ _ _ _ _ _ _ _ _ _).trans (em_congr fun i j _ _ => ?_)
  rw [← upTo_succ, h, upTo_zero, zero_add]
include e0 e1 e2 in
theorem at_next (h : ¬t.val % 3 = 0) (p : (outsAt0 m c (t.val - 1) (Nat.lt_of_le_of_lt (Nat.sub_le _ _) t.isLt)).2
    = em 1024 1024 (upTo (t.val - 1) ((t.val - 1) % 3 + 1) A W)) : (outsAt0 m c t.val t.isLt).2 = em 1024 1024 (upTo t.val (t.val % 3 + 1) A W) := by
  rw [upTo_prev h] at p
  by_cases l : t.val % 3 = 2
  · rw [outsAt0_C m c t h (by omega) l]
    dsimp only
    rw [blk_0 m c e0, blk_1 m c e2, blk_2 m c e1, p]
    exact (last' c _ _ _ _ _ _ _ _ _ _ _ _ _ _).trans (em_congr fun i j _ _ => upTo_succ _ _ _ _ _ _)
  · rw [outsAt0_B m c t h (by omega) l]
    dsimp only
    rw [blk_0 m c e0, blk_1 m c e2, blk_2 m c e1, p]
    exact (next c _ _ _ _ _ _ _ _ _ _ _ _ _ _).trans (em_congr fun i j _ _ => upTo_succ _ _ _ _ _ _)
include e0 e1 e2 in
theorem scratch : ∀ n (h : n < cfg0.N), (outsAt0 m c n h).2 = em 1024 1024 (upTo n (n % 3 + 1) A W)
  | 0, h => at_first m c e0 e1 e2 ⟨0, h⟩ rfl
  | n + 1, h => by
    by_cases l : (n + 1) % 3 = 0
    · exact at_first m c e0 e1 e2 ⟨n + 1, h⟩ l
    · exact at_next m c e0 e1 e2 ⟨n + 1, h⟩ l (scratch n (Nat.lt_of_succ_lt h))
include e0 e1 e2 in
theorem at_last (h : t.val % 3 = 2) : (outsAt0 m c t.val t.isLt).1
    = em 1024 1024 fun i j => X (t.val / 6 * 1024 + i) (t.val / 3 % 2 * 1024 + j) + upTo t.val 3 A W i j := by
  have p := scratch m c e0 e1 e2 (t.val - 1) (Nat.lt_of_le_of_lt (Nat.sub_le _ _) t.isLt)
  rw [upTo_prev (by omega)] at p
  rw [outsAt0_C m c t (by omega) (by omega) h]
  dsimp only
  rw [blk_0 m c e0, blk_1 m c e2, blk_2 m c e1, p]
  refine (last c _ _ _ _ _ _ _ _ _ _ _ _ _ _).trans (em_congr fun i j _ _ => ?_)
  rw [upTo_succ, h]

include e0 e1 e2 in
theorem arr : (dats m 0 c).arrAt 3 cfg0.N = want A X W := by
  refine (dats m 0 c).arrAt_eq_of_covers 3 (want A X W) (by decide +kernel) fun t hf y => ?_
  refine Eq.trans ?_ (em_at rfl _ (by blk_simp [ix_3] <;> rfl) (by blk_simp [ix_3] <;> rfl)).symm
  have l : t.val % 3 = 2 := (flush0_3 t).mp hf
  rw [after0_3, at_last m c e0 e1 e2 t l]
  blk_simp
  rfl
end kernel

/-! ## The reference -/

namespace Reference
open Cert.Reference7Ideal Cert.Reference7Ideal.Gen

variable (m : (ℓ : Loc nD τ sig) → Buf (Elt Ideal) ℓ) (c : Dev nD) {A X W : ℕ → ℕ → EReal}
variable (h0 : m ((c.tc : Thread nD τ).loc main_arg0) = em 4096 6144 A) (h1 : m ((c.tc : Thread nD τ).loc main_arg1) = em 4096 2048 X)
  (h2 : m ((c.tc : Thread nD τ).loc main_arg2) = em 2048 11296 W)
include h0 h1 h2 in
theorem back_eq : addf (F := Ideal) (φ := .f32) (m ((c.tc : Thread nD τ).loc main_arg1))
      (Host.dotGeneral (φ₁ := .f32) (φ₂ := .f32) dot_S4096x6144_S2048x6144_S4096x2048_1_1_0_0_n_n none
        (extf .f32 (m ((c.tc : Thread nD τ).loc main_arg0)) bitsLt_bf16_f32 : FVec Ideal S4096x6144 .f32)
        (extractStridedSlice S2048x6144 ![0, 5152] (m ((c.tc : Thread nD τ).loc main_arg2)) slices_S2048x11296_S2048x6144_0_5152 : FVec Ideal S2048x6144 .f32)) = want A X W := by
  rw [h1]
  exact congrArg (addf (F := Ideal) (φ := .f32) (em 4096 2048 X)) (host_nt (by decide) h0 ((congrArg (fun z : FVec Ideal (sh2 2048 11296) .f32 =>
    extractStridedSlice (sh2 2048 6144) ![0, 5152] z slices_S2048x11296_S2048x6144_0_5152) h2).trans (cut_cols _)))
end Reference

end Cert.Proof.DhQkv

end
-- ==== Proof.DhXbc.lean ====
/-
  The gradient of the convolved channels taken back to the input projection's input: three steps over the inner coordinate, summed in a scratch, and
  the gradient so far added with the last; what the call leaves in its array, and the reference's result.
-/
module

public import proofs.«01_k».proof.Proof.Prod
public import proofs.«01_k».proof.Proof.Gen.Kernel8Ideal.Value
public import proofs.«01_k».proof.Proof.Gen.Reference8Ideal.Run
public import Idealize.ShloMosaic.Lib.Pipeline.ValueKit

@[expose] public section

set_option maxRecDepth 16384

noncomputable section

namespace Cert.Proof.DhXbc

open Idealize.ShloMosaic Idealize.ShloMosaic.TcCoe
open scoped BigOperators

/-- What both programs compute: the gradient so far, and the product with the part's columns of the weight. -/
def want (A X W : ℕ → ℕ → EReal) : FVec Ideal (sh2 4096 2048) .f32 :=
  em 4096 2048 fun i j => X i j + mNT 3072 A (fun i j => W i (2048 + j)) i j

section kernel
open Cert.Kernel8Ideal Cert.Kernel8Ideal.Gen

/-! ## One step -/

section step
variable (c : Dev nD) (i : grid0.Coords) (a3 : Memref sig .tc .vmem S1024x1024 .bf16) (h3 : a3.IsWhole) (a4 : Memref sig .tc .vmem S1024x1024 .bf16) (h4 : a4.IsWhole)
  (a5 : Memref sig .tc .vmem S1024x1024 .f32) (h5 : a5.IsWhole) (a6 : Memref sig .tc .vmem S1024x1024 .f32) (h6 : a6.IsWhole)
  (a7 : Memref sig .tc .vmem S1024x1024 .f32) (h7 : a7.IsWhole) {A B X S : ℕ → ℕ → EReal}
theorem pay1 : k0_pay1 (F := Ideal) (em 1024 1024 A) (em 1024 1024 B) = em 1024 1024 (mNT 1024 A B) :=
  nt_of (by decide) rfl (shapeCast_id _ _)
theorem first (g0 g1 g2) : sout0_A_0 (F := Ideal) c i a3 h3 a4 h4 a5 h5 a6 h6 a7 h7 g0 g1 g2 (em 1024 1024 A) (em 1024 1024 B) (em 1024 1024 X)
    = em 1024 1024 (mNT 1024 A B) := by
  unfold sout0_A_0; frame_out
  exact (shapeCast_id _ _).trans pay1
theorem next (g0 g1 g2) : sout0_B_0 (F := Ideal) c i a3 h3 a4 h4 a5 h5 a6 h6 a7 h7 g0 g1 g2 (em 1024 1024 A) (em 1024 1024 B) (em 1024 1024 X) (em 1024 1024 S)
    = em 1024 1024 fun i j => S i j + mNT 1024 A B i j := by
  unfold sout0_B_0; frame_out
  exact (shapeCast_id _ _).trans (congrArg (addf (F := Ideal) (φ := .f32) (em 1024 1024 S)) pay1)
theorem last' (g0 g1 g2) : sout0_C_0 (F := Ideal) c i a3 h3 a4 h4 a5 h5 a6 h6 a7 h7 g0 g1 g2 (em 1024 1024 A) (em 1024 1024 B) (em 1024 1024 X) (em 1024 1024 S)
    = em 1024 1024 fun i j => S i j + mNT 1024 A B i j := by
  unfold sout0_C_0; frame_out
  exact (shapeCast_id _ _).trans (congrArg (addf (F := Ideal) (φ := .f32) (em 1024 1024 S)) pay1)
theorem last (g0 g1 g2) : out0_C_3 (F := Ideal) c i a3 h3 a4 h4 a5 h5 a6 h6 a7 h7 g0 g1 g2 (em 1024 1024 A) (em 1024 1024 B) (em 1024 1024 X) (em 1024 1024 S)
    = em 1024 1024 fun i j => X i j + (S i j + mNT 1024 A B i j) := by
  unfold out0_C_3; frame_out
  exact congrArg (addf (F := Ideal) (φ := .f32) (em 1024 1024 X))
    ((shapeCast_id _ _).trans (congrArg (addf (F := Ideal) (φ := .f32) (em 1024 1024 S)) pay1))
end step

/-! ## The blocks -/

variable (m : (ℓ : Loc nD τ sig) → Buf (Elt Ideal) ℓ) (c : Dev nD) {A X W : ℕ → ℕ → EReal}
variable (e0 : m ((c.tc : Thread nD τ).loc main_arg0) = em 4096 3072 A) (e1 : m ((c.tc : Thread nD τ).loc main_arg1) = em 4096 2048 X)
  (e2 : m ((c.tc : Thread nD τ).loc main_arg2) = em 2048 11296 W) (t : Fin cfg0.N)

theorem ix_0 : ∀ t : Fin grid0.N, win0_0.index t = ![t.val / 6, t.val % 3] := by decide +kernel
theorem ix_1 : ∀ t : Fin grid0.N, win0_1.index t = ![t.val / 3 % 2, t.val % 3] := by decide +kernel
theorem ix_2 : ∀ t : Fin grid0.N, win0_2.index t = ![t.val / 6, t.val / 3 % 2] := by decide +kernel
theorem ix_3 : ∀ t : Fin grid0.N, win0_3.index t = ![t.val / 6, t.val / 3 % 2] := by decide +kernel

include e2 in
theorem cols : V m c main_v1 = em 2048 3072 fun i j => W i (2048 + j) := by
  show StableHlo.after hostOps0 _ (Proc.tc.devRef main_v1) = _
  entry_read
  exact (congrArg (fun z : FVec Ideal (sh2 2048 11296) .bf16 => extractStridedSlice (sh2 2048 3072) ![0, 2048] z slices_S2048x11296_S2048x3072_0_2048)
    (e2 : _ = em 2048 11296 W)).trans (cut_cols _)
include e0 in
theorem blk_0 : iblk m c 0 t = em 1024 1024 fun i j => A (t.val / 6 * 1024 + i) (1024 * (t.val % 3) + j) :=
  funext fun y => em_at ((V_main_arg0 m c).trans e0) (((cfg0.win 0).blk t).view.emb y) (by blk_simp [ix_0] <;> omega) (by blk_simp [ix_0] <;> omega)
include e2 in
theorem blk_1 : iblk m c 1 t = em 1024 1024 fun i j => W (t.val / 3 % 2 * 1024 + i) (2048 + (1024 * (t.val % 3) + j)) :=
  funext fun y => em_at (cols m c e2) (((cfg0.win 1).blk t).view.emb y) (by blk_simp [ix_1] <;> omega) (by blk_simp [ix_1] <;> omega)
include e1 in
theorem blk_2 : iblk m c 2 t = em 1024 1024 fun i j => X (t.val / 6 * 1024 + i) (t.val / 3 % 2 * 1024 + j) :=
  funext fun y => em_at ((V_main_arg1 m c).trans e1) (((cfg0.win 2).blk t).view.emb y) (by blk_simp [ix_2] <;> omega) (by blk_simp [ix_2] <;> omega)

/-! ## The sum over the steps -/

/-- The product over the inner coordinates of the first steps, at a point's block. -/
def upTo (n s : ℕ) (A W : ℕ → ℕ → EReal) (i j : ℕ) : EReal := mNT (1024 * s) A (fun i j => W i (2048 + j)) (n / 6 * 1024 + i) (n / 3 % 2 * 1024 + j)
theorem upTo_succ (n s : ℕ) (A W : ℕ → ℕ → EReal) (i j : ℕ) :
    upTo n s A W i j + mNT 1024 (fun i j => A (n / 6 * 1024 + i) (1024 * s + j)) (fun i j => W (n / 3 % 2 * 1024 + i) (2048 + (1024 * s + j))) i j = upTo n (s + 1) A W i j :=
  (Finset.sum_range_add _ (1024 * s) 1024).symm
theorem upTo_zero (n : ℕ) (A W : ℕ → ℕ → EReal) (i j : ℕ) : upTo n 0 A W i j = 0 := rfl
theorem upTo_prev {n : ℕ} (h : n % 3 ≠ 0) : upTo (n - 1) ((n - 1) % 3 + 1) A W = upTo n (n % 3) A W := by
  unfold upTo
  rw [show (n - 1) / 6 = n / 6 by omega, show (n - 1) / 3 = n / 3 by omega, show (n - 1) % 3 + 1 = n % 3 by omega]

include e0 e1 e2 in
theorem at_first (h : t.val % 3 = 0) : (outsAt0 m c t.val t.isLt).2 = em 1024 1024 (upTo t.val (t.val % 3 + 1) A W) := by
  rw [outsAt0_A m c t h (by omega) (by omega)]
  dsimp only
  rw [blk_0 m c e0, blk_1 m c e2, blk_2 m c e1]
  refine (first c _ _ _ _ _ _ _ _ _ _ _ _ _ _).trans (em_congr fun i j _ _ => ?_)
  rw [← upTo_succ, h, upTo_zero, zero_add]
include e0 e1 e2 in
theorem at_next (h : ¬t.val % 3 = 0) (p : (outsAt0 m c (t.val - 1) (Nat.lt_of_le_of_lt (Nat.sub_le _ _) t.isLt)).2
    = em 1024 1024 (upTo (t.val - 1) ((t.val - 1) % 3 + 1) A W)) : (outsAt0 m c t.val t.isLt).2 = em 1024 1024 (upTo t.val (t.val % 3 + 1) A W) := by
  rw [upTo_prev h] at p
  by_cases l : t.val % 3 = 2
  · rw [outsAt0_C m c t h (by omega) l]
    dsimp only
    rw [blk_0 m c e0, blk_1 m c e2, blk_2 m c e1, p]
    exact (last' c _ _ _ _ _ _ _ _ _ _ _ _ _ _).trans (em_congr fun i j _ _ => upTo_succ _ _ _ _ _ _)
  · rw [outsAt0_B m c t h (by omega) l]
    dsimp only
    rw [blk_0 m c e0, blk_1 m c e2, blk_2 m c e1, p]
    exact (next c _ _ _ _ _ _ _ _ _ _ _ _ _ _).trans (em_congr fun i j _ _ => upTo_succ _ _ _ _ _ _)
include e0 e1 e2 in
theorem scratch : ∀ n (h : n < cfg0.N), (outsAt0 m c n h).2 = em 1024 1024 (upTo n (n % 3 + 1) A W)
  | 0, h => at_first m c e0 e1 e2 ⟨0, h⟩ rfl
  | n + 1, h => by
    by_cases l : (n + 1) % 3 = 0
    · exact at_first m c e0 e1 e2 ⟨n + 1, h⟩ l
    · exact at_next m c e0 e1 e2 ⟨n + 1, h⟩ l (scratch n (Nat.lt_of_succ_lt h))
include e0 e1 e2 in
theorem at_last (h : t.val % 3 = 2) : (outsAt0 m c t.val t.isLt).1
    = em 1024 1024 fun i j => X (t.val / 6 * 1024 + i) (t.val / 3 % 2 * 1024 + j) + upTo t.val 3 A W i j := by
  have p := scratch m c e0 e1 e2 (t.val - 1) (Nat.lt_of_le_of_lt (Nat.sub_le _ _) t.isLt)
  rw [upTo_prev (by omega)] at p
  rw [outsAt0_C m c t (by omega) (by omega) h]
  dsimp only
  rw [blk_0 m c e0, blk_1 m c e2, blk_2 m c e1, p]
  refine (last c _ _ _ _ _ _ _ _ _ _ _ _ _ _).trans (em_congr fun i j _ _ => ?_)
  rw [upTo_succ, h]

include e0 e1 e2 in
theorem arr : (dats m 0 c).arrAt 3 cfg0.N = want A X W := by
  refine (dats m 0 c).arrAt_eq_of_covers 3 (want A X W) (by decide +kernel) fun t hf y => ?_
  refine Eq.trans ?_ (em_at rfl _ (by blk_simp [ix_3] <;> rfl) (by blk_simp [ix_3] <;> rfl)).symm
  have l : t.val % 3 = 2 := (flush0_3 t).mp hf
  rw [after0_3, at_last m c e0 e1 e2 t l]
  blk_simp
  rfl
end kernel

/-! ## The reference -/

namespace Reference
open Cert.Reference8Ideal Cert.Reference8Ideal.Gen

variable (m : (ℓ : Loc nD τ sig) → Buf (Elt Ideal) ℓ) (c : Dev nD) {A X W : ℕ → ℕ → EReal}
variable (h0 : m ((c.tc : Thread nD τ).loc main_arg0) = em 4096 3072 A) (h1 : m ((c.tc : Thread nD τ).loc main_arg1) = em 4096 2048 X)
  (h2 : m ((c.tc : Thread nD τ).loc main_arg2) = em 2048 11296 W)
include h0 h1 h2 in
theorem back_eq : addf (F := Ideal) (φ := .f32) (m ((c.tc : Thread nD τ).loc main_arg1))
      (Host.dotGeneral (φ₁ := .f32) (φ₂ := .f32) dot_S4096x3072_S2048x3072_S4096x2048_1_1_0_0_n_n none
        (extf .f32 (m ((c.tc : Thread nD τ).loc main_arg0)) bitsLt_bf16_f32 : FVec Ideal S4096x3072 .f32)
        (extractStridedSlice S2048x3072 ![0, 2048] (m ((c.tc : Thread nD τ).loc main_arg2)) slices_S2048x11296_S2048x3072_0_2048 : FVec Ideal S2048x3072 .f32)) = want A X W := by
  rw [h1]
  exact congrArg (addf (F := Ideal) (φ := .f32) (em 4096 2048 X)) (host_nt (by decide) h0 ((congrArg (fun z : FVec Ideal (sh2 2048 11296) .f32 =>
    extractStridedSlice (sh2 2048 3072) ![0, 2048] z slices_S2048x11296_S2048x3072_0_2048) h2).trans (cut_cols _)))
end Reference

end Cert.Proof.DhXbc

end
-- ==== Proof.DhParts.lean ====
/-
  The gradients of the gates and of the step sizes taken back to the input projection's input, each in one step: what the
  calls leave in their arrays, and the references' results.
-/
module

public import proofs.«01_k».proof.Proof.Prod
public import proofs.«01_k».proof.Proof.Gen.Kernel9Ideal.Value
public import proofs.«01_k».proof.Proof.Gen.Reference9Ideal.Run
public import proofs.«01_k».proof.Proof.Gen.Kernel10Ideal.Value
public import proofs.«01_k».proof.Proof.Gen.Reference10Ideal.Run
public import Idealize.ShloMosaic.Lib.Pipeline.ValueKit

@[expose] public section

set_option maxRecDepth 16384

noncomputable section

namespace Cert.Proof.DhParts

open Idealize.ShloMosaic Idealize.ShloMosaic.TcCoe
open scoped BigOperators

/-- What the programs compute: the product with the gates' columns; the gradient so far, and the product with the step sizes'. -/
def wantZ (A W : ℕ → ℕ → EReal) : FVec Ideal (sh2 4096 2048) .f32 := em 4096 2048 (mNT 2048 A W)
def wantT (A X W : ℕ → ℕ → EReal) : FVec Ideal (sh2 4096 2048) .f32 :=
  em 4096 2048 fun i j => X i j + mNT 32 A (fun i j => W i (5120 + j)) i j

/-- Columns of zeros add nothing to a product. -/
theorem mNT_pad {a b : ℕ} {A W : ℕ → ℕ → EReal} (i j : ℕ) (h : a ≤ b) :
    mNT b A (fun i j => if j < a then W i j else 0) i j = mNT a A W i j := by
  unfold mNT
  rw [← Finset.sum_range_add_sum_Ico _ h, Finset.sum_eq_zero (s := Finset.Ico a b), add_zero]
  · exact Finset.sum_congr rfl fun k hk => by dsimp only; rw [if_pos (Finset.mem_range.mp hk)]
  · intro k hk
    dsimp only; rw [if_neg (Nat.not_lt.mpr (Finset.mem_Ico.mp hk).1), mul_zero]

/-! ## The gates -/

section gates
open Cert.Kernel9Ideal Cert.Kernel9Ideal.Gen

variable (m : (ℓ : Loc nD τ sig) → Buf (Elt Ideal) ℓ) (c : Dev nD) {A W : ℕ → ℕ → EReal}
variable (e0 : m ((c.tc : Thread nD τ).loc main_arg0) = em 4096 2048 A) (e1 : m ((c.tc : Thread nD τ).loc main_arg1) = em 2048 11296 W) (t : Fin cfg0.N)

theorem ixz_0 : ∀ t : Fin grid0.N, win0_0.index t = ![(grid0.coords t 0).val, 0] := by decide +kernel
theorem ixz_1 : ∀ t : Fin grid0.N, win0_1.index t = ![(grid0.coords t 1).val, 0] := by decide +kernel
theorem ixz_2 : ∀ t : Fin grid0.N, win0_2.index t = ![(grid0.coords t 0).val, (grid0.coords t 1).val] := by decide +kernel
include e1 in
theorem colsz : V m c main_v1 = em 2048 2048 W := by
  show StableHlo.after hostOps0 _ (Proc.tc.devRef main_v1) = _
  entry_read
  exact ((congrArg (fun z : FVec Ideal (sh2 2048 11296) .bf16 => extractStridedSlice (sh2 2048 2048) ![0, 0] z slices_S2048x11296_S2048x2048_0_0)
    (e1 : _ = em 2048 11296 W)).trans (cut_cols _)).trans (em_congr fun i j _ _ => by rw [Nat.zero_add])
include e0 in
theorem blkz_0 : iblk m c 0 t = em 1024 2048 fun i j => A ((grid0.coords t 0).val * 1024 + i) j :=
  funext fun y => em_at ((V_main_arg0 m c).trans e0) (((cfg0.win 0).blk t).view.emb y) (by blk_simp [ixz_0] <;> omega) (by blk_simp [ixz_0] <;> omega)
include e1 in
theorem blkz_1 : iblk m c 1 t = em 1024 2048 fun i j => W ((grid0.coords t 1).val * 1024 + i) j :=
  funext fun y => em_at (colsz m c e1) (((cfg0.win 1).blk t).view.emb y) (by blk_simp [ixz_1] <;> omega) (by blk_simp [ixz_1] <;> omega)
theorem tilez : out0_2 (F := Ideal) (em 1024 2048 A) (em 1024 2048 W) = em 1024 1024 (mNT 2048 A W) := by
  unfold out0_2; frame_out
  exact nt_of (by decide) rfl (shapeCast_id _ _)
include e0 e1 in
theorem arrz : (dats m 0 c).arrAt 2 cfg0.N = wantZ A W := by
  refine (dats m 0 c).arrAt_eq_of_covers 2 (wantZ A W) (by decide +kernel) fun t hf y => ?_
  refine Eq.trans ?_ (em_at rfl _ (by blk_simp [ixz_2] <;> rfl) (by blk_simp [ixz_2] <;> rfl)).symm
  rw [after0_2, blkz_0 m c e0, blkz_1 m c e1, tilez]
  blk_simp
  rfl
end gates

/-! ## The step sizes -/

section steps
open Cert.Kernel10Ideal Cert.Kernel10Ideal.Gen

variable (m : (ℓ : Loc nD τ sig) → Buf (Elt Ideal) ℓ) (c : Dev nD) {A X W : ℕ → ℕ → EReal}
variable (e0 : m ((c.tc : Thread nD τ).loc main_arg0) = em 4096 128 A) (e1 : m ((c.tc : Thread nD τ).loc main_arg1) = em 4096 2048 X)
  (e2 : m ((c.tc : Thread nD τ).loc main_arg2) = em 2048 11296 W) (t : Fin cfg0.N)

theorem ixt_0 : ∀ t : Fin grid0.N, win0_0.index t = ![(grid0.coords t 0).val, 0] := by decide +kernel
theorem ixt_1 : ∀ t : Fin grid0.N, win0_1.index t = ![(grid0.coords t 1).val, 0] := by decide +kernel
theorem ixt_2 : ∀ t : Fin grid0.N, win0_2.index t = ![(grid0.coords t 0).val, (grid0.coords t 1).val] := by decide +kernel
theorem ixt_3 : ∀ t : Fin grid0.N, win0_3.index t = ![(grid0.coords t 0).val, (grid0.coords t 1).val] := by decide +kernel
include e2 in
theorem colst : V m c main_v2 = em 2048 128 fun i j => if j < 32 then W i (5120 + j) else 0 := by
  show StableHlo.after (List.flatten [hostOps0, hostOps0_1]) _ (Proc.tc.devRef main_v2) = _
  entry_read
  have w : extractStridedSlice (sh2 2048 32) ![0, 5120] (m (c, Proc.tc.devRef main_arg2)) slices_S2048x11296_S2048x32_0_5120 = em 2048 32 fun i j => W i (5120 + j) :=
    (congrArg (fun z : FVec Ideal (sh2 2048 11296) .bf16 => extractStridedSlice (sh2 2048 32) ![0, 5120] z slices_S2048x11296_S2048x32_0_5120)
      (e2 : _ = em 2048 11296 W)).trans (cut_cols _)
  refine (congrArg (fun z : FVec Ideal (sh2 2048 32) .bf16 => pad (sh2 2048 128) ![0, 0] ![0, 96] ![0, 0] z
    (sitofp (F := Ideal) .bf16 (constantI S_ 32 0#32)) pads_S2048x32_S2048x128_000_0960 h_S_) w).trans ((pad_cols (b := 96) _ _ _).trans (em_congr fun i j _ _ => ?_))
  exact if_congr Iff.rfl rfl (by show (((0#32 : BitVec 32).toInt : ℝ) : EReal) = 0; simp)
include e0 in
theorem blkt_0 : iblk m c 0 t = em 1024 128 fun i j => A ((grid0.coords t 0).val * 1024 + i) j :=
  funext fun y => em_at ((V_main_arg0 m c).trans e0) (((cfg0.win 0).blk t).view.emb y) (by blk_simp [ixt_0] <;> omega) (by blk_simp [ixt_0] <;> omega)
include e2 in
theorem blkt_1 : iblk m c 1 t = em 1024 128 fun i j => if j < 32 then W ((grid0.coords t 1).val * 1024 + i) (5120 + j) else 0 :=
  funext fun y => em_at (colst m c e2) (((cfg0.win 1).blk t).view.emb y) (by blk_simp [ixt_1] <;> omega) (by blk_simp [ixt_1] <;> omega)
include e1 in
theorem blkt_2 : iblk m c 2 t = em 1024 1024 fun i j => X ((grid0.coords t 0).val * 1024 + i) ((grid0.coords t 1).val * 1024 + j) :=
  funext fun y => em_at ((V_main_arg1 m c).trans e1) (((cfg0.win 2).blk t).view.emb y) (by blk_simp [ixt_2] <;> omega) (by blk_simp [ixt_2] <;> omega)
theorem tilet : out0_3 (F := Ideal) (em 1024 128 A) (em 1024 128 W) (em 1024 1024 X) = em 1024 1024 fun i j => X i j + mNT 128 A W i j := by
  unfold out0_3; frame_out
  exact congrArg (addf (F := Ideal) (φ := .f32) (em 1024 1024 X)) (nt_of (by decide) rfl (shapeCast_id _ _))
include e0 e1 e2 in
theorem arrt : (dats m 0 c).arrAt 3 cfg0.N = wantT A X W := by
  refine (dats m 0 c).arrAt_eq_of_covers 3 (wantT A X W) (by decide +kernel) fun t hf y => ?_
  refine Eq.trans ?_ (em_at rfl _ (by blk_simp [ixt_3] <;> rfl) (by blk_simp [ixt_3] <;> rfl)).symm
  rw [after0_3, blkt_0 m c e0, blkt_1 m c e2, blkt_2 m c e1, tilet, em_congr fun i j _ _ => congrArg (_ + ·) (mNT_pad i j (by decide))]
  blk_simp
  rfl
end steps

/-! ## The references -/

namespace Reference
section gates
open Cert.Reference9Ideal Cert.Reference9Ideal.Gen
variable (m : (ℓ : Loc nD τ sig) → Buf (Elt Ideal) ℓ) (c : Dev nD) {A W : ℕ → ℕ → EReal}
variable (h0 : m ((c.tc : Thread nD τ).loc main_arg0) = em 4096 2048 A) (h1 : m ((c.tc : Thread nD τ).loc main_arg1) = em 2048 11296 W)
include h0 h1 in
theorem z_eq : Host.dotGeneral (φ₁ := .f32) (φ₂ := .f32) dot_S4096x2048_S2048x2048_S4096x2048_1_1_0_0_n_n none
      (extf .f32 (m ((c.tc : Thread nD τ).loc main_arg0)) bitsLt_bf16_f32 : FVec Ideal S4096x2048 .f32)
      (extractStridedSlice S2048x2048 ![0, 0] (m ((c.tc : Thread nD τ).loc main_arg1)) slices_S2048x11296_S2048x2048_0_0 : FVec Ideal S2048x2048 .f32) = wantZ A W :=
  host_nt (by decide) h0 (((congrArg (fun z : FVec Ideal (sh2 2048 11296) .f32 => extractStridedSlice (sh2 2048 2048) ![0, 0] z slices_S2048x11296_S2048x2048_0_0) h1).trans
    (cut_cols _)).trans (em_congr fun i j _ _ => by rw [Nat.zero_add]))
end gates

section steps
open Cert.Reference10Ideal Cert.Reference10Ideal.Gen
variable (m : (ℓ : Loc nD τ sig) → Buf (Elt Ideal) ℓ) (c : Dev nD) {A X W : ℕ → ℕ → EReal}
variable (h0 : m ((c.tc : Thread nD τ).loc main_arg0) = em 4096 128 A) (h1 : m ((c.tc : Thread nD τ).loc main_arg1) = em 4096 2048 X)
  (h2 : m ((c.tc : Thread nD τ).loc main_arg2) = em 2048 11296 W)
include h0 h1 h2 in
theorem t_eq : addf (F := Ideal) (φ := .f32) (m ((c.tc : Thread nD τ).loc main_arg1))
      (Host.dotGeneral (φ₁ := .f32) (φ₂ := .f32) dot_S4096x32_S2048x32_S4096x2048_1_1_0_0_n_n none
        (extractStridedSlice S4096x32 ![0, 0] (m ((c.tc : Thread nD τ).loc main_arg0)) slices_S4096x128_S4096x32_0_0 : FVec Ideal S4096x32 .f32)
        (extractStridedSlice S2048x32 ![0, 5120] (m ((c.tc : Thread nD τ).loc main_arg2)) slices_S2048x11296_S2048x32_0_5120 : FVec Ideal S2048x32 .f32)) = wantT A X W := by
  rw [h1]
  exact congrArg (addf (F := Ideal) (φ := .f32) (em 4096 2048 X)) (host_nt (by decide)
    (((congrArg (fun z : FVec Ideal (sh2 4096 128) .f32 => extractStridedSlice (sh2 4096 32) ![0, 0] z slices_S4096x128_S4096x32_0_0) h0).trans (cut_cols _)).trans
      (em_congr fun i j _ _ => by rw [Nat.zero_add]))
    ((congrArg (fun z : FVec Ideal (sh2 2048 11296) .f32 => extractStridedSlice (sh2 2048 32) ![0, 5120] z slices_S2048x11296_S2048x32_0_5120) h2).trans (cut_cols _)))
end steps
end Reference

end Cert.Proof.DhParts

end
-- ==== Proof.AdamW.lean ====
/-
  The optimiser's calls: the step a weight takes and its two new moments, entry by entry, for the vectors of any shape, and
  then for each of the five shapes what the call leaves in its arrays and what the reference's results are.
-/
module

public import proofs.«01_k».proof.Proof.FMat
public import proofs.«01_k».proof.Proof.Gen.Kernel11Ideal.Value
public import proofs.«01_k».proof.Proof.Gen.Reference11Ideal.Run
public import proofs.«01_k».proof.Proof.Gen.Kernel12Ideal.Value
public import proofs.«01_k».proof.Proof.Gen.Reference12Ideal.Run
public import proofs.«01_k».proof.Proof.Gen.Kernel13Ideal.Value
public import proofs.«01_k».proof.Proof.Gen.Reference13Ideal.Run
public import proofs.«01_k».proof.Proof.Gen.Kernel14Ideal.Value
public import proofs.«01_k».proof.Proof.Gen.Reference14Ideal.Run
public import proofs.«01_k».proof.Proof.Gen.Kernel15Ideal.Value
public import proofs.«01_k».proof.Proof.Gen.Reference15Ideal.Run
public import Idealize.ShloMosaic.Lib.Pipeline.ValueKit

@[expose] public section

set_option maxRecDepth 16384

noncomputable section

namespace Cert.Proof.AdamW

open Idealize.ShloMosaic Idealize.ShloMosaic.TcCoe

/-! ## The step, for vectors of any shape -/

section vectors
variable (s : Shape) (w g m v : FVec Ideal s .f32)
/-- The new first and second moments, and the step. -/
def vecM : FVec Ideal s .f32 := addf (mulf (constant s .f32 0x3F666666#32) m) (mulf (constant s .f32 0x3DCCCCCD#32) g)
def vecV : FVec Ideal s .f32 := addf (mulf (constant s .f32 0x3F7FBE77#32) v) (mulf (constant s .f32 0x3A83126F#32) (mulf g g))
def vecD : FVec Ideal s .f32 :=
  mulf (constant s .f32 0xBA83126F#32)
    (addf (divf (divf (vecM s g m) (constant s .f32 0x3F26BD02#32))
        (addf (sqrt (divf (vecV s g v) (constant s .f32 0x3C231ACC#32))) (constant s .f32 0x322BCC77#32)))
      (mulf (constant s .f32 0x3C23D70A#32) w))
end vectors

section entries
variable (w g m v : EReal)
/-- The same of single entries. -/
def newM : EReal := Ideal.ofBits .f32 0x3F666666#32 * m + Ideal.ofBits .f32 0x3DCCCCCD#32 * g
def newV : EReal := Ideal.ofBits .f32 0x3F7FBE77#32 * v + Ideal.ofBits .f32 0x3A83126F#32 * (g * g)
def step : EReal :=
  Ideal.ofBits .f32 0xBA83126F#32 *
    (Ideal.div (Ideal.div (newM g m) (Ideal.ofBits .f32 0x3F26BD02#32))
        (Ideal.sqrt (Ideal.div (newV g v) (Ideal.ofBits .f32 0x3C231ACC#32)) + Ideal.ofBits .f32 0x322BCC77#32)
      + Ideal.ofBits .f32 0x3C23D70A#32 * w)
end entries

variable {n c : ℕ} {W G M V : ℕ → ℕ → EReal}
theorem vecM_em : vecM (sh2 n c) (em n c G) (em n c M) = em n c fun i j => newM (G i j) (M i j) := rfl
theorem vecV_em : vecV (sh2 n c) (em n c G) (em n c V) = em n c fun i j => newV (G i j) (V i j) := rfl
theorem vecD_em : vecD (sh2 n c) (em n c W) (em n c G) (em n c M) (em n c V) = em n c fun i j => step (W i j) (G i j) (M i j) (V i j) := rfl

/-- What both programs compute. -/
def wantD (n c : ℕ) (W G M V : ℕ → ℕ → EReal) : FVec Ideal (sh2 n c) .f32 := em n c fun i j => step (W i j) (G i j) (M i j) (V i j)
def wantM (n c : ℕ) (G M : ℕ → ℕ → EReal) : FVec Ideal (sh2 n c) .f32 := em n c fun i j => newM (G i j) (M i j)
def wantV (n c : ℕ) (G V : ℕ → ℕ → EReal) : FVec Ideal (sh2 n c) .f32 := em n c fun i j => newV (G i j) (V i j)

/-! ## The perceptrons' weights -/

namespace Mlp
section kernel
open Cert.Kernel11Ideal Cert.Kernel11Ideal.Gen

variable (m : (ℓ : Loc nD τ sig) → Buf (Elt Ideal) ℓ) (c : Dev nD) {W G M V : ℕ → ℕ → EReal} (t : Fin cfg0.N)

theorem ix_0 : ∀ t : Fin grid0.N, win0_0.index t = ![t.val, 0] := by decide +kernel
theorem ix_4 : ∀ t : Fin grid0.N, win0_4.index t = ![t.val, 0] := by decide +kernel
theorem ix_5 : ∀ t : Fin grid0.N, win0_5.index t = ![t.val, 0] := by decide +kernel
theorem ix_6 : ∀ t : Fin grid0.N, win0_6.index t = ![t.val, 0] := by decide +kernel
/-- A block of rows of an argument. -/
theorem blk {x : FVec Ideal (sh2 4096 2048) .f32} {f : ℕ → ℕ → EReal} (h : x = em 4096 2048 f) :
    ((cfg0.win 0).blk t).view.read (Elt Ideal) x = em 256 2048 fun i j => f (t.val * 256 + i) j :=
  funext fun y => em_at h (((cfg0.win 0).blk t).view.emb y) (by blk_simp [ix_0] <;> omega) (by blk_simp [ix_0] <;> omega)
/-- What a step leaves in its three blocks. -/
theorem tileD : out0_4 (F := Ideal) (em 256 2048 W) (em 256 2048 G) (em 256 2048 M) (em 256 2048 V) = em 256 2048 fun i j => step (W i j) (G i j) (M i j) (V i j) := by
  unfold out0_4; frame_out; exact vecD_em
theorem tileM : out0_5 (F := Ideal) (em 256 2048 W) (em 256 2048 G) (em 256 2048 M) (em 256 2048 V) = em 256 2048 fun i j => newM (G i j) (M i j) := by
  unfold out0_5; frame_out; exact vecM_em
theorem tileV : out0_6 (F := Ideal) (em 256 2048 W) (em 256 2048 G) (em 256 2048 M) (em 256 2048 V) = em 256 2048 fun i j => newV (G i j) (V i j) := by
  unfold out0_6; frame_out; exact vecV_em

variable (e0 : m ((c.tc : Thread nD τ).loc main_arg0) = em 4096 2048 W) (e1 : m ((c.tc : Thread nD τ).loc main_arg1) = em 4096 2048 G)
  (e2 : m ((c.tc : Thread nD τ).loc main_arg2) = em 4096 2048 M) (e3 : m ((c.tc : Thread nD τ).loc main_arg3) = em 4096 2048 V)
include e0 e1 e2 e3
theorem after_4 : (dats m 0 c).after 4 t = em 256 2048 fun i j => step (W (t.val * 256 + i) j) (G (t.val * 256 + i) j) (M (t.val * 256 + i) j) (V (t.val * 256 + i) j) := by
  rw [after0_4]; exact (congr (congr (congrArg₂ out0_4 (blk t e0) (blk t e1)) (blk t e2)) (blk t e3)).trans tileD
theorem after_5 : (dats m 0 c).after 5 t = em 256 2048 fun i j => newM (G (t.val * 256 + i) j) (M (t.val * 256 + i) j) := by
  rw [after0_5]; exact (congr (congr (congrArg₂ out0_5 (blk t e0) (blk t e1)) (blk t e2)) (blk t e3)).trans tileM
theorem after_6 : (dats m 0 c).after 6 t = em 256 2048 fun i j => newV (G (t.val * 256 + i) j) (V (t.val * 256 + i) j) := by
  rw [after0_6]; exact (congr (congr (congrArg₂ out0_6 (blk t e0) (blk t e1)) (blk t e2)) (blk t e3)).trans tileV
theorem arrD : (dats m 0 c).arrAt 4 cfg0.N = wantD 4096 2048 W G M V := by
  refine (dats m 0 c).arrAt_eq_of_covers 4 (wantD 4096 2048 W G M V) (by decide +kernel) fun t hf y => ?_
  refine Eq.trans ?_ (em_at rfl _ (by blk_simp [ix_4] <;> rfl) (by blk_simp [ix_4] <;> rfl)).symm
  rw [after_4 m c t e0 e1 e2 e3]; blk_simp; rfl
theorem arrM : (dats m 0 c).arrAt 5 cfg0.N = wantM 4096 2048 G M := by
  refine (dats m 0 c).arrAt_eq_of_covers 5 (wantM 4096 2048 G M) (by decide +kernel) fun t hf y => ?_
  refine Eq.trans ?_ (em_at rfl _ (by blk_simp [ix_5] <;> rfl) (by blk_simp [ix_5] <;> rfl)).symm
  rw [after_5 m c t e0 e1 e2 e3]; blk_simp; rfl
theorem arrV : (dats m 0 c).arrAt 6 cfg0.N = wantV 4096 2048 G V := by
  refine (dats m 0 c).arrAt_eq_of_covers 6 (wantV 4096 2048 G V) (by decide +kernel) fun t hf y => ?_
  refine Eq.trans ?_ (em_at rfl _ (by blk_simp [ix_6] <;> rfl) (by blk_simp [ix_6] <;> rfl)).symm
  rw [after_6 m c t e0 e1 e2 e3]; blk_simp; rfl
end kernel
end Mlp

/-! ## The output projection's weight -/

namespace Out
section kernel
open Cert.Kernel12Ideal Cert.Kernel12Ideal.Gen

variable (m : (ℓ : Loc nD τ sig) → Buf (Elt Ideal) ℓ) (c : Dev nD) {W G M V : ℕ → ℕ → EReal} (t : Fin cfg0.N)

theorem ix_0 : ∀ t : Fin grid0.N, win0_0.index t = ![t.val, 0] := by decide +kernel
theorem ix_4 : ∀ t : Fin grid0.N, win0_4.index t = ![t.val, 0] := by decide +kernel
theorem ix_5 : ∀ t : Fin grid0.N, win0_5.index t = ![t.val, 0] := by decide +kernel
theorem ix_6 : ∀ t : Fin grid0.N, win0_6.index t = ![t.val, 0] := by decide +kernel
/-- A block of rows of an argument. -/
theorem blk {x : FVec Ideal (sh2 1024 2048) .f32} {f : ℕ → ℕ → EReal} (h : x = em 1024 2048 f) :
    ((cfg0.win 0).blk t).view.read (Elt Ideal) x = em 256 2048 fun i j => f (t.val * 256 + i) j :=
  funext fun y => em_at h (((cfg0.win 0).blk t).view.emb y) (by blk_simp [ix_0] <;> omega) (by blk_simp [ix_0] <;> omega)
/-- What a step leaves in its three blocks. -/
theorem tileD : out0_4 (F := Ideal) (em 256 2048 W) (em 256 2048 G) (em 256 2048 M) (em 256 2048 V) = em 256 2048 fun i j => step (W i j) (G i j) (M i j) (V i j) := by
  unfold out0_4; frame_out; exact vecD_em
theorem tileM : out0_5 (F := Ideal) (em 256 2048 W) (em 256 2048 G) (em 256 2048 M) (em 256 2048 V) = em 256 2048 fun i j => newM (G i j) (M i j) := by
  unfold out0_5; frame_out; exact vecM_em
theorem tileV : out0_6 (F := Ideal) (em 256 2048 W) (em 256 2048 G) (em 256 2048 M) (em 256 2048 V) = em 256 2048 fun i j => newV (G i j) (V i j) := by
  unfold out0_6; frame_out; exact vecV_em

variable (e0 : m ((c.tc : Thread nD τ).loc main_arg0) = em 1024 2048 W) (e1 : m ((c.tc : Thread nD τ).loc main_arg1) = em 1024 2048 G)
  (e2 : m ((c.tc : Thread nD τ).loc main_arg2) = em 1024 2048 M) (e3 : m ((c.tc : Thread nD τ).loc main_arg3) = em 1024 2048 V)
include e0 e1 e2 e3
theorem after_4 : (dats m 0 c).after 4 t = em 256 2048 fun i j => step (W (t.val * 256 + i) j) (G (t.val * 256 + i) j) (M (t.val * 256 + i) j) (V (t.val * 256 + i) j) := by
  rw [after0_4]; exact (congr (congr (congrArg₂ out0_4 (blk t e0) (blk t e1)) (blk t e2)) (blk t e3)).trans tileD
theorem after_5 : (dats m 0 c).after 5 t = em 256 2048 fun i j => newM (G (t.val * 256 + i) j) (M (t.val * 256 + i) j) := by
  rw [after0_5]; exact (congr (congr (congrArg₂ out0_5 (blk t e0) (blk t e1)) (blk t e2)) (blk t e3)).trans tileM
theorem after_6 : (dats m 0 c).after 6 t = em 256 2048 fun i j => newV (G (t.val * 256 + i) j) (V (t.val * 256 + i) j) := by
  rw [after0_6]; exact (congr (congr (congrArg₂ out0_6 (blk t e0) (blk t e1)) (blk t e2)) (blk t e3)).trans tileV
theorem arrD : (dats m 0 c).arrAt 4 cfg0.N = wantD 1024 2048 W G M V := by
  refine (dats m 0 c).arrAt_eq_of_covers 4 (wantD 1024 2048 W G M V) (by decide +kernel) fun t hf y => ?_
  refine Eq.trans ?_ (em_at rfl _ (by blk_simp [ix_4] <;> rfl) (by blk_simp [ix_4] <;> rfl)).symm
  rw [after_4 m c t e0 e1 e2 e3]; blk_simp; rfl
theorem arrM : (dats m 0 c).arrAt 5 cfg0.N = wantM 1024 2048 G M := by
  refine (dats m 0 c).arrAt_eq_of_covers 5 (wantM 1024 2048 G M) (by decide +kernel) fun t hf y => ?_
  refine Eq.trans ?_ (em_at rfl _ (by blk_simp [ix_5] <;> rfl) (by blk_simp [ix_5] <;> rfl)).symm
  rw [after_5 m c t e0 e1 e2 e3]; blk_simp; rfl
theorem arrV : (dats m 0 c).arrAt 6 cfg0.N = wantV 1024 2048 G V := by
  refine (dats m 0 c).arrAt_eq_of_covers 6 (wantV 1024 2048 G V) (by decide +kernel) fun t hf y => ?_
  refine Eq.trans ?_ (em_at rfl _ (by blk_simp [ix_6] <;> rfl) (by blk_simp [ix_6] <;> rfl)).symm
  rw [after_6 m c t e0 e1 e2 e3]; blk_simp; rfl
end kernel
end Out

/-! ## The pooling weights -/

namespace Pool
section kernel
open Cert.Kernel13Ideal Cert.Kernel13Ideal.Gen

variable (m : (ℓ : Loc nD τ sig) → Buf (Elt Ideal) ℓ) (c : Dev nD) {W G M V : ℕ → ℕ → EReal} (t : Fin cfg0.N)

theorem ix_0 : ∀ t : Fin grid0.N, win0_0.index t = ![t.val, 0] := by decide +kernel
theorem ix_4 : ∀ t : Fin grid0.N, win0_4.index t = ![t.val, 0] := by decide +kernel
theorem ix_5 : ∀ t : Fin grid0.N, win0_5.index t = ![t.val, 0] := by decide +kernel
theorem ix_6 : ∀ t : Fin grid0.N, win0_6.index t = ![t.val, 0] := by decide +kernel
/-- A block of rows of an argument. -/
theorem blk {x : FVec Ideal (sh2 512 512) .f32} {f : ℕ → ℕ → EReal} (h : x = em 512 512 f) :
    ((cfg0.win 0).blk t).view.read (Elt Ideal) x = em 256 512 fun i j => f (t.val * 256 + i) j :=
  funext fun y => em_at h (((cfg0.win 0).blk t).view.emb y) (by blk_simp [ix_0] <;> omega) (by blk_simp [ix_0] <;> omega)
/-- What a step leaves in its three blocks. -/
theorem tileD : out0_4 (F := Ideal) (em 256 512 W) (em 256 512 G) (em 256 512 M) (em 256 512 V) = em 256 512 fun i j => step (W i j) (G i j) (M i j) (V i j) := by
  unfold out0_4; frame_out; exact vecD_em
theorem tileM : out0_5 (F := Ideal) (em 256 512 W) (em 256 512 G) (em 256 512 M) (em 256 512 V) = em 256 512 fun i j => newM (G i j) (M i j) := by
  unfold out0_5; frame_out; exact vecM_em
theorem tileV : out0_6 (F := Ideal) (em 256 512 W) (em 256 512 G) (em 256 512 M) (em 256 512 V) = em 256 512 fun i j => newV (G i j) (V i j) := by
  unfold out0_6; frame_out; exact vecV_em

variable (e0 : m ((c.tc : Thread nD τ).loc main_arg0) = em 512 512 W) (e1 : m ((c.tc : Thread nD τ).loc main_arg1) = em 512 512 G)
  (e2 : m ((c.tc : Thread nD τ).loc main_arg2) = em 512 512 M) (e3 : m ((c.tc : Thread nD τ).loc main_arg3) = em 512 512 V)
include e0 e1 e2 e3
theorem after_4 : (dats m 0 c).after 4 t = em 256 512 fun i j => step (W (t.val * 256 + i) j) (G (t.val * 256 + i) j) (M (t.val * 256 + i) j) (V (t.val * 256 + i) j) := by
  rw [after0_4]; exact (congr (congr (congrArg₂ out0_4 (blk t e0) (blk t e1)) (blk t e2)) (blk t e3)).trans tileD
theorem after_5 : (dats m 0 c).after 5 t = em 256 512 fun i j => newM (G (t.val * 256 + i) j) (M (t.val * 256 + i) j) := by
  rw [after0_5]; exact (congr (congr (congrArg₂ out0_5 (blk t e0) (blk t e1)) (blk t e2)) (blk t e3)).trans tileM
theorem after_6 : (dats m 0 c).after 6 t = em 256 512 fun i j => newV (G (t.val * 256 + i) j) (V (t.val * 256 + i) j) := by
  rw [after0_6]; exact (congr (congr (congrArg₂ out0_6 (blk t e0) (blk t e1)) (blk t e2)) (blk t e3)).trans tileV
theorem arrD : (dats m 0 c).arrAt 4 cfg0.N = wantD 512 512 W G M V := by
  refine (dats m 0 c).arrAt_eq_of_covers 4 (wantD 512 512 W G M V) (by decide +kernel) fun t hf y => ?_
  refine Eq.trans ?_ (em_at rfl _ (by blk_simp [ix_4] <;> rfl) (by blk_simp [ix_4] <;> rfl)).symm
  rw [after_4 m c t e0 e1 e2 e3]; blk_simp; rfl
theorem arrM : (dats m 0 c).arrAt 5 cfg0.N = wantM 512 512 G M := by
  refine (dats m 0 c).arrAt_eq_of_covers 5 (wantM 512 512 G M) (by decide +kernel) fun t hf y => ?_
  refine Eq.trans ?_ (em_at rfl _ (by blk_simp [ix_5] <;> rfl) (by blk_simp [ix_5] <;> rfl)).symm
  rw [after_5 m c t e0 e1 e2 e3]; blk_simp; rfl
theorem arrV : (dats m 0 c).arrAt 6 cfg0.N = wantV 512 512 G V := by
  refine (dats m 0 c).arrAt_eq_of_covers 6 (wantV 512 512 G V) (by decide +kernel) fun t hf y => ?_
  refine Eq.trans ?_ (em_at rfl _ (by blk_simp [ix_6] <;> rfl) (by blk_simp [ix_6] <;> rfl)).symm
  rw [after_6 m c t e0 e1 e2 e3]; blk_simp; rfl
end kernel
end Pool

/-! ## The input projection's weight -/

namespace In
section kernel
open Cert.Kernel14Ideal Cert.Kernel14Ideal.Gen

variable (m : (ℓ : Loc nD τ sig) → Buf (Elt Ideal) ℓ) (c : Dev nD) {W G M V : ℕ → ℕ → EReal} (t : Fin cfg0.N)

theorem ix_0 : ∀ t : Fin grid0.N, win0_0.index t = ![t.val, 0] := by decide +kernel
theorem ix_4 : ∀ t : Fin grid0.N, win0_4.index t = ![t.val, 0] := by decide +kernel
theorem ix_5 : ∀ t : Fin grid0.N, win0_5.index t = ![t.val, 0] := by decide +kernel
theorem ix_6 : ∀ t : Fin grid0.N, win0_6.index t = ![t.val, 0] := by decide +kernel
/-- A block of rows of an argument. -/
theorem blk {x : FVec Ideal (sh2 2048 2824) .f32} {f : ℕ → ℕ → EReal} (h : x = em 2048 2824 f) :
    ((cfg0.win 0).blk t).view.read (Elt Ideal) x = em 128 2824 fun i j => f (t.val * 128 + i) j :=
  funext fun y => em_at h (((cfg0.win 0).blk t).view.emb y) (by blk_simp [ix_0] <;> omega) (by blk_simp [ix_0] <;> omega)
/-- What a step leaves in its three blocks. -/
theorem tileD : out0_4 (F := Ideal) (em 128 2824 W) (em 128 2824 G) (em 128 2824 M) (em 128 2824 V) = em 128 2824 fun i j => step (W i j) (G i j) (M i j) (V i j) := by
  unfold out0_4; frame_out; exact vecD_em
theorem tileM : out0_5 (F := Ideal) (em 128 2824 W) (em 128 2824 G) (em 128 2824 M) (em 128 2824 V) = em 128 2824 fun i j => newM (G i j) (M i j) := by
  unfold out0_5; frame_out; exact vecM_em
theorem tileV : out0_6 (F := Ideal) (em 128 2824 W) (em 128 2824 G) (em 128 2824 M) (em 128 2824 V) = em 128 2824 fun i j => newV (G i j) (V i j) := by
  unfold out0_6; frame_out; exact vecV_em

variable (e0 : m ((c.tc : Thread nD τ).loc main_arg0) = em 2048 2824 W) (e1 : m ((c.tc : Thread nD τ).loc main_arg1) = em 2048 2824 G)
  (e2 : m ((c.tc : Thread nD τ).loc main_arg2) = em 2048 2824 M) (e3 : m ((c.tc : Thread nD τ).loc main_arg3) = em 2048 2824 V)
include e0 e1 e2 e3
theorem after_4 : (dats m 0 c).after 4 t = em 128 2824 fun i j => step (W (t.val * 128 + i) j) (G (t.val * 128 + i) j) (M (t.val * 128 + i) j) (V (t.val * 128 + i) j) := by
  rw [after0_4]; exact (congr (congr (congrArg₂ out0_4 (blk t e0) (blk t e1)) (blk t e2)) (blk t e3)).trans tileD
theorem after_5 : (dats m 0 c).after 5 t = em 128 2824 fun i j => newM (G (t.val * 128 + i) j) (M (t.val * 128 + i) j) := by
  rw [after0_5]; exact (congr (congr (congrArg₂ out0_5 (blk t e0) (blk t e1)) (blk t e2)) (blk t e3)).trans tileM
theorem after_6 : (dats m 0 c).after 6 t = em 128 2824 fun i j => newV (G (t.val * 128 + i) j) (V (t.val * 128 + i) j) := by
  rw [after0_6]; exact (congr (congr (congrArg₂ out0_6 (blk t e0) (blk t e1)) (blk t e2)) (blk t e3)).trans tileV
theorem arrD : (dats m 0 c).arrAt 4 cfg0.N = wantD 2048 2824 W G M V := by
  refine (dats m 0 c).arrAt_eq_of_covers 4 (wantD 2048 2824 W G M V) (by decide +kernel) fun t hf y => ?_
  refine Eq.trans ?_ (em_at rfl _ (by blk_simp [ix_4] <;> rfl) (by blk_simp [ix_4] <;> rfl)).symm
  rw [after_4 m c t e0 e1 e2 e3]; blk_simp; rfl
theorem arrM : (dats m 0 c).arrAt 5 cfg0.N = wantM 2048 2824 G M := by
  refine (dats m 0 c).arrAt_eq_of_covers 5 (wantM 2048 2824 G M) (by decide +kernel) fun t hf y => ?_
  refine Eq.trans ?_ (em_at rfl _ (by blk_simp [ix_5] <;> rfl) (by blk_simp [ix_5] <;> rfl)).symm
  rw [after_5 m c t e0 e1 e2 e3]; blk_simp; rfl
theorem arrV : (dats m 0 c).arrAt 6 cfg0.N = wantV 2048 2824 G V := by
  refine (dats m 0 c).arrAt_eq_of_covers 6 (wantV 2048 2824 G V) (by decide +kernel) fun t hf y => ?_
  refine Eq.trans ?_ (em_at rfl _ (by blk_simp [ix_6] <;> rfl) (by blk_simp [ix_6] <;> rfl)).symm
  rw [after_6 m c t e0 e1 e2 e3]; blk_simp; rfl
end kernel
end In

/-! ## The small weights, packed -/

namespace Small
section kernel
open Cert.Kernel15Ideal Cert.Kernel15Ideal.Gen

variable (m : (ℓ : Loc nD τ sig) → Buf (Elt Ideal) ℓ) (c : Dev nD) {W G M V : ℕ → ℕ → EReal} (t : Fin cfg0.N)

theorem ix_0 : ∀ t : Fin grid0.N, win0_0.index t = ![t.val, 0] := by decide +kernel
theorem ix_4 : ∀ t : Fin grid0.N, win0_4.index t = ![t.val, 0] := by decide +kernel
theorem ix_5 : ∀ t : Fin grid0.N, win0_5.index t = ![t.val, 0] := by decide +kernel
theorem ix_6 : ∀ t : Fin grid0.N, win0_6.index t = ![t.val, 0] := by decide +kernel
/-- A block of rows of an argument. -/
theorem blk {x : FVec Ideal (sh2 8 2048) .f32} {f : ℕ → ℕ → EReal} (h : x = em 8 2048 f) :
    ((cfg0.win 0).blk t).view.read (Elt Ideal) x = em 8 2048 fun i j => f (t.val * 8 + i) j :=
  funext fun y => em_at h (((cfg0.win 0).blk t).view.emb y) (by blk_simp [ix_0] <;> omega) (by blk_simp [ix_0] <;> omega)
/-- What a step leaves in its three blocks. -/
theorem tileD : out0_4 (F := Ideal) (em 8 2048 W) (em 8 2048 G) (em 8 2048 M) (em 8 2048 V) = em 8 2048 fun i j => step (W i j) (G i j) (M i j) (V i j) := by
  unfold out0_4; frame_out; exact vecD_em
theorem tileM : out0_5 (F := Ideal) (em 8 2048 W) (em 8 2048 G) (em 8 2048 M) (em 8 2048 V) = em 8 2048 fun i j => newM (G i j) (M i j) := by
  unfold out0_5; frame_out; exact vecM_em
theorem tileV : out0_6 (F := Ideal) (em 8 2048 W) (em 8 2048 G) (em 8 2048 M) (em 8 2048 V) = em 8 2048 fun i j => newV (G i j) (V i j) := by
  unfold out0_6; frame_out; exact vecV_em

variable (e0 : m ((c.tc : Thread nD τ).loc main_arg0) = em 8 2048 W) (e1 : m ((c.tc : Thread nD τ).loc main_arg1) = em 8 2048 G)
  (e2 : m ((c.tc : Thread nD τ).loc main_arg2) = em 8 2048 M) (e3 : m ((c.tc : Thread nD τ).loc main_arg3) = em 8 2048 V)
include e0 e1 e2 e3
theorem after_4 : (dats m 0 c).after 4 t = em 8 2048 fun i j => step (W (t.val * 8 + i) j) (G (t.val * 8 + i) j) (M (t.val * 8 + i) j) (V (t.val * 8 + i) j) := by
  rw [after0_4]; exact (congr (congr (congrArg₂ out0_4 (blk t e0) (blk t e1)) (blk t e2)) (blk t e3)).trans tileD
theorem after_5 : (dats m 0 c).after 5 t = em 8 2048 fun i j => newM (G (t.val * 8 + i) j) (M (t.val * 8 + i) j) := by
  rw [after0_5]; exact (congr (congr (congrArg₂ out0_5 (blk t e0) (blk t e1)) (blk t e2)) (blk t e3)).trans tileM
theorem after_6 : (dats m 0 c).after 6 t = em 8 2048 fun i j => newV (G (t.val * 8 + i) j) (V (t.val * 8 + i) j) := by
  rw [after0_6]; exact (congr (congr (congrArg₂ out0_6 (blk t e0) (blk t e1)) (blk t e2)) (blk t e3)).trans tileV
theorem arrD : (dats m 0 c).arrAt 4 cfg0.N = wantD 8 2048 W G M V := by
  refine (dats m 0 c).arrAt_eq_of_covers 4 (wantD 8 2048 W G M V) (by decide +kernel) fun t hf y => ?_
  refine Eq.trans ?_ (em_at rfl _ (by blk_simp [ix_4] <;> rfl) (by blk_simp [ix_4] <;> rfl)).symm
  rw [after_4 m c t e0 e1 e2 e3]; blk_simp; rfl
theorem arrM : (dats m 0 c).arrAt 5 cfg0.N = wantM 8 2048 G M := by
  refine (dats m 0 c).arrAt_eq_of_covers 5 (wantM 8 2048 G M) (by decide +kernel) fun t hf y => ?_
  refine Eq.trans ?_ (em_at rfl _ (by blk_simp [ix_5] <;> rfl) (by blk_simp [ix_5] <;> rfl)).symm
  rw [after_5 m c t e0 e1 e2 e3]; blk_simp; rfl
theorem arrV : (dats m 0 c).arrAt 6 cfg0.N = wantV 8 2048 G V := by
  refine (dats m 0 c).arrAt_eq_of_covers 6 (wantV 8 2048 G V) (by decide +kernel) fun t hf y => ?_
  refine Eq.trans ?_ (em_at rfl _ (by blk_simp [ix_6] <;> rfl) (by blk_simp [ix_6] <;> rfl)).symm
  rw [after_6 m c t e0 e1 e2 e3]; blk_simp; rfl
end kernel
end Small

/-! ## The reference's expressions are the vectors -/

section reference
/-- The shape of a single number. -/
abbrev scl : Shape := ⟨0, ![]⟩
variable {s : Shape} (h : scl.BroadcastsInDim s ![]) (w g m v : FVec Ideal s .f32)
theorem ref_m : addf (mulf (broadcastInDim s ![] h (constant scl .f32 0x3F666666#32)) m) (mulf (broadcastInDim s ![] h (constant scl .f32 0x3DCCCCCD#32)) g) = vecM s g m := rfl
theorem ref_v : addf (mulf (broadcastInDim s ![] h (constant scl .f32 0x3F7FBE77#32)) v) (mulf (broadcastInDim s ![] h (constant scl .f32 0x3A83126F#32)) (mulf g g)) = vecV s g v := rfl
theorem ref_d : mulf (broadcastInDim s ![] h (constant scl .f32 0xBA83126F#32))
    (addf (Host.divf (Host.divf (vecM s g m) (broadcastInDim s ![] h (constant scl .f32 0x3F26BD02#32)))
        (addf (Host.sqrt (Host.divf (vecV s g v) (broadcastInDim s ![] h (constant scl .f32 0x3C231ACC#32)))) (broadcastInDim s ![] h (constant scl .f32 0x322BCC77#32))))
      (mulf (broadcastInDim s ![] h (constant scl .f32 0x3C23D70A#32)) w)) = vecD s w g m v := rfl
variable {n c : ℕ} {W G M V : ℕ → ℕ → EReal} {w g m v : FVec Ideal (sh2 n c) .f32} (e0 : w = em n c W) (e1 : g = em n c G) (e2 : m = em n c M) (e3 : v = em n c V)
include e0 e1 e2 e3
theorem vecD_eq : vecD (sh2 n c) w g m v = wantD n c W G M V := by subst e0 e1 e2 e3; rfl
omit e0 e3
theorem vecM_eq : vecM (sh2 n c) g m = wantM n c G M := by subst e1 e2; rfl
omit e2
include e3
theorem vecV_eq : vecV (sh2 n c) g v = wantV n c G V := by subst e1 e3; rfl
end reference

end Cert.Proof.AdamW

end
-- ==== Proof.RmsBwd.lean ====
/-
  The gradients of a row normalisation: of its rows, added to a gradient given, and of its gain. The kernel subtracts from
  a row's gradient its part along the normalised row; the reference differentiates the root. Both are the same: the mean square of a row is a positive
  number or, with an infinite entry in the row, infinite, and then the reciprocal root is zero.
-/
module

public import proofs.«01_k».proof.Proof.FMat
public import proofs.«01_k».proof.Proof.Mat
public import proofs.«01_k».proof.Proof.Layer
public import proofs.«01_k».proof.Proof.Gen.Kernel16Ideal.Value
public import proofs.«01_k».proof.Proof.Gen.Reference16Ideal.Run
public import Idealize.ShloMosaic.Lib.Pipeline.ValueKit

@[expose] public section

set_option maxRecDepth 16384

noncomputable section

namespace Cert.Proof.RmsBwd

open Idealize.ShloMosaic Idealize.ShloMosaic.TcCoe Layer
open scoped BigOperators

/-! ## The two forms of the gradient -/

section forms
variable (X G D R : ℕ → ℕ → EReal) (i j : ℕ)
/-- A row's mean square plus the small number. -/
def var : EReal := Ideal.div (∑ k ∈ Finset.range 2048, X i k * X i k) (Ideal.ofBits .f32 0x45000000#32) + Ideal.ofBits .f32 0x358637BD#32
/-- The kernel's: the part along the normalised row taken away. -/
def along : EReal := Ideal.div (∑ k ∈ Finset.range 2048, D i k * G 0 k * (X i k * rms X i)) (Ideal.ofBits .f32 0x45000000#32)
def dxK : EReal := R i j + rms X i * (D i j * G 0 j - X i j * rms X i * along X G D i)
/-- The reference's: the root's derivative, reaching the row twice through its square. -/
def root : EReal :=
  Ideal.div ((∑ k ∈ Finset.range 2048, X i k * (D i k * G 0 k)) * (Ideal.ofBits .f32 0xBF000000#32 * Ideal.div (rms X i) (var X i))) (Ideal.ofBits .f32 0x45000000#32)
def dxR : EReal := R i j + (D i j * G 0 j * rms X i + X i j * root X G D i + root X G D i * X i j)
/-- The gain's gradient: the sum over the rows. -/
def dgain (n : ℕ) : EReal := ∑ k ∈ Finset.range n, D k j * (X k j * rms X k)
end forms

/-! ## They agree -/

section agree
theorem word_2048 : Ideal.ofBits .f32 (0x45000000#32) = ((2048 : ℝ) : EReal) := by
  simp [Ideal.ofBits, Ideal.ieee]
  exact congrArg ((↑) : ℝ → EReal) (by norm_num : _ = (2048 : ℝ))
theorem word_half : Ideal.ofBits .f32 (0xBF000000#32) = ((-(1 / 2) : ℝ) : EReal) := by
  simp [Ideal.ofBits, Ideal.ieee]
  norm_num
  rw [← EReal.coe_mul]
  exact congrArg ((↑) : ℝ → EReal) (by norm_num)
theorem word_small : ∃ e : ℝ, 0 < e ∧ Ideal.ofBits .f32 (0x358637BD#32) = (e : EReal) := by
  refine ⟨_, ?_, by simp [Ideal.ofBits, Ideal.ieee]; rfl⟩
  norm_num

/-- A square is not negative, and infinite only if its root is. -/
theorem square_nonneg (a : EReal) : 0 ≤ a * a := by
  induction a using EReal.rec with
  | bot => simp
  | top => simp
  | coe x => rw [← EReal.coe_mul]; exact_mod_cast mul_self_nonneg x
theorem number_or_square_top (a : EReal) : (∃ x : ℝ, a = x) ∨ a * a = ⊤ := by
  induction a using EReal.rec with
  | bot => exact .inr (by simp)
  | top => exact .inr (by simp)
  | coe x => exact .inl ⟨x, rfl⟩

/-- A number that is not negative goes through a sum of any values. -/
theorem sum_scale (u v : ℕ → EReal) {ρ : ℝ} (h : 0 ≤ ρ) (n : ℕ) :
    ∑ k ∈ Finset.range n, v k * (u k * (ρ : EReal)) = (∑ k ∈ Finset.range n, u k * v k) * (ρ : EReal) := by
  induction n with
  | zero => simp
  | succ n ih =>
    rw [Finset.sum_range_succ, Finset.sum_range_succ, ih, EReal.right_distrib_of_nonneg_of_ne_top (by exact_mod_cast h) (EReal.coe_ne_top ρ)]
    congr 1
    ac_rfl

/-- What is taken away along the row is twice what the root's derivative gives, at any two values `p` and `s`. -/
theorem twice (p s : EReal) (x ρ a : ℝ) (h : 0 ≤ ρ) :
    (ρ : EReal) * (p - (x : EReal) * ρ * (s * ρ * (a : EReal)))
      = p * ρ + x * (s * (((-(1 / 2) : ℝ) : EReal) * ((ρ : EReal) * ((ρ * ρ : ℝ) : EReal))) * (a : EReal))
        + s * (((-(1 / 2) : ℝ) : EReal) * ((ρ : EReal) * ((ρ * ρ : ℝ) : EReal))) * (a : EReal) * x := by
  have l : (ρ : EReal) * ((x : EReal) * ρ * (s * ρ * (a : EReal))) = s * ((ρ * x * ρ * ρ * a : ℝ) : EReal) := by
    simp only [EReal.coe_mul]; ac_rfl
  have r : s * (((-(1 / 2) : ℝ) : EReal) * ((ρ : EReal) * ((ρ * ρ : ℝ) : EReal))) * (a : EReal) * x = s * ((-(1 / 2) * (ρ * (ρ * ρ)) * a * x : ℝ) : EReal) := by
    simp only [EReal.coe_mul]; ac_rfl
  have d : ∀ (y : ℝ), s * (y : EReal) + s * (y : EReal) = s * ((y + y : ℝ) : EReal) := by
    intro y
    have one : (0 : EReal) ≤ 1 := zero_le_one
    have two : ∀ z : EReal, z + z = (1 + 1) * z := fun z => by rw [EReal.right_distrib_of_nonneg one one, one_mul]
    rw [two, EReal.coe_add, two (y : EReal), mul_left_comm]
  rw [EReal.mul_sub_of_nonneg_of_ne_top (by exact_mod_cast h) (EReal.coe_ne_top ρ), l, mul_comm (x : EReal), r, add_assoc, d, mul_comm p,
    sub_eq_add_neg, ← mul_neg, ← EReal.coe_neg]
  congr 3
  ring

variable (X G D R : ℕ → ℕ → EReal)
/-- The mean square of a row of numbers is a positive number; a row with another entry has reciprocal root zero. -/
theorem var_cases (i : ℕ) : (var X i = ⊤ ∧ rms X i = 0)
    ∨ (∀ k < 2048, ∃ x : ℝ, X i k = x) ∧ ∃ s : ℝ, 0 < s ∧ var X i = (s : EReal) ∧ rms X i = (((Real.sqrt s)⁻¹ : ℝ) : EReal) := by
  obtain ⟨e, he, we⟩ := word_small
  have root : rms X i = Ideal.rsqrt (var X i) := rfl
  by_cases h : ∀ k < 2048, ∃ x : ℝ, X i k = x
  · refine .inr ⟨h, ?_⟩
    choose! x hx using h
    have v : var X i = (((∑ k ∈ Finset.range 2048, x k * x k) * (1 / 2048) + e : ℝ) : EReal) := by
      unfold var
      rw [word_2048, we, Ideal.div_coe (by norm_num), Finset.sum_congr rfl fun k hk => by rw [hx k (Finset.mem_range.mp hk)]]
      simp only [← EReal.coe_mul, coe_sum, ← EReal.coe_add]
    have p : 0 < (∑ k ∈ Finset.range 2048, x k * x k) * (1 / 2048 : ℝ) + e := by
      have : 0 ≤ ∑ k ∈ Finset.range 2048, x k * x k := Finset.sum_nonneg fun k _ => mul_self_nonneg _
      positivity
    refine ⟨_, p, v, ?_⟩
    rw [root, v, Ideal.rsqrt_coe, if_neg (not_lt.mpr p.le), if_neg p.ne']
  · push Not at h
    obtain ⟨k, hk, hx⟩ := h
    have sq : X i k * X i k = ⊤ := (number_or_square_top _).resolve_left fun ⟨x, e⟩ => hx x e
    have sum : ∑ k ∈ Finset.range 2048, X i k * X i k = ⊤ :=
      top_unique (sq ▸ Finset.single_le_sum (f := fun k => X i k * X i k) (fun k _ => square_nonneg _) (Finset.mem_range.mpr hk))
    have v : var X i = ⊤ := by
      unfold var
      rw [sum, word_2048, we, Ideal.div_coe (by norm_num), EReal.top_mul_coe_of_pos (by norm_num), EReal.top_add_coe]
    exact .inl ⟨v, by rw [root, v]; rfl⟩

theorem forms_agree (i j : ℕ) (hj : j < 2048) : dxK X G D R i j = dxR X G D R i j := by
  unfold dxK dxR along root
  rcases var_cases X i with ⟨v, r⟩ | ⟨x, s, p, v, r⟩
  · rw [r, v, word_2048, Ideal.div_coe (by norm_num), Ideal.div_coe (by norm_num)]
    simp [Ideal.div]
  · obtain ⟨y, hy⟩ := x j hj
    have q : 1 / s = (Real.sqrt s)⁻¹ * (Real.sqrt s)⁻¹ := by
      rw [← mul_inv, Real.mul_self_sqrt p.le, one_div]
    have n : 0 ≤ (Real.sqrt s)⁻¹ := by positivity
    rw [r, v, hy, word_2048, word_half, Ideal.div_coe (by norm_num), Ideal.div_coe (by norm_num), Ideal.div_coe p.ne', q, sum_scale (X i) _ n]
    exact congrArg (R i j + ·) (twice _ _ y _ _ n)
end agree

/-! ## The kernel's vectors -/

section vectors
variable {n c : ℕ} {f h : ℕ → ℕ → EReal}
theorem mul_em : mulf (F := Ideal) (φ := .f32) (em n c f) (em n c h) = em n c fun i j => f i j * h i j := rfl
theorem rows_em (r : (sh2 n c).Reduces [1] ⟨1, ![n]⟩) (c1 : (⟨1, ![n]⟩ : Shape).ShapeCasts (sh2 n 1)) :
    shapeCast (sh2 n 1) (multiReduction (F := Ideal) (φ := .f32) .add [1] ⟨1, ![n]⟩ (em n c f) 0x00000000#32 r (.inl rfl) rfl) c1
      = em n 1 fun i _ => ∑ k ∈ Finset.range c, f i k := by
  funext y
  have y0 : (y 0).val < n := (y 0).isLt
  have y1 : (y 1).val < 1 := (y 1).isLt
  refine (shapeCast_apply _ c1 y (ValueIdx.ix1 ⟨(y 0).val, y0⟩) ?_).trans ?_
  · rw [Shape.rowMajor_val_two, Shape.rowMajor_val_one]
    show (y 0).val = (y 0).val * 1 + (y 1).val
    omega
  · show Ideal.reduceAdd r _ _ = ∑ k ∈ Finset.range c, f (y 0).val k
    rw [Ideal.reduceAdd_r2_a1, Finset.sum_range]
    rfl
theorem cols_sum_em (r : (sh2 n c).Reduces [0] ⟨1, ![c]⟩) (c1 : (⟨1, ![c]⟩ : Shape).ShapeCasts (sh2 1 c)) :
    shapeCast (sh2 1 c) (multiReduction (F := Ideal) (φ := .f32) .add [0] ⟨1, ![c]⟩ (em n c f) 0x00000000#32 r (.inl rfl) rfl) c1
      = em 1 c fun _ j => ∑ k ∈ Finset.range n, f k j := by
  funext y
  have y0 : (y 0).val < 1 := (y 0).isLt
  have y1 : (y 1).val < c := (y 1).isLt
  refine (shapeCast_apply _ c1 y (ValueIdx.ix1 ⟨(y 1).val, y1⟩) ?_).trans ?_
  · rw [Shape.rowMajor_val_two, Shape.rowMajor_val_one]
    show (y 1).val = (y 0).val * c + (y 1).val
    rw [show (y 0).val = 0 by omega]; omega
  · show Ideal.reduceAdd r _ _ = ∑ k ∈ Finset.range n, f k (y 1).val
    rw [Ideal.reduceAdd_r2_a0, Finset.sum_range]
    rfl
theorem across_em (hn : n ≠ 1) (b : (sh2 n 1).Broadcasts (sh2 n c)) : broadcastTo (sh2 n c) (em n 1 f) b = em n c fun i _ => f i 0 := by
  funext y; show f _ _ = f _ _; congr 1; simp [hn]
theorem along_em (hc : c ≠ 1) (b : (sh2 1 c).Broadcasts (sh2 n c)) : broadcastTo (sh2 n c) (em 1 c f) b = em n c fun _ j => f 0 j := by
  funext y; show f _ _ = f _ _; congr 1; simp [hc]

variable (r : (sh2 n 2048).Reduces [1] ⟨1, ![n]⟩) (c1 : (⟨1, ![n]⟩ : Shape).ShapeCasts (sh2 n 1)) (b1 : (sh2 n 1).Broadcasts (sh2 n 2048))
  (b2 : (sh2 1 2048).Broadcasts (sh2 n 2048)) (r0 : (sh2 n 2048).Reduces [0] ⟨1, ![2048]⟩) (c0 : (⟨1, ![2048]⟩ : Shape).ShapeCasts (sh2 1 2048))
  (c3 : (sh2 1 2048).ShapeCasts (sh2 1 2048)) (x d a : FVec Ideal (sh2 n 2048) .f32) (g s : FVec Ideal (sh2 1 2048) .f32)
/-- The rows' reciprocal roots, the normalised rows, and the two gradients. -/
def tRms : FVec Ideal (sh2 n 1) .f32 :=
  rsqrt (addf (divf (shapeCast (sh2 n 1) (multiReduction .add [1] ⟨1, ![n]⟩ (mulf x x) 0x00000000#32 r (.inl rfl) rfl) c1)
    (broadcast (sh2 n 1) (Scalar.ofBits .f32 0x45000000#32))) (broadcast (sh2 n 1) (Scalar.ofBits .f32 0x358637BD#32)))
def tHat : FVec Ideal (sh2 n 2048) .f32 := mulf x (broadcastTo (sh2 n 2048) (tRms r c1 x) b1)
def tDx : FVec Ideal (sh2 n 2048) .f32 :=
  addf a (mulf (broadcastTo (sh2 n 2048) (tRms r c1 x) b1) (subf (mulf d (broadcastTo (sh2 n 2048) g b2))
    (mulf (tHat r c1 b1 x) (broadcastTo (sh2 n 2048) (divf (shapeCast (sh2 n 1) (multiReduction .add [1] ⟨1, ![n]⟩
      (mulf (mulf d (broadcastTo (sh2 n 2048) g b2)) (tHat r c1 b1 x)) 0x00000000#32 r (.inl rfl) rfl) c1)
      (broadcast (sh2 n 1) (Scalar.ofBits .f32 0x45000000#32))) b1))))
def tDg : FVec Ideal (sh2 1 2048) .f32 :=
  addf (shapeCast (sh2 1 2048) s c3) (shapeCast (sh2 1 2048) (multiReduction .add [0] ⟨1, ![2048]⟩ (mulf d (tHat r c1 b1 x)) 0x00000000#32 r0 (.inl rfl) rfl) c0)

variable (hn : n ≠ 1) (X D A G S : ℕ → ℕ → EReal)
theorem tRms_em : tRms r c1 (em n 2048 X) = em n 1 fun i _ => rms X i := by
  unfold tRms
  rw [mul_em, rows_em]
  rfl
include hn
theorem tHat_em : tHat r c1 b1 (em n 2048 X) = em n 2048 fun i j => X i j * rms X i := by
  unfold tHat
  rw [tRms_em, across_em hn]
  rfl
theorem tDx_em : tDx r c1 b1 b2 (em n 2048 X) (em n 2048 D) (em n 2048 A) (em 1 2048 G) = em n 2048 (dxK X G D A) := by
  unfold tDx
  rw [tRms_em, tHat_em r c1 b1 hn, across_em hn, along_em (by decide), mul_em, mul_em, rows_em]
  exact congrArg (fun z => addf (F := Ideal) (φ := .f32) (em n 2048 A) (mulf (φ := .f32) (em n 2048 fun i _ => rms X i) (subf (φ := .f32) (em n 2048 fun i j => D i j * G 0 j)
    (mulf (φ := .f32) (em n 2048 fun i j => X i j * rms X i) z)))) (across_em (f := fun i _ => along X G D i) hn b1)
theorem tDg_em : tDg r c1 b1 r0 c0 c3 (em n 2048 X) (em n 2048 D) (em 1 2048 S) = em 1 2048 fun i j => S i j + dgain X D j n := by
  unfold tDg
  rw [tHat_em r c1 b1 hn, mul_em, cols_sum_em, shapeCast_id]
  rfl
end vectors

/-! ## The kernel's arrays -/

section kernel
open Cert.Kernel16Ideal Cert.Kernel16Ideal.Gen

section step
variable (c : Dev nD) (i : grid0.Coords) (a1 : Memref sig .tc .vmem S256x2048 .f32) (h1 : a1.IsWhole) (a2 : Memref sig .tc .vmem S1x2048 .f32) (h2 : a2.IsWhole)
  (a3 : Memref sig .tc .vmem S256x2048 .f32) (h3 : a3.IsWhole) (a4 : Memref sig .tc .vmem S256x2048 .f32) (h4 : a4.IsWhole)
  (a5 : Memref sig .tc .vmem S256x2048 .f32) (h5 : a5.IsWhole) (a6 : Memref sig .tc .vmem S1x2048 .f32) (h6 : a6.IsWhole) {X G D A S : ℕ → ℕ → EReal}
theorem rowsA (g) : out0_A_4 (F := Ideal) c i a1 h1 a2 h2 a3 h3 a4 h4 a5 h5 a6 h6 g (em 256 2048 X) (em 1 2048 G) (em 256 2048 D) (em 256 2048 A)
    = em 256 2048 (dxK X G D A) := by
  unfold out0_A_4; frame_out
  exact tDx_em _ _ _ _ (by decide) X D A G
theorem rowsB (g) : out0_B_4 (F := Ideal) c i a1 h1 a2 h2 a3 h3 a4 h4 a5 h5 a6 h6 g (em 256 2048 X) (em 1 2048 G) (em 256 2048 D) (em 256 2048 A) (em 1 2048 S)
    = em 256 2048 (dxK X G D A) := by
  unfold out0_B_4; frame_out
  exact tDx_em _ _ _ _ (by decide) X D A G
theorem gainA (g) : out0_A_5 (F := Ideal) c i a1 h1 a2 h2 a3 h3 a4 h4 a5 h5 a6 h6 g (em 256 2048 X) (em 1 2048 G) (em 256 2048 D) (em 256 2048 A)
    = em 1 2048 fun _ j => dgain X D j 256 := by
  unfold out0_A_5; frame_out
  refine Eq.trans (congrArg (k0_pay5 (F := Ideal) (em 256 2048 X) (em 256 2048 D)) (zeros_em (n := 1) (c := 2048)))
    ((tDg_em _ _ _ _ _ _ (by decide) X D fun _ _ => 0).trans (em_congr fun i j _ _ => zero_add _))
theorem gainB (g) : out0_B_5 (F := Ideal) c i a1 h1 a2 h2 a3 h3 a4 h4 a5 h5 a6 h6 g (em 256 2048 X) (em 1 2048 G) (em 256 2048 D) (em 256 2048 A) (em 1 2048 S)
    = em 1 2048 fun i j => S i j + dgain X D j 256 := by
  unfold out0_B_5; frame_out
  exact tDg_em _ _ _ _ _ _ (by decide) X D S
end step

variable (m : (ℓ : Loc nD τ sig) → Buf (Elt Ideal) ℓ) (c : Dev nD) {X G D A : ℕ → ℕ → EReal} (t : Fin cfg0.N)

theorem ix_0 : ∀ t : Fin grid0.N, win0_0.index t = ![t.val, 0] := by decide +kernel
theorem ix_1 : ∀ t : Fin grid0.N, win0_1.index t = ![0, 0] := by decide +kernel
theorem ix_4 : ∀ t : Fin grid0.N, win0_4.index t = ![t.val, 0] := by decide +kernel
theorem ix_5 : ∀ t : Fin grid0.N, win0_5.index t = ![0, 0] := by decide +kernel
/-- A block of rows of an argument, and the gain's only block. -/
theorem blk {x : FVec Ideal (sh2 4096 2048) .f32} {f : ℕ → ℕ → EReal} (h : x = em 4096 2048 f) :
    ((cfg0.win 0).blk t).view.read (Elt Ideal) x = em 256 2048 fun i j => f (t.val * 256 + i) j :=
  funext fun y => em_at h (((cfg0.win 0).blk t).view.emb y) (by blk_simp [ix_0] <;> omega) (by blk_simp [ix_0] <;> omega)
theorem blk_g {x : FVec Ideal (sh2 1 2048) .f32} {f : ℕ → ℕ → EReal} (h : x = em 1 2048 f) :
    ((cfg0.win 1).blk t).view.read (Elt Ideal) x = em 1 2048 f :=
  funext fun y => em_at h (((cfg0.win 1).blk t).view.emb y) (by blk_simp [ix_1] <;> omega) (by blk_simp [ix_1] <;> omega)

variable (e0 : m ((c.tc : Thread nD τ).loc main_arg0) = em 4096 2048 X) (e1 : m ((c.tc : Thread nD τ).loc main_arg1) = em 1 2048 G)
  (e2 : m ((c.tc : Thread nD τ).loc main_arg2) = em 4096 2048 D) (e3 : m ((c.tc : Thread nD τ).loc main_arg3) = em 4096 2048 A)

theorem dgain_step (n j : ℕ) : dgain X D j (n * 256) + dgain (fun i j => X (n * 256 + i) j) (fun i j => D (n * 256 + i) j) j 256 = dgain X D j ((n + 1) * 256) := by
  rw [Nat.succ_mul]
  exact (Finset.sum_range_add _ (n * 256) 256).symm

include e0 e1 e2 e3
theorem b0 : iblk m c 0 t = em 256 2048 fun i j => X (t.val * 256 + i) j := blk t e0
theorem b1 : iblk m c 1 t = em 1 2048 G := blk_g t e1
theorem b2 : iblk m c 2 t = em 256 2048 fun i j => D (t.val * 256 + i) j := blk t e2
theorem b3 : iblk m c 3 t = em 256 2048 fun i j => A (t.val * 256 + i) j := blk t e3

/-- After a point: its rows, and the gain's sum so far. -/
theorem outs : ∀ n (h : n < cfg0.N), outsAt0 m c n h
    = (em 256 2048 fun i j => dxK X G D A (n * 256 + i) j, em 1 2048 fun _ j => dgain X D j ((n + 1) * 256))
  | 0, h => by
    rw [outsAt0_A m c ⟨0, h⟩ rfl, b0 m c ⟨0, h⟩ e0 e1 e2 e3, b1 m c ⟨0, h⟩ e0 e1 e2 e3, b2 m c ⟨0, h⟩ e0 e1 e2 e3, b3 m c ⟨0, h⟩ e0 e1 e2 e3, rowsA, gainA]
    refine congrArg₂ Prod.mk rfl (em_congr fun i j _ _ => ?_)
    rw [← dgain_step, Nat.zero_mul]
    exact (zero_add _).symm
  | n + 1, h => by
    have hN : n + 1 < 16 := lt_of_lt_of_eq h (show cfg0.N = 16 from N_0)
    have p : (outsAt0 m c n (Nat.lt_of_succ_lt h)).2 = _ := congrArg Prod.snd (outs n (Nat.lt_of_succ_lt h))
    have q : (outsAt0 m c ((⟨n + 1, h⟩ : Fin cfg0.N).val - 1) (Nat.lt_of_le_of_lt (Nat.sub_le _ _) h)).2 = em 1 2048 fun _ j => dgain X D j ((n + 1) * 256) := p
    rw [outsAt0_B m c ⟨n + 1, h⟩ (by dsimp only; omega), q, b0 m c ⟨n + 1, h⟩ e0 e1 e2 e3, b1 m c ⟨n + 1, h⟩ e0 e1 e2 e3, b2 m c ⟨n + 1, h⟩ e0 e1 e2 e3,
      b3 m c ⟨n + 1, h⟩ e0 e1 e2 e3, rowsB, gainB]
    exact congrArg₂ Prod.mk rfl (em_congr fun i j _ _ => dgain_step (n + 1) j)

/-- What both programs compute. -/
def wantX (X G D A : ℕ → ℕ → EReal) : FVec Ideal (sh2 4096 2048) .f32 := em 4096 2048 (dxK X G D A)
def wantG (X D : ℕ → ℕ → EReal) : FVec Ideal (sh2 1 2048) .f32 := em 1 2048 fun _ j => dgain X D j 4096
theorem arrX : (dats m 0 c).arrAt 4 cfg0.N = wantX X G D A := by
  refine (dats m 0 c).arrAt_eq_of_covers 4 (wantX X G D A) (by decide +kernel) fun t hf y => ?_
  refine Eq.trans ?_ (em_at rfl _ (by blk_simp [ix_4] <;> rfl) (by blk_simp [ix_4] <;> rfl)).symm
  rw [after0_4, outs m c e0 e1 e2 e3]; blk_simp; rfl
theorem arrG : (dats m 0 c).arrAt 5 cfg0.N = wantG X D := by
  refine (dats m 0 c).arrAt_eq_of_covers 5 (wantG X D) (by decide +kernel) fun t hf y => ?_
  have l : t.val % 16 = 15 := (flush0_5 t).mp hf
  have hN : t.val < 16 := lt_of_lt_of_eq t.isLt (show cfg0.N = 16 from N_0)
  refine Eq.trans ?_ (em_at rfl _ (by blk_simp [ix_5] <;> rfl) (by blk_simp [ix_5] <;> rfl)).symm
  rw [after0_5, outs m c e0 e1 e2 e3, show t.val = 15 by omega]; blk_simp; rfl
end kernel

/-! ## The reference's -/

namespace Reference

/-- The shape of a single number. -/
abbrev scl : Shape := ⟨0, ![]⟩
/-- A column of one constant. -/
def cst (b : BitVec 32) : FVec Ideal (sh2 4096 1) .f32 := broadcastInDim (s := scl) (sh2 4096 1) ![] (by decide) (constant scl .f32 b)
def sums (x : FVec Ideal (sh2 4096 2048) .f32) : FVec Ideal ⟨1, ![4096]⟩ .f32 :=
  Host.reduceAdd (t := ⟨1, ![4096]⟩) (axes := [1]) x (constant scl .f32 0x00000000#32) (by decide) (by decide)
def column (x : FVec Ideal ⟨1, ![4096]⟩ .f32) : FVec Ideal (sh2 4096 1) .f32 := broadcastInDim (s := ⟨1, ![4096]⟩) (sh2 4096 1) ![0] (by decide) x
def across (x : FVec Ideal (sh2 4096 1) .f32) : FVec Ideal (sh2 4096 2048) .f32 := broadcastInDim (s := sh2 4096 1) (sh2 4096 2048) ![0, 1] (by decide) x
def gain (g : FVec Ideal (sh2 1 2048) .f32) : FVec Ideal (sh2 4096 2048) .f32 := broadcastInDim (s := sh2 1 2048) (sh2 4096 2048) ![0, 1] (by decide) g
/-- A row's mean square plus the small number, and the factor of the row that the root's derivative gives. -/
def hVar (x : FVec Ideal (sh2 4096 2048) .f32) : FVec Ideal (sh2 4096 1) .f32 :=
  addf (Host.divf (column (sums (mulf x x))) (cst 0x45000000#32)) (cst 0x358637BD#32)
def hRoot (x d : FVec Ideal (sh2 4096 2048) .f32) (g : FVec Ideal (sh2 1 2048) .f32) : FVec Ideal (sh2 4096 2048) .f32 :=
  broadcastInDim (s := ⟨1, ![4096]⟩) (sh2 4096 2048) ![0] (by decide) (Host.reduceAdd (s := sh2 4096 1) (t := ⟨1, ![4096]⟩) (axes := [1])
    (Host.divf (mulf (shapeCast (sh2 4096 1) (sums (mulf x (mulf d (gain g)))) (by decide))
      (mulf (cst 0xBF000000#32) (Host.divf (Host.rsqrt (hVar x)) (hVar x)))) (cst 0x45000000#32))
    (constant scl .f32 0x00000000#32) (by decide) (by decide))
def hDx (x : FVec Ideal (sh2 4096 2048) .f32) (g : FVec Ideal (sh2 1 2048) .f32) (d a : FVec Ideal (sh2 4096 2048) .f32) : FVec Ideal (sh2 4096 2048) .f32 :=
  addf a (addf (addf (mulf (mulf d (gain g)) (across (Host.rsqrt (hVar x)))) (mulf x (hRoot x d g))) (mulf (hRoot x d g) x))
def hDg (x d : FVec Ideal (sh2 4096 2048) .f32) : FVec Ideal (sh2 1 2048) .f32 :=
  shapeCast (sh2 1 2048) (Host.reduceAdd (t := ⟨1, ![2048]⟩) (axes := [0]) (mulf (mulf x (across (Host.rsqrt (hVar x)))) d)
    (constant scl .f32 0x00000000#32) (by decide) (by decide)) (by decide)

variable {f X D A G : ℕ → ℕ → EReal}
theorem column_em : column (sums (em 4096 2048 f)) = em 4096 1 fun i _ => ∑ k ∈ Finset.range 2048, f i k := by
  funext y
  show Ideal.hostReduceAdd _ (em 4096 2048 f) (Ideal.ofBits .f32 0x00000000#32) _ = ∑ k ∈ Finset.range 2048, f (y 0).val k
  rw [Ideal.hostReduceAdd_r2_a1, Ideal.ofBits_zero_f32, zero_add, Finset.sum_range]
  rfl
theorem cast_em (h) : shapeCast (sh2 4096 1) (sums (em 4096 2048 f)) h = em 4096 1 fun i _ => ∑ k ∈ Finset.range 2048, f i k := by
  refine Eq.trans ?_ column_em
  funext y
  have y1 : (y 1).val < 1 := (y 1).isLt
  refine (shapeCast_apply _ h y (ValueIdx.ix1 ⟨(y 0).val, (y 0).isLt⟩) ?_).trans (congrArg _ ?_)
  · rw [Shape.rowMajor_val_two, Shape.rowMajor_val_one]
    show (y 0).val = (y 0).val * 1 + (y 1).val
    omega
  · exact (ValueIdx.eq_ix1 _).symm
theorem hVar_em : hVar (em 4096 2048 X) = em 4096 1 fun i _ => var X i := by
  unfold hVar
  rw [mul_em, column_em]
  rfl
theorem hRoot_em : hRoot (em 4096 2048 X) (em 4096 2048 D) (em 1 2048 G) = em 4096 2048 fun i _ => root X G D i := by
  have e : gain (em 1 2048 G) = em 4096 2048 fun _ j => G 0 j := rfl
  unfold hRoot
  rw [hVar_em, e, mul_em, mul_em, cast_em]
  funext y
  show Ideal.hostReduceAdd _ (em 4096 1 fun i _ => root X G D i) (Ideal.ofBits .f32 0x00000000#32) _ = root X G D (y 0).val
  rw [Ideal.hostReduceAdd_r2_a1, Ideal.ofBits_zero_f32, zero_add, Fin.sum_univ_one]
  rfl
theorem hDx_em : hDx (em 4096 2048 X) (em 1 2048 G) (em 4096 2048 D) (em 4096 2048 A) = em 4096 2048 (dxR X G D A) := by
  unfold hDx
  rw [hRoot_em, hVar_em]
  rfl
theorem hDg_em : hDg (em 4096 2048 X) (em 4096 2048 D) = wantG X D := by
  have e : mulf (F := Ideal) (φ := .f32) (mulf (em 4096 2048 X) (across (Host.rsqrt (F := Ideal) (φ := .f32) (em 4096 1 fun i _ => var X i)))) (em 4096 2048 D)
      = em 4096 2048 fun i j => X i j * rms X i * D i j := rfl
  unfold hDg
  rw [hVar_em, e]
  funext y
  have y0 : (y 0).val < 1 := (y 0).isLt
  have y1 : (y 1).val < 2048 := (y 1).isLt
  refine (shapeCast_apply _ _ y (ValueIdx.ix1 ⟨(y 1).val, y1⟩) ?_).trans ?_
  · rw [Shape.rowMajor_val_two, Shape.rowMajor_val_one]
    show (y 1).val = (y 0).val * 2048 + (y 1).val
    omega
  · show Ideal.hostReduceAdd _ (em 4096 2048 fun i j => X i j * rms X i * D i j) (Ideal.ofBits .f32 0x00000000#32) _ = ∑ k ∈ Finset.range 4096, D k (y 1).val * (X k (y 1).val * rms X k)
    rw [Ideal.hostReduceAdd_r2_a0, Ideal.ofBits_zero_f32, zero_add, Finset.sum_range]
    exact Finset.sum_congr rfl fun k _ => mul_comm _ _

variable {x d a : FVec Ideal (sh2 4096 2048) .f32} {g : FVec Ideal (sh2 1 2048) .f32}
theorem x_eq (e0 : x = em 4096 2048 X) (e1 : g = em 1 2048 G) (e2 : d = em 4096 2048 D) (e3 : a = em 4096 2048 A) : hDx x g d a = wantX X G D A := by
  subst e0 e1 e2 e3
  exact hDx_em.trans (em_congr fun i j _ hj => (forms_agree X G D A i j hj).symm)
theorem g_eq (e0 : x = em 4096 2048 X) (e2 : d = em 4096 2048 D) : hDg x d = wantG X D := by
  subst e0 e2
  exact hDg_em

end Reference

end Cert.Proof.RmsBwd

end
-- ==== Proof.RmsCast.lean ====
/-
  The gradients of a row normalisation of Proof/RmsBwd.lean as the call that gives the rows' gradient a second time, rounded,
  computes them: the two copies are one matrix.
-/
module

public import proofs.«01_k».proof.Proof.RmsBwd
public import proofs.«01_k».proof.Proof.Gen.Kernel17Ideal.Value
public import proofs.«01_k».proof.Proof.Gen.Reference17Ideal.Run

@[expose] public section

set_option maxRecDepth 16384

noncomputable section

namespace Cert.Proof.RmsCast

open Idealize.ShloMosaic Idealize.ShloMosaic.TcCoe Layer RmsBwd
open Cert.Kernel17Ideal Cert.Kernel17Ideal.Gen
open scoped BigOperators

section step
variable (c : Dev nD) (i : grid0.Coords) (a1 : Memref sig .tc .vmem S256x2048 .f32) (h1 : a1.IsWhole) (a2 : Memref sig .tc .vmem S1x2048 .f32) (h2 : a2.IsWhole)
  (a3 : Memref sig .tc .vmem S256x2048 .f32) (h3 : a3.IsWhole) (a4 : Memref sig .tc .vmem S256x2048 .f32) (h4 : a4.IsWhole)
  (a5 : Memref sig .tc .vmem S256x2048 .f32) (h5 : a5.IsWhole) (a6 : Memref sig .tc .vmem S1x2048 .f32) (h6 : a6.IsWhole)
  (a7 : Memref sig .tc .vmem S256x2048 .bf16) (h7 : a7.IsWhole) {X G D A S : ℕ → ℕ → EReal}
/-- What the first point leaves in the three windows, and what a later one leaves over the gain's sum `S`. -/
theorem first (g) : (out0_A_4 (F := Ideal) c i a1 h1 a2 h2 a3 h3 a4 h4 a5 h5 a6 h6 a7 h7 g (em 256 2048 X) (em 1 2048 G) (em 256 2048 D) (em 256 2048 A),
      out0_A_5 (F := Ideal) c i a1 h1 a2 h2 a3 h3 a4 h4 a5 h5 a6 h6 a7 h7 g (em 256 2048 X) (em 1 2048 G) (em 256 2048 D) (em 256 2048 A),
      out0_A_6 (F := Ideal) c i a1 h1 a2 h2 a3 h3 a4 h4 a5 h5 a6 h6 a7 h7 g (em 256 2048 X) (em 1 2048 G) (em 256 2048 D) (em 256 2048 A))
    = (em 256 2048 (dxK X G D A), em 1 2048 fun _ j => dgain X D j 256, em 256 2048 (dxK X G D A)) := by
  refine congrArg₂ Prod.mk ?_ (congrArg₂ Prod.mk ?_ ?_)
  · unfold out0_A_4; frame_out
    exact tDx_em _ _ _ _ (by decide) X D A G
  · unfold out0_A_5; frame_out
    exact Eq.trans (congrArg (tDg _ _ _ _ _ _ (em 256 2048 X) (em 256 2048 D)) (zeros_em (n := 1) (c := 2048)))
      ((tDg_em _ _ _ _ _ _ (by decide) X D fun _ _ => 0).trans (em_congr fun i j _ _ => zero_add _))
  · unfold out0_A_6; frame_out
    exact tDx_em _ _ _ _ (by decide) X D A G
theorem later (g) : (out0_B_4 (F := Ideal) c i a1 h1 a2 h2 a3 h3 a4 h4 a5 h5 a6 h6 a7 h7 g (em 256 2048 X) (em 1 2048 G) (em 256 2048 D) (em 256 2048 A) (em 1 2048 S),
      out0_B_5 (F := Ideal) c i a1 h1 a2 h2 a3 h3 a4 h4 a5 h5 a6 h6 a7 h7 g (em 256 2048 X) (em 1 2048 G) (em 256 2048 D) (em 256 2048 A) (em 1 2048 S),
      out0_B_6 (F := Ideal) c i a1 h1 a2 h2 a3 h3 a4 h4 a5 h5 a6 h6 a7 h7 g (em 256 2048 X) (em 1 2048 G) (em 256 2048 D) (em 256 2048 A) (em 1 2048 S))
    = (em 256 2048 (dxK X G D A), em 1 2048 fun i j => S i j + dgain X D j 256, em 256 2048 (dxK X G D A)) := by
  refine congrArg₂ Prod.mk ?_ (congrArg₂ Prod.mk ?_ ?_)
  · unfold out0_B_4; frame_out
    exact tDx_em _ _ _ _ (by decide) X D A G
  · unfold out0_B_5; frame_out
    exact tDg_em _ _ _ _ _ _ (by decide) X D S
  · unfold out0_B_6; frame_out
    exact tDx_em _ _ _ _ (by decide) X D A G
end step

variable (m : (ℓ : Loc nD τ sig) → Buf (Elt Ideal) ℓ) (c : Dev nD) {X G D A : ℕ → ℕ → EReal} (t : Fin cfg0.N)

theorem ix_0 : ∀ t : Fin grid0.N, win0_0.index t = ![t.val, 0] := by decide +kernel
theorem ix_1 : ∀ t : Fin grid0.N, win0_1.index t = ![0, 0] := by decide +kernel
theorem ix_4 : ∀ t : Fin grid0.N, win0_4.index t = ![t.val, 0] := by decide +kernel
theorem ix_5 : ∀ t : Fin grid0.N, win0_5.index t = ![0, 0] := by decide +kernel
theorem ix_6 : ∀ t : Fin grid0.N, win0_6.index t = ![t.val, 0] := by decide +kernel
theorem blk {x : FVec Ideal (sh2 4096 2048) .f32} {f : ℕ → ℕ → EReal} (h : x = em 4096 2048 f) :
    ((cfg0.win 0).blk t).view.read (Elt Ideal) x = em 256 2048 fun i j => f (t.val * 256 + i) j :=
  funext fun y => em_at h (((cfg0.win 0).blk t).view.emb y) (by blk_simp [ix_0] <;> omega) (by blk_simp [ix_0] <;> omega)
theorem blk_g {x : FVec Ideal (sh2 1 2048) .f32} {f : ℕ → ℕ → EReal} (h : x = em 1 2048 f) :
    ((cfg0.win 1).blk t).view.read (Elt Ideal) x = em 1 2048 f :=
  funext fun y => em_at h (((cfg0.win 1).blk t).view.emb y) (by blk_simp [ix_1] <;> omega) (by blk_simp [ix_1] <;> omega)

variable (e0 : m ((c.tc : Thread nD τ).loc main_arg0) = em 4096 2048 X) (e1 : m ((c.tc : Thread nD τ).loc main_arg1) = em 1 2048 G)
  (e2 : m ((c.tc : Thread nD τ).loc main_arg2) = em 4096 2048 D) (e3 : m ((c.tc : Thread nD τ).loc main_arg3) = em 4096 2048 A)
include e0 e1 e2 e3
theorem blocks : iblk m c 0 t = (em 256 2048 fun i j => X (t.val * 256 + i) j) ∧ iblk m c 1 t = em 1 2048 G
    ∧ iblk m c 2 t = (em 256 2048 fun i j => D (t.val * 256 + i) j) ∧ iblk m c 3 t = em 256 2048 fun i j => A (t.val * 256 + i) j :=
  ⟨blk t e0, blk_g t e1, blk t e2, blk t e3⟩

/-- After a point: its rows, and the gain's sum so far. -/
theorem outs : ∀ n (h : n < cfg0.N), outsAt0 m c n h
    = (em 256 2048 fun i j => dxK X G D A (n * 256 + i) j, em 1 2048 fun _ j => dgain X D j ((n + 1) * 256), em 256 2048 fun i j => dxK X G D A (n * 256 + i) j)
  | 0, h => by
    obtain ⟨b0, b1, b2, b3⟩ := blocks m c ⟨0, h⟩ e0 e1 e2 e3
    rw [outsAt0_A m c ⟨0, h⟩ rfl, b0, b1, b2, b3, first]
    refine congrArg₂ Prod.mk rfl (congrArg₂ Prod.mk (em_congr fun i j _ _ => ?_) rfl)
    rw [← dgain_step, Nat.zero_mul]
    exact (zero_add _).symm
  | n + 1, h => by
    have hN : n + 1 < 16 := lt_of_lt_of_eq h (show cfg0.N = 16 from N_0)
    have p : (outsAt0 m c n (Nat.lt_of_succ_lt h)).2.1 = _ := congrArg (·.2.1) (outs n (Nat.lt_of_succ_lt h))
    have q : (outsAt0 m c ((⟨n + 1, h⟩ : Fin cfg0.N).val - 1) (Nat.lt_of_le_of_lt (Nat.sub_le _ _) h)).2.1 = em 1 2048 fun _ j => dgain X D j ((n + 1) * 256) := p
    obtain ⟨b0, b1, b2, b3⟩ := blocks m c ⟨n + 1, h⟩ e0 e1 e2 e3
    rw [outsAt0_B m c ⟨n + 1, h⟩ (by dsimp only; omega), q, b0, b1, b2, b3, later]
    exact congrArg₂ Prod.mk rfl (congrArg₂ Prod.mk (em_congr fun i j _ _ => dgain_step (n + 1) j) rfl)

/-- The rounded copy. -/
def wantB (X G D A : ℕ → ℕ → EReal) : FVec Ideal (sh2 4096 2048) .bf16 := em 4096 2048 (dxK X G D A)
theorem arrX : (dats m 0 c).arrAt 4 cfg0.N = wantX X G D A := by
  refine (dats m 0 c).arrAt_eq_of_covers 4 (wantX X G D A) (by decide +kernel) fun t hf y => ?_
  refine Eq.trans ?_ (em_at rfl _ (by blk_simp [ix_4] <;> rfl) (by blk_simp [ix_4] <;> rfl)).symm
  rw [after0_4, outs m c e0 e1 e2 e3]; blk_simp; rfl
theorem arrB : (dats m 0 c).arrAt 6 cfg0.N = wantB X G D A := by
  refine (dats m 0 c).arrAt_eq_of_covers 6 (wantB X G D A) (by decide +kernel) fun t hf y => ?_
  refine Eq.trans ?_ (em_at rfl _ (by blk_simp [ix_6] <;> rfl) (by blk_simp [ix_6] <;> rfl)).symm
  rw [after0_6, outs m c e0 e1 e2 e3]; blk_simp; rfl
theorem arrG : (dats m 0 c).arrAt 5 cfg0.N = wantG X D := by
  refine (dats m 0 c).arrAt_eq_of_covers 5 (wantG X D) (by decide +kernel) fun t hf y => ?_
  have l : t.val % 16 = 15 := (flush0_5 t).mp hf
  have hN : t.val < 16 := lt_of_lt_of_eq t.isLt (show cfg0.N = 16 from N_0)
  refine Eq.trans ?_ (em_at rfl _ (by blk_simp [ix_5] <;> rfl) (by blk_simp [ix_5] <;> rfl)).symm
  rw [after0_5, outs m c e0 e1 e2 e3, show t.val = 15 by omega]; blk_simp; rfl
omit e0 e1 e2 e3

/-- The reference rounds its own gradient. -/
theorem Reference.b_eq {x d a : FVec Ideal (sh2 4096 2048) .f32} {g : FVec Ideal (sh2 1 2048) .f32} (w : FTy.bf16.bits < FTy.f32.bits)
    (e0 : x = em 4096 2048 X) (e1 : g = em 1 2048 G) (e2 : d = em 4096 2048 D) (e3 : a = em 4096 2048 A) :
    truncf .bf16 (RmsBwd.Reference.hDx x g d a) w = wantB X G D A :=
  RmsBwd.Reference.x_eq e0 e1 e2 e3

end Cert.Proof.RmsCast

end
-- ==== Proof.Loss.lean ====
/-
  The loss, half the sum over the rows of a row's mean squared error, and its gradient. The kernel sums all squared errors
  tile by tile in every place of a small array and scales one of them on the host; the reference scales each row's sum.
  Squares are not negative, so the scale goes through the sum at any values.
-/
module

public import proofs.«01_k».proof.Proof.RmsBwd
public import proofs.«01_k».proof.Proof.Gen.Kernel18Ideal.Frame
public import proofs.«01_k».proof.Proof.Gen.Reference18Ideal.Run

@[expose] public section

set_option maxRecDepth 16384

noncomputable section

namespace Cert.Proof.Loss

open Idealize.ShloMosaic Idealize.ShloMosaic.TcCoe RmsBwd
open scoped BigOperators

/-! ## The values -/

section values
variable (Y T : ℕ → ℕ → EReal)
/-- The gradient, and the sum of the squared errors of the first `n` rows. -/
def grad (i j : ℕ) : EReal := (Y i j - T i j) * Ideal.ofBits .f32 0x3A000000#32
def errs (n : ℕ) : EReal := ∑ i ∈ Finset.range n, ∑ j ∈ Finset.range 2048, (Y i j - T i j) * (Y i j - T i j)
def loss : EReal := errs Y T 4096 * Ideal.ofBits .f32 0x39800000#32

theorem errs_step (n : ℕ) : errs Y T (n * 256) + errs (fun i j => Y (n * 256 + i) j) (fun i j => T (n * 256 + i) j) 256 = errs Y T ((n + 1) * 256) := by
  rw [Nat.succ_mul]
  exact (Finset.sum_range_add _ (n * 256) 256).symm

theorem word_2048th : Ideal.ofBits .f32 (0x3A000000#32) = ((1 / 2048 : ℝ) : EReal) := by
  simp [Ideal.ofBits, Ideal.ieee]
  rw [← EReal.coe_mul]
  exact congrArg ((↑) : ℝ → EReal) (by norm_num)
theorem word_4096th : Ideal.ofBits .f32 (0x39800000#32) = ((1 / 4096 : ℝ) : EReal) := by
  simp [Ideal.ofBits, Ideal.ieee]
  rw [← EReal.coe_mul]
  exact congrArg ((↑) : ℝ → EReal) (by norm_num)
theorem word_one_half : Ideal.ofBits .f32 (0x3F000000#32) = ((1 / 2 : ℝ) : EReal) := by
  simp [Ideal.ofBits, Ideal.ieee]
  rw [← EReal.coe_mul]
  exact congrArg ((↑) : ℝ → EReal) (by norm_num)
theorem word_one : Ideal.ofBits .f32 (0x3F800000#32) = ((1 : ℝ) : EReal) := by
  simp [Ideal.ofBits, Ideal.ieee]
  try exact congrArg ((↑) : ℝ → EReal) (by norm_num : _ = (1 : ℝ))
theorem word_two : Ideal.ofBits .f32 (0x40000000#32) = ((2 : ℝ) : EReal) := by
  simp [Ideal.ofBits, Ideal.ieee]
  try exact congrArg ((↑) : ℝ → EReal) (by norm_num : _ = (2 : ℝ))

/-- The reference's gradient and loss are these. -/
theorem grad_eq (i j : ℕ) : Ideal.div (Ideal.ofBits .f32 0x3F000000#32 * Ideal.ofBits .f32 0x3F800000#32) (Ideal.ofBits .f32 0x45000000#32)
    * (Ideal.ofBits .f32 0x40000000#32 * (Y i j - T i j)) = grad Y T i j := by
  unfold grad
  rw [word_2048th, word_one_half, word_one, word_two, word_2048, Ideal.div_coe (by norm_num), ← mul_assoc, mul_comm (Y i j - T i j)]
  refine congrArg (· * (Y i j - T i j)) ?_
  rw [← EReal.coe_mul, ← EReal.coe_mul, ← EReal.coe_mul]
  exact congrArg _ (by norm_num)
theorem loss_eq : Ideal.ofBits .f32 0x3F000000#32 * ∑ i ∈ Finset.range 4096,
      Ideal.div (∑ j ∈ Finset.range 2048, (Y i j - T i j) * (Y i j - T i j)) (Ideal.ofBits .f32 0x45000000#32) = loss Y T := by
  unfold loss errs
  have s := sum_scale (fun i => ∑ j ∈ Finset.range 2048, (Y i j - T i j) * (Y i j - T i j)) (fun _ => 1) (ρ := 1 / 2048) (by norm_num) 4096
  simp only [one_mul, mul_one] at s
  simp only [word_2048, Ideal.div_coe (show (2048 : ℝ) ≠ 0 by norm_num)]
  rw [s, word_one_half, word_4096th, mul_left_comm, ← EReal.coe_mul]
  exact congrArg (_ * ·) (congrArg _ (by norm_num))
end values

/-! ## The kernel's -/

section kernel
open Cert.Kernel18Ideal Cert.Kernel18Ideal.Gen

/-- All entries of a tile summed, and that sum added in every place of the small array. -/
theorem total (g : ℕ → ℕ → EReal) : multiReduction (F := Ideal) (φ := .f32) .add [1, 2] S1 (shapeCast S1x256x2048 (em 256 2048 g) shapeCasts_S256x2048_S1x256x2048)
      0x00000000#32 reduces_S1x256x2048_S1 (.inl rfl) rfl = fun _ => ∑ i ∈ Finset.range 256, ∑ j ∈ Finset.range 2048, g i j := by
  funext y
  have y0 : (y 0).val < 1 := (y 0).isLt
  show Ideal.reduceAdd reduces_S1x256x2048_S1 (shapeCast S1x256x2048 (em 256 2048 g) shapeCasts_S256x2048_S1x256x2048) y = _
  rw [Ideal.reduceAdd_r3_a12, Finset.sum_range]
  refine Finset.sum_congr rfl fun a _ => ?_
  rw [Finset.sum_range]
  refine Finset.sum_congr rfl fun b _ => ?_
  refine (shapeCast_apply (em 256 2048 g) _ _ (ValueIdx.ix2 a b) ?_).trans rfl
  rw [Shape.rowMajor_val_two, Shape.rowMajor_val_three]
  show a.val * 2048 + b.val = ((y 0).val * 256 + a.val) * 2048 + b.val
  rw [show (y 0).val = 0 by omega]
  omega
theorem total_em {f h : ℕ → ℕ → EReal} (s : FVec Ideal (sh2 8 128) .f32) {S : EReal} (hs : s = em 8 128 fun _ _ => S) :
    k0_pay5 (F := Ideal) (em 256 2048 f) (em 256 2048 h) s = em 8 128 fun _ _ => S + errs f h 256 := by
  subst hs
  unfold k0_pay5
  dsimp only
  rw [show mulf (F := Ideal) (φ := .f32) (k0_pay1 (em 256 2048 f) (em 256 2048 h)) (k0_pay1 (em 256 2048 f) (em 256 2048 h))
    = em 256 2048 fun i j => (f i j - h i j) * (f i j - h i j) from rfl, total, shapeCast_id]
  rfl

section step
variable (c : Dev nD) (i : grid0.Coords) (a1 : Memref sig .tc .vmem S256x2048 .f32) (h1 : a1.IsWhole) (a2 : Memref sig .tc .vmem S256x2048 .f32) (h2 : a2.IsWhole)
  (a3 : Memref sig .tc .vmem S256x2048 .f32) (h3 : a3.IsWhole) (a4 : Memref sig .tc .vmem S256x2048 .bf16) (h4 : a4.IsWhole)
  (a5 : Memref sig .tc .vmem S8x128 .f32) (h5 : a5.IsWhole) {Y T : ℕ → ℕ → EReal} {S : EReal}
/-- What the first point leaves in the three windows, and what a later one leaves over the sum `S`. -/
theorem first (g) : (out0_A_2 (F := Ideal) c i a1 h1 a2 h2 a3 h3 a4 h4 a5 h5 g (em 256 2048 Y) (em 256 2048 T),
      out0_A_3 (F := Ideal) c i a1 h1 a2 h2 a3 h3 a4 h4 a5 h5 g (em 256 2048 Y) (em 256 2048 T),
      out0_A_4 (F := Ideal) c i a1 h1 a2 h2 a3 h3 a4 h4 a5 h5 g (em 256 2048 Y) (em 256 2048 T))
    = (em 256 2048 (grad Y T), em 256 2048 (grad Y T), em 8 128 fun _ _ => errs Y T 256) := by
  refine congrArg₂ Prod.mk ?_ (congrArg₂ Prod.mk ?_ ?_)
  · unfold out0_A_2; frame_out; rfl
  · unfold out0_A_3; frame_out; rfl
  · unfold out0_A_4; frame_out
    exact (total_em _ (zeros_em (n := 8) (c := 128))).trans (em_congr fun i j _ _ => zero_add _)
theorem later (g) : (out0_B_2 (F := Ideal) c i a1 h1 a2 h2 a3 h3 a4 h4 a5 h5 g (em 256 2048 Y) (em 256 2048 T) (em 8 128 fun _ _ => S),
      out0_B_3 (F := Ideal) c i a1 h1 a2 h2 a3 h3 a4 h4 a5 h5 g (em 256 2048 Y) (em 256 2048 T) (em 8 128 fun _ _ => S),
      out0_B_4 (F := Ideal) c i a1 h1 a2 h2 a3 h3 a4 h4 a5 h5 g (em 256 2048 Y) (em 256 2048 T) (em 8 128 fun _ _ => S))
    = (em 256 2048 (grad Y T), em 256 2048 (grad Y T), em 8 128 fun _ _ => S + errs Y T 256) := by
  refine congrArg₂ Prod.mk ?_ (congrArg₂ Prod.mk ?_ ?_)
  · unfold out0_B_2; frame_out; rfl
  · unfold out0_B_3; frame_out; rfl
  · unfold out0_B_4; frame_out
    exact total_em _ rfl
end step

variable (m : (ℓ : Loc nD τ sig) → Buf (Elt Ideal) ℓ) (ρ : Dev nD → PrngReg) (c : Dev nD) {Y T : ℕ → ℕ → EReal} (t : Fin cfg0.N)

theorem ix_0 : ∀ t : Fin grid0.N, win0_0.index t = ![t.val, 0] := by decide +kernel
theorem ix_2 : ∀ t : Fin grid0.N, win0_2.index t = ![t.val, 0] := by decide +kernel
theorem ix_3 : ∀ t : Fin grid0.N, win0_3.index t = ![t.val, 0] := by decide +kernel
theorem ix_4 : ∀ t : Fin grid0.N, win0_4.index t = ![0, 0] := by decide +kernel
theorem blk {x : FVec Ideal (sh2 4096 2048) .f32} {f : ℕ → ℕ → EReal} (h : x = em 4096 2048 f) :
    ((cfg0.win 0).blk t).view.read (Elt Ideal) x = em 256 2048 fun i j => f (t.val * 256 + i) j :=
  funext fun y => em_at h (((cfg0.win 0).blk t).view.emb y) (by blk_simp [ix_0] <;> omega) (by blk_simp [ix_0] <;> omega)

variable (e0 : m ((c.tc : Thread nD τ).loc main_arg0) = em 4096 2048 Y) (e1 : m ((c.tc : Thread nD τ).loc main_arg1) = em 4096 2048 T)
include e0 e1
theorem blocks : iblk m c 0 t = (em 256 2048 fun i j => Y (t.val * 256 + i) j) ∧ iblk m c 1 t = em 256 2048 fun i j => T (t.val * 256 + i) j :=
  ⟨blk t e0, blk t e1⟩

/-- After a point: its rows of the gradient, and the sum so far. -/
theorem outs : ∀ n (h : n < cfg0.N), outsAt0 m c n h
    = (em 256 2048 fun i j => grad Y T (n * 256 + i) j, em 256 2048 fun i j => grad Y T (n * 256 + i) j, em 8 128 fun _ _ => errs Y T ((n + 1) * 256))
  | 0, h => by
    obtain ⟨b0, b1⟩ := blocks m c ⟨0, h⟩ e0 e1
    rw [outsAt0_A m c ⟨0, h⟩ rfl, b0, b1, first]
    refine congrArg₂ Prod.mk rfl (congrArg₂ Prod.mk rfl (em_congr fun i j _ _ => ?_))
    rw [← errs_step, Nat.zero_mul]
    exact (zero_add _).symm
  | n + 1, h => by
    have hN : n + 1 < 16 := lt_of_lt_of_eq h (show cfg0.N = 16 from N_0)
    have p : (outsAt0 m c n (Nat.lt_of_succ_lt h)).2.2 = _ := congrArg (·.2.2) (outs n (Nat.lt_of_succ_lt h))
    have q : (outsAt0 m c ((⟨n + 1, h⟩ : Fin cfg0.N).val - 1) (Nat.lt_of_le_of_lt (Nat.sub_le _ _) h)).2.2 = em 8 128 fun _ _ => errs Y T ((n + 1) * 256) := p
    obtain ⟨b0, b1⟩ := blocks m c ⟨n + 1, h⟩ e0 e1
    rw [outsAt0_B m c ⟨n + 1, h⟩ (by dsimp only; omega), q, b0, b1, later]
    exact congrArg₂ Prod.mk rfl (congrArg₂ Prod.mk rfl (em_congr fun i j _ _ => errs_step Y T (n + 1)))

/-- What both programs compute: the gradient, its rounded copy, and the loss. -/
def wantD (Y T : ℕ → ℕ → EReal) : FVec Ideal (sh2 4096 2048) .f32 := em 4096 2048 (grad Y T)
def wantB (Y T : ℕ → ℕ → EReal) : FVec Ideal (sh2 4096 2048) .bf16 := em 4096 2048 (grad Y T)
def wantL (Y T : ℕ → ℕ → EReal) : FVec Ideal ⟨0, ![]⟩ .f32 := fun _ => loss Y T
theorem arrD : (dats m 0 c).arrAt 2 cfg0.N = wantD Y T := by
  refine (dats m 0 c).arrAt_eq_of_covers 2 (wantD Y T) (by decide +kernel) fun t hf y => ?_
  refine Eq.trans ?_ (em_at rfl _ (by blk_simp [ix_2] <;> rfl) (by blk_simp [ix_2] <;> rfl)).symm
  rw [after0_2, outs m c e0 e1]; blk_simp; rfl
theorem arrB : (dats m 0 c).arrAt 3 cfg0.N = wantB Y T := by
  refine (dats m 0 c).arrAt_eq_of_covers 3 (wantB Y T) (by decide +kernel) fun t hf y => ?_
  refine Eq.trans ?_ (em_at rfl _ (by blk_simp [ix_3] <;> rfl) (by blk_simp [ix_3] <;> rfl)).symm
  rw [after0_3, outs m c e0 e1]; blk_simp; rfl
theorem arrS : (dats m 0 c).arrAt 4 cfg0.N = em 8 128 fun _ _ => errs Y T 4096 := by
  refine (dats m 0 c).arrAt_eq_of_covers 4 (em 8 128 fun _ _ => errs Y T 4096) (by decide +kernel) fun t hf y => ?_
  have l : t.val % 16 = 15 := (flush0_4 t).mp hf
  have hN : t.val < 16 := lt_of_lt_of_eq t.isLt (show cfg0.N = 16 from N_0)
  refine Eq.trans ?_ (em_at rfl _ (by blk_simp [ix_4] <;> rfl) (by blk_simp [ix_4] <;> rfl)).symm
  rw [after0_4, outs m c e0 e1, show t.val = 15 by omega]; blk_simp; rfl
omit e0 e1

/-- The host's lines take one place of the small array and scale it. -/
theorem tail : Pipeline.afterTail₀ cfgs (dats m) 0 (V0 m) [hostOps1] c main_v3
    = mulf (F := Ideal) (φ := .f32) (shapeCast S_ (extractStridedSlice S1x1 ![0, 0] ((dats m 0 c).arrAt 4 cfg0.N) slices_S8x128_S1x1_0_0) shapeCasts_S1x1_S_)
        (constant S_ .f32 0x39800000#32) := by
  have a : Pipeline.withArrays (τ := τ) spec0 c (V0 m c) (fun w => (dats m 0 c).arrAt w cfg0.N) (Proc.devRef .tc main_v0_2) = (dats m 0 c).arrAt 4 cfg0.N :=
    Pipeline.withArrays_arr spec0 (by decide) c _ _ 4
  rw [← a]
  unfold Pipeline.afterTail₀
  simp only [List.flatten_cons, List.flatten_nil, List.append_nil]
  after_results
  rfl

/-- Every weakly fair execution ends with the three results and the arguments as they were. -/
theorem contents : θ_run defs (onTc (τ := τ) (main (F := Ideal))) ⟨m, fun _ => 0, ρ⟩ fun r => ∀ c : Dev nD,
      r.2.mem ((c.tc : Thread nD τ).loc main_v0_0) = (dats m 0 c).arrAt 2 cfg0.N
      ∧ r.2.mem ((c.tc : Thread nD τ).loc main_v0_1) = (dats m 0 c).arrAt 3 cfg0.N
      ∧ r.2.mem ((c.tc : Thread nD τ).loc main_v3) = Pipeline.afterTail₀ cfgs (dats m) 0 (V0 m) [hostOps1] c main_v3
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1 2, (h c).1 3, (h c).2 main_v3 (by decide),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

include e0 e1
theorem lossL : Pipeline.afterTail₀ cfgs (dats m) 0 (V0 m) [hostOps1] c main_v3 = wantL Y T := by
  rw [tail, arrS m c e0 e1]
  rfl
end kernel

/-! ## The reference's -/

namespace Reference

abbrev scl : Shape := ⟨0, ![]⟩
abbrev col : Shape := ⟨1, ![4096]⟩
/-- One constant in every row. -/
def rows (v : FVec Ideal scl .f32) : FVec Ideal col .f32 := broadcastInDim (s := scl) col ![] (by decide) v
def hD (y t : FVec Ideal (sh2 4096 2048) .f32) : FVec Ideal (sh2 4096 2048) .f32 :=
  mulf (broadcastInDim (s := col) (sh2 4096 2048) ![0] (by decide)
      (Host.divf (rows (mulf (constant scl .f32 0x3F000000#32) (constant scl .f32 0x3F800000#32))) (rows (constant scl .f32 0x45000000#32))))
    (mulf (broadcastInDim (s := scl) (sh2 4096 2048) ![] (by decide) (constant scl .f32 0x40000000#32)) (subf y t))
def hL (y t : FVec Ideal (sh2 4096 2048) .f32) : FVec Ideal scl .f32 :=
  mulf (constant scl .f32 0x3F000000#32) (Host.reduceAdd (t := scl) (axes := [0]) (Host.divf
    (Host.reduceAdd (t := col) (axes := [1]) (mulf (subf y t) (subf y t)) (constant scl .f32 0x00000000#32) (by decide) (by decide))
    (rows (constant scl .f32 0x45000000#32))) (constant scl .f32 0x00000000#32) (by decide) (by decide))

variable {y t : FVec Ideal (sh2 4096 2048) .f32} {Y T : ℕ → ℕ → EReal} (e0 : y = em 4096 2048 Y) (e1 : t = em 4096 2048 T)
include e0 e1
theorem d_eq : hD y t = wantD Y T := by
  subst e0 e1
  funext i
  exact grad_eq Y T _ _
theorem b_eq (w : FTy.bf16.bits < FTy.f32.bits) : truncf .bf16 (hD y t) w = wantB Y T := d_eq e0 e1
theorem l_eq : hL y t = wantL Y T := by
  subst e0 e1
  funext j
  unfold wantL
  rw [← loss_eq]
  refine congrArg (Ideal.ofBits .f32 0x3F000000#32 * ·) ?_
  show Ideal.hostReduceAdd _ _ (Ideal.ofBits .f32 0x00000000#32) j = _
  rw [Ideal.hostReduceAdd_r1_a0, Ideal.ofBits_zero_f32, zero_add, Finset.sum_range]
  refine Finset.sum_congr rfl fun k _ => ?_
  refine congrArg (Ideal.div · (Ideal.ofBits .f32 0x45000000#32)) ?_
  show Ideal.hostReduceAdd _ (em 4096 2048 fun i j => (Y i j - T i j) * (Y i j - T i j)) (Ideal.ofBits .f32 0x00000000#32) _ = _
  rw [Ideal.hostReduceAdd_r2_a1, Ideal.ofBits_zero_f32, zero_add, Finset.sum_range]
  rfl

end Reference

end Cert.Proof.Loss

end
-- ==== Proof.lean ====
/- The programs run and end quiescent, and each idealized kernel is its kernel's own text. Attention: on arguments all of
   whose entries are numbers the three results are the reference's, for both are, head by head, the sums `gDq`, `gDk` and
   `gDv` of Proof/Out.lean, with the totals of Proof/Ref.lean. All other programs, on any arguments: perceptrons, for
   both sides' results are `wantUp` and `wantDown` of Proof/MlpRef.lean; output projection, `wantX`, `wantM` and `wantW` of
   Proof/OutProj.lean; input projection, `want` and `wantW` of Proof/InProj.lean; the perceptron's second product and its
   transpose, `want` of Proof/Down.lean and of Proof/Dh.lean; the input projection's transpose in four parts, `want` of
   Proof/DhQkv.lean and Proof/DhXbc.lean, `wantZ` and `wantT` of Proof/DhParts.lean; the optimiser's calls, `wantD`, `wantM`
   and `wantV` of Proof/AdamW.lean; the row normalisation's gradients, `wantX` and `wantG` of Proof/RmsBwd.lean, with the
   rounded copy `wantB` of Proof/RmsCast.lean; the loss and its gradient, `wantL`, `wantD` and `wantB` of Proof/Loss.lean. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Reference18Ideal.Run
public import proofs.«01_k».proof.Proof.Fin
public import proofs.«01_k».proof.Proof.Tot
public import proofs.«01_k».proof.Proof.Ref
public import proofs.«01_k».proof.Proof.MlpRun
public import proofs.«01_k».proof.Proof.OutProj
public import proofs.«01_k».proof.Proof.InProj
public import proofs.«01_k».proof.Proof.Down
public import proofs.«01_k».proof.Proof.Dh
public import proofs.«01_k».proof.Proof.DhQkv
public import proofs.«01_k».proof.Proof.DhXbc
public import proofs.«01_k».proof.Proof.DhParts
public import proofs.«01_k».proof.Proof.AdamW
public import proofs.«01_k».proof.Proof.RmsBwd
public import proofs.«01_k».proof.Proof.RmsCast
public import proofs.«01_k».proof.Proof.Loss
public import Idealize.ShloMosaic.Adequacy
public import Idealize.ShloMosaic.Init

@[expose] public section

noncomputable section

namespace Cert.Proof

open Idealize.ShloMosaic Idealize.SL.Sem

section
open Cert.KernelIdeal Cert.KernelIdeal.Gen
variable (m : (ℓ : Loc nD τ sig) → Buf (Elt Ideal) ℓ) (c : Dev nD) {Q K W O : ℕ → ℕ → ℝ}
/-- The kernel's inputs, the totals computed by the host among them. -/
theorem ins (h0 : m ((c.tc : Thread nD τ).loc main_arg0) = mat 4096 2048 Q) (h1 : m ((c.tc : Thread nD τ).loc main_arg1) = mat 4096 2048 K)
    (h2 : m ((c.tc : Thread nD τ).loc main_arg2) = mat 4096 2048 W) (h3 : m ((c.tc : Thread nD τ).loc main_arg3) = mat 4096 4096 O) :
    Ins m c Q K W O (Reference.totals Q K) where
  h0 := (V_main_arg0 m c).trans h0
  h1 := (V_main_arg1 m c).trans h1
  h2 := (V_main_arg2 m c).trans h2
  h3 := (V_main_arg3 m c).trans h3
  h4 := by
    rw [tot_eq, h0, h1]
    refine (congrArg vTot ((congrArg vLk ((congrArg₂ vZ (heads_mat (Q := Q)) (heads_mat (Q := K))).trans vZ_ten)).trans
      (vLk_ten (q := fun h t c => Q t (128 * h + c)) (k := fun h t c => K t (128 * h + c))))).trans ?_
    rw [vTot_ten]
    rfl
end

theorem algebraic : algebraic_KernelIdeal_ReferenceIdeal_pre_finite (hKernelIdeal := Cert.KernelIdeal.Gen.facts)
    (hReferenceIdeal := Cert.ReferenceIdeal.Gen.facts) (hPre_finite := pre_facts) := by
  intro m g m' g' hpre hargs
  have real : ∀ c : Dev Cert.KernelIdeal.nD, ∃ Q K W O : ℕ → ℕ → ℝ,
      m ((c.tc : Thread Cert.KernelIdeal.nD Cert.KernelIdeal.τ).loc Cert.KernelIdeal.main_arg0) = mat 4096 2048 Q
      ∧ m ((c.tc : Thread Cert.KernelIdeal.nD Cert.KernelIdeal.τ).loc Cert.KernelIdeal.main_arg1) = mat 4096 2048 K
      ∧ m ((c.tc : Thread Cert.KernelIdeal.nD Cert.KernelIdeal.τ).loc Cert.KernelIdeal.main_arg2) = mat 4096 2048 W
      ∧ m ((c.tc : Thread Cert.KernelIdeal.nD Cert.KernelIdeal.τ).loc Cert.KernelIdeal.main_arg3) = mat 4096 4096 O := fun c => by
    obtain ⟨a0, a1, a2, a3⟩ := finite_args pre_facts _ _ _ _ (hpre c)
    exact ⟨_, _, _, _, eq_mat _ a0, eq_mat _ a1, eq_mat _ a2, eq_mat _ a3⟩
  choose Q K W O e0 e1 e2 e3 using real
  refine ⟨fun c => mat 4096 2048 (gDq (Q c) (K c) (W c) (O c) (Reference.totals (Q c) (K c))),
    fun c => mat 4096 2048 (gDk (Q c) (K c) (W c) (O c) (Reference.totals (Q c) (K c))),
    fun c => mat 4096 2048 (gDv (Q c) (K c) (O c) (Reference.totals (Q c) (K c))),
    (θ_run Cert.KernelIdeal.defs _ _).mono (fun r h c => ?_) (Cert.KernelIdeal.Value.run_blocks m g),
    (θ_run Cert.ReferenceIdeal.defs _ _).mono (fun r h c => ?_) (Cert.ReferenceIdeal.Value.run m' g')⟩
  · have H := ins m c (e0 c) (e1 c) (e2 c) (e3 c)
    obtain ⟨r0, r1, r2, rest⟩ := h c
    exact ⟨r0.trans (arr5 H), r1.trans (arr6 H), r2.trans (arr7 H), rest⟩
  · obtain ⟨b0, b1, b2, b3⟩ := hargs c
    obtain ⟨r0, r1, r2, rest⟩ := h c
    have f0 := b0.trans (e0 c)
    have f1 := b1.trans (e1 c)
    have f2 := b2.trans (e2 c)
    have f3 := b3.trans (e3 c)
    exact ⟨r0.trans (Reference.dq_mat f0 f1 f2 f3), r1.trans (Reference.dk_mat f0 f1 f2 f3), r2.trans (Reference.dv_mat f0 f1 f2 f3), rest⟩

theorem algebraic2 : algebraic_Kernel2Ideal_Reference2Ideal (hKernel2Ideal := Cert.Kernel2Ideal.Gen.facts)
    (hReference2Ideal := Cert.Reference2Ideal.Gen.facts) := by
  intro m g m' g' _ hargs
  refine ⟨fun c => Mlp.wantUp (fn2 (m ((c.tc : Thread Cert.Kernel2Ideal.nD Cert.Kernel2Ideal.τ).loc Cert.Kernel2Ideal.main_arg0)))
      (fn2 (m ((c.tc : Thread Cert.Kernel2Ideal.nD Cert.Kernel2Ideal.τ).loc Cert.Kernel2Ideal.main_arg1)))
      (fn2 (m ((c.tc : Thread Cert.Kernel2Ideal.nD Cert.Kernel2Ideal.τ).loc Cert.Kernel2Ideal.main_arg2)))
      (fn3 (m ((c.tc : Thread Cert.Kernel2Ideal.nD Cert.Kernel2Ideal.τ).loc Cert.Kernel2Ideal.main_arg3)))
      (fn3 (m ((c.tc : Thread Cert.Kernel2Ideal.nD Cert.Kernel2Ideal.τ).loc Cert.Kernel2Ideal.main_arg4)))
      (fn2 (m ((c.tc : Thread Cert.Kernel2Ideal.nD Cert.Kernel2Ideal.τ).loc Cert.Kernel2Ideal.main_arg5)))
      (fn2 (m ((c.tc : Thread Cert.Kernel2Ideal.nD Cert.Kernel2Ideal.τ).loc Cert.Kernel2Ideal.main_arg6))),
    fun c => Mlp.wantDown (fn2 (m ((c.tc : Thread Cert.Kernel2Ideal.nD Cert.Kernel2Ideal.τ).loc Cert.Kernel2Ideal.main_arg0)))
      (fn2 (m ((c.tc : Thread Cert.Kernel2Ideal.nD Cert.Kernel2Ideal.τ).loc Cert.Kernel2Ideal.main_arg1)))
      (fn2 (m ((c.tc : Thread Cert.Kernel2Ideal.nD Cert.Kernel2Ideal.τ).loc Cert.Kernel2Ideal.main_arg2)))
      (fn3 (m ((c.tc : Thread Cert.Kernel2Ideal.nD Cert.Kernel2Ideal.τ).loc Cert.Kernel2Ideal.main_arg3)))
      (fn2 (m ((c.tc : Thread Cert.Kernel2Ideal.nD Cert.Kernel2Ideal.τ).loc Cert.Kernel2Ideal.main_arg5)))
      (fn2 (m ((c.tc : Thread Cert.Kernel2Ideal.nD Cert.Kernel2Ideal.τ).loc Cert.Kernel2Ideal.main_arg6))),
    (θ_run Cert.Kernel2Ideal.defs _ _).mono (fun r h c => ?_) (Mlp.contents m g),
    (θ_run Cert.Reference2Ideal.defs _ _).mono (fun r h c => ?_) (Cert.Reference2Ideal.Value.run m' g')⟩
  · obtain ⟨r0, r1, rest⟩ := h c
    exact ⟨r0.trans (Mlp.up_result m g c (em_fn2 _).symm (em_fn2 _).symm (em_fn2 _).symm (et_fn3 _).symm (et_fn3 _).symm (em_fn2 _).symm (em_fn2 _).symm),
      r1.trans (Mlp.down_result m g c (em_fn2 _).symm (em_fn2 _).symm (em_fn2 _).symm (et_fn3 _).symm (em_fn2 _).symm (em_fn2 _).symm), rest⟩
  · obtain ⟨b0, b1, b2, b3, b4, b5, b6⟩ := hargs c
    obtain ⟨r0, r1, rest⟩ := h c
    exact ⟨r0.trans (Mlp.Reference.up_eq (b0.trans (em_fn2 _).symm) (b1.trans (em_fn2 _).symm) (b2.trans (em_fn2 _).symm) (b3.trans (et_fn3 _).symm)
        (b4.trans (et_fn3 _).symm) (b5.trans (em_fn2 _).symm) (b6.trans (em_fn2 _).symm)),
      r1.trans (Mlp.Reference.down_eq (b0.trans (em_fn2 _).symm) (b1.trans (em_fn2 _).symm) (b2.trans (em_fn2 _).symm) (b3.trans (et_fn3 _).symm)
        (b5.trans (em_fn2 _).symm) (b6.trans (em_fn2 _).symm)), rest⟩

theorem algebraic3 : algebraic_Kernel3Ideal_Reference3Ideal (hKernel3Ideal := Cert.Kernel3Ideal.Gen.facts)
    (hReference3Ideal := Cert.Reference3Ideal.Gen.facts) := by
  intro m g m' g' _ hargs
  refine ⟨fun c => OutProj.wantX
      (fn2 (m ((c.tc : Thread Cert.Kernel3Ideal.nD Cert.Kernel3Ideal.τ).loc Cert.Kernel3Ideal.main_arg0)))
      (fn2 (m ((c.tc : Thread Cert.Kernel3Ideal.nD Cert.Kernel3Ideal.τ).loc Cert.Kernel3Ideal.main_arg1)))
      (fn2 (m ((c.tc : Thread Cert.Kernel3Ideal.nD Cert.Kernel3Ideal.τ).loc Cert.Kernel3Ideal.main_arg2)))
      (fn2 (m ((c.tc : Thread Cert.Kernel3Ideal.nD Cert.Kernel3Ideal.τ).loc Cert.Kernel3Ideal.main_arg3))),
    fun c => OutProj.wantM
      (fn2 (m ((c.tc : Thread Cert.Kernel3Ideal.nD Cert.Kernel3Ideal.τ).loc Cert.Kernel3Ideal.main_arg3)))
      (fn2 (m ((c.tc : Thread Cert.Kernel3Ideal.nD Cert.Kernel3Ideal.τ).loc Cert.Kernel3Ideal.main_arg4))),
    fun c => OutProj.wantW
      (fn2 (m ((c.tc : Thread Cert.Kernel3Ideal.nD Cert.Kernel3Ideal.τ).loc Cert.Kernel3Ideal.main_arg1)))
      (fn2 (m ((c.tc : Thread Cert.Kernel3Ideal.nD Cert.Kernel3Ideal.τ).loc Cert.Kernel3Ideal.main_arg2)))
      (fn2 (m ((c.tc : Thread Cert.Kernel3Ideal.nD Cert.Kernel3Ideal.τ).loc Cert.Kernel3Ideal.main_arg4))),
    (θ_run Cert.Kernel3Ideal.defs _ _).mono (fun r h c => ?_) (OutProj.contents m g),
    (θ_run Cert.Reference3Ideal.defs _ _).mono (fun r h c => ?_) (Cert.Reference3Ideal.Value.run m' g')⟩
  · obtain ⟨r0, r1, r2, rest⟩ := h c
    exact ⟨r0.trans (OutProj.x_result c m g (em_fn2 _).symm (em_fn2 _).symm (em_fn2 _).symm (em_fn2 _).symm),
      r1.trans (OutProj.m_result c m g (em_fn2 _).symm (em_fn2 _).symm),
      r2.trans (OutProj.w_result c m g (em_fn2 _).symm (em_fn2 _).symm (em_fn2 _).symm), rest⟩
  · obtain ⟨b0, b1, b2, b3, b4⟩ := hargs c
    obtain ⟨r0, r1, r2, rest⟩ := h c
    exact ⟨r0.trans (OutProj.Reference.x_eq m' c (b0.trans (em_fn2 _).symm) (b1.trans (em_fn2 _).symm) (b2.trans (em_fn2 _).symm) (b3.trans (em_fn2 _).symm)),
      r1.trans (OutProj.Reference.m_eq m' c (b3.trans (em_fn2 _).symm) (b4.trans (em_fn2 _).symm)),
      r2.trans (OutProj.Reference.w_eq m' c (b1.trans (em_fn2 _).symm) (b2.trans (em_fn2 _).symm) (b4.trans (em_fn2 _).symm)), rest⟩

theorem algebraic4 : algebraic_Kernel4Ideal_Reference4Ideal (hKernel4Ideal := Cert.Kernel4Ideal.Gen.facts)
    (hReference4Ideal := Cert.Reference4Ideal.Gen.facts) := by
  intro m g m' g' _ hargs
  refine ⟨fun c => InProj.want 0 2048
      (fn2 (m ((c.tc : Thread Cert.Kernel4Ideal.nD Cert.Kernel4Ideal.τ).loc Cert.Kernel4Ideal.main_arg0)))
      (fn2 (m ((c.tc : Thread Cert.Kernel4Ideal.nD Cert.Kernel4Ideal.τ).loc Cert.Kernel4Ideal.main_arg1)))
      (fn2 (m ((c.tc : Thread Cert.Kernel4Ideal.nD Cert.Kernel4Ideal.τ).loc Cert.Kernel4Ideal.main_arg2))),
    fun c => InProj.want 2048 3072
      (fn2 (m ((c.tc : Thread Cert.Kernel4Ideal.nD Cert.Kernel4Ideal.τ).loc Cert.Kernel4Ideal.main_arg0)))
      (fn2 (m ((c.tc : Thread Cert.Kernel4Ideal.nD Cert.Kernel4Ideal.τ).loc Cert.Kernel4Ideal.main_arg1)))
      (fn2 (m ((c.tc : Thread Cert.Kernel4Ideal.nD Cert.Kernel4Ideal.τ).loc Cert.Kernel4Ideal.main_arg2))),
    fun c => InProj.want 5120 32
      (fn2 (m ((c.tc : Thread Cert.Kernel4Ideal.nD Cert.Kernel4Ideal.τ).loc Cert.Kernel4Ideal.main_arg0)))
      (fn2 (m ((c.tc : Thread Cert.Kernel4Ideal.nD Cert.Kernel4Ideal.τ).loc Cert.Kernel4Ideal.main_arg1)))
      (fn2 (m ((c.tc : Thread Cert.Kernel4Ideal.nD Cert.Kernel4Ideal.τ).loc Cert.Kernel4Ideal.main_arg2))),
    fun c => InProj.want 5152 6144
      (fn2 (m ((c.tc : Thread Cert.Kernel4Ideal.nD Cert.Kernel4Ideal.τ).loc Cert.Kernel4Ideal.main_arg0)))
      (fn2 (m ((c.tc : Thread Cert.Kernel4Ideal.nD Cert.Kernel4Ideal.τ).loc Cert.Kernel4Ideal.main_arg1)))
      (fn2 (m ((c.tc : Thread Cert.Kernel4Ideal.nD Cert.Kernel4Ideal.τ).loc Cert.Kernel4Ideal.main_arg2))),
    fun c => InProj.wantW
      (fn2 (m ((c.tc : Thread Cert.Kernel4Ideal.nD Cert.Kernel4Ideal.τ).loc Cert.Kernel4Ideal.main_arg0)))
      (fn2 (m ((c.tc : Thread Cert.Kernel4Ideal.nD Cert.Kernel4Ideal.τ).loc Cert.Kernel4Ideal.main_arg1)))
      (fn2 (m ((c.tc : Thread Cert.Kernel4Ideal.nD Cert.Kernel4Ideal.τ).loc Cert.Kernel4Ideal.main_arg3)))
      (fn2 (m ((c.tc : Thread Cert.Kernel4Ideal.nD Cert.Kernel4Ideal.τ).loc Cert.Kernel4Ideal.main_arg4)))
      (fn2 (m ((c.tc : Thread Cert.Kernel4Ideal.nD Cert.Kernel4Ideal.τ).loc Cert.Kernel4Ideal.main_arg5)))
      (fn2 (m ((c.tc : Thread Cert.Kernel4Ideal.nD Cert.Kernel4Ideal.τ).loc Cert.Kernel4Ideal.main_arg6))),
    (θ_run Cert.Kernel4Ideal.defs _ _).mono (fun r h c => ?_) (InProj.contents m g),
    (θ_run Cert.Reference4Ideal.defs _ _).mono (fun r h c => ?_) (Cert.Reference4Ideal.Value.run m' g')⟩
  · obtain ⟨r0, r1, r2, r3, r4, rest⟩ := h c
    exact ⟨r0.trans (InProj.z_result c m g (em_fn2 _).symm (em_fn2 _).symm (em_fn2 _).symm),
      r1.trans (InProj.x_result c m g (em_fn2 _).symm (em_fn2 _).symm (em_fn2 _).symm),
      r2.trans (InProj.t_result c m g (em_fn2 _).symm (em_fn2 _).symm (em_fn2 _).symm),
      r3.trans (InProj.q_result c m g (em_fn2 _).symm (em_fn2 _).symm (em_fn2 _).symm),
      r4.trans (InProj.w_result c m g (em_fn2 _).symm (em_fn2 _).symm (em_fn2 _).symm (em_fn2 _).symm (em_fn2 _).symm (em_fn2 _).symm), rest⟩
  · obtain ⟨b0, b1, b2, b3, b4, b5, b6⟩ := hargs c
    obtain ⟨r0, r1, r2, r3, r4, rest⟩ := h c
    exact ⟨r0.trans (InProj.Reference.part_eq m' c (b0.trans (em_fn2 _).symm) (b1.trans (em_fn2 _).symm) (b2.trans (em_fn2 _).symm) _),
      r1.trans (InProj.Reference.part_eq m' c (b0.trans (em_fn2 _).symm) (b1.trans (em_fn2 _).symm) (b2.trans (em_fn2 _).symm) _),
      r2.trans (InProj.Reference.part_eq m' c (b0.trans (em_fn2 _).symm) (b1.trans (em_fn2 _).symm) (b2.trans (em_fn2 _).symm) _),
      r3.trans (InProj.Reference.part_eq m' c (b0.trans (em_fn2 _).symm) (b1.trans (em_fn2 _).symm) (b2.trans (em_fn2 _).symm) _),
      r4.trans (InProj.Reference.w_eq m' c (b0.trans (em_fn2 _).symm) (b1.trans (em_fn2 _).symm) (b3.trans (em_fn2 _).symm) (b4.trans (em_fn2 _).symm) (b5.trans (em_fn2 _).symm) (b6.trans (em_fn2 _).symm)), rest⟩

theorem algebraic5 : algebraic_Kernel5Ideal_Reference5Ideal (hKernel5Ideal := Cert.Kernel5Ideal.Gen.facts)
    (hReference5Ideal := Cert.Reference5Ideal.Gen.facts) := by
  intro m g m' g' _ hargs
  refine ⟨fun c => Down.want
      (fn2 (m ((c.tc : Thread Cert.Kernel5Ideal.nD Cert.Kernel5Ideal.τ).loc Cert.Kernel5Ideal.main_arg0)))
      (fn2 (m ((c.tc : Thread Cert.Kernel5Ideal.nD Cert.Kernel5Ideal.τ).loc Cert.Kernel5Ideal.main_arg1)))
      (fn2 (m ((c.tc : Thread Cert.Kernel5Ideal.nD Cert.Kernel5Ideal.τ).loc Cert.Kernel5Ideal.main_arg2))),
    (θ_run Cert.Kernel5Ideal.defs _ _).mono (fun r h c => ?_) (Cert.Kernel5Ideal.Value.run_blocks m g),
    (θ_run Cert.Reference5Ideal.defs _ _).mono (fun r h c => ?_) (Cert.Reference5Ideal.Value.run m' g')⟩
  · obtain ⟨r0, rest⟩ := h c
    exact ⟨r0.trans (Down.arr m c (em_fn2 _).symm (em_fn2 _).symm (em_fn2 _).symm), rest⟩
  · obtain ⟨b0, b1, b2⟩ := hargs c
    obtain ⟨r0, rest⟩ := h c
    exact ⟨r0.trans (Down.Reference.down_eq m' c (b0.trans (em_fn2 _).symm) (b1.trans (em_fn2 _).symm) (b2.trans (em_fn2 _).symm)), rest⟩

theorem algebraic6 : algebraic_Kernel6Ideal_Reference6Ideal (hKernel6Ideal := Cert.Kernel6Ideal.Gen.facts)
    (hReference6Ideal := Cert.Reference6Ideal.Gen.facts) := by
  intro m g m' g' _ hargs
  refine ⟨fun c => Dh.want
      (fn2 (m ((c.tc : Thread Cert.Kernel6Ideal.nD Cert.Kernel6Ideal.τ).loc Cert.Kernel6Ideal.main_arg0)))
      (fn2 (m ((c.tc : Thread Cert.Kernel6Ideal.nD Cert.Kernel6Ideal.τ).loc Cert.Kernel6Ideal.main_arg1))),
    (θ_run Cert.Kernel6Ideal.defs _ _).mono (fun r h c => ?_) (Cert.Kernel6Ideal.Value.run_blocks m g),
    (θ_run Cert.Reference6Ideal.defs _ _).mono (fun r h c => ?_) (Cert.Reference6Ideal.Value.run m' g')⟩
  · obtain ⟨r0, rest⟩ := h c
    exact ⟨r0.trans (Dh.arr m c (em_fn2 _).symm (em_fn2 _).symm), rest⟩
  · obtain ⟨b0, b1⟩ := hargs c
    obtain ⟨r0, rest⟩ := h c
    exact ⟨r0.trans (Dh.Reference.dh_eq m' c (b0.trans (em_fn2 _).symm) (b1.trans (em_fn2 _).symm)), rest⟩

theorem algebraic7 : algebraic_Kernel7Ideal_Reference7Ideal (hKernel7Ideal := Cert.Kernel7Ideal.Gen.facts)
    (hReference7Ideal := Cert.Reference7Ideal.Gen.facts) := by
  intro m g m' g' _ hargs
  refine ⟨fun c => DhQkv.want
      (fn2 (m ((c.tc : Thread Cert.Kernel7Ideal.nD Cert.Kernel7Ideal.τ).loc Cert.Kernel7Ideal.main_arg0)))
      (fn2 (m ((c.tc : Thread Cert.Kernel7Ideal.nD Cert.Kernel7Ideal.τ).loc Cert.Kernel7Ideal.main_arg1)))
      (fn2 (m ((c.tc : Thread Cert.Kernel7Ideal.nD Cert.Kernel7Ideal.τ).loc Cert.Kernel7Ideal.main_arg2))),
    (θ_run Cert.Kernel7Ideal.defs _ _).mono (fun r h c => ?_) (Cert.Kernel7Ideal.Value.run_blocks m g),
    (θ_run Cert.Reference7Ideal.defs _ _).mono (fun r h c => ?_) (Cert.Reference7Ideal.Value.run m' g')⟩
  · obtain ⟨r0, rest⟩ := h c
    exact ⟨r0.trans (DhQkv.arr m c (em_fn2 _).symm (em_fn2 _).symm (em_fn2 _).symm), rest⟩
  · obtain ⟨b0, b1, b2⟩ := hargs c
    obtain ⟨r0, rest⟩ := h c
    exact ⟨r0.trans (DhQkv.Reference.back_eq m' c (b0.trans (em_fn2 _).symm) (b1.trans (em_fn2 _).symm) (b2.trans (em_fn2 _).symm)), rest⟩

theorem algebraic8 : algebraic_Kernel8Ideal_Reference8Ideal (hKernel8Ideal := Cert.Kernel8Ideal.Gen.facts)
    (hReference8Ideal := Cert.Reference8Ideal.Gen.facts) := by
  intro m g m' g' _ hargs
  refine ⟨fun c => DhXbc.want
      (fn2 (m ((c.tc : Thread Cert.Kernel8Ideal.nD Cert.Kernel8Ideal.τ).loc Cert.Kernel8Ideal.main_arg0)))
      (fn2 (m ((c.tc : Thread Cert.Kernel8Ideal.nD Cert.Kernel8Ideal.τ).loc Cert.Kernel8Ideal.main_arg1)))
      (fn2 (m ((c.tc : Thread Cert.Kernel8Ideal.nD Cert.Kernel8Ideal.τ).loc Cert.Kernel8Ideal.main_arg2))),
    (θ_run Cert.Kernel8Ideal.defs _ _).mono (fun r h c => ?_) (Cert.Kernel8Ideal.Value.run_blocks m g),
    (θ_run Cert.Reference8Ideal.defs _ _).mono (fun r h c => ?_) (Cert.Reference8Ideal.Value.run m' g')⟩
  · obtain ⟨r0, rest⟩ := h c
    exact ⟨r0.trans (DhXbc.arr m c (em_fn2 _).symm (em_fn2 _).symm (em_fn2 _).symm), rest⟩
  · obtain ⟨b0, b1, b2⟩ := hargs c
    obtain ⟨r0, rest⟩ := h c
    exact ⟨r0.trans (DhXbc.Reference.back_eq m' c (b0.trans (em_fn2 _).symm) (b1.trans (em_fn2 _).symm) (b2.trans (em_fn2 _).symm)), rest⟩

theorem algebraic9 : algebraic_Kernel9Ideal_Reference9Ideal (hKernel9Ideal := Cert.Kernel9Ideal.Gen.facts)
    (hReference9Ideal := Cert.Reference9Ideal.Gen.facts) := by
  intro m g m' g' _ hargs
  refine ⟨fun c => DhParts.wantZ
      (fn2 (m ((c.tc : Thread Cert.Kernel9Ideal.nD Cert.Kernel9Ideal.τ).loc Cert.Kernel9Ideal.main_arg0)))
      (fn2 (m ((c.tc : Thread Cert.Kernel9Ideal.nD Cert.Kernel9Ideal.τ).loc Cert.Kernel9Ideal.main_arg1))),
    (θ_run Cert.Kernel9Ideal.defs _ _).mono (fun r h c => ?_) (Cert.Kernel9Ideal.Value.run_blocks m g),
    (θ_run Cert.Reference9Ideal.defs _ _).mono (fun r h c => ?_) (Cert.Reference9Ideal.Value.run m' g')⟩
  · obtain ⟨r0, rest⟩ := h c
    exact ⟨r0.trans (DhParts.arrz m c (em_fn2 _).symm (em_fn2 _).symm), rest⟩
  · obtain ⟨b0, b1⟩ := hargs c
    obtain ⟨r0, rest⟩ := h c
    exact ⟨r0.trans (DhParts.Reference.z_eq m' c (b0.trans (em_fn2 _).symm) (b1.trans (em_fn2 _).symm)), rest⟩

theorem algebraic10 : algebraic_Kernel10Ideal_Reference10Ideal (hKernel10Ideal := Cert.Kernel10Ideal.Gen.facts)
    (hReference10Ideal := Cert.Reference10Ideal.Gen.facts) := by
  intro m g m' g' _ hargs
  refine ⟨fun c => DhParts.wantT
      (fn2 (m ((c.tc : Thread Cert.Kernel10Ideal.nD Cert.Kernel10Ideal.τ).loc Cert.Kernel10Ideal.main_arg0)))
      (fn2 (m ((c.tc : Thread Cert.Kernel10Ideal.nD Cert.Kernel10Ideal.τ).loc Cert.Kernel10Ideal.main_arg1)))
      (fn2 (m ((c.tc : Thread Cert.Kernel10Ideal.nD Cert.Kernel10Ideal.τ).loc Cert.Kernel10Ideal.main_arg2))),
    (θ_run Cert.Kernel10Ideal.defs _ _).mono (fun r h c => ?_) (Cert.Kernel10Ideal.Value.run_blocks m g),
    (θ_run Cert.Reference10Ideal.defs _ _).mono (fun r h c => ?_) (Cert.Reference10Ideal.Value.run m' g')⟩
  · obtain ⟨r0, rest⟩ := h c
    exact ⟨r0.trans (DhParts.arrt m c (em_fn2 _).symm (em_fn2 _).symm (em_fn2 _).symm), rest⟩
  · obtain ⟨b0, b1, b2⟩ := hargs c
    obtain ⟨r0, rest⟩ := h c
    exact ⟨r0.trans (DhParts.Reference.t_eq m' c (b0.trans (em_fn2 _).symm) (b1.trans (em_fn2 _).symm) (b2.trans (em_fn2 _).symm)), rest⟩

theorem algebraic11 : algebraic_Kernel11Ideal_Reference11Ideal (hKernel11Ideal := Cert.Kernel11Ideal.Gen.facts)
    (hReference11Ideal := Cert.Reference11Ideal.Gen.facts) := by
  intro m g m' g' _ hargs
  refine ⟨fun c => AdamW.wantD 4096 2048
      (fn2 (m ((c.tc : Thread Cert.Kernel11Ideal.nD Cert.Kernel11Ideal.τ).loc Cert.Kernel11Ideal.main_arg0)))
      (fn2 (m ((c.tc : Thread Cert.Kernel11Ideal.nD Cert.Kernel11Ideal.τ).loc Cert.Kernel11Ideal.main_arg1)))
      (fn2 (m ((c.tc : Thread Cert.Kernel11Ideal.nD Cert.Kernel11Ideal.τ).loc Cert.Kernel11Ideal.main_arg2)))
      (fn2 (m ((c.tc : Thread Cert.Kernel11Ideal.nD Cert.Kernel11Ideal.τ).loc Cert.Kernel11Ideal.main_arg3))),
    fun c => AdamW.wantM 4096 2048
      (fn2 (m ((c.tc : Thread Cert.Kernel11Ideal.nD Cert.Kernel11Ideal.τ).loc Cert.Kernel11Ideal.main_arg1)))
      (fn2 (m ((c.tc : Thread Cert.Kernel11Ideal.nD Cert.Kernel11Ideal.τ).loc Cert.Kernel11Ideal.main_arg2))),
    fun c => AdamW.wantV 4096 2048
      (fn2 (m ((c.tc : Thread Cert.Kernel11Ideal.nD Cert.Kernel11Ideal.τ).loc Cert.Kernel11Ideal.main_arg1)))
      (fn2 (m ((c.tc : Thread Cert.Kernel11Ideal.nD Cert.Kernel11Ideal.τ).loc Cert.Kernel11Ideal.main_arg3))),
    (θ_run Cert.Kernel11Ideal.defs _ _).mono (fun r h c => ?_) (Cert.Kernel11Ideal.Value.run_blocks m g),
    (θ_run Cert.Reference11Ideal.defs _ _).mono (fun r h c => ?_) (Cert.Reference11Ideal.Value.run m' g')⟩
  · obtain ⟨r0, r1, r2, _, rest⟩ := h c
    exact ⟨r0.trans (AdamW.Mlp.arrD m c (em_fn2 _).symm (em_fn2 _).symm (em_fn2 _).symm (em_fn2 _).symm),
      r1.trans (AdamW.Mlp.arrM m c (em_fn2 _).symm (em_fn2 _).symm (em_fn2 _).symm (em_fn2 _).symm),
      r2.trans (AdamW.Mlp.arrV m c (em_fn2 _).symm (em_fn2 _).symm (em_fn2 _).symm (em_fn2 _).symm), rest⟩
  · obtain ⟨b0, b1, b2, b3⟩ := hargs c
    obtain ⟨r0, r1, r2, rest⟩ := h c
    exact ⟨r0.trans (AdamW.vecD_eq (b0.trans (em_fn2 _).symm) (b1.trans (em_fn2 _).symm) (b2.trans (em_fn2 _).symm) (b3.trans (em_fn2 _).symm)),
      r1.trans (AdamW.vecM_eq (b1.trans (em_fn2 _).symm) (b2.trans (em_fn2 _).symm)),
      r2.trans (AdamW.vecV_eq (b1.trans (em_fn2 _).symm) (b3.trans (em_fn2 _).symm)), rest⟩

theorem algebraic12 : algebraic_Kernel12Ideal_Reference12Ideal (hKernel12Ideal := Cert.Kernel12Ideal.Gen.facts)
    (hReference12Ideal := Cert.Reference12Ideal.Gen.facts) := by
  intro m g m' g' _ hargs
  refine ⟨fun c => AdamW.wantD 1024 2048
      (fn2 (m ((c.tc : Thread Cert.Kernel12Ideal.nD Cert.Kernel12Ideal.τ).loc Cert.Kernel12Ideal.main_arg0)))
      (fn2 (m ((c.tc : Thread Cert.Kernel12Ideal.nD Cert.Kernel12Ideal.τ).loc Cert.Kernel12Ideal.main_arg1)))
      (fn2 (m ((c.tc : Thread Cert.Kernel12Ideal.nD Cert.Kernel12Ideal.τ).loc Cert.Kernel12Ideal.main_arg2)))
      (fn2 (m ((c.tc : Thread Cert.Kernel12Ideal.nD Cert.Kernel12Ideal.τ).loc Cert.Kernel12Ideal.main_arg3))),
    fun c => AdamW.wantM 1024 2048
      (fn2 (m ((c.tc : Thread Cert.Kernel12Ideal.nD Cert.Kernel12Ideal.τ).loc Cert.Kernel12Ideal.main_arg1)))
      (fn2 (m ((c.tc : Thread Cert.Kernel12Ideal.nD Cert.Kernel12Ideal.τ).loc Cert.Kernel12Ideal.main_arg2))),
    fun c => AdamW.wantV 1024 2048
      (fn2 (m ((c.tc : Thread Cert.Kernel12Ideal.nD Cert.Kernel12Ideal.τ).loc Cert.Kernel12Ideal.main_arg1)))
      (fn2 (m ((c.tc : Thread Cert.Kernel12Ideal.nD Cert.Kernel12Ideal.τ).loc Cert.Kernel12Ideal.main_arg3))),
    (θ_run Cert.Kernel12Ideal.defs _ _).mono (fun r h c => ?_) (Cert.Kernel12Ideal.Value.run_blocks m g),
    (θ_run Cert.Reference12Ideal.defs _ _).mono (fun r h c => ?_) (Cert.Reference12Ideal.Value.run m' g')⟩
  · obtain ⟨r0, r1, r2, _, rest⟩ := h c
    exact ⟨r0.trans (AdamW.Out.arrD m c (em_fn2 _).symm (em_fn2 _).symm (em_fn2 _).symm (em_fn2 _).symm),
      r1.trans (AdamW.Out.arrM m c (em_fn2 _).symm (em_fn2 _).symm (em_fn2 _).symm (em_fn2 _).symm),
      r2.trans (AdamW.Out.arrV m c (em_fn2 _).symm (em_fn2 _).symm (em_fn2 _).symm (em_fn2 _).symm), rest⟩
  · obtain ⟨b0, b1, b2, b3⟩ := hargs c
    obtain ⟨r0, r1, r2, rest⟩ := h c
    exact ⟨r0.trans (AdamW.vecD_eq (b0.trans (em_fn2 _).symm) (b1.trans (em_fn2 _).symm) (b2.trans (em_fn2 _).symm) (b3.trans (em_fn2 _).symm)),
      r1.trans (AdamW.vecM_eq (b1.trans (em_fn2 _).symm) (b2.trans (em_fn2 _).symm)),
      r2.trans (AdamW.vecV_eq (b1.trans (em_fn2 _).symm) (b3.trans (em_fn2 _).symm)), rest⟩

theorem algebraic13 : algebraic_Kernel13Ideal_Reference13Ideal (hKernel13Ideal := Cert.Kernel13Ideal.Gen.facts)
    (hReference13Ideal := Cert.Reference13Ideal.Gen.facts) := by
  intro m g m' g' _ hargs
  refine ⟨fun c => AdamW.wantD 512 512
      (fn2 (m ((c.tc : Thread Cert.Kernel13Ideal.nD Cert.Kernel13Ideal.τ).loc Cert.Kernel13Ideal.main_arg0)))
      (fn2 (m ((c.tc : Thread Cert.Kernel13Ideal.nD Cert.Kernel13Ideal.τ).loc Cert.Kernel13Ideal.main_arg1)))
      (fn2 (m ((c.tc : Thread Cert.Kernel13Ideal.nD Cert.Kernel13Ideal.τ).loc Cert.Kernel13Ideal.main_arg2)))
      (fn2 (m ((c.tc : Thread Cert.Kernel13Ideal.nD Cert.Kernel13Ideal.τ).loc Cert.Kernel13Ideal.main_arg3))),
    fun c => AdamW.wantM 512 512
      (fn2 (m ((c.tc : Thread Cert.Kernel13Ideal.nD Cert.Kernel13Ideal.τ).loc Cert.Kernel13Ideal.main_arg1)))
      (fn2 (m ((c.tc : Thread Cert.Kernel13Ideal.nD Cert.Kernel13Ideal.τ).loc Cert.Kernel13Ideal.main_arg2))),
    fun c => AdamW.wantV 512 512
      (fn2 (m ((c.tc : Thread Cert.Kernel13Ideal.nD Cert.Kernel13Ideal.τ).loc Cert.Kernel13Ideal.main_arg1)))
      (fn2 (m ((c.tc : Thread Cert.Kernel13Ideal.nD Cert.Kernel13Ideal.τ).loc Cert.Kernel13Ideal.main_arg3))),
    (θ_run Cert.Kernel13Ideal.defs _ _).mono (fun r h c => ?_) (Cert.Kernel13Ideal.Value.run_blocks m g),
    (θ_run Cert.Reference13Ideal.defs _ _).mono (fun r h c => ?_) (Cert.Reference13Ideal.Value.run m' g')⟩
  · obtain ⟨r0, r1, r2, _, rest⟩ := h c
    exact ⟨r0.trans (AdamW.Pool.arrD m c (em_fn2 _).symm (em_fn2 _).symm (em_fn2 _).symm (em_fn2 _).symm),
      r1.trans (AdamW.Pool.arrM m c (em_fn2 _).symm (em_fn2 _).symm (em_fn2 _).symm (em_fn2 _).symm),
      r2.trans (AdamW.Pool.arrV m c (em_fn2 _).symm (em_fn2 _).symm (em_fn2 _).symm (em_fn2 _).symm), rest⟩
  · obtain ⟨b0, b1, b2, b3⟩ := hargs c
    obtain ⟨r0, r1, r2, rest⟩ := h c
    exact ⟨r0.trans (AdamW.vecD_eq (b0.trans (em_fn2 _).symm) (b1.trans (em_fn2 _).symm) (b2.trans (em_fn2 _).symm) (b3.trans (em_fn2 _).symm)),
      r1.trans (AdamW.vecM_eq (b1.trans (em_fn2 _).symm) (b2.trans (em_fn2 _).symm)),
      r2.trans (AdamW.vecV_eq (b1.trans (em_fn2 _).symm) (b3.trans (em_fn2 _).symm)), rest⟩

theorem algebraic14 : algebraic_Kernel14Ideal_Reference14Ideal (hKernel14Ideal := Cert.Kernel14Ideal.Gen.facts)
    (hReference14Ideal := Cert.Reference14Ideal.Gen.facts) := by
  intro m g m' g' _ hargs
  refine ⟨fun c => AdamW.wantD 2048 2824
      (fn2 (m ((c.tc : Thread Cert.Kernel14Ideal.nD Cert.Kernel14Ideal.τ).loc Cert.Kernel14Ideal.main_arg0)))
      (fn2 (m ((c.tc : Thread Cert.Kernel14Ideal.nD Cert.Kernel14Ideal.τ).loc Cert.Kernel14Ideal.main_arg1)))
      (fn2 (m ((c.tc : Thread Cert.Kernel14Ideal.nD Cert.Kernel14Ideal.τ).loc Cert.Kernel14Ideal.main_arg2)))
      (fn2 (m ((c.tc : Thread Cert.Kernel14Ideal.nD Cert.Kernel14Ideal.τ).loc Cert.Kernel14Ideal.main_arg3))),
    fun c => AdamW.wantM 2048 2824
      (fn2 (m ((c.tc : Thread Cert.Kernel14Ideal.nD Cert.Kernel14Ideal.τ).loc Cert.Kernel14Ideal.main_arg1)))
      (fn2 (m ((c.tc : Thread Cert.Kernel14Ideal.nD Cert.Kernel14Ideal.τ).loc Cert.Kernel14Ideal.main_arg2))),
    fun c => AdamW.wantV 2048 2824
      (fn2 (m ((c.tc : Thread Cert.Kernel14Ideal.nD Cert.Kernel14Ideal.τ).loc Cert.Kernel14Ideal.main_arg1)))
      (fn2 (m ((c.tc : Thread Cert.Kernel14Ideal.nD Cert.Kernel14Ideal.τ).loc Cert.Kernel14Ideal.main_arg3))),
    (θ_run Cert.Kernel14Ideal.defs _ _).mono (fun r h c => ?_) (Cert.Kernel14Ideal.Value.run_blocks m g),
    (θ_run Cert.Reference14Ideal.defs _ _).mono (fun r h c => ?_) (Cert.Reference14Ideal.Value.run m' g')⟩
  · obtain ⟨r0, r1, r2, _, rest⟩ := h c
    exact ⟨r0.trans (AdamW.In.arrD m c (em_fn2 _).symm (em_fn2 _).symm (em_fn2 _).symm (em_fn2 _).symm),
      r1.trans (AdamW.In.arrM m c (em_fn2 _).symm (em_fn2 _).symm (em_fn2 _).symm (em_fn2 _).symm),
      r2.trans (AdamW.In.arrV m c (em_fn2 _).symm (em_fn2 _).symm (em_fn2 _).symm (em_fn2 _).symm), rest⟩
  · obtain ⟨b0, b1, b2, b3⟩ := hargs c
    obtain ⟨r0, r1, r2, rest⟩ := h c
    exact ⟨r0.trans (AdamW.vecD_eq (b0.trans (em_fn2 _).symm) (b1.trans (em_fn2 _).symm) (b2.trans (em_fn2 _).symm) (b3.trans (em_fn2 _).symm)),
      r1.trans (AdamW.vecM_eq (b1.trans (em_fn2 _).symm) (b2.trans (em_fn2 _).symm)),
      r2.trans (AdamW.vecV_eq (b1.trans (em_fn2 _).symm) (b3.trans (em_fn2 _).symm)), rest⟩

theorem algebraic15 : algebraic_Kernel15Ideal_Reference15Ideal (hKernel15Ideal := Cert.Kernel15Ideal.Gen.facts)
    (hReference15Ideal := Cert.Reference15Ideal.Gen.facts) := by
  intro m g m' g' _ hargs
  refine ⟨fun c => AdamW.wantD 8 2048
      (fn2 (m ((c.tc : Thread Cert.Kernel15Ideal.nD Cert.Kernel15Ideal.τ).loc Cert.Kernel15Ideal.main_arg0)))
      (fn2 (m ((c.tc : Thread Cert.Kernel15Ideal.nD Cert.Kernel15Ideal.τ).loc Cert.Kernel15Ideal.main_arg1)))
      (fn2 (m ((c.tc : Thread Cert.Kernel15Ideal.nD Cert.Kernel15Ideal.τ).loc Cert.Kernel15Ideal.main_arg2)))
      (fn2 (m ((c.tc : Thread Cert.Kernel15Ideal.nD Cert.Kernel15Ideal.τ).loc Cert.Kernel15Ideal.main_arg3))),
    fun c => AdamW.wantM 8 2048
      (fn2 (m ((c.tc : Thread Cert.Kernel15Ideal.nD Cert.Kernel15Ideal.τ).loc Cert.Kernel15Ideal.main_arg1)))
      (fn2 (m ((c.tc : Thread Cert.Kernel15Ideal.nD Cert.Kernel15Ideal.τ).loc Cert.Kernel15Ideal.main_arg2))),
    fun c => AdamW.wantV 8 2048
      (fn2 (m ((c.tc : Thread Cert.Kernel15Ideal.nD Cert.Kernel15Ideal.τ).loc Cert.Kernel15Ideal.main_arg1)))
      (fn2 (m ((c.tc : Thread Cert.Kernel15Ideal.nD Cert.Kernel15Ideal.τ).loc Cert.Kernel15Ideal.main_arg3))),
    (θ_run Cert.Kernel15Ideal.defs _ _).mono (fun r h c => ?_) (Cert.Kernel15Ideal.Value.run_blocks m g),
    (θ_run Cert.Reference15Ideal.defs _ _).mono (fun r h c => ?_) (Cert.Reference15Ideal.Value.run m' g')⟩
  · obtain ⟨r0, r1, r2, _, rest⟩ := h c
    exact ⟨r0.trans (AdamW.Small.arrD m c (em_fn2 _).symm (em_fn2 _).symm (em_fn2 _).symm (em_fn2 _).symm),
      r1.trans (AdamW.Small.arrM m c (em_fn2 _).symm (em_fn2 _).symm (em_fn2 _).symm (em_fn2 _).symm),
      r2.trans (AdamW.Small.arrV m c (em_fn2 _).symm (em_fn2 _).symm (em_fn2 _).symm (em_fn2 _).symm), rest⟩
  · obtain ⟨b0, b1, b2, b3⟩ := hargs c
    obtain ⟨r0, r1, r2, rest⟩ := h c
    exact ⟨r0.trans (AdamW.vecD_eq (b0.trans (em_fn2 _).symm) (b1.trans (em_fn2 _).symm) (b2.trans (em_fn2 _).symm) (b3.trans (em_fn2 _).symm)),
      r1.trans (AdamW.vecM_eq (b1.trans (em_fn2 _).symm) (b2.trans (em_fn2 _).symm)),
      r2.trans (AdamW.vecV_eq (b1.trans (em_fn2 _).symm) (b3.trans (em_fn2 _).symm)), rest⟩

theorem algebraic16 : algebraic_Kernel16Ideal_Reference16Ideal (hKernel16Ideal := Cert.Kernel16Ideal.Gen.facts)
    (hReference16Ideal := Cert.Reference16Ideal.Gen.facts) := by
  intro m g m' g' _ hargs
  refine ⟨fun c => RmsBwd.wantX
      (fn2 (m ((c.tc : Thread Cert.Kernel16Ideal.nD Cert.Kernel16Ideal.τ).loc Cert.Kernel16Ideal.main_arg0)))
      (fn2 (m ((c.tc : Thread Cert.Kernel16Ideal.nD Cert.Kernel16Ideal.τ).loc Cert.Kernel16Ideal.main_arg1)))
      (fn2 (m ((c.tc : Thread Cert.Kernel16Ideal.nD Cert.Kernel16Ideal.τ).loc Cert.Kernel16Ideal.main_arg2)))
      (fn2 (m ((c.tc : Thread Cert.Kernel16Ideal.nD Cert.Kernel16Ideal.τ).loc Cert.Kernel16Ideal.main_arg3))),
    fun c => RmsBwd.wantG
      (fn2 (m ((c.tc : Thread Cert.Kernel16Ideal.nD Cert.Kernel16Ideal.τ).loc Cert.Kernel16Ideal.main_arg0)))
      (fn2 (m ((c.tc : Thread Cert.Kernel16Ideal.nD Cert.Kernel16Ideal.τ).loc Cert.Kernel16Ideal.main_arg2))),
    (θ_run Cert.Kernel16Ideal.defs _ _).mono (fun r h c => ?_) (Cert.Kernel16Ideal.Value.run_blocks m g),
    (θ_run Cert.Reference16Ideal.defs _ _).mono (fun r h c => ?_) (Cert.Reference16Ideal.Value.run m' g')⟩
  · obtain ⟨r0, r1, rest⟩ := h c
    exact ⟨r0.trans (RmsBwd.arrX m c (em_fn2 _).symm (em_fn2 _).symm (em_fn2 _).symm (em_fn2 _).symm),
      r1.trans (RmsBwd.arrG m c (em_fn2 _).symm (em_fn2 _).symm (em_fn2 _).symm (em_fn2 _).symm), rest⟩
  · obtain ⟨b0, b1, b2, b3⟩ := hargs c
    obtain ⟨r0, r1, rest⟩ := h c
    exact ⟨r0.trans (RmsBwd.Reference.x_eq (b0.trans (em_fn2 _).symm) (b1.trans (em_fn2 _).symm) (b2.trans (em_fn2 _).symm) (b3.trans (em_fn2 _).symm)),
      r1.trans (RmsBwd.Reference.g_eq (b0.trans (em_fn2 _).symm) (b2.trans (em_fn2 _).symm)), rest⟩

theorem algebraic17 : algebraic_Kernel17Ideal_Reference17Ideal (hKernel17Ideal := Cert.Kernel17Ideal.Gen.facts)
    (hReference17Ideal := Cert.Reference17Ideal.Gen.facts) := by
  intro m g m' g' _ hargs
  refine ⟨fun c => RmsBwd.wantX
      (fn2 (m ((c.tc : Thread Cert.Kernel17Ideal.nD Cert.Kernel17Ideal.τ).loc Cert.Kernel17Ideal.main_arg0)))
      (fn2 (m ((c.tc : Thread Cert.Kernel17Ideal.nD Cert.Kernel17Ideal.τ).loc Cert.Kernel17Ideal.main_arg1)))
      (fn2 (m ((c.tc : Thread Cert.Kernel17Ideal.nD Cert.Kernel17Ideal.τ).loc Cert.Kernel17Ideal.main_arg2)))
      (fn2 (m ((c.tc : Thread Cert.Kernel17Ideal.nD Cert.Kernel17Ideal.τ).loc Cert.Kernel17Ideal.main_arg3))),
    fun c => RmsBwd.wantG
      (fn2 (m ((c.tc : Thread Cert.Kernel17Ideal.nD Cert.Kernel17Ideal.τ).loc Cert.Kernel17Ideal.main_arg0)))
      (fn2 (m ((c.tc : Thread Cert.Kernel17Ideal.nD Cert.Kernel17Ideal.τ).loc Cert.Kernel17Ideal.main_arg2))),
    fun c => RmsCast.wantB
      (fn2 (m ((c.tc : Thread Cert.Kernel17Ideal.nD Cert.Kernel17Ideal.τ).loc Cert.Kernel17Ideal.main_arg0)))
      (fn2 (m ((c.tc : Thread Cert.Kernel17Ideal.nD Cert.Kernel17Ideal.τ).loc Cert.Kernel17Ideal.main_arg1)))
      (fn2 (m ((c.tc : Thread Cert.Kernel17Ideal.nD Cert.Kernel17Ideal.τ).loc Cert.Kernel17Ideal.main_arg2)))
      (fn2 (m ((c.tc : Thread Cert.Kernel17Ideal.nD Cert.Kernel17Ideal.τ).loc Cert.Kernel17Ideal.main_arg3))),
    (θ_run Cert.Kernel17Ideal.defs _ _).mono (fun r h c => ?_) (Cert.Kernel17Ideal.Value.run_blocks m g),
    (θ_run Cert.Reference17Ideal.defs _ _).mono (fun r h c => ?_) (Cert.Reference17Ideal.Value.run m' g')⟩
  · obtain ⟨r0, r1, r2, rest⟩ := h c
    exact ⟨r0.trans (RmsCast.arrX m c (em_fn2 _).symm (em_fn2 _).symm (em_fn2 _).symm (em_fn2 _).symm),
      r1.trans (RmsCast.arrG m c (em_fn2 _).symm (em_fn2 _).symm (em_fn2 _).symm (em_fn2 _).symm),
      r2.trans (RmsCast.arrB m c (em_fn2 _).symm (em_fn2 _).symm (em_fn2 _).symm (em_fn2 _).symm), rest⟩
  · obtain ⟨b0, b1, b2, b3⟩ := hargs c
    obtain ⟨r0, r1, r2, rest⟩ := h c
    exact ⟨r0.trans (RmsBwd.Reference.x_eq (b0.trans (em_fn2 _).symm) (b1.trans (em_fn2 _).symm) (b2.trans (em_fn2 _).symm) (b3.trans (em_fn2 _).symm)),
      r1.trans (RmsBwd.Reference.g_eq (b0.trans (em_fn2 _).symm) (b2.trans (em_fn2 _).symm)),
      r2.trans (RmsCast.Reference.b_eq _ (b0.trans (em_fn2 _).symm) (b1.trans (em_fn2 _).symm) (b2.trans (em_fn2 _).symm) (b3.trans (em_fn2 _).symm)), rest⟩

theorem algebraic18 : algebraic_Kernel18Ideal_Reference18Ideal (hKernel18Ideal := Cert.Kernel18Ideal.Gen.facts)
    (hReference18Ideal := Cert.Reference18Ideal.Gen.facts) := by
  intro m g m' g' _ hargs
  refine ⟨fun c => Loss.wantD
      (fn2 (m ((c.tc : Thread Cert.Kernel18Ideal.nD Cert.Kernel18Ideal.τ).loc Cert.Kernel18Ideal.main_arg0)))
      (fn2 (m ((c.tc : Thread Cert.Kernel18Ideal.nD Cert.Kernel18Ideal.τ).loc Cert.Kernel18Ideal.main_arg1))),
    fun c => Loss.wantB
      (fn2 (m ((c.tc : Thread Cert.Kernel18Ideal.nD Cert.Kernel18Ideal.τ).loc Cert.Kernel18Ideal.main_arg0)))
      (fn2 (m ((c.tc : Thread Cert.Kernel18Ideal.nD Cert.Kernel18Ideal.τ).loc Cert.Kernel18Ideal.main_arg1))),
    fun c => Loss.wantL
      (fn2 (m ((c.tc : Thread Cert.Kernel18Ideal.nD Cert.Kernel18Ideal.τ).loc Cert.Kernel18Ideal.main_arg0)))
      (fn2 (m ((c.tc : Thread Cert.Kernel18Ideal.nD Cert.Kernel18Ideal.τ).loc Cert.Kernel18Ideal.main_arg1))),
    (θ_run Cert.Kernel18Ideal.defs _ _).mono (fun r h c => ?_) (Loss.contents m g),
    (θ_run Cert.Reference18Ideal.defs _ _).mono (fun r h c => ?_) (Cert.Reference18Ideal.Value.run m' g')⟩
  · obtain ⟨r0, r1, r2, rest⟩ := h c
    exact ⟨r0.trans (Loss.arrD m c (em_fn2 _).symm (em_fn2 _).symm),
      r1.trans (Loss.arrB m c (em_fn2 _).symm (em_fn2 _).symm),
      r2.trans (Loss.lossL m c (em_fn2 _).symm (em_fn2 _).symm), rest⟩
  · obtain ⟨b0, b1⟩ := hargs c
    obtain ⟨r0, r1, r2, rest⟩ := h c
    exact ⟨r0.trans (Loss.Reference.d_eq (b0.trans (em_fn2 _).symm) (b1.trans (em_fn2 _).symm)),
      r1.trans (Loss.Reference.b_eq (b0.trans (em_fn2 _).symm) (b1.trans (em_fn2 _).symm) _),
      r2.trans (Loss.Reference.l_eq (b0.trans (em_fn2 _).symm) (b1.trans (em_fn2 _).symm)), rest⟩

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    pre_facts,
    fun m ρ _ => Cert.Kernel.Gen.frame m ρ,
    fun m ρ _ => Cert.KernelIdeal.Gen.frame m ρ,
    fun m ρ _ => Cert.KernelIdeal.Gen.frame m ρ,
    fun m ρ _ => (θ_run Cert.ReferenceIdeal.defs _ _).mono
      (fun r h => ⟨fun c => (h c).2.2.2, sem_eq_zero_of_no_sems (by decide) r.2⟩) (Cert.ReferenceIdeal.Value.run m ρ),
    fun m ρ _ => (θ_run Cert.ReferenceIdeal.defs _ _).mono
      (fun r h => ⟨fun c => (h c).2.2.2, sem_eq_zero_of_no_sems (by decide) r.2⟩) (Cert.ReferenceIdeal.Value.run m ρ),
    fun m ρ _ => Cert.Kernel2.Gen.frame m ρ,
    fun m ρ _ => Cert.Kernel2Ideal.Gen.frame m ρ,
    fun m ρ _ => (θ_run Cert.Reference2Ideal.defs _ _).mono
      (fun r h => ⟨fun c => (h c).2.2, sem_eq_zero_of_no_sems (by decide) r.2⟩) (Cert.Reference2Ideal.Value.run m ρ),
    fun m ρ _ => Cert.Kernel3.Gen.frame m ρ,
    fun m ρ _ => Cert.Kernel3Ideal.Gen.frame m ρ,
    fun m ρ _ => (θ_run Cert.Reference3Ideal.defs _ _).mono
      (fun r h => ⟨fun c => (h c).2.2.2, sem_eq_zero_of_no_sems (by decide) r.2⟩) (Cert.Reference3Ideal.Value.run m ρ),
    fun m ρ _ => Cert.Kernel4.Gen.frame m ρ,
    fun m ρ _ => Cert.Kernel4Ideal.Gen.frame m ρ,
    fun m ρ _ => (θ_run Cert.Reference4Ideal.defs _ _).mono
      (fun r h => ⟨fun c => (h c).2.2.2.2.2, sem_eq_zero_of_no_sems (by decide) r.2⟩) (Cert.Reference4Ideal.Value.run m ρ),
    fun m ρ _ => Cert.Kernel5.Gen.frame m ρ,
    fun m ρ _ => Cert.Kernel5Ideal.Gen.frame m ρ,
    fun m ρ _ => (θ_run Cert.Reference5Ideal.defs _ _).mono
      (fun r h => ⟨fun c => (h c).2, sem_eq_zero_of_no_sems (by decide) r.2⟩) (Cert.Reference5Ideal.Value.run m ρ),
    fun m ρ _ => Cert.Kernel6.Gen.frame m ρ,
    fun m ρ _ => Cert.Kernel6Ideal.Gen.frame m ρ,
    fun m ρ _ => (θ_run Cert.Reference6Ideal.defs _ _).mono
      (fun r h => ⟨fun c => (h c).2, sem_eq_zero_of_no_sems (by decide) r.2⟩) (Cert.Reference6Ideal.Value.run m ρ),
    fun m ρ _ => Cert.Kernel7.Gen.frame m ρ,
    fun m ρ _ => Cert.Kernel7Ideal.Gen.frame m ρ,
    fun m ρ _ => (θ_run Cert.Reference7Ideal.defs _ _).mono
      (fun r h => ⟨fun c => (h c).2, sem_eq_zero_of_no_sems (by decide) r.2⟩) (Cert.Reference7Ideal.Value.run m ρ),
    fun m ρ _ => Cert.Kernel8.Gen.frame m ρ,
    fun m ρ _ => Cert.Kernel8Ideal.Gen.frame m ρ,
    fun m ρ _ => (θ_run Cert.Reference8Ideal.defs _ _).mono
      (fun r h => ⟨fun c => (h c).2, sem_eq_zero_of_no_sems (by decide) r.2⟩) (Cert.Reference8Ideal.Value.run m ρ),
    fun m ρ _ => Cert.Kernel9.Gen.frame m ρ,
    fun m ρ _ => Cert.Kernel9Ideal.Gen.frame m ρ,
    fun m ρ _ => (θ_run Cert.Reference9Ideal.defs _ _).mono
      (fun r h => ⟨fun c => (h c).2, sem_eq_zero_of_no_sems (by decide) r.2⟩) (Cert.Reference9Ideal.Value.run m ρ),
    fun m ρ _ => Cert.Kernel10.Gen.frame m ρ,
    fun m ρ _ => Cert.Kernel10Ideal.Gen.frame m ρ,
    fun m ρ _ => (θ_run Cert.Reference10Ideal.defs _ _).mono
      (fun r h => ⟨fun c => (h c).2, sem_eq_zero_of_no_sems (by decide) r.2⟩) (Cert.Reference10Ideal.Value.run m ρ),
    fun m ρ _ => Cert.Kernel11.Gen.frame m ρ,
    fun m ρ _ => Cert.Kernel11Ideal.Gen.frame m ρ,
    fun m ρ _ => (θ_run Cert.Reference11Ideal.defs _ _).mono
      (fun r h => ⟨fun c => (h c).2.2.2, sem_eq_zero_of_no_sems (by decide) r.2⟩) (Cert.Reference11Ideal.Value.run m ρ),
    fun m ρ _ => Cert.Kernel12.Gen.frame m ρ,
    fun m ρ _ => Cert.Kernel12Ideal.Gen.frame m ρ,
    fun m ρ _ => (θ_run Cert.Reference12Ideal.defs _ _).mono
      (fun r h => ⟨fun c => (h c).2.2.2, sem_eq_zero_of_no_sems (by decide) r.2⟩) (Cert.Reference12Ideal.Value.run m ρ),
    fun m ρ _ => Cert.Kernel13.Gen.frame m ρ,
    fun m ρ _ => Cert.Kernel13Ideal.Gen.frame m ρ,
    fun m ρ _ => (θ_run Cert.Reference13Ideal.defs _ _).mono
      (fun r h => ⟨fun c => (h c).2.2.2, sem_eq_zero_of_no_sems (by decide) r.2⟩) (Cert.Reference13Ideal.Value.run m ρ),
    fun m ρ _ => Cert.Kernel14.Gen.frame m ρ,
    fun m ρ _ => Cert.Kernel14Ideal.Gen.frame m ρ,
    fun m ρ _ => (θ_run Cert.Reference14Ideal.defs _ _).mono
      (fun r h => ⟨fun c => (h c).2.2.2, sem_eq_zero_of_no_sems (by decide) r.2⟩) (Cert.Reference14Ideal.Value.run m ρ),
    fun m ρ _ => Cert.Kernel15.Gen.frame m ρ,
    fun m ρ _ => Cert.Kernel15Ideal.Gen.frame m ρ,
    fun m ρ _ => (θ_run Cert.Reference15Ideal.defs _ _).mono
      (fun r h => ⟨fun c => (h c).2.2.2, sem_eq_zero_of_no_sems (by decide) r.2⟩) (Cert.Reference15Ideal.Value.run m ρ),
    fun m ρ _ => Cert.Kernel16.Gen.frame m ρ,
    fun m ρ _ => Cert.Kernel16Ideal.Gen.frame m ρ,
    fun m ρ _ => (θ_run Cert.Reference16Ideal.defs _ _).mono
      (fun r h => ⟨fun c => (h c).2.2, sem_eq_zero_of_no_sems (by decide) r.2⟩) (Cert.Reference16Ideal.Value.run m ρ),
    fun m ρ _ => Cert.Kernel17.Gen.frame m ρ,
    fun m ρ _ => Cert.Kernel17Ideal.Gen.frame m ρ,
    fun m ρ _ => (θ_run Cert.Reference17Ideal.defs _ _).mono
      (fun r h => ⟨fun c => (h c).2.2.2, sem_eq_zero_of_no_sems (by decide) r.2⟩) (Cert.Reference17Ideal.Value.run m ρ),
    fun m ρ _ => Cert.Kernel18.Gen.frame m ρ,
    fun m ρ _ => Cert.Kernel18Ideal.Gen.frame m ρ,
    fun m ρ _ => (θ_run Cert.Reference18Ideal.defs _ _).mono
      (fun r h => ⟨fun c => (h c).2.2.2, sem_eq_zero_of_no_sems (by decide) r.2⟩) (Cert.Reference18Ideal.Value.run m ρ),
    trivial, algebraic,
    trivial, algebraic2,
    trivial, algebraic3,
    trivial, algebraic4,
    trivial, algebraic5,
    trivial, algebraic6,
    trivial, algebraic7,
    trivial, algebraic8,
    trivial, algebraic9,
    trivial, algebraic10,
    trivial, algebraic11,
    trivial, algebraic12,
    trivial, algebraic13,
    trivial, algebraic14,
    trivial, algebraic15,
    trivial, algebraic16,
    trivial, algebraic17,
    trivial, algebraic18⟩

end Cert.Proof

end
